-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def preserves_Kernel_KernelIdeal : Prop :=
  IdealRules.named_const.Statement Cert.KernelIdeal.κ "qscale" .f32 0x3E38AA3B#32 (((8 * (Real.log 2))⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v23_0)) (v1 : (c : Dev Cert.Kernel2Ideal.nD) → Buf (Elt Ideal) ((c.tc : Thread Cert.Kernel2Ideal.nD Cert.Kernel2Ideal.τ).loc Cert.Kernel2Ideal.main_v23_1)) (v2 : (c : Dev Cert.Kernel2Ideal.nD) → Buf (Elt Ideal) ((c.tc : Thread Cert.Kernel2Ideal.nD Cert.Kernel2Ideal.τ).loc Cert.Kernel2Ideal.main_v23_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v23_0) = v0 c
          ∧ r.2.mem ((c.tc : Thread Cert.Kernel2Ideal.nD Cert.Kernel2Ideal.τ).loc Cert.Kernel2Ideal.main_v23_1) = v1 c
          ∧ r.2.mem ((c.tc : Thread Cert.Kernel2Ideal.nD Cert.Kernel2Ideal.τ).loc Cert.Kernel2Ideal.main_v23_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v96) = v0 c
          ∧ r.2.mem ((c.tc : Thread Cert.Reference2Ideal.nD Cert.Reference2Ideal.τ).loc Cert.Reference2Ideal.main_v97) = v1 c
          ∧ r.2.mem ((c.tc : Thread Cert.Reference2Ideal.nD Cert.Reference2Ideal.τ).loc Cert.Reference2Ideal.main_v99) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v1_0)) (v1 : (c : Dev Cert.Kernel3Ideal.nD) → Buf (Elt Ideal) ((c.tc : Thread Cert.Kernel3Ideal.nD Cert.Kernel3Ideal.τ).loc Cert.Kernel3Ideal.main_v1_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1_0) = v0 c
          ∧ r.2.mem ((c.tc : Thread Cert.Kernel3Ideal.nD Cert.Kernel3Ideal.τ).loc Cert.Kernel3Ideal.main_v1_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v35) = v0 c
          ∧ r.2.mem ((c.tc : Thread Cert.Reference3Ideal.nD Cert.Reference3Ideal.τ).loc Cert.Reference3Ideal.main_v36) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v1_0)) (v1 : (c : Dev Cert.Kernel4Ideal.nD) → Buf (Elt Ideal) ((c.tc : Thread Cert.Kernel4Ideal.nD Cert.Kernel4Ideal.τ).loc Cert.Kernel4Ideal.main_v1_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1_0) = v0 c
          ∧ r.2.mem ((c.tc : Thread Cert.Kernel4Ideal.nD Cert.Kernel4Ideal.τ).loc Cert.Kernel4Ideal.main_v1_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v37) = v0 c
          ∧ r.2.mem ((c.tc : Thread Cert.Reference4Ideal.nD Cert.Reference4Ideal.τ).loc Cert.Reference4Ideal.main_v39) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite.lean ====
abbrev S1x64 : Shape := ⟨2, ![1, 64]⟩
abbrev S1x128 : Shape := ⟨2, ![1, 128]⟩
abbrev S5x16384x1024 : Shape := ⟨3, ![5, 16384, 1024]⟩
abbrev S16384x1024 : Shape := ⟨2, ![16384, 1024]⟩
abbrev S1x16384x1024 : Shape := ⟨3, ![1, 16384, 1024]⟩
abbrev S_ : Shape := ⟨0, ![]⟩

class Facts : Prop where
  slices_S5x16384x1024_S1x16384x1024_4_0_0 : S5x16384x1024.Slices ![4, 0, 0] S1x16384x1024
  shapeCasts_S1x16384x1024_S16384x1024 : S1x16384x1024.ShapeCasts S16384x1024
  bcast_S_S1x64 : S_.BroadcastsInDim S1x64 (![] : Fin 0 → Fin S1x64.rank)
  bcast_S_S16384x1024 : S_.BroadcastsInDim S16384x1024 (![] : Fin 0 → Fin S16384x1024.rank)

variable [Facts]

def fn_part1 {F : FTy → Type} [FloatOps F] (main_arg7 : FVec F S16384x1024 .f32) (main_v4 : IVec S1x64 1) (main_v7 : IVec S1x64 1) (main_v10 : IVec S1x64 1) (main_v13 : IVec S1x64 1) (main_v16 : IVec S16384x1024 1) (main_v17 : FVec F S16384x1024 .f32) (main_cst_4 : FVec F S_ .f32) : IVec S1x64 1 × IVec S1x64 1 × IVec S1x64 1 × IVec S1x64 1 × IVec S16384x1024 1 × IVec S16384x1024 1 × IVec S16384x1024 1 :=
  let main_v18 : FVec F S16384x1024 .f32 := broadcastInDim S16384x1024 ![] bcast_S_S16384x1024 main_cst_4
  let main_v19 : IVec S16384x1024 1 := cmpf .olt main_v17 main_v18
  let main_v20 : FVec F S16384x1024 .f32 := Host.absf main_arg7
  let main_cst_5 : FVec F S_ .f32 := constant S_ .f32 0x7F800000#32
  let main_v21 : FVec F S16384x1024 .f32 := broadcastInDim S16384x1024 ![] bcast_S_S16384x1024 main_cst_5
  let main_v22 : IVec S16384x1024 1 := cmpf .olt main_v20 main_v21
  (main_v4, main_v7, main_v10, main_v13, main_v16, main_v19, main_v22)

def fn {F : FTy → Type} [FloatOps F] (main_arg0 : FVec F S1x64 .f32) (main_arg1 : FVec F S1x64 .f32) (main_arg2 : FVec F S1x64 .f32) (main_arg3 : FVec F S1x64 .f32) (main_arg4 : FVec F S1x128 .f32) (main_arg5 : FVec F S5x16384x1024 .f32) (main_arg6 : FVec F S16384x1024 .f32) (main_arg7 : FVec F S16384x1024 .f32) : IVec S1x64 1 × IVec S1x64 1 × IVec S1x64 1 × IVec S1x64 1 × IVec S16384x1024 1 × IVec S16384x1024 1 × IVec S16384x1024 1 :=
  let main_v0 : FVec F S1x16384x1024 .f32 := (extractStridedSlice S1x16384x1024 ![4, 0, 0] · slices_S5x16384x1024_S1x16384x1024_4_0_0) main_arg5
  let main_v1 : FVec F S16384x1024 .f32 := shapeCast S16384x1024 main_v0 shapeCasts_S1x16384x1024_S16384x1024
  let main_v2 : FVec F S1x64 .f32 := Host.absf main_arg0
  let main_cst : FVec F S_ .f32 := constant S_ .f32 0x7F800000#32
  let main_v3 : FVec F S1x64 .f32 := broadcastInDim S1x64 ![] bcast_S_S1x64 main_cst
  let main_v4 : IVec S1x64 1 := cmpf .olt main_v2 main_v3
  let main_v5 : FVec F S1x64 .f32 := Host.absf main_arg1
  let main_cst_0 : FVec F S_ .f32 := constant S_ .f32 0x7F800000#32
  let main_v6 : FVec F S1x64 .f32 := broadcastInDim S1x64 ![] bcast_S_S1x64 main_cst_0
  let main_v7 : IVec S1x64 1 := cmpf .olt main_v5 main_v6
  let main_v8 : FVec F S1x64 .f32 := Host.absf main_arg2
  let main_cst_1 : FVec F S_ .f32 := constant S_ .f32 0x7F800000#32
  let main_v9 : FVec F S1x64 .f32 := broadcastInDim S1x64 ![] bcast_S_S1x64 main_cst_1
  let main_v10 : IVec S1x64 1 := cmpf .olt main_v8 main_v9
  let main_v11 : FVec F S1x64 .f32 := Host.absf main_arg3
  let main_cst_2 : FVec F S_ .f32 := constant S_ .f32 0x7F800000#32
  let main_v12 : FVec F S1x64 .f32 := broadcastInDim S1x64 ![] bcast_S_S1x64 main_cst_2
  let main_v13 : IVec S1x64 1 := cmpf .olt main_v11 main_v12
  let main_v14 : FVec F S16384x1024 .f32 := Host.absf main_v1
  let main_cst_3 : FVec F S_ .f32 := constant S_ .f32 0x7F800000#32
  let main_v15 : FVec F S16384x1024 .f32 := broadcastInDim S16384x1024 ![] bcast_S_S16384x1024 main_cst_3
  let main_v16 : IVec S16384x1024 1 := cmpf .olt main_v14 main_v15
  let main_v17 : FVec F S16384x1024 .f32 := Host.absf main_arg6
  let main_cst_4 : FVec F S_ .f32 := constant S_ .f32 0x7F800000#32
  fn_part1 (F := F) main_arg7 main_v4 main_v7 main_v10 main_v13 main_v16 main_v17 main_cst_4
-- ==== Kernel.lean ====
abbrev S1x64 : Shape := ⟨2, ![1, 64]⟩
abbrev S1x128 : Shape := ⟨2, ![1, 128]⟩
abbrev S5x16384x1024 : Shape := ⟨3, ![5, 16384, 1024]⟩
abbrev S16384x1024 : Shape := ⟨2, ![16384, 1024]⟩
abbrev S1x2048x128 : Shape := ⟨3, ![1, 2048, 128]⟩
abbrev S2048x128 : Shape := ⟨2, ![2048, 128]⟩
abbrev S4x128x512 : Shape := ⟨3, ![4, 128, 512]⟩
abbrev S2x1024x128 : Shape := ⟨3, ![2, 1024, 128]⟩
abbrev S512x1024 : Shape := ⟨2, ![512, 1024]⟩
abbrev S2x1x1024 : Shape := ⟨3, ![2, 1, 1024]⟩
abbrev S2x8x1024 : Shape := ⟨3, ![2, 8, 1024]⟩
abbrev S2x128x1024 : Shape := ⟨3, ![2, 128, 1024]⟩
abbrev S512x128 : Shape := ⟨2, ![512, 128]⟩
abbrev S128x512 : Shape := ⟨2, ![128, 512]⟩
abbrev S1x128x512 : Shape := ⟨3, ![1, 128, 512]⟩
abbrev S1 : Shape := ⟨1, ![1]⟩
abbrev S1x1 : Shape := ⟨2, ![1, 1]⟩
abbrev S1x512x128 : Shape := ⟨3, ![1, 512, 128]⟩
abbrev S1x1024x128 : Shape := ⟨3, ![1, 1024, 128]⟩
abbrev S1024x128 : Shape := ⟨2, ![1024, 128]⟩
abbrev S1x1024 : Shape := ⟨2, ![1, 1024]⟩
abbrev S1x1x1024 : Shape := ⟨3, ![1, 1, 1024]⟩
abbrev S8x1024 : Shape := ⟨2, ![8, 1024]⟩
abbrev S1x8x1024 : Shape := ⟨3, ![1, 8, 1024]⟩
abbrev S128x1024 : Shape := ⟨2, ![128, 1024]⟩
abbrev S1x128x1024 : Shape := ⟨3, ![1, 128, 1024]⟩
abbrev S512x512 : Shape := ⟨2, ![512, 512]⟩
abbrev S1x512 : Shape := ⟨2, ![1, 512]⟩
abbrev S512 : Shape := ⟨1, ![512]⟩
abbrev S8x512 : Shape := ⟨2, ![8, 512]⟩
abbrev S64x8x512 : Shape := ⟨3, ![64, 8, 512]⟩
abbrev S1024 : Shape := ⟨1, ![1024]⟩
abbrev S512x1 : Shape := ⟨2, ![512, 1]⟩

abbrev nBuf : Space → Nat
  | .hbm => 9
  | .vmem => 21
  | .smem => 0
  | _ => 0

abbrev bufTy : (tb : Table) → Fin (tcTables nBuf tb) → BufTy
  | .hbm, ⟨0, _⟩ => ⟨S1x64, .f32⟩
  | .hbm, ⟨1, _⟩ => ⟨S1x64, .f32⟩
  | .hbm, ⟨2, _⟩ => ⟨S1x64, .f32⟩
  | .hbm, ⟨3, _⟩ => ⟨S1x64, .f32⟩
  | .hbm, ⟨4, _⟩ => ⟨S1x128, .f32⟩
  | .hbm, ⟨5, _⟩ => ⟨S5x16384x1024, .f32⟩
  | .hbm, ⟨6, _⟩ => ⟨S16384x1024, .f32⟩
  | .hbm, ⟨7, _⟩ => ⟨S16384x1024, .f32⟩
  | .hbm, ⟨8, _⟩ => ⟨S16384x1024, .f32⟩
  | .local _ .vmem, ⟨0, _⟩ => ⟨S1x64, .f32⟩
  | .local _ .vmem, ⟨1, _⟩ => ⟨S1x64, .f32⟩
  | .local _ .vmem, ⟨2, _⟩ => ⟨S1x64, .f32⟩
  | .local _ .vmem, ⟨3, _⟩ => ⟨S1x64, .f32⟩
  | .local _ .vmem, ⟨4, _⟩ => ⟨S1x128, .f32⟩
  | .local _ .vmem, ⟨5, _⟩ => ⟨S1x2048x128, .f32⟩
  | .local _ .vmem, ⟨6, _⟩ => ⟨S1x2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S2048x128, .bf16⟩
  | .local _ .vmem, ⟨14, _⟩ => ⟨S4x128x512, .bf16⟩
  | .local _ .vmem, ⟨15, _⟩ => ⟨S2x1024x128, .bf16⟩
  | .local _ .vmem, ⟨16, _⟩ => ⟨S512x1024, .f32⟩
  | .local _ .vmem, ⟨17, _⟩ => ⟨S512x1024, .f32⟩
  | .local _ .vmem, ⟨18, _⟩ => ⟨S2x1x1024, .f32⟩
  | .local _ .vmem, ⟨19, _⟩ => ⟨S2x8x1024, .f32⟩
  | .local _ .vmem, ⟨20, _⟩ => ⟨S2x128x1024, .f32⟩
  | _, _ => ⟨S1x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_scratch4 : Ref sig .tc := ⟨.vmem, 17, rfl⟩
abbrev cc0_scratch5 : Ref sig .tc := ⟨.vmem, 18, rfl⟩
abbrev cc0_scratch6 : Ref sig .tc := ⟨.vmem, 19, rfl⟩
abbrev cc0_scratch7 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![c4_i32.toNat, arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "qscale" => some (((8 * (Real.log 2))⁻¹ : ℝ) : EReal)
  | _ => none
-- ==== ReferenceIdeal.lean ====
abbrev S1x64 : Shape := ⟨2, ![1, 64]⟩
abbrev S1x128 : Shape := ⟨2, ![1, 128]⟩
abbrev S5x16384x1024 : Shape := ⟨3, ![5, 16384, 1024]⟩
abbrev S16384x1024 : Shape := ⟨2, ![16384, 1024]⟩
abbrev S64 : Shape := ⟨1, ![64]⟩
abbrev S_ : Shape := ⟨0, ![]⟩
abbrev S1x16384x1024 : Shape := ⟨3, ![1, 16384, 1024]⟩
abbrev S8x2048x8x2x64 : Shape := ⟨5, ![8, 2048, 8, 2, 64]⟩
abbrev S8x2048x8x128 : Shape := ⟨4, ![8, 2048, 8, 128]⟩
abbrev S8x8x2x2048x2048 : Shape := ⟨5, ![8, 8, 2, 2048, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S8x8x2x2048 : Shape := ⟨4, ![8, 8, 2, 2048]⟩
abbrev S8x8x2x2048x1 : Shape := ⟨5, ![8, 8, 2, 2048, 1]⟩
abbrev S8x8x1x2048x2048 : Shape := ⟨5, ![8, 8, 1, 2048, 2048]⟩
abbrev S8x8x2048x2048 : Shape := ⟨4, ![8, 8, 2048, 2048]⟩
abbrev S8x8x128x2048 : Shape := ⟨4, ![8, 8, 128, 2048]⟩
abbrev S8x2048x8 : Shape := ⟨3, ![8, 2048, 8]⟩
abbrev S8x2048x8x1 : Shape := ⟨4, ![8, 2048, 8, 1]⟩
abbrev S128 : Shape := ⟨1, ![128]⟩
abbrev S1x1x1x128 : Shape := ⟨4, ![1, 1, 1, 128]⟩

abbrev nBuf : Space → Nat
  | .hbm => 87
  | .vmem => 0
  | .smem => 0
  | _ => 0

abbrev bufTy : (tb : Table) → Fin (tcTables nBuf tb) → BufTy
  | .hbm, ⟨0, _⟩ => ⟨S1x64, .f32⟩
  | .hbm, ⟨1, _⟩ => ⟨S1x64, .f32⟩
  | .hbm, ⟨2, _⟩ => ⟨S1x64, .f32⟩
  | .hbm, ⟨3, _⟩ => ⟨S1x64, .f32⟩
  | .hbm, ⟨4, _⟩ => ⟨S1x128, .f32⟩
  | .hbm, ⟨5, _⟩ => ⟨S5x16384x1024, .f32⟩
  | .hbm, ⟨6, _⟩ => ⟨S16384x1024, .f32⟩
  | .hbm, ⟨7, _⟩ => ⟨S16384x1024, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S64, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S1x16384x1024, .f32⟩
  | .hbm, ⟨24, _⟩ => ⟨S16384x1024, .f32⟩
  | .hbm, ⟨25, _⟩ => ⟨S8x2048x8x2x64, .f32⟩
  | .hbm, ⟨26, _⟩ => ⟨S8x2048x8x2x64, .f32⟩
  | .hbm, ⟨27, _⟩ => ⟨S8x2048x8x128, .f32⟩
  | .hbm, ⟨28, _⟩ => ⟨S8x8x2x2048x2048, .f32⟩
  | .hbm, ⟨29, _⟩ => ⟨S_, .f32⟩
  | .hbm, ⟨30, _⟩ => ⟨S8x8x2x2048x2048, .f32⟩
  | .hbm, ⟨31, _⟩ => ⟨S8x8x2x2048x2048, .f32⟩
  | .hbm, ⟨32, _⟩ => ⟨S2048, .i32⟩
  | .hbm, ⟨33, _⟩ => ⟨S2048x1, .i32⟩
  | .hbm, ⟨34, _⟩ => ⟨S1x2048, .i32⟩
  | .hbm, ⟨35, _⟩ => ⟨S2048x2048, .i32⟩
  | .hbm, ⟨36, _⟩ => ⟨S2048x2048, .i32⟩
  | .hbm, ⟨37, _⟩ => ⟨S2048x2048, .i1⟩
  | .hbm, ⟨38, _⟩ => ⟨S_, .f32⟩
  | .hbm, ⟨39, _⟩ => ⟨S_, .f32⟩
  | .hbm, ⟨40, _⟩ => ⟨S8x8x2x2048x2048, .i1⟩
  | .hbm, ⟨41, _⟩ => ⟨S8x8x2x2048x2048, .f32⟩
  | .hbm, ⟨42, _⟩ => ⟨S8x8x2x2048x2048, .f32⟩
  | .hbm, ⟨43, _⟩ => ⟨S_, .f32⟩
  | .hbm, ⟨44, _⟩ => ⟨S8x8x2x2048, .f32⟩
  | .hbm, ⟨45, _⟩ => ⟨S_, .f32⟩
  | .hbm, ⟨46, _⟩ => ⟨S8x8x2x2048, .f32⟩
  | .hbm, ⟨47, _⟩ => ⟨S8x8x2x2048, .f32⟩
  | .hbm, ⟨48, _⟩ => ⟨S8x8x2x2048x1, .f32⟩
  | .hbm, ⟨49, _⟩ => ⟨S8x8x2x2048x2048, .f32⟩
  | .hbm, ⟨50, _⟩ => ⟨S8x8x2x2048x2048, .f32⟩
  | .hbm, ⟨51, _⟩ => ⟨S8x8x2x2048x2048, .f32⟩
  | .hbm, ⟨52, _⟩ => ⟨S_, .f32⟩
  | .hbm, ⟨53, _⟩ => ⟨S8x8x2x2048, .f32⟩
  | .hbm, ⟨54, _⟩ => ⟨S8x8x2x2048x1, .f32⟩
  | .hbm, ⟨55, _⟩ => ⟨S8x8x2x2048x2048, .f32⟩
  | .hbm, ⟨56, _⟩ => ⟨S8x8x2x2048x2048, .f32⟩
  | .hbm, ⟨57, _⟩ => ⟨S8x8x1x2048x2048, .f32⟩
  | .hbm, ⟨58, _⟩ => ⟨S8x8x2048x2048, .f32⟩
  | .hbm, ⟨59, _⟩ => ⟨S8x8x1x2048x2048, .f32⟩
  | .hbm, ⟨60, _⟩ => ⟨S8x8x2048x2048, .f32⟩
  | .hbm, ⟨61, _⟩ => ⟨S8x8x2048x2048, .f32⟩
  | .hbm, ⟨62, _⟩ => ⟨S8x8x2048x2048, .f32⟩
  | .hbm, ⟨63, _⟩ => ⟨S8x8x2048x2048, .f32⟩
  | .hbm, ⟨64, _⟩ => ⟨S8x8x128x2048, .f32⟩
  | .hbm, ⟨65, _⟩ => ⟨S8x2048x8x128, .f32⟩
  | .hbm, ⟨66, _⟩ => ⟨S8x2048x8x128, .f32⟩
  | .hbm, ⟨67, _⟩ => ⟨S_, .f32⟩
  | .hbm, ⟨68, _⟩ => ⟨S8x2048x8, .f32⟩
  | .hbm, ⟨69, _⟩ => ⟨S8x2048x8x1, .f32⟩
  | .hbm, ⟨70, _⟩ => ⟨S_, .f32⟩
  | .hbm, ⟨71, _⟩ => ⟨S8x2048x8x1, .f32⟩
  | .hbm, ⟨72, _⟩ => ⟨S8x2048x8x1, .f32⟩
  | .hbm, ⟨73, _⟩ => ⟨S_, .f32⟩
  | .hbm, ⟨74, _⟩ => ⟨S8x2048x8x1, .f32⟩
  | .hbm, ⟨75, _⟩ => ⟨S8x2048x8x1, .f32⟩
  | .hbm, ⟨76, _⟩ => ⟨S8x2048x8x1, .f32⟩
  | .hbm, ⟨77, _⟩ => ⟨S8x2048x8x128, .f32⟩
  | .hbm, ⟨78, _⟩ => ⟨S8x2048x8x128, .f32⟩
  | .hbm, ⟨79, _⟩ => ⟨S128, .f32⟩
  | .hbm, ⟨80, _⟩ => ⟨S1x1x1x128, .f32⟩
  | .hbm, ⟨81, _⟩ => ⟨S8x2048x8x128, .f32⟩
  | .hbm, ⟨82, _⟩ => ⟨S8x2048x8x128, .f32⟩
  | .hbm, ⟨83, _⟩ => ⟨S16384x1024, .f32⟩
  | .hbm, ⟨84, _⟩ => ⟨S_, .f32⟩
  | .hbm, ⟨85, _⟩ => ⟨S16384x1024, .f32⟩
  | .hbm, ⟨86, _⟩ => ⟨S16384x1024, .f32⟩
  | _, _ => ⟨S1x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_v26 : Ref sig .tc := ⟨.hbm, 42, rfl⟩
abbrev main_cst_4 : Ref sig .tc := ⟨.hbm, 43, rfl⟩
abbrev main_v27 : Ref sig .tc := ⟨.hbm, 44, rfl⟩
abbrev main_cst_5 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_6 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_7 : Ref sig .tc := ⟨.hbm, 67, rfl⟩
abbrev main_v48 : Ref sig .tc := ⟨.hbm, 68, rfl⟩
abbrev main_v49 : Ref sig .tc := ⟨.hbm, 69, rfl⟩
abbrev main_cst_8 : Ref sig .tc := ⟨.hbm, 70, rfl⟩
abbrev main_v50 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_10 : Ref sig .tc := ⟨.hbm, 84, rfl⟩
abbrev main_v62 : Ref sig .tc := ⟨.hbm, 85, rfl⟩
abbrev main_v63 : Ref sig .tc := ⟨.hbm, 86, rfl⟩

abbrev nD : Nat := 1
abbrev τ : Topo := Topo.v7x

variable {F : FTy → Type} [FloatOps F]
-- ==== Kernel2.lean ====
abbrev S16384x2048 : Shape := ⟨2, ![16384, 2048]⟩
abbrev S8x1x12288 : Shape := ⟨3, ![8, 1, 12288]⟩
abbrev S1x2048 : Shape := ⟨2, ![1, 2048]⟩
abbrev S2048x7168 : Shape := ⟨2, ![2048, 7168]⟩
abbrev S2048 : Shape := ⟨1, ![2048]⟩
abbrev S8 : Shape := ⟨1, ![8]⟩
abbrev S_ : Shape := ⟨0, ![]⟩
abbrev S2048x1 : Shape := ⟨2, ![2048, 1]⟩
abbrev S1x8 : Shape := ⟨2, ![1, 8]⟩
abbrev S2048x8 : Shape := ⟨2, ![2048, 8]⟩
abbrev S2048x48 : Shape := ⟨2, ![2048, 48]⟩
abbrev S2048x128 : Shape := ⟨2, ![2048, 128]⟩
abbrev S5x16384x1024 : Shape := ⟨3, ![5, 16384, 1024]⟩
abbrev S16384x1024 : Shape := ⟨2, ![16384, 1024]⟩
abbrev S256x2048 : Shape := ⟨2, ![256, 2048]⟩
abbrev S1x1x2048 : Shape := ⟨3, ![1, 1, 2048]⟩
abbrev S256x128 : Shape := ⟨2, ![256, 128]⟩
abbrev S5x256x1024 : Shape := ⟨3, ![5, 256, 1024]⟩
abbrev S256x1024 : Shape := ⟨2, ![256, 1024]⟩
abbrev S256 : Shape := ⟨1, ![256]⟩
abbrev S256x1 : Shape := ⟨2, ![256, 1]⟩
abbrev S2048x1024 : Shape := ⟨2, ![2048, 1024]⟩
abbrev S1x256x1024 : Shape := ⟨3, ![1, 256, 1024]⟩

abbrev nBuf : Space → Nat
  | .hbm => 35
  | .vmem => 20
  | .smem => 0
  | _ => 0

abbrev bufTy : (tb : Table) → Fin (tcTables nBuf tb) → BufTy
  | .hbm, ⟨0, _⟩ => ⟨S16384x2048, .f32⟩
  | .hbm, ⟨1, _⟩ => ⟨S8x1x12288, .f32⟩
  | .hbm, ⟨2, _⟩ => ⟨S1x2048, .f32⟩
  | .hbm, ⟨3, _⟩ => ⟨S2048x7168, .f32⟩
  | .hbm, ⟨4, _⟩ => ⟨S2048x7168, .bf16⟩
  | .hbm, ⟨5, _⟩ => ⟨S2048, .i32⟩
  | .hbm, ⟨6, _⟩ => ⟨S8, .f32⟩
  | .hbm, ⟨7, _⟩ => ⟨S8, .f32⟩
  | .hbm, ⟨8, _⟩ => ⟨S_, .f32⟩
  | .hbm, ⟨9, _⟩ => ⟨S8, .f32⟩
  | .hbm, ⟨10, _⟩ => ⟨S8, .f32⟩
  | .hbm, ⟨11, _⟩ => ⟨S_, .f32⟩
  | .hbm, ⟨12, _⟩ => ⟨S8, .f32⟩
  | .hbm, ⟨13, _⟩ => ⟨S8, .f32⟩
  | .hbm, ⟨14, _⟩ => ⟨S2048, .f32⟩
  | .hbm, ⟨15, _⟩ => ⟨S2048x1, .f32⟩
  | .hbm, ⟨16, _⟩ => ⟨S1x8, .f32⟩
  | .hbm, ⟨17, _⟩ => ⟨S2048x8, .f32⟩
  | .hbm, ⟨18, _⟩ => ⟨S2048x8, .f32⟩
  | .hbm, ⟨19, _⟩ => ⟨S2048x8, .f32⟩
  | .hbm, ⟨20, _⟩ => ⟨S2048x8, .f32⟩
  | .hbm, ⟨21, _⟩ => ⟨S2048x8, .f32⟩
  | .hbm, ⟨22, _⟩ => ⟨S_, .f32⟩
  | .hbm, ⟨23, _⟩ => ⟨S2048x48, .f32⟩
  | .hbm, ⟨24, _⟩ => ⟨S_, .f32⟩
  | .hbm, ⟨25, _⟩ => ⟨S2048x48, .f32⟩
  | .hbm, ⟨26, _⟩ => ⟨S_, .f32⟩
  | .hbm, ⟨27, _⟩ => ⟨S2048x8, .f32⟩
  | .hbm, ⟨28, _⟩ => ⟨S2048x128, .f32⟩
  | .hbm, ⟨29, _⟩ => ⟨S2048x128, .f32⟩
  | .hbm, ⟨30, _⟩ => ⟨S2048x8, .f32⟩
  | .hbm, ⟨31, _⟩ => ⟨S2048x128, .f32⟩
  | .hbm, ⟨32, _⟩ => ⟨S5x16384x1024, .f32⟩
  | .hbm, ⟨33, _⟩ => ⟨S16384x1024, .f32⟩
  | .hbm, ⟨34, _⟩ => ⟨S16384x1024, .f32⟩
  | .local _ .vmem, ⟨0, _⟩ => ⟨S256x2048, .f32⟩
  | .local _ .vmem, ⟨1, _⟩ => ⟨S256x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x2048, .f32⟩
  | .local _ .vmem, ⟨7, _⟩ => ⟨S2048x7168, .bf16⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S5x256x1024, .f32⟩
  | .local _ .vmem, ⟨15, _⟩ => ⟨S5x256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23_0 : Ref sig .tc := ⟨.hbm, 32, rfl⟩
abbrev main_v23_1 : Ref sig .tc := ⟨.hbm, 33, rfl⟩
abbrev main_v23_2 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c1_i32_5 : BitVec 32 := 1#32
  let c0_i32_6 : BitVec 32 := 0#32
  ![v16.toNat, c0_i32_4.toNat, c1_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x7168 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S5x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference2Ideal.lean ====
abbrev S16384x2048 : Shape := ⟨2, ![16384, 2048]⟩
abbrev S8x1x12288 : Shape := ⟨3, ![8, 1, 12288]⟩
abbrev S1x2048 : Shape := ⟨2, ![1, 2048]⟩
abbrev S2048x7168 : Shape := ⟨2, ![2048, 7168]⟩
abbrev S8x2048x2048 : Shape := ⟨3, ![8, 2048, 2048]⟩
abbrev S8x1x2048 : Shape := ⟨3, ![8, 1, 2048]⟩
abbrev S8x2048 : Shape := ⟨2, ![8, 2048]⟩
abbrev S_ : Shape := ⟨0, ![]⟩
abbrev S8x2048x1 : Shape := ⟨3, ![8, 2048, 1]⟩
abbrev S2048 : Shape := ⟨1, ![2048]⟩
abbrev S1x1x2048 : Shape := ⟨3, ![1, 1, 2048]⟩
abbrev S8x2048x7168 : Shape := ⟨3, ![8, 2048, 7168]⟩
abbrev S8 : Shape := ⟨1, ![8]⟩
abbrev S2048x1 : Shape := ⟨2, ![2048, 1]⟩
abbrev S1x8 : Shape := ⟨2, ![1, 8]⟩
abbrev S2048x8 : Shape := ⟨2, ![2048, 8]⟩
abbrev S2048x1x1x8 : Shape := ⟨4, ![2048, 1, 1, 8]⟩
abbrev S8x2048x1024 : Shape := ⟨3, ![8, 2048, 1024]⟩
abbrev S8x2048x8x2x64 : Shape := ⟨5, ![8, 2048, 8, 2, 64]⟩
abbrev S8x2048x8x2x8 : Shape := ⟨5, ![8, 2048, 8, 2, 8]⟩
abbrev S1x2048x1x1x8 : Shape := ⟨5, ![1, 2048, 1, 1, 8]⟩
abbrev S8x2048x8x2x48 : Shape := ⟨5, ![8, 2048, 8, 2, 48]⟩
abbrev S1x8x2048x1024 : Shape := ⟨4, ![1, 8, 2048, 1024]⟩
abbrev S5x8x2048x1024 : Shape := ⟨4, ![5, 8, 2048, 1024]⟩
abbrev S5x16384x1024 : Shape := ⟨3, ![5, 16384, 1024]⟩
abbrev S16384x1024 : Shape := ⟨2, ![16384, 1024]⟩

abbrev nBuf : Space → Nat
  | .hbm => 110
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S8x1x12288, .f32⟩
  | .hbm, ⟨2, _⟩ => ⟨S1x2048, .f32⟩
  | .hbm, ⟨3, _⟩ => ⟨S2048x7168, .f32⟩
  | .hbm, ⟨4, _⟩ => ⟨S8x2048x2048, .f32⟩
  | .hbm, ⟨5, _⟩ => ⟨S8x1x2048, .f32⟩
  | .hbm, ⟨6, _⟩ => ⟨S8x2048, .f32⟩
  | .hbm, ⟨7, _⟩ => ⟨S8x1x2048, .f32⟩
  | .hbm, ⟨8, _⟩ => ⟨S8x2048, .f32⟩
  | .hbm, ⟨9, _⟩ => ⟨S8x2048x2048, .f32⟩
  | .hbm, ⟨10, _⟩ => ⟨S_, .f32⟩
  | .hbm, ⟨11, _⟩ => ⟨S8x2048, .f32⟩
  | .hbm, ⟨12, _⟩ => ⟨S8x2048x1, .f32⟩
  | .hbm, ⟨13, _⟩ => ⟨S_, .f32⟩
  | .hbm, ⟨14, _⟩ => ⟨S8x2048x1, .f32⟩
  | .hbm, ⟨15, _⟩ => ⟨S8x2048x1, .f32⟩
  | .hbm, ⟨16, _⟩ => ⟨S_, .f32⟩
  | .hbm, ⟨17, _⟩ => ⟨S8x2048x1, .f32⟩
  | .hbm, ⟨18, _⟩ => ⟨S8x2048x1, .f32⟩
  | .hbm, ⟨19, _⟩ => ⟨S8x2048x1, .f32⟩
  | .hbm, ⟨20, _⟩ => ⟨S8x2048x2048, .f32⟩
  | .hbm, ⟨21, _⟩ => ⟨S8x2048x2048, .f32⟩
  | .hbm, ⟨22, _⟩ => ⟨S2048, .f32⟩
  | .hbm, ⟨23, _⟩ => ⟨S1x1x2048, .f32⟩
  | .hbm, ⟨24, _⟩ => ⟨S8x2048x2048, .f32⟩
  | .hbm, ⟨25, _⟩ => ⟨S8x2048x2048, .f32⟩
  | .hbm, ⟨26, _⟩ => ⟨S8x1x2048, .f32⟩
  | .hbm, ⟨27, _⟩ => ⟨S_, .f32⟩
  | .hbm, ⟨28, _⟩ => ⟨S8x1x2048, .f32⟩
  | .hbm, ⟨29, _⟩ => ⟨S8x1x2048, .f32⟩
  | .hbm, ⟨30, _⟩ => ⟨S8x2048x2048, .f32⟩
  | .hbm, ⟨31, _⟩ => ⟨S8x2048x2048, .f32⟩
  | .hbm, ⟨32, _⟩ => ⟨S8x1x2048, .f32⟩
  | .hbm, ⟨33, _⟩ => ⟨S8x2048x2048, .f32⟩
  | .hbm, ⟨34, _⟩ => ⟨S8x2048x2048, .f32⟩
  | .hbm, ⟨35, _⟩ => ⟨S8x2048x7168, .f32⟩
  | .hbm, ⟨36, _⟩ => ⟨S8, .f32⟩
  | .hbm, ⟨37, _⟩ => ⟨S8, .f32⟩
  | .hbm, ⟨38, _⟩ => ⟨S_, .f32⟩
  | .hbm, ⟨39, _⟩ => ⟨S8, .f32⟩
  | .hbm, ⟨40, _⟩ => ⟨S8, .f32⟩
  | .hbm, ⟨41, _⟩ => ⟨S_, .f32⟩
  | .hbm, ⟨42, _⟩ => ⟨S8, .f32⟩
  | .hbm, ⟨43, _⟩ => ⟨S8, .f32⟩
  | .hbm, ⟨44, _⟩ => ⟨S2048, .i32⟩
  | .hbm, ⟨45, _⟩ => ⟨S2048, .f32⟩
  | .hbm, ⟨46, _⟩ => ⟨S2048x1, .f32⟩
  | .hbm, ⟨47, _⟩ => ⟨S1x8, .f32⟩
  | .hbm, ⟨48, _⟩ => ⟨S2048x8, .f32⟩
  | .hbm, ⟨49, _⟩ => ⟨S2048x8, .f32⟩
  | .hbm, ⟨50, _⟩ => ⟨S2048x8, .f32⟩
  | .hbm, ⟨51, _⟩ => ⟨S2048x8, .f32⟩
  | .hbm, ⟨52, _⟩ => ⟨S2048x1x1x8, .f32⟩
  | .hbm, ⟨53, _⟩ => ⟨S2048x8, .f32⟩
  | .hbm, ⟨54, _⟩ => ⟨S2048x1x1x8, .f32⟩
  | .hbm, ⟨55, _⟩ => ⟨S8x2048x1024, .f32⟩
  | .hbm, ⟨56, _⟩ => ⟨S8x2048x1024, .f32⟩
  | .hbm, ⟨57, _⟩ => ⟨S8x2048x1024, .f32⟩
  | .hbm, ⟨58, _⟩ => ⟨S8x2048x1024, .f32⟩
  | .hbm, ⟨59, _⟩ => ⟨S8x2048x1024, .f32⟩
  | .hbm, ⟨60, _⟩ => ⟨S8x2048x8x2x64, .f32⟩
  | .hbm, ⟨61, _⟩ => ⟨S8x2048x8x2x8, .f32⟩
  | .hbm, ⟨62, _⟩ => ⟨S8x2048x8x2x8, .f32⟩
  | .hbm, ⟨63, _⟩ => ⟨S1x2048x1x1x8, .f32⟩
  | .hbm, ⟨64, _⟩ => ⟨S8x2048x8x2x8, .f32⟩
  | .hbm, ⟨65, _⟩ => ⟨S8x2048x8x2x8, .f32⟩
  | .hbm, ⟨66, _⟩ => ⟨S1x2048x1x1x8, .f32⟩
  | .hbm, ⟨67, _⟩ => ⟨S8x2048x8x2x8, .f32⟩
  | .hbm, ⟨68, _⟩ => ⟨S8x2048x8x2x8, .f32⟩
  | .hbm, ⟨69, _⟩ => ⟨S8x2048x8x2x8, .f32⟩
  | .hbm, ⟨70, _⟩ => ⟨S1x2048x1x1x8, .f32⟩
  | .hbm, ⟨71, _⟩ => ⟨S8x2048x8x2x8, .f32⟩
  | .hbm, ⟨72, _⟩ => ⟨S8x2048x8x2x8, .f32⟩
  | .hbm, ⟨73, _⟩ => ⟨S1x2048x1x1x8, .f32⟩
  | .hbm, ⟨74, _⟩ => ⟨S8x2048x8x2x8, .f32⟩
  | .hbm, ⟨75, _⟩ => ⟨S8x2048x8x2x8, .f32⟩
  | .hbm, ⟨76, _⟩ => ⟨S8x2048x8x2x8, .f32⟩
  | .hbm, ⟨77, _⟩ => ⟨S8x2048x8x2x48, .f32⟩
  | .hbm, ⟨78, _⟩ => ⟨S8x2048x8x2x64, .f32⟩
  | .hbm, ⟨79, _⟩ => ⟨S8x2048x1024, .f32⟩
  | .hbm, ⟨80, _⟩ => ⟨S1x8x2048x1024, .f32⟩
  | .hbm, ⟨81, _⟩ => ⟨S1x8x2048x1024, .f32⟩
  | .hbm, ⟨82, _⟩ => ⟨S1x8x2048x1024, .f32⟩
  | .hbm, ⟨83, _⟩ => ⟨S1x8x2048x1024, .f32⟩
  | .hbm, ⟨84, _⟩ => ⟨S1x8x2048x1024, .f32⟩
  | .hbm, ⟨85, _⟩ => ⟨S5x8x2048x1024, .f32⟩
  | .hbm, ⟨86, _⟩ => ⟨S8x2048x1024, .f32⟩
  | .hbm, ⟨87, _⟩ => ⟨S8x2048x8x2x64, .f32⟩
  | .hbm, ⟨88, _⟩ => ⟨S8x2048x8x2x8, .f32⟩
  | .hbm, ⟨89, _⟩ => ⟨S8x2048x8x2x8, .f32⟩
  | .hbm, ⟨90, _⟩ => ⟨S1x2048x1x1x8, .f32⟩
  | .hbm, ⟨91, _⟩ => ⟨S8x2048x8x2x8, .f32⟩
  | .hbm, ⟨92, _⟩ => ⟨S8x2048x8x2x8, .f32⟩
  | .hbm, ⟨93, _⟩ => ⟨S1x2048x1x1x8, .f32⟩
  | .hbm, ⟨94, _⟩ => ⟨S8x2048x8x2x8, .f32⟩
  | .hbm, ⟨95, _⟩ => ⟨S8x2048x8x2x8, .f32⟩
  | .hbm, ⟨96, _⟩ => ⟨S8x2048x8x2x8, .f32⟩
  | .hbm, ⟨97, _⟩ => ⟨S1x2048x1x1x8, .f32⟩
  | .hbm, ⟨98, _⟩ => ⟨S8x2048x8x2x8, .f32⟩
  | .hbm, ⟨99, _⟩ => ⟨S8x2048x8x2x8, .f32⟩
  | .hbm, ⟨100, _⟩ => ⟨S1x2048x1x1x8, .f32⟩
  | .hbm, ⟨101, _⟩ => ⟨S8x2048x8x2x8, .f32⟩
  | .hbm, ⟨102, _⟩ => ⟨S8x2048x8x2x8, .f32⟩
  | .hbm, ⟨103, _⟩ => ⟨S8x2048x8x2x8, .f32⟩
  | .hbm, ⟨104, _⟩ => ⟨S8x2048x8x2x48, .f32⟩
  | .hbm, ⟨105, _⟩ => ⟨S8x2048x8x2x64, .f32⟩
  | .hbm, ⟨106, _⟩ => ⟨S5x16384x1024, .f32⟩
  | .hbm, ⟨107, _⟩ => ⟨S16384x1024, .f32⟩
  | .hbm, ⟨108, _⟩ => ⟨S8x2048x1024, .f32⟩
  | .hbm, ⟨109, _⟩ => ⟨S16384x1024, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_3 : Ref sig .tc := ⟨.hbm, 38, rfl⟩
abbrev main_v30 : Ref sig .tc := ⟨.hbm, 39, rfl⟩
abbrev main_v31 : Ref sig .tc := ⟨.hbm, 40, rfl⟩
abbrev main_cst_4 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩

abbrev nD : Nat := 1
abbrev τ : Topo := Topo.v7x

variable {F : FTy → Type} [FloatOps F]
-- ==== Kernel3.lean ====
abbrev S16384x2048 : Shape := ⟨2, ![16384, 2048]⟩
abbrev S2048x11264 : Shape := ⟨2, ![2048, 11264]⟩
abbrev S3x5632 : Shape := ⟨2, ![3, 5632]⟩
abbrev S1x5632 : Shape := ⟨2, ![1, 5632]⟩
abbrev S16384x5632 : Shape := ⟨2, ![16384, 5632]⟩
abbrev S16x2x5632 : Shape := ⟨3, ![16, 2, 5632]⟩
abbrev S1024x2048 : Shape := ⟨2, ![1024, 2048]⟩
abbrev S16x2048 : Shape := ⟨2, ![16, 2048]⟩
abbrev S2048x512 : Shape := ⟨2, ![2048, 512]⟩
abbrev S3x512 : Shape := ⟨2, ![3, 512]⟩
abbrev S1x512 : Shape := ⟨2, ![1, 512]⟩
abbrev S1024x512 : Shape := ⟨2, ![1024, 512]⟩
abbrev S1x2x512 : Shape := ⟨3, ![1, 2, 512]⟩
abbrev S1040x2048 : Shape := ⟨2, ![1040, 2048]⟩
abbrev S1040x512 : Shape := ⟨2, ![1040, 512]⟩
abbrev S272x2048 : Shape := ⟨2, ![272, 2048]⟩
abbrev S272x512 : Shape := ⟨2, ![272, 512]⟩
abbrev S16x512 : Shape := ⟨2, ![16, 512]⟩
abbrev S256x2048 : Shape := ⟨2, ![256, 2048]⟩
abbrev S256x512 : Shape := ⟨2, ![256, 512]⟩
abbrev S2x512 : Shape := ⟨2, ![2, 512]⟩

abbrev nBuf : Space → Nat
  | .hbm => 7
  | .vmem => 18
  | .smem => 0
  | _ => 0

abbrev bufTy : (tb : Table) → Fin (tcTables nBuf tb) → BufTy
  | .hbm, ⟨0, _⟩ => ⟨S16384x2048, .bf16⟩
  | .hbm, ⟨1, _⟩ => ⟨S2048x11264, .f32⟩
  | .hbm, ⟨2, _⟩ => ⟨S3x5632, .f32⟩
  | .hbm, ⟨3, _⟩ => ⟨S1x5632, .f32⟩
  | .hbm, ⟨4, _⟩ => ⟨S2048x11264, .bf16⟩
  | .hbm, ⟨5, _⟩ => ⟨S16384x5632, .bf16⟩
  | .hbm, ⟨6, _⟩ => ⟨S16x2x5632, .f32⟩
  | .local _ .vmem, ⟨0, _⟩ => ⟨S1024x2048, .bf16⟩
  | .local _ .vmem, ⟨1, _⟩ => ⟨S1024x2048, .bf16⟩
  | .local _ .vmem, ⟨2, _⟩ => ⟨S16x2048, .bf16⟩
  | .local _ .vmem, ⟨3, _⟩ => ⟨S16x2048, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S3x512, .f32⟩
  | .local _ .vmem, ⟨9, _⟩ => ⟨S3x512, .f32⟩
  | .local _ .vmem, ⟨10, _⟩ => ⟨S1x512, .f32⟩
  | .local _ .vmem, ⟨11, _⟩ => ⟨S1x512, .f32⟩
  | .local _ .vmem, ⟨12, _⟩ => ⟨S1024x512, .bf16⟩
  | .local _ .vmem, ⟨13, _⟩ => ⟨S1024x512, .bf16⟩
  | .local _ .vmem, ⟨14, _⟩ => ⟨S1x2x512, .f32⟩
  | .local _ .vmem, ⟨15, _⟩ => ⟨S1x2x512, .f32⟩
  | .local _ .vmem, ⟨16, _⟩ => ⟨S1040x2048, .bf16⟩
  | .local _ .vmem, ⟨17, _⟩ => ⟨S1040x512, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![16, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S3x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference3Ideal.lean ====
abbrev S16384x2048 : Shape := ⟨2, ![16384, 2048]⟩
abbrev S2048x11264 : Shape := ⟨2, ![2048, 11264]⟩
abbrev S3x5632 : Shape := ⟨2, ![3, 5632]⟩
abbrev S1x5632 : Shape := ⟨2, ![1, 5632]⟩
abbrev S8x2048x2048 : Shape := ⟨3, ![8, 2048, 2048]⟩
abbrev S8x2048x11264 : Shape := ⟨3, ![8, 2048, 11264]⟩
abbrev S8x2048x5632 : Shape := ⟨3, ![8, 2048, 5632]⟩
abbrev S_ : Shape := ⟨0, ![]⟩
abbrev S8x2x5632 : Shape := ⟨3, ![8, 2, 5632]⟩
abbrev S8x2050x5632 : Shape := ⟨3, ![8, 2050, 5632]⟩
abbrev S5632 : Shape := ⟨1, ![5632]⟩
abbrev S1x1x5632 : Shape := ⟨3, ![1, 1, 5632]⟩
abbrev S16384x5632 : Shape := ⟨2, ![16384, 5632]⟩
abbrev S16x1024x5632 : Shape := ⟨3, ![16, 1024, 5632]⟩
abbrev S16x2x5632 : Shape := ⟨3, ![16, 2, 5632]⟩

abbrev nBuf : Space → Nat
  | .hbm => 50
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x11264, .f32⟩
  | .hbm, ⟨2, _⟩ => ⟨S3x5632, .f32⟩
  | .hbm, ⟨3, _⟩ => ⟨S1x5632, .f32⟩
  | .hbm, ⟨4, _⟩ => ⟨S16384x2048, .f32⟩
  | .hbm, ⟨5, _⟩ => ⟨S8x2048x2048, .f32⟩
  | .hbm, ⟨6, _⟩ => ⟨S8x2048x11264, .f32⟩
  | .hbm, ⟨7, _⟩ => ⟨S8x2048x5632, .f32⟩
  | .hbm, ⟨8, _⟩ => ⟨S8x2048x5632, .f32⟩
  | .hbm, ⟨9, _⟩ => ⟨S_, .f32⟩
  | .hbm, ⟨10, _⟩ => ⟨S8x2x5632, .f32⟩
  | .hbm, ⟨11, _⟩ => ⟨S8x2050x5632, .f32⟩
  | .hbm, ⟨12, _⟩ => ⟨S5632, .f32⟩
  | .hbm, ⟨13, _⟩ => ⟨S8x2048x5632, .f32⟩
  | .hbm, ⟨14, _⟩ => ⟨S1x5632, .f32⟩
  | .hbm, ⟨15, _⟩ => ⟨S5632, .f32⟩
  | .hbm, ⟨16, _⟩ => ⟨S1x1x5632, .f32⟩
  | .hbm, ⟨17, _⟩ => ⟨S8x2048x5632, .f32⟩
  | .hbm, ⟨18, _⟩ => ⟨S8x2048x5632, .f32⟩
  | .hbm, ⟨19, _⟩ => ⟨S1x1x5632, .f32⟩
  | .hbm, ⟨20, _⟩ => ⟨S8x2048x5632, .f32⟩
  | .hbm, ⟨21, _⟩ => ⟨S8x2048x5632, .f32⟩
  | .hbm, ⟨22, _⟩ => ⟨S8x2048x5632, .f32⟩
  | .hbm, ⟨23, _⟩ => ⟨S1x5632, .f32⟩
  | .hbm, ⟨24, _⟩ => ⟨S5632, .f32⟩
  | .hbm, ⟨25, _⟩ => ⟨S1x1x5632, .f32⟩
  | .hbm, ⟨26, _⟩ => ⟨S8x2048x5632, .f32⟩
  | .hbm, ⟨27, _⟩ => ⟨S8x2048x5632, .f32⟩
  | .hbm, ⟨28, _⟩ => ⟨S8x2048x5632, .f32⟩
  | .hbm, ⟨29, _⟩ => ⟨S8x2048x5632, .f32⟩
  | .hbm, ⟨30, _⟩ => ⟨S1x5632, .f32⟩
  | .hbm, ⟨31, _⟩ => ⟨S5632, .f32⟩
  | .hbm, ⟨32, _⟩ => ⟨S1x1x5632, .f32⟩
  | .hbm, ⟨33, _⟩ => ⟨S8x2048x5632, .f32⟩
  | .hbm, ⟨34, _⟩ => ⟨S8x2048x5632, .f32⟩
  | .hbm, ⟨35, _⟩ => ⟨S8x2048x5632, .f32⟩
  | .hbm, ⟨36, _⟩ => ⟨S8x2048x5632, .f32⟩
  | .hbm, ⟨37, _⟩ => ⟨S8x2048x5632, .f32⟩
  | .hbm, ⟨38, _⟩ => ⟨S_, .f32⟩
  | .hbm, ⟨39, _⟩ => ⟨S8x2048x5632, .f32⟩
  | .hbm, ⟨40, _⟩ => ⟨S8x2048x5632, .f32⟩
  | .hbm, ⟨41, _⟩ => ⟨S_, .f32⟩
  | .hbm, ⟨42, _⟩ => ⟨S8x2048x5632, .f32⟩
  | .hbm, ⟨43, _⟩ => ⟨S8x2048x5632, .f32⟩
  | .hbm, ⟨44, _⟩ => ⟨S8x2048x5632, .f32⟩
  | .hbm, ⟨45, _⟩ => ⟨S8x2048x5632, .f32⟩
  | .hbm, ⟨46, _⟩ => ⟨S16384x5632, .f32⟩
  | .hbm, ⟨47, _⟩ => ⟨S16x1024x5632, .f32⟩
  | .hbm, ⟨48, _⟩ => ⟨S16384x5632, .bf16⟩
  | .hbm, ⟨49, _⟩ => ⟨S16x2x5632, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== Kernel4.lean ====
abbrev S16384x2048 : Shape := ⟨2, ![16384, 2048]⟩
abbrev S16384x1024 : Shape := ⟨2, ![16384, 1024]⟩
abbrev S8x1x12288 : Shape := ⟨3, ![8, 1, 12288]⟩
abbrev S1x2048 : Shape := ⟨2, ![1, 2048]⟩
abbrev S2048x2048 : Shape := ⟨2, ![2048, 2048]⟩
abbrev S512x2048 : Shape := ⟨2, ![512, 2048]⟩
abbrev S512x1024 : Shape := ⟨2, ![512, 1024]⟩
abbrev S1x1x2048 : Shape := ⟨3, ![1, 1, 2048]⟩
abbrev S256x1024 : Shape := ⟨2, ![256, 1024]⟩
abbrev S1024x2048 : Shape := ⟨2, ![1024, 2048]⟩
abbrev S256x2048 : Shape := ⟨2, ![256, 2048]⟩
abbrev S256 : Shape := ⟨1, ![256]⟩
abbrev S256x1 : Shape := ⟨2, ![256, 1]⟩

abbrev nBuf : Space → Nat
  | .hbm => 9
  | .vmem => 18
  | .smem => 0
  | _ => 0

abbrev bufTy : (tb : Table) → Fin (tcTables nBuf tb) → BufTy
  | .hbm, ⟨0, _⟩ => ⟨S16384x2048, .f32⟩
  | .hbm, ⟨1, _⟩ => ⟨S16384x1024, .f32⟩
  | .hbm, ⟨2, _⟩ => ⟨S16384x1024, .f32⟩
  | .hbm, ⟨3, _⟩ => ⟨S8x1x12288, .f32⟩
  | .hbm, ⟨4, _⟩ => ⟨S1x2048, .f32⟩
  | .hbm, ⟨5, _⟩ => ⟨S2048x2048, .f32⟩
  | .hbm, ⟨6, _⟩ => ⟨S2048x2048, .bf16⟩
  | .hbm, ⟨7, _⟩ => ⟨S16384x2048, .f32⟩
  | .hbm, ⟨8, _⟩ => ⟨S16384x2048, .bf16⟩
  | .local _ .vmem, ⟨0, _⟩ => ⟨S512x2048, .f32⟩
  | .local _ .vmem, ⟨1, _⟩ => ⟨S512x2048, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1x2048, .f32⟩
  | .local _ .vmem, ⟨7, _⟩ => ⟨S1x1x2048, .f32⟩
  | .local _ .vmem, ⟨8, _⟩ => ⟨S1x1x2048, .f32⟩
  | .local _ .vmem, ⟨9, _⟩ => ⟨S1x1x2048, .f32⟩
  | .local _ .vmem, ⟨10, _⟩ => ⟨S1x1x2048, .f32⟩
  | .local _ .vmem, ⟨11, _⟩ => ⟨S1x1x2048, .f32⟩
  | .local _ .vmem, ⟨12, _⟩ => ⟨S1x2048, .f32⟩
  | .local _ .vmem, ⟨13, _⟩ => ⟨S2048x2048, .bf16⟩
  | .local _ .vmem, ⟨14, _⟩ => ⟨S512x2048, .f32⟩
  | .local _ .vmem, ⟨15, _⟩ => ⟨S512x2048, .f32⟩
  | .local _ .vmem, ⟨16, _⟩ => ⟨S512x2048, .bf16⟩
  | .local _ .vmem, ⟨17, _⟩ => ⟨S512x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c2_i32 : BitVec 32 := 2#32
  let c0_i32_5 : BitVec 32 := 0#32
  ![v16.toNat, c0_i32_4.toNat, c2_i32.toNat]

def cc0_transform_4 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c3_i32 : BitVec 32 := 3#32
  let c0_i32_5 : BitVec 32 := 0#32
  ![v16.toNat, c0_i32_4.toNat, c3_i32.toNat]

def cc0_transform_5 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c4_i32_5 : BitVec 32 := 4#32
  let c0_i32_6 : BitVec 32 := 0#32
  ![v16.toNat, c0_i32_4.toNat, c4_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference4Ideal.lean ====
abbrev S16384x2048 : Shape := ⟨2, ![16384, 2048]⟩
abbrev S16384x1024 : Shape := ⟨2, ![16384, 1024]⟩
abbrev S8x1x12288 : Shape := ⟨3, ![8, 1, 12288]⟩
abbrev S1x2048 : Shape := ⟨2, ![1, 2048]⟩
abbrev S2048x2048 : Shape := ⟨2, ![2048, 2048]⟩
abbrev S8x2048x2048 : Shape := ⟨3, ![8, 2048, 2048]⟩
abbrev S8x2048x1024 : Shape := ⟨3, ![8, 2048, 1024]⟩
abbrev S8x1x2048 : Shape := ⟨3, ![8, 1, 2048]⟩
abbrev S8x2048 : Shape := ⟨2, ![8, 2048]⟩
abbrev S_ : Shape := ⟨0, ![]⟩
abbrev S8x2048x1 : Shape := ⟨3, ![8, 2048, 1]⟩
abbrev S2048 : Shape := ⟨1, ![2048]⟩
abbrev S1x1x2048 : Shape := ⟨3, ![1, 1, 2048]⟩

abbrev nBuf : Space → Nat
  | .hbm => 50
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x1024, .f32⟩
  | .hbm, ⟨2, _⟩ => ⟨S16384x1024, .f32⟩
  | .hbm, ⟨3, _⟩ => ⟨S8x1x12288, .f32⟩
  | .hbm, ⟨4, _⟩ => ⟨S1x2048, .f32⟩
  | .hbm, ⟨5, _⟩ => ⟨S2048x2048, .f32⟩
  | .hbm, ⟨6, _⟩ => ⟨S8x2048x2048, .f32⟩
  | .hbm, ⟨7, _⟩ => ⟨S8x2048x1024, .f32⟩
  | .hbm, ⟨8, _⟩ => ⟨S8x2048x1024, .f32⟩
  | .hbm, ⟨9, _⟩ => ⟨S8x1x2048, .f32⟩
  | .hbm, ⟨10, _⟩ => ⟨S8x2048, .f32⟩
  | .hbm, ⟨11, _⟩ => ⟨S8x1x2048, .f32⟩
  | .hbm, ⟨12, _⟩ => ⟨S8x2048, .f32⟩
  | .hbm, ⟨13, _⟩ => ⟨S8x1x2048, .f32⟩
  | .hbm, ⟨14, _⟩ => ⟨S8x2048, .f32⟩
  | .hbm, ⟨15, _⟩ => ⟨S8x1x2048, .f32⟩
  | .hbm, ⟨16, _⟩ => ⟨S8x2048x2048, .f32⟩
  | .hbm, ⟨17, _⟩ => ⟨S8x2048x2048, .f32⟩
  | .hbm, ⟨18, _⟩ => ⟨S8x2048x2048, .f32⟩
  | .hbm, ⟨19, _⟩ => ⟨S8x2048x2048, .f32⟩
  | .hbm, ⟨20, _⟩ => ⟨S8x2048x2048, .f32⟩
  | .hbm, ⟨21, _⟩ => ⟨S8x2048x2048, .f32⟩
  | .hbm, ⟨22, _⟩ => ⟨S_, .f32⟩
  | .hbm, ⟨23, _⟩ => ⟨S8x2048, .f32⟩
  | .hbm, ⟨24, _⟩ => ⟨S8x2048x1, .f32⟩
  | .hbm, ⟨25, _⟩ => ⟨S_, .f32⟩
  | .hbm, ⟨26, _⟩ => ⟨S8x2048x1, .f32⟩
  | .hbm, ⟨27, _⟩ => ⟨S8x2048x1, .f32⟩
  | .hbm, ⟨28, _⟩ => ⟨S_, .f32⟩
  | .hbm, ⟨29, _⟩ => ⟨S8x2048x1, .f32⟩
  | .hbm, ⟨30, _⟩ => ⟨S8x2048x1, .f32⟩
  | .hbm, ⟨31, _⟩ => ⟨S8x2048x1, .f32⟩
  | .hbm, ⟨32, _⟩ => ⟨S8x2048x2048, .f32⟩
  | .hbm, ⟨33, _⟩ => ⟨S8x2048x2048, .f32⟩
  | .hbm, ⟨34, _⟩ => ⟨S2048, .f32⟩
  | .hbm, ⟨35, _⟩ => ⟨S1x1x2048, .f32⟩
  | .hbm, ⟨36, _⟩ => ⟨S8x2048x2048, .f32⟩
  | .hbm, ⟨37, _⟩ => ⟨S8x2048x2048, .f32⟩
  | .hbm, ⟨38, _⟩ => ⟨S8x1x2048, .f32⟩
  | .hbm, ⟨39, _⟩ => ⟨S_, .f32⟩
  | .hbm, ⟨40, _⟩ => ⟨S8x1x2048, .f32⟩
  | .hbm, ⟨41, _⟩ => ⟨S8x1x2048, .f32⟩
  | .hbm, ⟨42, _⟩ => ⟨S8x2048x2048, .f32⟩
  | .hbm, ⟨43, _⟩ => ⟨S8x2048x2048, .f32⟩
  | .hbm, ⟨44, _⟩ => ⟨S8x1x2048, .f32⟩
  | .hbm, ⟨45, _⟩ => ⟨S8x2048x2048, .f32⟩
  | .hbm, ⟨46, _⟩ => ⟨S8x2048x2048, .f32⟩
  | .hbm, ⟨47, _⟩ => ⟨S16384x2048, .f32⟩
  | .hbm, ⟨48, _⟩ => ⟨S16384x2048, .f32⟩
  | .hbm, ⟨49, _⟩ => ⟨S16384x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst : Ref sig .tc := ⟨.hbm, 22, rfl⟩
abbrev main_v16 : Ref sig .tc := ⟨.hbm, 23, rfl⟩
abbrev main_v17 : Ref sig .tc := ⟨.hbm, 24, rfl⟩
abbrev main_cst_0 : Ref sig .tc := ⟨.hbm, 25, rfl⟩
abbrev main_v18 : Ref sig .tc := ⟨.hbm, 26, rfl⟩
abbrev main_v19 : Ref sig .tc := ⟨.hbm, 27, rfl⟩
abbrev main_cst_1 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_2 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩

abbrev nD : Nat := 1
abbrev τ : Topo := Topo.v7x

variable {F : FTy → Type} [FloatOps F]
-- ==== Proof.Finite.lean ====
/-
  THE PRECONDITION: where it holds, the four λ vectors, the queries' plane of the projections, the keys and the values
  have real entries.
-/
module

public import proofs.«01_k».proof.Defs
public import Idealize.ShloMosaic.Lib.Pointwise

@[expose] public section

set_option maxRecDepth 16384

noncomputable section

namespace Cert.Pre_finite

open Idealize.ShloMosaic

theorem facts : Facts where
  slices_S5x16384x1024_S1x16384x1024_4_0_0 := by decide
  shapeCasts_S1x16384x1024_S16384x1024 := by decide
  bcast_S_S1x64 := by decide
  bcast_S_S16384x1024 := by decide

theorem ofBits_inf : Ideal.ofBits .f32 0x7F800000#32 = ⊤ := by
  simp [Ideal.ofBits, Ideal.ieee]

/-- A value whose magnitude compares below infinity is real. -/
theorem real_of_lt (a : EReal) (h : BitVec.ofBool (decide (max a (-a) < ⊤)) = 1#1) : ((a.toReal : ℝ) : EReal) = a := by
  have h' : max a (-a) < ⊤ := by
    by_contra hn
    rw [decide_eq_false hn] at h
    exact absurd h (by decide)
  refine EReal.coe_toReal (fun e => ?_) (fun e => ?_)
  · rw [e] at h'; simp at h'
  · rw [e] at h'; simp at h'

theorem row_real (hf : Facts) (x : FVec Ideal S1x64 .f32) (j : S1x64.Idx)
    (h : cmpf .olt (Host.absf x) (broadcastInDim S1x64 ![] hf.bcast_S_S1x64 (constant (F := Ideal) S_ .f32 0x7F800000#32)) j = 1#1) :
    ((x j).toReal : EReal) = x j := by
  refine real_of_lt (x j) ?_
  rw [← ofBits_inf]
  exact h

theorem mat_real (hf : Facts) (x : FVec Ideal S16384x1024 .f32) (j : S16384x1024.Idx)
    (h : cmpf .olt (Host.absf x) (broadcastInDim S16384x1024 ![] hf.bcast_S_S16384x1024 (constant (F := Ideal) S_ .f32 0x7F800000#32)) j = 1#1) :
    ((x j).toReal : EReal) = x j := by
  refine real_of_lt (x j) ?_
  rw [← ofBits_inf]
  exact h

theorem plane_real (hf : Facts) (z : FVec Ideal S5x16384x1024 .f32)
    (h : ∀ j, cmpf .olt (Host.absf (shapeCast S16384x1024 (extractStridedSlice S1x16384x1024 ![4, 0, 0] z hf.slices_S5x16384x1024_S1x16384x1024_4_0_0) hf.shapeCasts_S1x16384x1024_S16384x1024))
      (broadcastInDim S16384x1024 ![] hf.bcast_S_S16384x1024 (constant (F := Ideal) S_ .f32 0x7F800000#32)) j = 1#1) (r : Fin 16384) (l : Fin 1024) :
    ((z (ix3 4 r l)).toReal : EReal) = z (ix3 4 r l) := by
  have e : shapeCast S16384x1024 (extractStridedSlice S1x16384x1024 ![4, 0, 0] z hf.slices_S5x16384x1024_S1x16384x1024_4_0_0) hf.shapeCasts_S1x16384x1024_S16384x1024 (ix2 r l) = z (ix3 4 r l) := by
    pointwise
  have := mat_real hf _ _ (h (ix2 r l))
  rwa [e] at this

end Cert.Pre_finite
-- ==== Proof.Step.lean ====
/-
  ONE STEP OF THE ONLINE SOFTMAX, as vector operations and then at an index: a block of 512 key rows is taken into the
  running maximum `m`, the eight partial sums `l` and the accumulator `acc` of 512 query columns.
-/
module

public import proofs.«01_k».proof.Proof.Gen.KernelIdeal
public import Idealize.ShloMosaic.Lib.Pointwise

@[expose] public section

set_option maxRecDepth 16384

noncomputable section

namespace Cert.Attn

open Idealize.ShloMosaic Cert.KernelIdeal Cert.KernelIdeal.Facts₀ Cert.KernelIdeal.Facts

abbrev Row := FVec Ideal S1x512 .f32
abbrev Tile := FVec Ideal S512x512 .f32

/-- The new running maximum. -/
def mNew (m : Row) (st : Tile) : Row :=
  maximumf m (shapeCast S1x512 (multiReduction .maximumf [0] S512 st 0xFF800000#32 reduces_S512x512_S512 (.inl rfl) rfl) shapeCasts_S512_S1x512)

/-- The block's weights over the new maximum. -/
def pNew (m : Row) (st : Tile) : Tile :=
  exp2 (subf st (broadcastTo S512x512 (mNew m st) broadcasts_S1x512_S512x512))

/-- The factor that carries the old sums over to the new maximum. -/
def cNew (m : Row) (st : Tile) : Row := exp2 (subf m (mNew m st))

/-- The new partial sums. -/
def lNew (l : FVec Ideal S8x512 .f32) (m : Row) (st : Tile) : FVec Ideal S8x512 .f32 :=
  addf (mulf l (broadcastTo S8x512 (cNew m st) broadcasts_S1x512_S8x512))
    (multiReduction .add [0] S8x512 (shapeCast S64x8x512 (pNew m st) shapeCasts_S512x512_S64x8x512) 0x00000000#32 reduces_S64x8x512_S8x512 (.inl rfl) rfl)

/-- The new accumulator. -/
def aNew (acc : FVec Ideal S128x512 .f32) (m : Row) (st : Tile) (vt : FVec Ideal S128x512 .bf16) : FVec Ideal S128x512 .f32 :=
  addf (mulf acc (broadcastTo S128x512 (cNew m st) broadcasts_S1x512_S128x512))
    (matmul dot_S128x512_S512x512_S128x512_1_0_0_1_n_n none vt (truncf .bf16 (pNew m st) bitsLt_bf16_f32) (constant S128x512 .f32 0x00000000#32))

/-- `0xFF800000` is −∞. -/
theorem ofBits_ninf : Ideal.ofBits .f32 0xFF800000#32 = ⊥ := by
  simp [Ideal.ofBits, Ideal.ieee]

theorem mNew_apply (m : Row) (st : Tile) (j : Fin 512) :
    mNew m st (ix2 0 j) = max (m (ix2 0 j)) (Finset.univ.fold max ⊥ fun a : Fin 512 => st (ix2 a j)) := by
  pointwise [mNew, multiReduction_maximumf_eq_fold]
  rw [ofBits_ninf]

theorem pNew_apply (m : Row) (st : Tile) (a j : Fin 512) :
    pNew m st (ix2 a j) = Ideal.exp2 (st (ix2 a j) - mNew m st (ix2 0 j)) := by
  unfold pNew
  generalize mNew m st = M
  pointwise
  rfl

theorem cNew_apply (m : Row) (st : Tile) (j : Fin 512) :
    cNew m st (ix2 0 j) = Ideal.exp2 (m (ix2 0 j) - mNew m st (ix2 0 j)) := by
  unfold cNew
  generalize mNew m st = M
  pointwise
  rfl

theorem lNew_apply (l : FVec Ideal S8x512 .f32) (m : Row) (st : Tile) (e : Fin 8) (j : Fin 512) :
    lNew l m st (ix2 e j) = l (ix2 e j) * cNew m st (ix2 0 j)
      + ∑ r : Fin 64, pNew m st (ix2 ⟨r.val * 8 + e.val, by omega⟩ j) := by
  unfold lNew
  generalize pNew m st = P
  generalize cNew m st = C
  pointwise

theorem aNew_apply (acc : FVec Ideal S128x512 .f32) (m : Row) (st : Tile) (vt : FVec Ideal S128x512 .bf16) (d : Fin 128) (j : Fin 512) :
    aNew acc m st vt (ix2 d j) = acc (ix2 d j) * cNew m st (ix2 0 j) + ∑ a : Fin 512, vt (ix2 d a) * pNew m st (ix2 a j) := by
  unfold aNew
  generalize pNew m st = P
  generalize cNew m st = C
  pointwise

end Cert.Attn

end
-- ==== Proof.Column.lean ====
/-
  THE ONLINE SOFTMAX OF ONE QUERY, over real scores: the state after the first `n` keys (the running maximum `M`, partial
  sums whose total is the sum of `2^(σ k − M)`, an accumulator that is the weighted sum of the value rows), and the step
  that takes in 512 more keys. A key after the query has score −∞ and weight 0.
-/
module

public import Idealize.ShloMosaic.PureOps.Ideal
public import Mathlib.Algebra.BigOperators.Fin
public import Mathlib.Logic.Equiv.Fin.Basic

@[expose] public section

set_option maxRecDepth 16384

noncomputable section

namespace Cert.Attn

open Idealize.ShloMosaic

/-- A finite real sum, cast. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The weight of key `k` for the query at `qy`, relative to `M`. -/
def wt (σ : ℕ → ℝ) (qy : ℕ) (M : ℝ) (k : ℕ) : ℝ := if k ≤ qy then Real.rpow 2 (σ k - M) else 0

theorem wt_shift (σ : ℕ → ℝ) (qy : ℕ) (M M' : ℝ) (k : ℕ) : wt σ qy M k * Real.rpow 2 (M - M') = wt σ qy M' k := by
  unfold wt
  split
  · show (2 : ℝ) ^ (σ k - M) * (2 : ℝ) ^ (M - M') = (2 : ℝ) ^ (σ k - M')
    rw [← Real.rpow_add (by norm_num)]
    congr 1
    ring
  · simp

theorem wt_nonneg (σ : ℕ → ℝ) (qy : ℕ) (M : ℝ) (k : ℕ) : 0 ≤ wt σ qy M k := by
  unfold wt
  split
  · exact (Real.rpow_pos_of_pos (by norm_num) _).le
  · exact le_rfl

/-- The state after `n` keys. -/
def Inv (σ : ℕ → ℝ) (v : ℕ → Fin 128 → ℝ) (qy n : ℕ) (m : EReal) (l : Fin 8 → EReal) (acc : Fin 128 → EReal) : Prop :=
  ∃ M : ℝ, m = M ∧ (∃ L : Fin 8 → ℝ, (∀ e, l e = L e) ∧ ∑ e, L e = ∑ k ∈ Finset.range n, wt σ qy M k)
    ∧ ∀ d, acc d = ((∑ k ∈ Finset.range n, wt σ qy M k * v k d : ℝ) : EReal)

/-- The state before any key. -/
def Start (n : ℕ) (m : EReal) (l : Fin 8 → EReal) (acc : Fin 128 → EReal) : Prop :=
  n = 0 ∧ m = ⊥ ∧ (∀ e, l e = 0) ∧ ∀ d, acc d = 0

/-- The block's largest score is a real when one of them is and none is ⊤. -/
theorem fold_max_real (s : Fin 512 → EReal) (h0 : ∃ a, s a ≠ ⊥) (ht : ∀ a, s a ≠ ⊤) :
    ∃ B : ℝ, Finset.univ.fold max ⊥ s = (B : EReal) := by
  obtain ⟨a, ha⟩ := h0
  have h1 : s a ≤ Finset.univ.fold max ⊥ s := (Finset.le_fold_max _).2 (Or.inr ⟨a, Finset.mem_univ a, le_rfl⟩)
  have h2 : Finset.univ.fold max ⊥ s < ⊤ := (Finset.fold_max_lt _).2 ⟨bot_lt_top, fun b _ => lt_top_iff_ne_top.2 (ht b)⟩
  refine ⟨(Finset.univ.fold max ⊥ s).toReal, (EReal.coe_toReal h2.ne ?_).symm⟩
  intro hb
  rw [hb] at h1
  exact ha (le_bot_iff.1 h1)

/-- The eight partial sums of 64 rows each make the sum of the 512. -/
theorem sum_eight (f : ℕ → ℝ) : ∑ e : Fin 8, ∑ r : Fin 64, f (r.val * 8 + e.val) = ∑ a ∈ Finset.range 512, f a := by
  rw [Finset.sum_comm, ← Fin.sum_univ_eq_sum_range, ← Fintype.sum_prod_type',
    ← (finProdFinEquiv (m := 64) (n := 8)).sum_comp]
  refine Finset.sum_congr rfl fun p _ => ?_
  congr 1
  simp [finProdFinEquiv]
  ring

/-- The step. -/
theorem inv_step (σ : ℕ → ℝ) (v : ℕ → Fin 128 → ℝ) (qy n : ℕ) (hn : n ≤ qy) (m : EReal) (l : Fin 8 → EReal) (acc : Fin 128 → EReal)
    (s p : Fin 512 → EReal) (vt : Fin 128 → Fin 512 → EReal) (m' c : EReal) (l' : Fin 8 → EReal) (acc' : Fin 128 → EReal)
    (hI : Start n m l acc ∨ Inv σ v qy n m l acc)
    (hs : ∀ a : Fin 512, s a = if n + a.val ≤ qy then (σ (n + a.val) : EReal) else ⊥)
    (hv : ∀ d a, vt d a = (v (n + a.val) d : EReal))
    (hm : m' = max m (Finset.univ.fold max ⊥ s))
    (hp : ∀ a, p a = Ideal.exp2 (s a - m'))
    (hc : c = Ideal.exp2 (m - m'))
    (hl : ∀ e : Fin 8, l' e = l e * c + ∑ r : Fin 64, p ⟨r.val * 8 + e.val, by omega⟩)
    (ha : ∀ d, acc' d = acc d * c + ∑ a, vt d a * p a) :
    Inv σ v qy (n + 512) m' l' acc' := by
  obtain ⟨B, hB⟩ := fold_max_real s ⟨0, by rw [hs]; simp [hn]⟩ (fun a => by rw [hs]; split <;> simp)
  -- the new maximum is real
  have hM' : ∃ M' : ℝ, m' = M' := by
    rcases hI with ⟨_, h, _⟩ | ⟨M, h, _⟩
    · exact ⟨B, by rw [hm, h, hB]; simp⟩
    · exact ⟨max M B, by rw [hm, h, hB]; exact (EReal.coe_strictMono.monotone.map_max).symm⟩
  obtain ⟨M', hM'⟩ := hM'
  have hp' : ∀ a : Fin 512, p a = (wt σ qy M' (n + a.val) : EReal) := by
    intro a
    rw [hp, hs, hM']
    unfold wt
    split
    · rw [← EReal.coe_sub, Ideal.exp2_coe]
    · simp
  -- the old sums, carried over
  have hold : ∃ C : ℝ, c = C ∧ (∃ L : Fin 8 → ℝ, (∀ e, l e = L e) ∧ (∑ e, L e) * C = ∑ k ∈ Finset.range n, wt σ qy M' k)
      ∧ ∃ A : Fin 128 → ℝ, (∀ d, acc d = A d) ∧ ∀ d, A d * C = ∑ k ∈ Finset.range n, wt σ qy M' k * v k d := by
    rcases hI with ⟨h0, h1, h2, h3⟩ | ⟨M, h1, ⟨L, h2, h3⟩, h4⟩
    · subst h0
      refine ⟨0, by rw [hc, h1, hM']; simp, ⟨fun _ => 0, by simpa using h2, by simp⟩, fun _ => 0, by simpa using h3, by simp⟩
    · refine ⟨Real.rpow 2 (M - M'), by rw [hc, h1, hM', ← EReal.coe_sub, Ideal.exp2_coe], ⟨L, h2, ?_⟩, _, h4, ?_⟩
      · rw [h3, Finset.sum_mul]
        exact Finset.sum_congr rfl fun k _ => wt_shift ..
      · intro d
        rw [Finset.sum_mul]
        refine Finset.sum_congr rfl fun k _ => ?_
        rw [mul_right_comm, wt_shift]
  obtain ⟨C, hC, ⟨L, hL, hLs⟩, A, hA, hAs⟩ := hold
  refine ⟨M', hM', ⟨fun e => L e * C + ∑ r : Fin 64, wt σ qy M' (n + (r.val * 8 + e.val)), fun e => ?_, ?_⟩, fun d => ?_⟩
  · rw [hl, hL, hC, EReal.coe_add, EReal.coe_mul, coe_sum]
    congr 1
    exact Finset.sum_congr rfl fun r _ => hp' _
  · rw [Finset.sum_add_distrib, ← Finset.sum_mul, hLs, sum_eight (fun a => wt σ qy M' (n + a)), ← Finset.sum_range_add]
  · have h512 : ∑ a : Fin 512, wt σ qy M' (n + a.val) * v (n + a.val) d = ∑ a ∈ Finset.range 512, wt σ qy M' (n + a) * v (n + a) d :=
      Fin.sum_univ_eq_sum_range (fun a => wt σ qy M' (n + a) * v (n + a) d) 512
    rw [Finset.sum_range_add (fun k => wt σ qy M' k * v k d) n 512, ← hAs, ← h512, ha, hA, hC, EReal.coe_add, EReal.coe_mul, coe_sum]
    congr 1
    refine Finset.sum_congr rfl fun a _ => ?_
    rw [hv, hp', ← EReal.coe_mul, mul_comm]

end Cert.Attn

end
-- ==== Proof.Tiles.lean ====
/-
  THE TILES OF ONE GRID POINT: what the loads of the scratch buffers read back, what the scaled and masked queries, the
  scores and the transposed values are at an index, and the state of a query tile carried over one block of keys.
-/
module

public import proofs.«01_k».proof.Proof.Step
public import proofs.«01_k».proof.Proof.Column
public import proofs.«01_k».proof.Proof.Gen.KernelIdeal.Value
public import Idealize.ShloMosaic.Lib.Pipeline.ReadBack

@[expose] public section

set_option maxRecDepth 16384

noncomputable section

namespace Cert.Attn

open Idealize.ShloMosaic Cert.KernelIdeal Cert.KernelIdeal.Gen

section readback

variable {sig : RefSig} {κ : Kind} {sp : Space} {s : Shape} {e : EltTy} {Val : EltTy → Type} [∀ e, Nonempty (Val e)]

/-- A load of the half last stored reads what was stored. -/
theorem rb_hit (v : View sig κ sp s e) (r₀ : Rect s) (r₁ : Rect r₀.shape) (h₀ h₁ : ∀ a, r₀.stride a = 1) {s' : Shape} {r : Rect s'}
    (hR : (r₀.within r₁ h₀).shape.numel = r.shape.numel) (hR' : r.toLoadRect.shape.numel = (r₀.withinL r₁.toLoadRect h₁).shape.numel)
    (w : r.shape.Idx → Val e) (L : List (View.Piece Val s e)) :
    LoadRect.valAlong (lr := r.toLoadRect) hR' (v.readCov (⟨r₀.within r₁ h₀, Rect.payAlong hR w⟩ :: L) (r₀.withinL r₁.toLoadRect h₁)) = w := by
  have h := View.readCov_cons_toLoadRect v (r₀.within r₁ h₀) (Rect.payAlong hR w) L
  have h' : v.readCov (⟨r₀.within r₁ h₀, Rect.payAlong hR w⟩ :: L) (r₀.withinL r₁.toLoadRect h₁) = Rect.payAlong hR w := h
  rw [h']
  funext x
  show w (Shape.reshapeEquiv hR (Shape.reshapeEquiv hR' x)) = w x
  congr 1
  exact (Shape.reshapeEquiv_reshapeEquiv hR hR' x).trans (Shape.reshapeEquiv_self _ x)

/-- A load of the half stored just before the other one. -/
theorem rb_hit2 (v : View sig κ sp s e) (r₀ : Rect s) (r₁ : Rect r₀.shape) (h₀ h₁ : ∀ a, r₀.stride a = 1) {s' : Shape} {r : Rect s'}
    (q : Rect s) (u : q.shape.Idx → Val e)
    (hR : (r₀.within r₁ h₀).shape.numel = r.shape.numel) (hR' : r.toLoadRect.shape.numel = (r₀.withinL r₁.toLoadRect h₁).shape.numel)
    (w : r.shape.Idx → Val e) (L : List (View.Piece Val s e)) (hd : LoadRect.disj q (r₀.withinL r₁.toLoadRect h₁) = true) :
    LoadRect.valAlong (lr := r.toLoadRect) hR' (v.readCov (⟨q, u⟩ :: ⟨r₀.within r₁ h₀, Rect.payAlong hR w⟩ :: L) (r₀.withinL r₁.toLoadRect h₁)) = w := by
  have h := View.readCov_skip v q u (⟨r₀.within r₁ h₀, Rect.payAlong hR w⟩ :: L) _ hd
  exact (congrArg (fun f => LoadRect.valAlong (lr := r.toLoadRect) hR' f) h).trans (rb_hit v r₀ r₁ h₀ h₁ hR hR' w L)

/-- A load of a half of a slot filled with one value reads that value. -/
theorem rb_fill (v : View sig κ sp s e) (r₀ : Rect s) (lr : LoadRect r₀.shape) (h₁ : ∀ a, r₀.stride a = 1) {s' : Shape} {r : Rect s'}
    (hR' : r.toLoadRect.shape.numel = (r₀.withinL lr h₁).shape.numel)
    (Z : r₀.shape.Idx → Val e) (z : Val e) (hZ : ∀ i, Z i = z) (L : List (View.Piece Val s e)) :
    LoadRect.valAlong (lr := r.toLoadRect) hR' (v.readCov (⟨r₀, Z⟩ :: L) (r₀.withinL lr h₁)) = fun _ => z := by
  rw [View.readCov_eq_canon']
  funext x
  show View.canon (⟨r₀, Z⟩ :: L) ((r₀.withinL lr h₁).idx (Shape.reshapeEquiv hR' x)) = z
  have h := Rect.idx_withinL r₀ lr h₁ (Shape.reshapeEquiv hR' x)
  rw [h]
  exact (View.canon_cons_emb r₀ Z L _).trans (hZ _)

theorem rb_fill2 (v : View sig κ sp s e) (r₀ : Rect s) (lr : LoadRect r₀.shape) (h₁ : ∀ a, r₀.stride a = 1) {s' : Shape} {r : Rect s'}
    (q : Rect s) (u : q.shape.Idx → Val e)
    (hR' : r.toLoadRect.shape.numel = (r₀.withinL lr h₁).shape.numel)
    (Z : r₀.shape.Idx → Val e) (z : Val e) (hZ : ∀ i, Z i = z) (L : List (View.Piece Val s e))
    (hd : LoadRect.disj q (r₀.withinL lr h₁) = true) :
    LoadRect.valAlong (lr := r.toLoadRect) hR' (v.readCov (⟨q, u⟩ :: ⟨r₀, Z⟩ :: L) (r₀.withinL lr h₁)) = fun _ => z := by
  have h := View.readCov_skip v q u (⟨r₀, Z⟩ :: L) _ hd
  exact (congrArg (fun f => LoadRect.valAlong (lr := r.toLoadRect) hR' f) h).trans (rb_fill v r₀ lr h₁ hR' Z z hZ L)

/-- A slot read whole, under its last store. -/
theorem slot_hit (v : View sig κ sp s e) (r₀ : Rect s) (r₁ : Rect r₀.shape) (h₀ : ∀ a, r₀.stride a = 1) (W : r₁.shape.Idx → Val e)
    (L : List (View.Piece Val s e)) (x : r₀.shape.Idx) (y : r₁.shape.Idx) (hx : x = r₁.emb y) :
    v.readCov (⟨r₀.within r₁ h₀, W⟩ :: L) r₀.toLoadRect x = W y := by
  have h : v.readCov (⟨r₀.within r₁ h₀, W⟩ :: L) r₀.toLoadRect x = View.canon (⟨r₀.within r₁ h₀, W⟩ :: L) (r₀.emb x) :=
    congrFun (View.readCov_eq_canon' v (⟨r₀.within r₁ h₀, W⟩ :: L) r₀.toLoadRect) x
  rw [h, hx]
  have h2 := Rect.emb_within r₀ r₁ h₀ y
  rw [← h2]
  exact View.canon_cons_emb (r₀.within r₁ h₀) W L y

theorem slot_skip (v : View sig κ sp s e) (r₀ : Rect s) (r₁ : Rect r₀.shape) (h₀ : ∀ a, r₀.stride a = 1) (W : r₁.shape.Idx → Val e)
    (L : List (View.Piece Val s e)) (x : r₀.shape.Idx) (a : Fin s.rank) (hx : (x a).val < r₁.off a) :
    v.readCov (⟨r₀.within r₁ h₀, W⟩ :: L) r₀.toLoadRect x = v.readCov L r₀.toLoadRect x := by
  have h : v.readCov (⟨r₀.within r₁ h₀, W⟩ :: L) r₀.toLoadRect x = View.canon (⟨r₀.within r₁ h₀, W⟩ :: L) (r₀.emb x) :=
    congrFun (View.readCov_eq_canon' v (⟨r₀.within r₁ h₀, W⟩ :: L) r₀.toLoadRect) x
  have h' : v.readCov L r₀.toLoadRect x = View.canon L (r₀.emb x) := congrFun (View.readCov_eq_canon' v L r₀.toLoadRect) x
  rw [h, h']
  refine View.canon_cons_of_not_mem ⟨r₀.within r₁ h₀, W⟩ L fun hm => ?_
  obtain ⟨i, hi, he⟩ := (r₀.within r₁ h₀).mem_set.mp hm a
  rw [Rect.emb_apply, h₀ a] at he
  have he' : r₀.off a + 1 * (x a).val = r₀.off a + r₁.off a + r₁.stride a * i := he
  omega

end readback

section data

/-- The key tile: 512 rows of the keys kept in the half width. -/
theorem kt_apply {v : View sig .tc .vmem S2048x128 .bf16} (X : Vec Ideal S2048x128 .bf16) (n : ℕ) (hn : n + 512 ≤ 2048)
    (inb : ∀ a, (![0, 0] : Fin 2 → ℕ) a + S2048x128.size a ≤ S2048x128.size a)
    (inb' : ∀ a, (![n, 0] : Fin 2 → ℕ) a + S512x128.size a ≤ S2048x128.size a) (a : Fin 512) (e : Fin 128) :
    v.readCov (Val := Elt Ideal) [⟨Rect.unit (s := S2048x128) ![0, 0] S2048x128.size inb, X⟩] (Rect.unit (s := S2048x128) ![n, 0] S512x128.size inb').toLoadRect (ix2 a e)
      = X (ix2 ⟨n + a.val, by omega⟩ e) := by
  have h := View.readCov_fill (Val := Elt Ideal) v inb X [] (Rect.unit (s := S2048x128) ![n, 0] S512x128.size inb') (by intro a; fin_cases a <;> rfl)
  refine (congrFun h (ix2 a e)).trans ?_
  refine congrArg X (funext fun i => Fin.ext ?_)
  fin_cases i <;> simp [LoadRect.idx_apply, Rect.unit, Rect.toLoadRect, ix2]

/-- Rows of a staged block. -/
theorem rd_rows (arg : Memref sig .tc .vmem S2048x128 .f32) (h : arg.IsWhole) (x : Vec Ideal S2048x128 .f32) (n : ℕ) (hn : n + 512 ≤ 2048)
    (inb' : ∀ a, (![n, 0] : Fin 2 → ℕ) a + S512x128.size a ≤ S2048x128.size a) (a : Fin 512) (e : Fin 128) :
    View.readAt (Elt Ideal) arg.view (Rect.unit (s := S2048x128) ![n, 0] S512x128.size inb').toLoadRect (h.unread x) (ix2 a e)
      = x (ix2 ⟨n + a.val, by omega⟩ e) := by
  rw [View.readAt_eq_ld, Memref.IsWhole.read_unread]
  refine congrArg x (funext fun i => Fin.ext ?_)
  fin_cases i <;> simp [LoadRect.idx_apply, Rect.unit, Rect.toLoadRect, ix2]

theorem rd_all (arg : Memref sig .tc .vmem S2048x128 .f32) (h : arg.IsWhole) (x : Vec Ideal S2048x128 .f32)
    (inb' : ∀ a, (![0, 0] : Fin 2 → ℕ) a + S2048x128.size a ≤ S2048x128.size a) (a : Fin 2048) (e : Fin 128) :
    View.readAt (Elt Ideal) arg.view (Rect.unit (s := S2048x128) ![0, 0] S2048x128.size inb').toLoadRect (h.unread x) (ix2 a e)
      = x (ix2 a e) := by
  rw [View.readAt_eq_ld, Memref.IsWhole.read_unread]
  refine congrArg x (funext fun i => Fin.ext ?_)
  fin_cases i <;> simp [LoadRect.idx_apply, Rect.unit, Rect.toLoadRect, ix2]

theorem rd_q (arg : Memref sig .tc .vmem S1x2048x128 .f32) (h : arg.IsWhole) (x : Vec Ideal S1x2048x128 .f32) (n : ℕ) (hn : n + 512 ≤ 2048)
    (inb' : ∀ a, (![0, n, 0] : Fin 3 → ℕ) a + S1x512x128.size a ≤ S1x2048x128.size a) (a : Fin 512) (e : Fin 128) :
    View.readAt (Elt Ideal) arg.view (Rect.unit (s := S1x2048x128) ![0, n, 0] S1x512x128.size inb').toLoadRect (h.unread x) (ix3 0 a e)
      = x (ix3 0 ⟨n + a.val, by omega⟩ e) := by
  rw [View.readAt_eq_ld, Memref.IsWhole.read_unread]
  refine congrArg x (funext fun i => Fin.ext ?_)
  fin_cases i <;> simp [LoadRect.idx_apply, Rect.unit, Rect.toLoadRect, ix3]

/-- A query row scaled and kept in the lanes of the first (second) head half. -/
def qs (Q : ℕ → Fin 128 → ℝ) (h : Fin 2) (y : ℕ) (e : Fin 128) : ℝ := if e.val / 64 = h.val then Q y e * (8 * Real.log 2)⁻¹ else 0

/-- The base-2 score of query `y` and key `k` in head half `h`. -/
def sg (Q K : ℕ → Fin 128 → ℝ) (h : Fin 2) (y k : ℕ) : ℝ := ∑ e : Fin 128, K k e * qs Q h y e

def qLo (t : Vec Ideal S1x512x128 .f32) : Vec Ideal S1x512x128 .bf16 := k0_pay39 (iota .tc S1x128 32 [1] iota_S1x128_d1_w32) t
def qHi (t : Vec Ideal S1x512x128 .f32) : Vec Ideal S1x512x128 .bf16 := k0_pay40 (iota .tc S1x128 32 [1] iota_S1x128_d1_w32) t

theorem lane_lo (e : Fin 128) : IntOp.cmpi .slt (BitVec.ofNat 32 e.val) 64#32 = if e.val / 64 = 0 then 1#1 else 0#1 := by
  revert e; decide +kernel
theorem lane_hi (e : Fin 128) : IntOp.cmpi .sge (BitVec.ofNat 32 e.val) 64#32 = if e.val / 64 = 1 then 1#1 else 0#1 := by
  revert e; decide +kernel

theorem qscale_named : (Named.named (F := Ideal) (φ := .f32) κ "qscale" 0x3E38AA3B#32 : Ideal .f32) = (((8 * Real.log 2)⁻¹ : ℝ) : EReal) := rfl

theorem qLo_apply (t : Vec Ideal S1x512x128 .f32) (a : Fin 512) (e : Fin 128) :
    qLo t (ix3 0 a e) = if e.val / 64 = 0 then t (ix3 0 a e) * (((8 * Real.log 2)⁻¹ : ℝ) : EReal) else 0 := by
  pointwise [qLo, k0_pay39, k0_pay38]
  rw [lane_lo, qscale_named]
  by_cases h : e.val / 64 = 0
  · rw [if_pos h, if_pos h]; rfl
  · rw [if_neg h, if_neg h]; rfl

theorem qHi_apply (t : Vec Ideal S1x512x128 .f32) (a : Fin 512) (e : Fin 128) :
    qHi t (ix3 0 a e) = if e.val / 64 = 1 then t (ix3 0 a e) * (((8 * Real.log 2)⁻¹ : ℝ) : EReal) else 0 := by
  pointwise [qHi, k0_pay40, k0_pay38]
  rw [lane_hi, qscale_named]
  by_cases h : e.val / 64 = 1
  · rw [if_pos h, if_pos h]; rfl
  · rw [if_neg h, if_neg h]; rfl

theorem qLo_real (Q : ℕ → Fin 128 → ℝ) (q : ℕ) (t : Vec Ideal S1x512x128 .f32) (ht : ∀ a e, t (ix3 0 a e) = (Q (q + a.val) e : EReal))
    (a : Fin 512) (e : Fin 128) : qLo t (ix3 0 a e) = (qs Q 0 (q + a.val) e : EReal) := by
  rw [qLo_apply, ht, qs]
  show _ = (((if e.val / 64 = 0 then _ else _ : ℝ)) : EReal)
  split
  · rw [EReal.coe_mul]
  · rfl

theorem qHi_real (Q : ℕ → Fin 128 → ℝ) (q : ℕ) (t : Vec Ideal S1x512x128 .f32) (ht : ∀ a e, t (ix3 0 a e) = (Q (q + a.val) e : EReal))
    (a : Fin 512) (e : Fin 128) : qHi t (ix3 0 a e) = (qs Q 1 (q + a.val) e : EReal) := by
  rw [qHi_apply, ht, qs]
  show _ = (((if e.val / 64 = 1 then _ else _ : ℝ)) : EReal)
  split
  · rw [EReal.coe_mul]
  · rfl

theorem mask_lane (j : Fin 1024) : (Scalar.select
        (IntOp.andi
          (IntOp.xori
            (IntOp.cmpi CmpIPredicate.slt
              (IntOp.remsi ArithUnit.vector (BitVec.ofNat 32 j.val)
                (Scalar.select (Scalar.cmpi CmpIPredicate.eq 512#32 0#32) 1#32 512#32))
              0#32)
            (Scalar.cmpi CmpIPredicate.slt (Scalar.select (Scalar.cmpi CmpIPredicate.eq 512#32 0#32) 1#32 512#32) 0#32))
          (IntOp.cmpi CmpIPredicate.ne
            (IntOp.remsi ArithUnit.vector (BitVec.ofNat 32 j.val)
              (Scalar.select (Scalar.cmpi CmpIPredicate.eq 512#32 0#32) 1#32 512#32))
            0#32))
        (IntOp.addi
          (IntOp.remsi ArithUnit.vector (BitVec.ofNat 32 j.val)
            (Scalar.select (Scalar.cmpi CmpIPredicate.eq 512#32 0#32) 1#32 512#32))
          (Scalar.select (Scalar.cmpi CmpIPredicate.eq 512#32 0#32) 1#32 512#32))
        (IntOp.remsi ArithUnit.vector (BitVec.ofNat 32 j.val)
          (Scalar.select (Scalar.cmpi CmpIPredicate.eq 512#32 0#32) 1#32 512#32))) = BitVec.ofNat 32 (j.val % 512) := by
  revert j; decide +kernel

theorem sle_small (a b : ℕ) (ha : a < 512) (hb : b < 512) :
    IntOp.cmpi .sle (BitVec.ofNat 32 a) (BitVec.ofNat 32 b) = if a ≤ b then 1#1 else 0#1 := by
  have h : (BitVec.ofNat 32 a).sle (BitVec.ofNat 32 b) = decide (a ≤ b) := by
    rw [BitVec.sle_eq_decide, BitVec.toInt_eq_toNat_of_lt, BitVec.toInt_eq_toNat_of_lt]
    · simp only [BitVec.toNat_ofNat]
      rw [Nat.mod_eq_of_lt (by omega), Nat.mod_eq_of_lt (by omega)]
      simp
    · simp only [BitVec.toNat_ofNat]; omega
    · simp only [BitVec.toNat_ofNat]; omega
  show BitVec.ofBool ((BitVec.ofNat 32 a).sle (BitVec.ofNat 32 b)) = _
  rw [h]
  by_cases hab : a ≤ b
  · rw [if_pos hab, decide_eq_true hab]; rfl
  · rw [if_neg hab, decide_eq_false hab]; rfl

theorem mask_apply (a : Fin 512) (j : Fin 1024) : k0_pay8 (ix2 a j) = if a.val ≤ j.val % 512 then 1#1 else 0#1 := by
  pointwise [k0_pay8]
  rw [mask_lane]
  exact sle_small _ _ a.isLt (Nat.mod_lt _ (by norm_num))

/-- The scores under the causal mask, at one half. -/
theorem masked_lo (X : Tile) (a j : Fin 512) :
    select (extractStridedSlice S512x512 ![0, 0] k0_pay8 slices_S512x1024_o0_0_S512x512) X (broadcast S512x512 (Scalar.ofBits (F := Ideal) .f32 0xFF800000#32)) (ix2 a j)
      = if a.val ≤ j.val then X (ix2 a j) else ⊥ := by
  generalize hM : k0_pay8 = M
  pointwise
  rw [← hM, mask_apply, ofBits_ninf]
  show Scalar.select (if a.val ≤ j.val % 512 then 1#1 else 0#1) _ _ = _
  rw [Nat.mod_eq_of_lt j.isLt]
  by_cases h : a.val ≤ j.val
  · rw [if_pos h, if_pos h]; rfl
  · rw [if_neg h, if_neg h]; rfl

theorem masked_hi (X : Tile) (a j : Fin 512) :
    select (extractStridedSlice S512x512 ![0, 512] k0_pay8 slices_S512x1024_o0_512_S512x512) X (broadcast S512x512 (Scalar.ofBits (F := Ideal) .f32 0xFF800000#32)) (ix2 a j)
      = if a.val ≤ j.val then X (ix2 a j) else ⊥ := by
  generalize hM : k0_pay8 = M
  pointwise
  rw [← hM, mask_apply, ofBits_ninf]
  show Scalar.select (if a.val ≤ (512 + j.val) % 512 then 1#1 else 0#1) _ _ = _
  rw [Nat.add_mod_left, Nat.mod_eq_of_lt j.isLt]
  by_cases h : a.val ≤ j.val
  · rw [if_pos h, if_pos h]; rfl
  · rw [if_neg h, if_neg h]; rfl

theorem half_lo {v : View sig .tc .vmem S512x1024 .f32} (X : Vec Ideal S512x1024 .f32)
    (inb : ∀ a, (![0, 0] : Fin 2 → ℕ) a + S512x1024.size a ≤ S512x1024.size a)
    (inb' : ∀ a, (![0, 0] : Fin 2 → ℕ) a + S512x512.size a ≤ S512x1024.size a) (L : List (View.Piece (Elt Ideal) S512x1024 .f32)) (a j : Fin 512) :
    v.readCov (Val := Elt Ideal) (⟨Rect.unit (s := S512x1024) ![0, 0] S512x1024.size inb, X⟩ :: L) (Rect.unit (s := S512x1024) ![0, 0] S512x512.size inb').toLoadRect (ix2 a j)
      = X (ix2 a ⟨j.val, by omega⟩) := by
  have h := View.readCov_fill (Val := Elt Ideal) v inb X L (Rect.unit (s := S512x1024) ![0, 0] S512x512.size inb') (by intro a; fin_cases a <;> rfl)
  refine (congrFun h (ix2 a j)).trans ?_
  refine congrArg X (funext fun i => Fin.ext ?_)
  fin_cases i <;> simp [LoadRect.idx_apply, Rect.unit, Rect.toLoadRect, ix2]

theorem half_hi {v : View sig .tc .vmem S512x1024 .f32} (X : Vec Ideal S512x1024 .f32)
    (inb : ∀ a, (![0, 0] : Fin 2 → ℕ) a + S512x1024.size a ≤ S512x1024.size a)
    (inb' : ∀ a, (![0, 512] : Fin 2 → ℕ) a + S512x512.size a ≤ S512x1024.size a) (L : List (View.Piece (Elt Ideal) S512x1024 .f32)) (a j : Fin 512) :
    v.readCov (Val := Elt Ideal) (⟨Rect.unit (s := S512x1024) ![0, 0] S512x1024.size inb, X⟩ :: L) (Rect.unit (s := S512x1024) ![0, 512] S512x512.size inb').toLoadRect (ix2 a j)
      = X (ix2 a ⟨512 + j.val, by omega⟩) := by
  have h := View.readCov_fill (Val := Elt Ideal) v inb X L (Rect.unit (s := S512x1024) ![0, 512] S512x512.size inb') (by intro a; fin_cases a <;> rfl)
  refine (congrFun h (ix2 a j)).trans ?_
  refine congrArg X (funext fun i => Fin.ext ?_)
  fin_cases i <;> simp [LoadRect.idx_apply, Rect.unit, Rect.toLoadRect, ix2]

/-- The two stored parts of a slot of queries. -/
theorem qm_lo {v : View sig .tc .vmem S2x1024x128 .bf16} (s : ℕ) (lo hi : Vec Ideal S1x512x128 .bf16)
    (i₁ : ∀ a, (![s, 512, 0] : Fin 3 → ℕ) a + S1x512x128.size a ≤ S2x1024x128.size a)
    (i₀ : ∀ a, (![s, 0, 0] : Fin 3 → ℕ) a + S1x512x128.size a ≤ S2x1024x128.size a)
    (i : ∀ a, (![s, 0, 0] : Fin 3 → ℕ) a + S1x1024x128.size a ≤ S2x1024x128.size a)
    (L : List (View.Piece (Elt Ideal) S2x1024x128 .bf16)) (j : Fin 512) (e : Fin 128) :
    v.readCov (Val := Elt Ideal) (⟨Rect.unit (s := S2x1024x128) ![s, 512, 0] S1x512x128.size i₁, hi⟩ :: ⟨Rect.unit (s := S2x1024x128) ![s, 0, 0] S1x512x128.size i₀, lo⟩ :: L)
      (Rect.unit (s := S2x1024x128) ![s, 0, 0] S1x1024x128.size i).toLoadRect (ix3 0 ⟨j.val, by omega⟩ e) = lo (ix3 0 j e) := by
  rw [View.readCov_eq_canon']
  have hidx : (Rect.unit (s := S2x1024x128) ![s, 0, 0] S1x1024x128.size i).toLoadRect.idx (ix3 0 ⟨j.val, by omega⟩ e)
      = (Rect.unit (s := S2x1024x128) ![s, 0, 0] S1x512x128.size i₀).emb (ix3 0 j e) := by
    funext k; apply Fin.ext; rw [LoadRect.idx_apply, Rect.emb_apply]; fin_cases k <;> simp [Rect.unit, Rect.toLoadRect, ix3]
  show View.canon _ ((Rect.unit (s := S2x1024x128) ![s, 0, 0] S1x1024x128.size i).toLoadRect.idx (ix3 0 ⟨j.val, by omega⟩ e)) = _
  rw [hidx, View.canon_cons_of_not_mem, View.canon_cons_emb]
  rw [Rect.mem_set_unit]
  intro hk
  have := (hk 1).1
  rw [Rect.emb_apply] at this
  simp [Rect.unit, ix3] at this
  omega

theorem qm_hi {v : View sig .tc .vmem S2x1024x128 .bf16} (s : ℕ) (lo hi : Vec Ideal S1x512x128 .bf16)
    (i₁ : ∀ a, (![s, 512, 0] : Fin 3 → ℕ) a + S1x512x128.size a ≤ S2x1024x128.size a)
    (i : ∀ a, (![s, 0, 0] : Fin 3 → ℕ) a + S1x1024x128.size a ≤ S2x1024x128.size a)
    (L : List (View.Piece (Elt Ideal) S2x1024x128 .bf16)) (j : Fin 512) (e : Fin 128) :
    v.readCov (Val := Elt Ideal) (⟨Rect.unit (s := S2x1024x128) ![s, 512, 0] S1x512x128.size i₁, hi⟩ :: L)
      (Rect.unit (s := S2x1024x128) ![s, 0, 0] S1x1024x128.size i).toLoadRect (ix3 0 ⟨512 + j.val, by omega⟩ e) = hi (ix3 0 j e) := by
  rw [View.readCov_eq_canon']
  have hidx : (Rect.unit (s := S2x1024x128) ![s, 0, 0] S1x1024x128.size i).toLoadRect.idx (ix3 0 ⟨512 + j.val, by omega⟩ e)
      = (Rect.unit (s := S2x1024x128) ![s, 512, 0] S1x512x128.size i₁).emb (ix3 0 j e) := by
    funext k; apply Fin.ext; rw [LoadRect.idx_apply, Rect.emb_apply]; fin_cases k <;> simp [Rect.unit, Rect.toLoadRect, ix3]
  show View.canon _ ((Rect.unit (s := S2x1024x128) ![s, 0, 0] S1x1024x128.size i).toLoadRect.idx (ix3 0 ⟨512 + j.val, by omega⟩ e)) = _
  rw [hidx, View.canon_cons_emb]

/-- A slot whose two halves were stored one after the other, read whole. -/
theorem slotL_hi {v : View sig .tc .vmem S2x8x1024 .f32} (s : ℕ)
    (i₀ : ∀ a, (![s, 0, 0] : Fin 3 → ℕ) a + S1x8x1024.size a ≤ S2x8x1024.size a)
    (i₁ : ∀ a, (![0, 512] : Fin 2 → ℕ) a + S8x512.size a ≤ S8x1024.size a) (h0 : (![1, 8, 1024] : Fin 3 → ℕ) 0 = 1)
    (hs : ∀ i : Fin 2, (![1, 8, 1024] : Fin 3 → ℕ) i.succ = S8x1024.size i)
    (hw : ∀ a, (Rect.unit (s := S2x8x1024) ![s, 0, 0] S1x8x1024.size i₀).stride a = 1)
    (hR : ((Rect.unit (s := S2x8x1024) ![s, 0, 0] S1x8x1024.size i₀).within ((Rect.unit (s := S8x1024) ![0, 512] S8x512.size i₁).consLift ![1, 8, 1024] h0 hs) hw).shape.numel = (Rect.unit (s := S8x1024) ![0, 512] S8x512.size i₁).shape.numel)
    (w : Vec Ideal S8x512 .f32) (L : List (View.Piece (Elt Ideal) S2x8x1024 .f32)) (e : Fin 8) (j : Fin 512) :
    v.readCov (Val := Elt Ideal) (⟨(Rect.unit (s := S2x8x1024) ![s, 0, 0] S1x8x1024.size i₀).within ((Rect.unit (s := S8x1024) ![0, 512] S8x512.size i₁).consLift ![1, 8, 1024] h0 hs) hw,
        Rect.payAlong (r := Rect.unit (s := S8x1024) ![0, 512] S8x512.size i₁) hR w⟩ :: L)
      (Rect.unit (s := S2x8x1024) ![s, 0, 0] S1x8x1024.size i₀).toLoadRect (ix3 0 e ⟨512 + j.val, by omega⟩) = w (ix2 e j) := by
  let x : ((Rect.unit (s := S8x1024) ![0, 512] S8x512.size i₁).consLift ![1, 8, 1024] h0 hs).shape.Idx :=
    fun k => Fin.cases (⟨0, Nat.one_pos⟩ : Fin 1) (fun k' => ix2 e j k') k
  have hidx : (ix3 0 e ⟨512 + j.val, by omega⟩ : S1x8x1024.Idx) = ((Rect.unit (s := S8x1024) ![0, 512] S8x512.size i₁).consLift ![1, 8, 1024] h0 hs).emb x := by
    funext k; apply Fin.ext; rw [Rect.emb_apply]
    fin_cases k
    · show 0 = 0 + 1 * 0; omega
    · show e.val = 0 + 1 * e.val; omega
    · show 512 + j.val = 512 + 1 * j.val; omega
  refine (slot_hit (Val := Elt Ideal) v (Rect.unit (s := S2x8x1024) ![s, 0, 0] S1x8x1024.size i₀) _ hw _ L _ x hidx).trans ?_
  exact Rect.payAlong_consLift (r := Rect.unit (s := S8x1024) ![0, 512] S8x512.size i₁) ![1, 8, 1024] h0 hs w hR x (ix2 e j) (fun i => by fin_cases i <;> rfl)

theorem slotL_lo {v : View sig .tc .vmem S2x8x1024 .f32} (s : ℕ)
    (i₀ : ∀ a, (![s, 0, 0] : Fin 3 → ℕ) a + S1x8x1024.size a ≤ S2x8x1024.size a)
    (i₁ : ∀ a, (![0, 512] : Fin 2 → ℕ) a + S8x512.size a ≤ S8x1024.size a) (h0 : (![1, 8, 1024] : Fin 3 → ℕ) 0 = 1)
    (i₂ : ∀ a, (![0, 0] : Fin 2 → ℕ) a + S8x512.size a ≤ S8x1024.size a)
    (hs : ∀ i : Fin 2, (![1, 8, 1024] : Fin 3 → ℕ) i.succ = S8x1024.size i)
    (hw : ∀ a, (Rect.unit (s := S2x8x1024) ![s, 0, 0] S1x8x1024.size i₀).stride a = 1)
    (hR : ((Rect.unit (s := S2x8x1024) ![s, 0, 0] S1x8x1024.size i₀).within ((Rect.unit (s := S8x1024) ![0, 0] S8x512.size i₂).consLift ![1, 8, 1024] h0 hs) hw).shape.numel = (Rect.unit (s := S8x1024) ![0, 0] S8x512.size i₂).shape.numel)
    (u : ((Rect.unit (s := S2x8x1024) ![s, 0, 0] S1x8x1024.size i₀).within ((Rect.unit (s := S8x1024) ![0, 512] S8x512.size i₁).consLift ![1, 8, 1024] h0 hs) hw).shape.Idx → Elt Ideal .f32)
    (w : Vec Ideal S8x512 .f32) (L : List (View.Piece (Elt Ideal) S2x8x1024 .f32)) (e : Fin 8) (j : Fin 512) :
    v.readCov (Val := Elt Ideal) (⟨(Rect.unit (s := S2x8x1024) ![s, 0, 0] S1x8x1024.size i₀).within ((Rect.unit (s := S8x1024) ![0, 512] S8x512.size i₁).consLift ![1, 8, 1024] h0 hs) hw, u⟩ ::
        ⟨(Rect.unit (s := S2x8x1024) ![s, 0, 0] S1x8x1024.size i₀).within ((Rect.unit (s := S8x1024) ![0, 0] S8x512.size i₂).consLift ![1, 8, 1024] h0 hs) hw,
        Rect.payAlong (r := Rect.unit (s := S8x1024) ![0, 0] S8x512.size i₂) hR w⟩ :: L)
      (Rect.unit (s := S2x8x1024) ![s, 0, 0] S1x8x1024.size i₀).toLoadRect (ix3 0 e ⟨j.val, by omega⟩) = w (ix2 e j) := by
  let x : ((Rect.unit (s := S8x1024) ![0, 0] S8x512.size i₂).consLift ![1, 8, 1024] h0 hs).shape.Idx :=
    fun k => Fin.cases (⟨0, Nat.one_pos⟩ : Fin 1) (fun k' => ix2 e j k') k
  have hidx : (ix3 0 e ⟨j.val, by omega⟩ : S1x8x1024.Idx) = ((Rect.unit (s := S8x1024) ![0, 0] S8x512.size i₂).consLift ![1, 8, 1024] h0 hs).emb x := by
    funext k; apply Fin.ext; rw [Rect.emb_apply]
    fin_cases k
    · show 0 = 0 + 1 * 0; omega
    · show e.val = 0 + 1 * e.val; omega
    · show j.val = 0 + 1 * j.val; omega
  refine (slot_skip (Val := Elt Ideal) v (Rect.unit (s := S2x8x1024) ![s, 0, 0] S1x8x1024.size i₀) _ hw u _ _ 2 (show j.val < 512 from j.isLt)).trans ?_
  refine (slot_hit (Val := Elt Ideal) v (Rect.unit (s := S2x8x1024) ![s, 0, 0] S1x8x1024.size i₀) _ hw _ L _ x hidx).trans ?_
  exact Rect.payAlong_consLift (r := Rect.unit (s := S8x1024) ![0, 0] S8x512.size i₂) ![1, 8, 1024] h0 hs w hR x (ix2 e j) (fun i => by fin_cases i <;> rfl)

/-- A slot whose two halves were stored one after the other, read whole. -/
theorem slotA_hi {v : View sig .tc .vmem S2x128x1024 .f32} (s : ℕ)
    (i₀ : ∀ a, (![s, 0, 0] : Fin 3 → ℕ) a + S1x128x1024.size a ≤ S2x128x1024.size a)
    (i₁ : ∀ a, (![0, 512] : Fin 2 → ℕ) a + S128x512.size a ≤ S128x1024.size a) (h0 : (![1, 128, 1024] : Fin 3 → ℕ) 0 = 1)
    (hs : ∀ i : Fin 2, (![1, 128, 1024] : Fin 3 → ℕ) i.succ = S128x1024.size i)
    (hw : ∀ a, (Rect.unit (s := S2x128x1024) ![s, 0, 0] S1x128x1024.size i₀).stride a = 1)
    (hR : ((Rect.unit (s := S2x128x1024) ![s, 0, 0] S1x128x1024.size i₀).within ((Rect.unit (s := S128x1024) ![0, 512] S128x512.size i₁).consLift ![1, 128, 1024] h0 hs) hw).shape.numel = (Rect.unit (s := S128x1024) ![0, 512] S128x512.size i₁).shape.numel)
    (w : Vec Ideal S128x512 .f32) (L : List (View.Piece (Elt Ideal) S2x128x1024 .f32)) (e : Fin 128) (j : Fin 512) :
    v.readCov (Val := Elt Ideal) (⟨(Rect.unit (s := S2x128x1024) ![s, 0, 0] S1x128x1024.size i₀).within ((Rect.unit (s := S128x1024) ![0, 512] S128x512.size i₁).consLift ![1, 128, 1024] h0 hs) hw,
        Rect.payAlong (r := Rect.unit (s := S128x1024) ![0, 512] S128x512.size i₁) hR w⟩ :: L)
      (Rect.unit (s := S2x128x1024) ![s, 0, 0] S1x128x1024.size i₀).toLoadRect (ix3 0 e ⟨512 + j.val, by omega⟩) = w (ix2 e j) := by
  let x : ((Rect.unit (s := S128x1024) ![0, 512] S128x512.size i₁).consLift ![1, 128, 1024] h0 hs).shape.Idx :=
    fun k => Fin.cases (⟨0, Nat.one_pos⟩ : Fin 1) (fun k' => ix2 e j k') k
  have hidx : (ix3 0 e ⟨512 + j.val, by omega⟩ : S1x128x1024.Idx) = ((Rect.unit (s := S128x1024) ![0, 512] S128x512.size i₁).consLift ![1, 128, 1024] h0 hs).emb x := by
    funext k; apply Fin.ext; rw [Rect.emb_apply]
    fin_cases k
    · show 0 = 0 + 1 * 0; omega
    · show e.val = 0 + 1 * e.val; omega
    · show 512 + j.val = 512 + 1 * j.val; omega
  refine (slot_hit (Val := Elt Ideal) v (Rect.unit (s := S2x128x1024) ![s, 0, 0] S1x128x1024.size i₀) _ hw _ L _ x hidx).trans ?_
  exact Rect.payAlong_consLift (r := Rect.unit (s := S128x1024) ![0, 512] S128x512.size i₁) ![1, 128, 1024] h0 hs w hR x (ix2 e j) (fun i => by fin_cases i <;> rfl)

theorem slotA_lo {v : View sig .tc .vmem S2x128x1024 .f32} (s : ℕ)
    (i₀ : ∀ a, (![s, 0, 0] : Fin 3 → ℕ) a + S1x128x1024.size a ≤ S2x128x1024.size a)
    (i₁ : ∀ a, (![0, 512] : Fin 2 → ℕ) a + S128x512.size a ≤ S128x1024.size a) (h0 : (![1, 128, 1024] : Fin 3 → ℕ) 0 = 1)
    (i₂ : ∀ a, (![0, 0] : Fin 2 → ℕ) a + S128x512.size a ≤ S128x1024.size a)
    (hs : ∀ i : Fin 2, (![1, 128, 1024] : Fin 3 → ℕ) i.succ = S128x1024.size i)
    (hw : ∀ a, (Rect.unit (s := S2x128x1024) ![s, 0, 0] S1x128x1024.size i₀).stride a = 1)
    (hR : ((Rect.unit (s := S2x128x1024) ![s, 0, 0] S1x128x1024.size i₀).within ((Rect.unit (s := S128x1024) ![0, 0] S128x512.size i₂).consLift ![1, 128, 1024] h0 hs) hw).shape.numel = (Rect.unit (s := S128x1024) ![0, 0] S128x512.size i₂).shape.numel)
    (u : ((Rect.unit (s := S2x128x1024) ![s, 0, 0] S1x128x1024.size i₀).within ((Rect.unit (s := S128x1024) ![0, 512] S128x512.size i₁).consLift ![1, 128, 1024] h0 hs) hw).shape.Idx → Elt Ideal .f32)
    (w : Vec Ideal S128x512 .f32) (L : List (View.Piece (Elt Ideal) S2x128x1024 .f32)) (e : Fin 128) (j : Fin 512) :
    v.readCov (Val := Elt Ideal) (⟨(Rect.unit (s := S2x128x1024) ![s, 0, 0] S1x128x1024.size i₀).within ((Rect.unit (s := S128x1024) ![0, 512] S128x512.size i₁).consLift ![1, 128, 1024] h0 hs) hw, u⟩ ::
        ⟨(Rect.unit (s := S2x128x1024) ![s, 0, 0] S1x128x1024.size i₀).within ((Rect.unit (s := S128x1024) ![0, 0] S128x512.size i₂).consLift ![1, 128, 1024] h0 hs) hw,
        Rect.payAlong (r := Rect.unit (s := S128x1024) ![0, 0] S128x512.size i₂) hR w⟩ :: L)
      (Rect.unit (s := S2x128x1024) ![s, 0, 0] S1x128x1024.size i₀).toLoadRect (ix3 0 e ⟨j.val, by omega⟩) = w (ix2 e j) := by
  let x : ((Rect.unit (s := S128x1024) ![0, 0] S128x512.size i₂).consLift ![1, 128, 1024] h0 hs).shape.Idx :=
    fun k => Fin.cases (⟨0, Nat.one_pos⟩ : Fin 1) (fun k' => ix2 e j k') k
  have hidx : (ix3 0 e ⟨j.val, by omega⟩ : S1x128x1024.Idx) = ((Rect.unit (s := S128x1024) ![0, 0] S128x512.size i₂).consLift ![1, 128, 1024] h0 hs).emb x := by
    funext k; apply Fin.ext; rw [Rect.emb_apply]
    fin_cases k
    · show 0 = 0 + 1 * 0; omega
    · show e.val = 0 + 1 * e.val; omega
    · show j.val = 0 + 1 * j.val; omega
  refine (slot_skip (Val := Elt Ideal) v (Rect.unit (s := S2x128x1024) ![s, 0, 0] S1x128x1024.size i₀) _ hw u _ _ 2 (show j.val < 512 from j.isLt)).trans ?_
  refine (slot_hit (Val := Elt Ideal) v (Rect.unit (s := S2x128x1024) ![s, 0, 0] S1x128x1024.size i₀) _ hw _ L _ x hidx).trans ?_
  exact Rect.payAlong_consLift (r := Rect.unit (s := S128x1024) ![0, 0] S128x512.size i₂) ![1, 128, 1024] h0 hs w hR x (ix2 e j) (fun i => by fin_cases i <;> rfl)

theorem sc_apply (kt : FVec Ideal S512x128 .bf16) (qm : FVec Ideal S1024x128 .bf16) (a : Fin 512) (j : Fin 1024) :
    matmul dot_S512x128_S1024x128_S512x1024_1_1_0_0_n_n none kt qm (constant S512x1024 .f32 0x00000000#32) (ix2 a j)
      = ∑ e : Fin 128, kt (ix2 a e) * qm (ix2 j e) := by
  pointwise

def vtile (X : Vec Ideal S512x128 .f32) : FVec Ideal S128x512 .bf16 := shapeCast S128x512 (k0_pay3 X) shapeCasts_S1x128x512_S128x512

theorem vtile_apply (X : Vec Ideal S512x128 .f32) (d : Fin 128) (a : Fin 512) : vtile X (ix2 d a) = X (ix2 a d) := by
  pointwise [vtile, k0_pay3]

def StT (Q K V : ℕ → Fin 128 → ℝ) (h : Fin 2) (q n : ℕ) (m : Row) (l : FVec Ideal S8x512 .f32) (acc : FVec Ideal S128x512 .f32) : Prop :=
  ∀ j : Fin 512, Start n (m (ix2 0 j)) (fun e => l (ix2 e j)) (fun d => acc (ix2 d j))
    ∨ Inv (sg Q K h (q + j.val)) V (q + j.val) n (m (ix2 0 j)) (fun e => l (ix2 e j)) (fun d => acc (ix2 d j))

theorem stepT (Q K V : ℕ → Fin 128 → ℝ) (h : Fin 2) (q n : ℕ) (hn : n ≤ q) (m : Row) (l : FVec Ideal S8x512 .f32) (acc : FVec Ideal S128x512 .f32)
    (st : Tile) (vt : FVec Ideal S128x512 .bf16) (hS : StT Q K V h q n m l acc)
    (hs : ∀ a j, st (ix2 a j) = if n + a.val ≤ q + j.val then (sg Q K h (q + j.val) (n + a.val) : EReal) else ⊥)
    (hv : ∀ d a, vt (ix2 d a) = (V (n + a.val) d : EReal)) :
    StT Q K V h q (n + 512) (mNew m st) (lNew l m st) (aNew acc m st vt) := fun j => by
  right
  exact inv_step (sg Q K h (q + j.val)) V (q + j.val) n (by omega) (m (ix2 0 j)) (fun e => l (ix2 e j)) (fun d => acc (ix2 d j))
    (fun a => st (ix2 a j)) (fun a => pNew m st (ix2 a j)) (fun d a => vt (ix2 d a)) (mNew m st (ix2 0 j)) (cNew m st (ix2 0 j))
    (fun e => lNew l m st (ix2 e j)) (fun d => aNew acc m st vt (ix2 d j)) (hS j) (fun a => hs a j) hv
    (mNew_apply m st j) (fun a => pNew_apply m st a j) (cNew_apply m st j) (fun e => lNew_apply l m st e j) (fun d => aNew_apply acc m st vt d j)

theorem score_at (Q K : ℕ → Fin 128 → ℝ) (h : Fin 2) (y k : ℕ) (kt : FVec Ideal S512x128 .bf16) (qm : FVec Ideal S1024x128 .bf16) (a : Fin 512) (j : Fin 1024)
    (hk : ∀ e, kt (ix2 a e) = (K k e : EReal)) (hq : ∀ e, qm (ix2 j e) = (qs Q h y e : EReal)) :
    matmul dot_S512x128_S1024x128_S512x1024_1_1_0_0_n_n none kt qm (constant S512x1024 .f32 0x00000000#32) (ix2 a j) = (sg Q K h y k : EReal) := by
  rw [sc_apply, sg, coe_sum]
  refine Finset.sum_congr rfl fun e _ => ?_
  rw [hk, hq, EReal.coe_mul]

theorem diag_st (σ : ℕ → ℕ → ℝ) (q : ℕ) (x : EReal) (a j : Fin 512) (hx : x = (σ (q + j.val) (q + a.val) : EReal)) :
    (if a.val ≤ j.val then x else ⊥) = if q + a.val ≤ q + j.val then (σ (q + j.val) (q + a.val) : EReal) else ⊥ := by
  by_cases h : a.val ≤ j.val
  · rw [if_pos h, if_pos (by omega), hx]
  · rw [if_neg h, if_neg (by omega)]

/-- A slot of queries as the matrix the scores are taken from. -/
theorem cast_q (X : Vec Ideal S1x1024x128 .bf16) (j : Fin 1024) (e : Fin 128) :
    shapeCast S1024x128 X shapeCasts_S1x1024x128_S1024x128 (ix2 j e) = X (ix3 0 j e) := by
  pointwise

theorem kfull_apply (X : Vec Ideal S2048x128 .f32) (a : Fin 2048) (e : Fin 128) : k0_pay2 X (ix2 a e) = X (ix2 a e) := by
  pointwise [k0_pay2]

theorem stepT' (Q K V : ℕ → Fin 128 → ℝ) (h : Fin 2) (q n : ℕ) (hn : n ≤ q) (m m₀ : Row) (l l₀ : FVec Ideal S8x512 .f32) (acc acc₀ : FVec Ideal S128x512 .f32)
    (st : Tile) (vt : FVec Ideal S128x512 .bf16) (hm : m = m₀) (hl : l = l₀) (ha : acc = acc₀) (hS : StT Q K V h q n m₀ l₀ acc₀)
    (hs : ∀ a j, st (ix2 a j) = if n + a.val ≤ q + j.val then (sg Q K h (q + j.val) (n + a.val) : EReal) else ⊥)
    (hv : ∀ d a, vt (ix2 d a) = (V (n + a.val) d : EReal)) :
    StT Q K V h q (n + 512) (mNew m st) (lNew l m st) (aNew acc m st vt) := by
  subst hm hl ha
  exact stepT Q K V h q n hn m l acc st vt hS hs hv

theorem start_st (Q K V : ℕ → Fin 128 → ℝ) (h : Fin 2) (q : ℕ) : StT Q K V h q 0 (fun _ => ⊥) (fun _ => 0) (fun _ => 0) :=
  fun j => Or.inl ⟨rfl, rfl, fun _ => rfl, fun _ => rfl⟩

/-- The values the running maximum, the partial sums and the accumulator are filled with. -/
theorem fill_m (i : S1x1x1024.Idx) : shapeCast S1x1x1024 (broadcast S1x1024 (Scalar.ofBits (F := Ideal) .f32 0xFF800000#32)) shapeCasts_S1x1024_S1x1x1024 i = (⊥ : EReal) :=
  ofBits_ninf
theorem ofBits_zero : Ideal.ofBits .f32 0x00000000#32 = 0 := by
  simp [Ideal.ofBits, Ideal.ieee]
theorem fill_l (i : S1x8x1024.Idx) : shapeCast S1x8x1024 (broadcast S8x1024 (Scalar.ofBits (F := Ideal) .f32 0x00000000#32)) shapeCasts_S8x1024_S1x8x1024 i = (0 : EReal) :=
  ofBits_zero
theorem fill_a (i : S1x128x1024.Idx) : shapeCast S1x128x1024 (broadcast S128x1024 (Scalar.ofBits (F := Ideal) .f32 0x00000000#32)) shapeCasts_S128x1024_S1x128x1024 i = (0 : EReal) :=
  ofBits_zero

end data

end Cert.Attn
-- ==== Proof.Final.lean ====
/-
  THE FINISHED TILE: the accumulator over the sum of the weights, the two heads' difference, its norm.
-/
module

public import proofs.«01_k».proof.Proof.Tiles

@[expose] public section

set_option maxRecDepth 16384

noncomputable section

namespace Cert.Attn

open Idealize.ShloMosaic Cert.KernelIdeal Cert.KernelIdeal.Gen

/-- The causal softmax average of the values for the query at `y`, in powers of two. -/
def att (σ : ℕ → ℝ) (v : ℕ → Fin 128 → ℝ) (y : ℕ) (d : Fin 128) : ℝ :=
  (∑ k ∈ Finset.range (y + 1), Real.rpow 2 (σ k) * v k d) / ∑ k ∈ Finset.range (y + 1), Real.rpow 2 (σ k)

theorem sum_wt (σ : ℕ → ℝ) (y n : ℕ) (hn : y < n) (M : ℝ) (f : ℕ → ℝ) :
    ∑ k ∈ Finset.range n, wt σ y M k * f k = Real.rpow 2 (-M) * ∑ k ∈ Finset.range (y + 1), Real.rpow 2 (σ k) * f k := by
  rw [Finset.mul_sum, ← Finset.sum_subset (Finset.range_subset_range.2 (show y + 1 ≤ n from hn))]
  · refine Finset.sum_congr rfl fun k hk => ?_
    have hk' : k ≤ y := by have := Finset.mem_range.1 hk; omega
    unfold wt
    rw [if_pos hk', ← mul_assoc]
    congr 1
    show (2 : ℝ) ^ (σ k - M) = (2 : ℝ) ^ (-M) * (2 : ℝ) ^ (σ k)
    rw [← Real.rpow_add (by norm_num)]
    congr 1
    ring
  · intro k _ hk
    have hk' : ¬ k ≤ y := by intro h; exact hk (Finset.mem_range.2 (by omega))
    unfold wt
    rw [if_neg hk', zero_mul]

theorem pow_sum_pos (σ : ℕ → ℝ) (y : ℕ) : 0 < ∑ k ∈ Finset.range (y + 1), Real.rpow 2 (σ k) :=
  Finset.sum_pos (fun k _ => Real.rpow_pos_of_pos (by norm_num) _) ⟨0, Finset.mem_range.2 (by omega)⟩

theorem inv_ratio (σ : ℕ → ℝ) (v : ℕ → Fin 128 → ℝ) (y n : ℕ) (hn : y < n) (m : EReal) (l : Fin 8 → EReal) (acc : Fin 128 → EReal)
    (hI : Inv σ v y n m l acc) (d : Fin 128) : Ideal.div (acc d) (∑ e, l e) = (att σ v y d : EReal) := by
  obtain ⟨M, -, ⟨L, hl, hL⟩, ha⟩ := hI
  have hs : ∑ e, l e = ((∑ e, L e : ℝ) : EReal) := by
    rw [coe_sum]; exact Finset.sum_congr rfl fun e _ => hl e
  have h1 := sum_wt σ y n hn M (fun _ => 1)
  simp only [mul_one] at h1
  have hp := pow_sum_pos σ y
  have h2 : (0 : ℝ) < Real.rpow 2 (-M) := Real.rpow_pos_of_pos (by norm_num) _
  rw [ha, hs, hL, sum_wt σ y n hn M (fun k => v k d), h1, Ideal.div_coe (mul_pos h2 hp).ne', ← EReal.coe_mul]
  congr 1
  unfold att
  field_simp

/-- The two heads' difference at one query, normalised, weighed and scaled. -/
def nrm (o : Fin 128 → EReal) (w : EReal) (d : Fin 128) : EReal :=
  o d * Ideal.rsqrt (Ideal.div (∑ d' : Fin 128, o d' * o d') (Ideal.ofBits .f32 0x43000000#32) + Ideal.ofBits .f32 0x358637BD#32) * w * Ideal.ofBits .f32 0x3F4CCCCD#32

theorem pay_apply (lam : FVec Ideal S1x1 .f32) (acc : FVec Ideal S128x1024 .f32) (l : Vec Ideal S1x8x1024 .f32) (an : Vec Ideal S1x128 .f32) (i : Fin 512) (d : Fin 128) :
    k0_pay1 lam acc l an (ix2 i d)
      = nrm (fun d' => Ideal.div (acc (ix2 d' ⟨i.val, by omega⟩)) (∑ e : Fin 8, l (ix3 0 e ⟨i.val, by omega⟩))
          - lam (ix2 0 0) * Ideal.div (acc (ix2 d' ⟨512 + i.val, by omega⟩)) (∑ e : Fin 8, l (ix3 0 e ⟨512 + i.val, by omega⟩))) (an (ix2 0 d)) d := by
  pointwise [k0_pay1, nrm]

theorem lam_apply (a b c d : Vec Ideal S1x64 .f32) : k0_pay7 a b c d (ix2 0 0)
      = Ideal.exp (∑ e : Fin 64, a (ix2 0 e) * b (ix2 0 e)) - Ideal.exp (∑ e : Fin 64, c (ix2 0 e) * d (ix2 0 e)) + Ideal.ofBits .f32 0x3E4CCCCD#32 := by
  pointwise [k0_pay7]

/-- The tile's rows from the state left by the last block of keys. -/
theorem tile_row (Q K V : ℕ → Fin 128 → ℝ) (q : ℕ) (m₀ m₁ : Row) (l₀ l₁ : FVec Ideal S8x512 .f32) (a₀ a₁ : FVec Ideal S128x512 .f32)
    (S₀ : StT Q K V 0 q (q + 512) m₀ l₀ a₀) (S₁ : StT Q K V 1 q (q + 512) m₁ l₁ a₁)
    (lam : FVec Ideal S1x1 .f32) (acc : FVec Ideal S128x1024 .f32) (l : Vec Ideal S1x8x1024 .f32) (an : Vec Ideal S1x128 .f32)
    (hA₀ : ∀ (d : Fin 128) (j : Fin 512), acc (ix2 d ⟨j.val, by omega⟩) = a₀ (ix2 d j))
    (hA₁ : ∀ (d : Fin 128) (j : Fin 512), acc (ix2 d ⟨512 + j.val, by omega⟩) = a₁ (ix2 d j))
    (hL₀ : ∀ (e : Fin 8) (j : Fin 512), l (ix3 0 e ⟨j.val, by omega⟩) = l₀ (ix2 e j))
    (hL₁ : ∀ (e : Fin 8) (j : Fin 512), l (ix3 0 e ⟨512 + j.val, by omega⟩) = l₁ (ix2 e j)) (i : Fin 512) (d : Fin 128) :
    k0_pay1 lam acc l an (ix2 i d)
      = nrm (fun d' => (att (sg Q K 0 (q + i.val)) V (q + i.val) d' : EReal) - lam (ix2 0 0) * (att (sg Q K 1 (q + i.val)) V (q + i.val) d' : EReal)) (an (ix2 0 d)) d := by
  rw [pay_apply]
  congr 1
  funext d'
  have I₀ : Inv (sg Q K 0 (q + i.val)) V (q + i.val) (q + 512) (m₀ (ix2 0 i)) (fun e => l₀ (ix2 e i)) (fun d => a₀ (ix2 d i)) :=
    (S₀ i).resolve_left fun h => absurd h.1 (by omega)
  have I₁ : Inv (sg Q K 1 (q + i.val)) V (q + i.val) (q + 512) (m₁ (ix2 0 i)) (fun e => l₁ (ix2 e i)) (fun d => a₁ (ix2 d i)) :=
    (S₁ i).resolve_left fun h => absurd h.1 (by omega)
  rw [hA₀, hA₁, Finset.sum_congr rfl fun e _ => hL₀ e i, Finset.sum_congr rfl fun e _ => hL₁ e i,
    ← inv_ratio _ _ _ _ (by omega) _ _ _ I₀ d', ← inv_ratio _ _ _ _ (by omega) _ _ _ I₁ d']

theorem cast_acc (X : Vec Ideal S1x128x1024 .f32) (d : Fin 128) (j : Fin 1024) :
    shapeCast S128x1024 X shapeCasts_S1x128x1024_S128x1024 (ix2 d j) = X (ix3 0 d j) := by
  pointwise

theorem rd_lam (arg : Memref sig .tc .vmem S1x64 .f32) (h : arg.IsWhole) (x : Vec Ideal S1x64 .f32)
    (inb' : ∀ a, (![0, 0] : Fin 2 → ℕ) a + S1x64.size a ≤ S1x64.size a) (e : Fin 64) :
    View.readAt (Elt Ideal) arg.view (Rect.unit (s := S1x64) ![0, 0] S1x64.size inb').toLoadRect (h.unread x) (ix2 0 e) = x (ix2 0 e) := by
  rw [View.readAt_eq_ld, Memref.IsWhole.read_unread]
  refine congrArg x (funext fun i => Fin.ext ?_)
  fin_cases i <;> simp [LoadRect.idx_apply, Rect.unit, Rect.toLoadRect, ix2]

theorem rd_an (arg : Memref sig .tc .vmem S1x128 .f32) (h : arg.IsWhole) (x : Vec Ideal S1x128 .f32)
    (inb' : ∀ a, (![0, 0] : Fin 2 → ℕ) a + S1x128.size a ≤ S1x128.size a) (e : Fin 128) :
    View.readAt (Elt Ideal) arg.view (Rect.unit (s := S1x128) ![0, 0] S1x128.size inb').toLoadRect (h.unread x) (ix2 0 e) = x (ix2 0 e) := by
  rw [View.readAt_eq_ld, Memref.IsWhole.read_unread]
  refine congrArg x (funext fun i => Fin.ext ?_)
  fin_cases i <;> simp [LoadRect.idx_apply, Rect.unit, Rect.toLoadRect, ix2]

/-- The weight of the second head, from the four learned vectors. -/
def lamv (a b c d : Fin 64 → EReal) : EReal :=
  Ideal.exp (∑ e : Fin 64, a e * b e) - Ideal.exp (∑ e : Fin 64, c e * d e) + Ideal.ofBits .f32 0x3E4CCCCD#32

/-- One row of the attention, normalised. -/
def rowv (Q K V : ℕ → Fin 128 → ℝ) (lam : EReal) (w : EReal) (y : ℕ) (d : Fin 128) : EReal :=
  nrm (fun d' => (att (sg Q K 0 y) V y d' : EReal) - lam * (att (sg Q K 1 y) V y d' : EReal)) w d

theorem canon_rows (P₀ P₁ P₂ P₃ : Vec Ideal S512x128 .f32) (G : ℕ → Fin 128 → EReal)
    (i₀ : ∀ a, (![0, 0] : Fin 2 → ℕ) a + S512x128.size a ≤ S2048x128.size a) (i₁ : ∀ a, (![512, 0] : Fin 2 → ℕ) a + S512x128.size a ≤ S2048x128.size a)
    (i₂ : ∀ a, (![1024, 0] : Fin 2 → ℕ) a + S512x128.size a ≤ S2048x128.size a) (i₃ : ∀ a, (![1536, 0] : Fin 2 → ℕ) a + S512x128.size a ≤ S2048x128.size a)
    (h₀ : ∀ (i : Fin 512) (d : Fin 128), P₀ (ix2 i d) = G (0 + i.val) d) (h₁ : ∀ (i : Fin 512) (d : Fin 128), P₁ (ix2 i d) = G (512 + i.val) d)
    (h₂ : ∀ (i : Fin 512) (d : Fin 128), P₂ (ix2 i d) = G (1024 + i.val) d) (h₃ : ∀ (i : Fin 512) (d : Fin 128), P₃ (ix2 i d) = G (1536 + i.val) d)
    (r : Fin 2048) (d : Fin 128) :
    View.canon (Val := Elt Ideal) (s := S2048x128) (e := .f32) [⟨Rect.unit (s := S2048x128) ![1536, 0] S512x128.size i₃, P₃⟩, ⟨Rect.unit (s := S2048x128) ![1024, 0] S512x128.size i₂, P₂⟩,
      ⟨Rect.unit (s := S2048x128) ![512, 0] S512x128.size i₁, P₁⟩, ⟨Rect.unit (s := S2048x128) ![0, 0] S512x128.size i₀, P₀⟩] (ix2 r d) = G r.val d := by
  have key : ∀ (o : ℕ) (inb : ∀ a, (![o, 0] : Fin 2 → ℕ) a + S512x128.size a ≤ S2048x128.size a) (P : Vec Ideal S512x128 .f32) (L : List (View.Piece (Elt Ideal) S2048x128 .f32))
      (h : ∀ (i : Fin 512) (d : Fin 128), P (ix2 i d) = G (o + i.val) d) (hr : o ≤ r.val) (hr' : r.val < o + 512),
      View.canon (⟨Rect.unit (s := S2048x128) ![o, 0] S512x128.size inb, P⟩ :: L) (ix2 r d) = G r.val d := by
    intro o inb P L h hr hr'
    have e : (ix2 r d : S2048x128.Idx) = (Rect.unit (s := S2048x128) ![o, 0] S512x128.size inb).emb (ix2 ⟨r.val - o, by omega⟩ d) := by
      funext k; apply Fin.ext; rw [Rect.emb_apply]
      fin_cases k
      · show r.val = o + 1 * (r.val - o); omega
      · show d.val = 0 + 1 * d.val; omega
    rw [e, View.canon_cons_emb, h]
    congr 1
    show o + (r.val - o) = r.val
    omega
  have skip : ∀ (o : ℕ) (inb : ∀ a, (![o, 0] : Fin 2 → ℕ) a + S512x128.size a ≤ S2048x128.size a) (P : Vec Ideal S512x128 .f32) (L : List (View.Piece (Elt Ideal) S2048x128 .f32))
      (hr : r.val < o), View.canon (⟨Rect.unit (s := S2048x128) ![o, 0] S512x128.size inb, P⟩ :: L) (ix2 r d) = View.canon L (ix2 r d) := by
    intro o inb P L hr
    refine View.canon_cons_of_not_mem _ L fun hm => ?_
    have h := ((Rect.mem_set_unit (inb := inb)).1 hm 0).1
    have h' : o ≤ r.val := h
    omega
  have hr := r.isLt
  by_cases c3 : 1536 ≤ r.val
  · exact key 1536 i₃ P₃ _ h₃ c3 (by omega)
  rw [skip 1536 i₃ P₃ _ (by omega)]
  by_cases c2 : 1024 ≤ r.val
  · exact key 1024 i₂ P₂ _ h₂ c2 (by omega)
  rw [skip 1024 i₂ P₂ _ (by omega)]
  by_cases c1 : 512 ≤ r.val
  · exact key 512 i₁ P₁ _ h₁ c1 (by omega)
  rw [skip 512 i₁ P₁ _ (by omega)]
  exact key 0 i₀ P₀ _ h₀ (by omega) (by omega)

end Cert.Attn
-- ==== Proof.RefValue.lean ====
/-
  THE REFERENCE'S RESULT, as its stages: the masked scores, the softmax, λ, the weighted values, the norm.
-/
module

public import proofs.«01_k».proof.Proof.Gen.ReferenceIdeal.Run
public import proofs.«01_k».proof.Proof.Final
public import Idealize.ShloMosaic.Lib.Pointwise

@[expose] public section

set_option maxRecDepth 16384

noncomputable section

namespace Cert.Attn.Ref

open Cert.ReferenceIdeal Cert.ReferenceIdeal.Gen Idealize.ShloMosaic Idealize.ShloMosaic.TcCoe Idealize.SL.Sem

abbrev Pairs := FVec Ideal S8x8x2x2048x2048 .f32

/-- The masked, scaled scores. -/
def scores (z : FVec Ideal S5x16384x1024 .f32) (k : FVec Ideal S16384x1024 .f32) : Pairs :=
  select (broadcastInDim S8x8x2x2048x2048 ![3, 4] bcast_S2048x2048_S8x8x2x2048x2048_3_4 (cmpi .sge (broadcastInDim S2048x2048 ![0, 1] bcast_S2048x1_S2048x2048_0_1 (broadcastInDim S2048x1 ![0] bcast_S2048_S2048x1_0 (iotaInDim S2048 32 0))) (broadcastInDim S2048x2048 ![0, 1] bcast_S1x2048_S2048x2048_0_1 (broadcastInDim S1x2048 ![1] bcast_S2048_S1x2048_1 (iotaInDim S2048 32 0))))) (mulf (Host.dotGeneral dot_S8x2048x8x2x64_S8x2048x8x2x64_S8x8x2x2048x2048_4_4_1_1_023_023 none (shapeCast S8x2048x8x2x64 (shapeCast S16384x1024 (extractStridedSlice S1x16384x1024 ![4, 0, 0] z slices_S5x16384x1024_S1x16384x1024_4_0_0) shapeCasts_S1x16384x1024_S16384x1024) shapeCasts_S16384x1024_S8x2048x8x2x64) (shapeCast S8x2048x8x2x64 k shapeCasts_S16384x1024_S8x2048x8x2x64)) (broadcastInDim S8x8x2x2048x2048 ![] bcast_S_S8x8x2x2048x2048 (constant S_ .f32 0x3E000000#32))) (broadcastInDim S8x8x2x2048x2048 ![] bcast_S_S8x8x2x2048x2048 (id (constant S_ .f32 0xFF800000#32)))

/-- The row maxima. -/
def maxes (x : Pairs) : FVec Ideal S8x8x2x2048 .f32 :=
  Host.reduce FloatOps.maximumf x (constant S_ .f32 0xFF800000#32) reducesTo_S8x8x2x2048x2048_S8x8x2x2048_d4 h_S_

/-- The scores less their row maxima, exponentiated. -/
def expd (x : Pairs) (mx : FVec Ideal S8x8x2x2048 .f32) : Pairs :=
  Host.exp (subf x (broadcastInDim S8x8x2x2048x2048 ![0, 1, 2, 3, 4] bcast_S8x8x2x2048x1_S8x8x2x2048x2048_0_1_2_3_4 (broadcastInDim S8x8x2x2048x1 ![0, 1, 2, 3] bcast_S8x8x2x2048_S8x8x2x2048x1_0_1_2_3 (maximumf (broadcastInDim S8x8x2x2048 ![] bcast_S_S8x8x2x2048 (constant S_ .f32 0xFF800000#32)) mx))))

/-- The softmax's quotient. -/
def soft (p : Pairs) : Pairs :=
  Host.divf p (broadcastInDim S8x8x2x2048x2048 ![0, 1, 2, 3, 4] bcast_S8x8x2x2048x1_S8x8x2x2048x2048_0_1_2_3_4 (broadcastInDim S8x8x2x2048x1 ![0, 1, 2, 3] bcast_S8x8x2x2048_S8x8x2x2048x1_0_1_2_3 (Host.reduceAdd p (constant S_ .f32 0x00000000#32) reducesTo_S8x8x2x2048x2048_S8x8x2x2048_d4 h_S_)))

def lamT (l1 l2 l3 l4 : FVec Ideal S1x64 .f32) : FVec Ideal S_ .f32 :=
  addf (subf (Host.exp (Host.reduceAdd (mulf (shapeCast S64 l1 shapeCasts_S1x64_S64) (shapeCast S64 l2 shapeCasts_S1x64_S64)) (constant S_ .f32 0x00000000#32) reducesTo_S64_S_d0 h_S_)) (Host.exp (Host.reduceAdd (mulf (shapeCast S64 l3 shapeCasts_S1x64_S64) (shapeCast S64 l4 shapeCasts_S1x64_S64)) (constant S_ .f32 0x00000000#32) reducesTo_S64_S_d0 h_S_))) (constant S_ .f32 0x3E4CCCCD#32)

/-- The values under the difference of the two softmaxes. -/
def mix (p : Pairs) (lam : FVec Ideal S_ .f32) (v : FVec Ideal S16384x1024 .f32) : FVec Ideal S8x8x128x2048 .f32 :=
  Host.dotGeneral dot_S8x2048x8x128_S8x8x2048x2048_S8x8x128x2048_1_3_3_2_02_01 none (shapeCast S8x2048x8x128 v shapeCasts_S16384x1024_S8x2048x8x128) (subf (shapeCast S8x8x2048x2048 (extractStridedSlice S8x8x1x2048x2048 ![0, 0, 0, 0, 0] p slices_S8x8x2x2048x2048_S8x8x1x2048x2048_0_0_0_0_0) shapeCasts_S8x8x1x2048x2048_S8x8x2048x2048) (mulf (broadcastInDim S8x8x2048x2048 ![] bcast_S_S8x8x2048x2048 lam) (shapeCast S8x8x2048x2048 (extractStridedSlice S8x8x1x2048x2048 ![0, 0, 1, 0, 0] p slices_S8x8x2x2048x2048_S8x8x1x2048x2048_0_0_1_0_0) shapeCasts_S8x8x1x2048x2048_S8x8x2048x2048)))

/-- The norm of a head's row, its weights, and the fixed factor. -/
def normed (o : FVec Ideal S8x8x128x2048 .f32) (w : FVec Ideal S1x128 .f32) : FVec Ideal S16384x1024 .f32 :=
  mulf (shapeCast S16384x1024 (mulf (mulf (transpose S8x2048x8x128 [0, 3, 1, 2] o transposes_S8x8x128x2048_S8x2048x8x128_0_3_1_2) (broadcastInDim S8x2048x8x128 ![0, 1, 2, 3] bcast_S8x2048x8x1_S8x2048x8x128_0_1_2_3 (Host.rsqrt (addf (Host.divf (broadcastInDim S8x2048x8x1 ![0, 1, 2] bcast_S8x2048x8_S8x2048x8x1_0_1_2 (Host.reduceAdd (mulf (transpose S8x2048x8x128 [0, 3, 1, 2] o transposes_S8x8x128x2048_S8x2048x8x128_0_3_1_2) (transpose S8x2048x8x128 [0, 3, 1, 2] o transposes_S8x8x128x2048_S8x2048x8x128_0_3_1_2)) (constant S_ .f32 0x00000000#32) reducesTo_S8x2048x8x128_S8x2048x8_d3 h_S_)) (broadcastInDim S8x2048x8x1 ![] bcast_S_S8x2048x8x1 (constant S_ .f32 0x43000000#32))) (broadcastInDim S8x2048x8x1 ![] bcast_S_S8x2048x8x1 (constant S_ .f32 0x358637BD#32)))))) (broadcastInDim S8x2048x8x128 ![0, 1, 2, 3] bcast_S1x1x1x128_S8x2048x8x128_0_1_2_3 (broadcastInDim S1x1x1x128 ![3] bcast_S128_S1x1x1x128_3 (shapeCast S128 w shapeCasts_S1x128_S128)))) shapeCasts_S8x2048x8x128_S16384x1024) (broadcastInDim S16384x1024 ![] bcast_S_S16384x1024 (constant S_ .f32 0x3F4CCCCD#32))

theorem result_eq (m : (ℓ : Loc nD τ sig) → Buf (Elt Ideal) ℓ) (c : Dev nD) :
    Cert.ReferenceIdeal.Value.res_main_v63 m c
      = normed (mix (soft (expd (scores (m ((c.tc : Thread nD τ).loc main_arg5)) (m ((c.tc : Thread nD τ).loc main_arg6))) (maxes (scores (m ((c.tc : Thread nD τ).loc main_arg5)) (m ((c.tc : Thread nD τ).loc main_arg6)))))) (lamT (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg7))) (m ((c.tc : Thread nD τ).loc main_arg4)) := by
  unfold Cert.ReferenceIdeal.Value.res_main_v63 normed mix soft expd maxes scores lamT
  rfl

theorem sge_apply (x y : Fin 2048) : IntOp.cmpi .sge (BitVec.ofNat 32 y.val) (BitVec.ofNat 32 x.val) = if x.val ≤ y.val then 1#1 else 0#1 :=
  by
  have h : (BitVec.ofNat 32 x.val).sle (BitVec.ofNat 32 y.val) = decide (x.val ≤ y.val) := by
    rw [BitVec.sle_eq_decide, BitVec.toInt_eq_toNat_of_lt, BitVec.toInt_eq_toNat_of_lt]
    · simp only [BitVec.toNat_ofNat]
      rw [Nat.mod_eq_of_lt (by omega), Nat.mod_eq_of_lt (by omega)]
      simp
    · simp only [BitVec.toNat_ofNat]; omega
    · simp only [BitVec.toNat_ofNat]; omega
  show BitVec.ofBool ((BitVec.ofNat 32 x.val).sle (BitVec.ofNat 32 y.val)) = _
  rw [h]
  by_cases hx : x.val ≤ y.val
  · rw [if_pos hx, decide_eq_true hx]; rfl
  · rw [if_neg hx, decide_eq_false hx]; rfl

theorem scores_apply (z : FVec Ideal S5x16384x1024 .f32) (k : FVec Ideal S16384x1024 .f32) (b h : Fin 8) (t : Fin 2) (y x : Fin 2048) :
    scores z k (ix5 b h t y x) = if x.val ≤ y.val then (∑ e : Fin 64, z (ix3 4 ⟨b.val * 2048 + y.val, by omega⟩ ⟨h.val * 128 + t.val * 64 + e.val, by omega⟩)
      * k (ix2 ⟨b.val * 2048 + x.val, by omega⟩ ⟨h.val * 128 + t.val * 64 + e.val, by omega⟩)) * Ideal.ofBits .f32 0x3E000000#32 else ⊥ := by
  pointwise [scores]
  rw [sge_apply]
  by_cases hx : x.val ≤ y.val
  · rw [if_pos hx, if_pos hx]; rfl
  · rw [if_neg hx, if_neg hx]; exact ofBits_ninf

theorem maxes_real (s : Pairs) (b h : Fin 8) (t : Fin 2) (y x₀ : Fin 2048) (hs : ∀ x, s (ix5 b h t y x) ≠ ⊤) (h0 : s (ix5 b h t y x₀) ≠ ⊥) :
    ∃ M : ℝ, maxes s (ix4 b h t y) = (M : EReal) := by
  have hd : ∀ i : S8x8x2x2048x2048.Idx, reducesTo_S8x8x2x2048x2048_S8x8x2x2048_d4.drop i = ix4 b h t y → i = ix5 b h t y (i 4) := fun i hi => by
    have h0 := congrArg (fun j => (j 0).val) hi
    have h1 := congrArg (fun j => (j 1).val) hi
    have h2 := congrArg (fun j => (j 2).val) hi
    have h3 := congrArg (fun j => (j 3).val) hi
    funext a
    apply Fin.ext
    fin_cases a
    · exact (Shape.ReducesTo.drop_apply_val_of_eq reducesTo_S8x8x2x2048x2048_S8x8x2x2048_d4 i 0 0).symm.trans h0
    · exact (Shape.ReducesTo.drop_apply_val_of_eq reducesTo_S8x8x2x2048x2048_S8x8x2x2048_d4 i 1 1).symm.trans h1
    · exact (Shape.ReducesTo.drop_apply_val_of_eq reducesTo_S8x8x2x2048x2048_S8x8x2x2048_d4 i 2 2).symm.trans h2
    · exact (Shape.ReducesTo.drop_apply_val_of_eq reducesTo_S8x8x2x2048x2048_S8x8x2x2048_d4 i 3 3).symm.trans h3
    · rfl
  have hm : reducesTo_S8x8x2x2048x2048_S8x8x2x2048_d4.drop (ix5 b h t y x₀) = ix4 b h t y := by
    funext a
    apply Fin.ext
    fin_cases a
    · exact Shape.ReducesTo.drop_apply_val_of_eq reducesTo_S8x8x2x2048x2048_S8x8x2x2048_d4 _ 0 0
    · exact Shape.ReducesTo.drop_apply_val_of_eq reducesTo_S8x8x2x2048x2048_S8x8x2x2048_d4 _ 1 1
    · exact Shape.ReducesTo.drop_apply_val_of_eq reducesTo_S8x8x2x2048x2048_S8x8x2x2048_d4 _ 2 2
    · exact Shape.ReducesTo.drop_apply_val_of_eq reducesTo_S8x8x2x2048x2048_S8x8x2x2048_d4 _ 3 3
  have e : maxes s (ix4 b h t y) = (Finset.univ.filter fun i => reducesTo_S8x8x2x2048x2048_S8x8x2x2048_d4.drop i = ix4 b h t y).fold max
      (Ideal.ofBits .f32 0xFF800000#32) s := by
    unfold maxes
    rw [Host.reduce_eq_fold]
    rfl
  rw [ofBits_ninf] at e
  have lo : maxes s (ix4 b h t y) ≠ ⊥ := by
    refine ne_of_gt ?_
    rw [e, Finset.lt_fold_max]
    exact Or.inr ⟨_, Finset.mem_filter.2 ⟨Finset.mem_univ _, hm⟩, bot_lt_iff_ne_bot.2 h0⟩
  have hi : maxes s (ix4 b h t y) ≠ ⊤ := by
    refine ne_of_lt ?_
    rw [e, Finset.fold_max_lt]
    refine ⟨bot_lt_top, fun i hi => ?_⟩
    rw [hd i (Finset.mem_filter.1 hi).2]
    exact lt_top_iff_ne_top.2 (hs _)
  exact ⟨_, (EReal.coe_toReal hi lo).symm⟩

theorem expd_apply (s : Pairs) (mx : FVec Ideal S8x8x2x2048 .f32) (b h : Fin 8) (t : Fin 2) (y x : Fin 2048) :
    expd s mx (ix5 b h t y x) = Ideal.exp (s (ix5 b h t y x) - max ⊥ (mx (ix4 b h t y))) := by
  pointwise [expd]
  rw [ofBits_ninf]

theorem soft_apply (p : Pairs) (b h : Fin 8) (t : Fin 2) (y x : Fin 2048) :
    soft p (ix5 b h t y x) = Ideal.div (p (ix5 b h t y x)) (∑ x' : Fin 2048, p (ix5 b h t y x')) := by
  pointwise [soft]

theorem lamT_apply (l1 l2 l3 l4 : FVec Ideal S1x64 .f32) :
    lamT l1 l2 l3 l4 ix0 = lamv (fun e => l1 (ix2 0 e)) (fun e => l2 (ix2 0 e)) (fun e => l3 (ix2 0 e)) (fun e => l4 (ix2 0 e)) := by
  pointwise [lamT]
  rfl

theorem mix_apply (p : Pairs) (lam : FVec Ideal S_ .f32) (v : FVec Ideal S16384x1024 .f32) (b h : Fin 8) (y : Fin 2048) (d : Fin 128) :
    mix p lam v (ix4 b h d y) = ∑ x : Fin 2048, v (ix2 ⟨b.val * 2048 + x.val, by omega⟩ ⟨h.val * 128 + d.val, by omega⟩)
      * (p (ix5 b h 0 y x) - lam ix0 * p (ix5 b h 1 y x)) := by
  pointwise [mix]

theorem normed_apply (o : FVec Ideal S8x8x128x2048 .f32) (w : FVec Ideal S1x128 .f32) (r : Fin 16384) (l : Fin 1024) :
    normed o w (ix2 r l)
      = nrm (fun d => o (ix4 ⟨r.val / 2048, by omega⟩ ⟨l.val / 128, by omega⟩ d ⟨r.val % 2048, Nat.mod_lt _ (by decide)⟩))
          (w (ix2 0 ⟨l.val % 128, Nat.mod_lt _ (by decide)⟩)) ⟨l.val % 128, Nat.mod_lt _ (by decide)⟩ := by
  pointwise [normed]
  rfl

end Cert.Attn.Ref
-- ==== Proof.WordsA.lean ====
/-
  THE FIRST QUERY TILE: its loads read back, and its state.
-/
module

public import proofs.«01_k».proof.Proof.Tiles

@[expose] public section

set_option maxRecDepth 16384

noncomputable section

namespace Cert.Attn

open Idealize.ShloMosaic Cert.KernelIdeal Cert.KernelIdeal.Gen

variable {c : Dev nD} {arg7 : Memref sig .tc .vmem S1x2048x128 .f32} {harg7 : arg7.IsWhole} {arg8 : Memref sig .tc .vmem S2048x128 .f32} {harg8 : arg8.IsWhole}
  {arg9 : Memref sig .tc .vmem S2048x128 .f32} {harg9 : arg9.IsWhole} {arg11 : Memref sig .tc .vmem S2048x128 .bf16} {arg12 : Memref sig .tc .vmem S4x128x512 .bf16}
  {arg13 : Memref sig .tc .vmem S2x1024x128 .bf16} {arg14 arg15 : Memref sig .tc .vmem S512x1024 .f32} {arg16 : Memref sig .tc .vmem S2x1x1024 .f32}
  {arg17 : Memref sig .tc .vmem S2x8x1024 .f32} {arg18 : Memref sig .tc .vmem S2x128x1024 .f32}
  {x5 : Vec Ideal S1x2048x128 .f32} {x6 x7 : Vec Ideal S2048x128 .f32} {Q K V : ℕ → Fin 128 → ℝ}
  (hx5 : ∀ (a : Fin 2048) (e : Fin 128), x5 (ix3 0 a e) = (Q a.val e : EReal))
  (hx6 : ∀ (a : Fin 2048) (e : Fin 128), x6 (ix2 a e) = (K a.val e : EReal))
  (hx7 : ∀ (a : Fin 2048) (e : Fin 128), x7 (ix2 a e) = (V a.val e : EReal))

include hx5 hx6 hx7

theorem kt_0 (a : Fin 512) (e : Fin 128) : (Gen.kernelRun0_A.sl.v104 (F := Ideal) c arg8 harg8 arg11 x6) (ix2 a e) = (K (0 + a.val) e : EReal) :=
  (kt_apply (v := arg11.view) _ 0 (by norm_num) _ _ a e).trans ((kfull_apply _ _ e).trans ((rd_all arg8 harg8 x6 _ _ e).trans (hx6 _ e)))

theorem vt_0 (d : Fin 128) (a : Fin 512) : (Gen.kernelRun0_A.sl.v145 (F := Ideal) c arg9 harg9 arg12 x7) (ix2 d a) = (V (0 + a.val) d : EReal) := by
  have h : (Gen.kernelRun0_A.sl.v145 (F := Ideal) c arg9 harg9 arg12 x7) = vtile (View.readAt (Elt Ideal) arg9.view (Rect.unit (s := S2048x128) ![0, 0] S512x128.size inb_S2048x128_S512x128_0_0).toLoadRect (harg9.unread x7)) := by
    unfold Gen.kernelRun0_A.sl.v145 Gen.kernelRun0_A.sl.v144 Gen.kernelRun0_A.sl.HS1_4
    simp (disch := decide) only [↓ View.readCov_skip, ↓ View.readCov_cons_toLoadRect]
    rfl
  rw [h, vtile_apply]
  exact (rd_rows arg9 harg9 x7 0 (by norm_num) _ a d).trans (hx7 _ d)

theorem qlo_0 (j : Fin 512) (e : Fin 128) : (Gen.kernelRun0_A.sl.v106 (F := Ideal) c arg7 harg7 arg13 x5) (ix2 ⟨j.val, by omega⟩ e) = (qs Q 0 (0 + j.val) e : EReal) :=
  (cast_q _ _ e).trans ((qm_lo (v := arg13.view) 0 (qLo (View.readAt (Elt Ideal) arg7.view (Rect.unit (s := S1x2048x128) ![0, 0, 0] S1x512x128.size inb_S1x2048x128_S1x512x128_0_0_0).toLoadRect (harg7.unread x5))) (qHi (View.readAt (Elt Ideal) arg7.view (Rect.unit (s := S1x2048x128) ![0, 0, 0] S1x512x128.size inb_S1x2048x128_S1x512x128_0_0_0).toLoadRect (harg7.unread x5))) _ _ _ _ j e).trans
    (qLo_real Q 0 _ (fun a e' => (rd_q arg7 harg7 x5 0 (by norm_num) _ a e').trans (hx5 _ e')) j e))

theorem qhi_0 (j : Fin 512) (e : Fin 128) : (Gen.kernelRun0_A.sl.v106 (F := Ideal) c arg7 harg7 arg13 x5) (ix2 ⟨512 + j.val, by omega⟩ e) = (qs Q 1 (0 + j.val) e : EReal) :=
  (cast_q _ _ e).trans ((qm_hi (v := arg13.view) 0 (qLo (View.readAt (Elt Ideal) arg7.view (Rect.unit (s := S1x2048x128) ![0, 0, 0] S1x512x128.size inb_S1x2048x128_S1x512x128_0_0_0).toLoadRect (harg7.unread x5))) (qHi (View.readAt (Elt Ideal) arg7.view (Rect.unit (s := S1x2048x128) ![0, 0, 0] S1x512x128.size inb_S1x2048x128_S1x512x128_0_0_0).toLoadRect (harg7.unread x5))) _ _ _ j e).trans
    (qHi_real Q 0 _ (fun a e' => (rd_q arg7 harg7 x5 0 (by norm_num) _ a e').trans (hx5 _ e')) j e))

theorem kt_1 (a : Fin 512) (e : Fin 128) : (Gen.kernelRun0_A.sl.v284 (F := Ideal) c arg8 harg8 arg11 x6) (ix2 a e) = (K (512 + a.val) e : EReal) :=
  (kt_apply (v := arg11.view) _ 512 (by norm_num) _ _ a e).trans ((kfull_apply _ _ e).trans ((rd_all arg8 harg8 x6 _ _ e).trans (hx6 _ e)))

theorem vt_1 (d : Fin 128) (a : Fin 512) : (Gen.kernelRun0_A.sl.v415 (F := Ideal) c arg9 harg9 arg12 x7) (ix2 d a) = (V (512 + a.val) d : EReal) := by
  have h : (Gen.kernelRun0_A.sl.v415 (F := Ideal) c arg9 harg9 arg12 x7) = vtile (View.readAt (Elt Ideal) arg9.view (Rect.unit (s := S2048x128) ![512, 0] S512x128.size inb_S2048x128_S512x128_512_0).toLoadRect (harg9.unread x7)) := by
    unfold Gen.kernelRun0_A.sl.v415 Gen.kernelRun0_A.sl.v414 Gen.kernelRun0_A.sl.HS1_4
    simp (disch := decide) only [↓ View.readCov_skip, ↓ View.readCov_cons_toLoadRect]
    rfl
  rw [h, vtile_apply]
  exact (rd_rows arg9 harg9 x7 512 (by norm_num) _ a d).trans (hx7 _ d)

theorem qlo_1 (j : Fin 512) (e : Fin 128) : (Gen.kernelRun0_A.sl.v279 (F := Ideal) c arg7 harg7 arg13 x5) (ix2 ⟨j.val, by omega⟩ e) = (qs Q 0 (512 + j.val) e : EReal) :=
  (cast_q _ _ e).trans ((qm_lo (v := arg13.view) 1 (qLo (View.readAt (Elt Ideal) arg7.view (Rect.unit (s := S1x2048x128) ![0, 512, 0] S1x512x128.size inb_S1x2048x128_S1x512x128_0_512_0).toLoadRect (harg7.unread x5))) (qHi (View.readAt (Elt Ideal) arg7.view (Rect.unit (s := S1x2048x128) ![0, 512, 0] S1x512x128.size inb_S1x2048x128_S1x512x128_0_512_0).toLoadRect (harg7.unread x5))) _ _ _ _ j e).trans
    (qLo_real Q 512 _ (fun a e' => (rd_q arg7 harg7 x5 512 (by norm_num) _ a e').trans (hx5 _ e')) j e))

theorem qhi_1 (j : Fin 512) (e : Fin 128) : (Gen.kernelRun0_A.sl.v279 (F := Ideal) c arg7 harg7 arg13 x5) (ix2 ⟨512 + j.val, by omega⟩ e) = (qs Q 1 (512 + j.val) e : EReal) :=
  (cast_q _ _ e).trans ((qm_hi (v := arg13.view) 1 (qLo (View.readAt (Elt Ideal) arg7.view (Rect.unit (s := S1x2048x128) ![0, 512, 0] S1x512x128.size inb_S1x2048x128_S1x512x128_0_512_0).toLoadRect (harg7.unread x5))) (qHi (View.readAt (Elt Ideal) arg7.view (Rect.unit (s := S1x2048x128) ![0, 512, 0] S1x512x128.size inb_S1x2048x128_S1x512x128_0_512_0).toLoadRect (harg7.unread x5))) _ _ _ j e).trans
    (qHi_real Q 512 _ (fun a e' => (rd_q arg7 harg7 x5 512 (by norm_num) _ a e').trans (hx5 _ e')) j e))

theorem kt_2 (a : Fin 512) (e : Fin 128) : (Gen.kernelRun0_A.sl.v651 (F := Ideal) c arg8 harg8 arg11 x6) (ix2 a e) = (K (1024 + a.val) e : EReal) :=
  (kt_apply (v := arg11.view) _ 1024 (by norm_num) _ _ a e).trans ((kfull_apply _ _ e).trans ((rd_all arg8 harg8 x6 _ _ e).trans (hx6 _ e)))

theorem vt_2 (d : Fin 128) (a : Fin 512) : (Gen.kernelRun0_A.sl.v782 (F := Ideal) c arg9 harg9 arg12 x7) (ix2 d a) = (V (1024 + a.val) d : EReal) := by
  have h : (Gen.kernelRun0_A.sl.v782 (F := Ideal) c arg9 harg9 arg12 x7) = vtile (View.readAt (Elt Ideal) arg9.view (Rect.unit (s := S2048x128) ![1024, 0] S512x128.size inb_S2048x128_S512x128_1024_0).toLoadRect (harg9.unread x7)) := by
    unfold Gen.kernelRun0_A.sl.v782 Gen.kernelRun0_A.sl.v781 Gen.kernelRun0_A.sl.HS1_4
    simp (disch := decide) only [↓ View.readCov_skip, ↓ View.readCov_cons_toLoadRect]
    rfl
  rw [h, vtile_apply]
  exact (rd_rows arg9 harg9 x7 1024 (by norm_num) _ a d).trans (hx7 _ d)

theorem qlo_2 (j : Fin 512) (e : Fin 128) : (Gen.kernelRun0_A.sl.v549 (F := Ideal) c arg7 harg7 arg13 x5) (ix2 ⟨j.val, by omega⟩ e) = (qs Q 0 (1024 + j.val) e : EReal) :=
  (cast_q _ _ e).trans ((qm_lo (v := arg13.view) 0 (qLo (View.readAt (Elt Ideal) arg7.view (Rect.unit (s := S1x2048x128) ![0, 1024, 0] S1x512x128.size inb_S1x2048x128_S1x512x128_0_1024_0).toLoadRect (harg7.unread x5))) (qHi (View.readAt (Elt Ideal) arg7.view (Rect.unit (s := S1x2048x128) ![0, 1024, 0] S1x512x128.size inb_S1x2048x128_S1x512x128_0_1024_0).toLoadRect (harg7.unread x5))) _ _ _ _ j e).trans
    (qLo_real Q 1024 _ (fun a e' => (rd_q arg7 harg7 x5 1024 (by norm_num) _ a e').trans (hx5 _ e')) j e))

theorem qhi_2 (j : Fin 512) (e : Fin 128) : (Gen.kernelRun0_A.sl.v549 (F := Ideal) c arg7 harg7 arg13 x5) (ix2 ⟨512 + j.val, by omega⟩ e) = (qs Q 1 (1024 + j.val) e : EReal) :=
  (cast_q _ _ e).trans ((qm_hi (v := arg13.view) 0 (qLo (View.readAt (Elt Ideal) arg7.view (Rect.unit (s := S1x2048x128) ![0, 1024, 0] S1x512x128.size inb_S1x2048x128_S1x512x128_0_1024_0).toLoadRect (harg7.unread x5))) (qHi (View.readAt (Elt Ideal) arg7.view (Rect.unit (s := S1x2048x128) ![0, 1024, 0] S1x512x128.size inb_S1x2048x128_S1x512x128_0_1024_0).toLoadRect (harg7.unread x5))) _ _ _ j e).trans
    (qHi_real Q 1024 _ (fun a e' => (rd_q arg7 harg7 x5 1024 (by norm_num) _ a e').trans (hx5 _ e')) j e))

theorem kt_3 (a : Fin 512) (e : Fin 128) : (Gen.kernelRun0_A.sl.v1115 (F := Ideal) c arg8 harg8 arg11 x6) (ix2 a e) = (K (1536 + a.val) e : EReal) :=
  (kt_apply (v := arg11.view) _ 1536 (by norm_num) _ _ a e).trans ((kfull_apply _ _ e).trans ((rd_all arg8 harg8 x6 _ _ e).trans (hx6 _ e)))

theorem vt_3 (d : Fin 128) (a : Fin 512) : (Gen.kernelRun0_A.sl.v1246 (F := Ideal) c arg9 harg9 arg12 x7) (ix2 d a) = (V (1536 + a.val) d : EReal) := by
  have h : (Gen.kernelRun0_A.sl.v1246 (F := Ideal) c arg9 harg9 arg12 x7) = vtile (View.readAt (Elt Ideal) arg9.view (Rect.unit (s := S2048x128) ![1536, 0] S512x128.size inb_S2048x128_S512x128_1536_0).toLoadRect (harg9.unread x7)) := by
    unfold Gen.kernelRun0_A.sl.v1246 Gen.kernelRun0_A.sl.v1245 Gen.kernelRun0_A.sl.HS1_4
    simp (disch := decide) only [↓ View.readCov_skip, ↓ View.readCov_cons_toLoadRect]
    rfl
  rw [h, vtile_apply]
  exact (rd_rows arg9 harg9 x7 1536 (by norm_num) _ a d).trans (hx7 _ d)

theorem qlo_3 (j : Fin 512) (e : Fin 128) : (Gen.kernelRun0_A.sl.v916 (F := Ideal) c arg7 harg7 arg13 x5) (ix2 ⟨j.val, by omega⟩ e) = (qs Q 0 (1536 + j.val) e : EReal) :=
  (cast_q _ _ e).trans ((qm_lo (v := arg13.view) 1 (qLo (View.readAt (Elt Ideal) arg7.view (Rect.unit (s := S1x2048x128) ![0, 1536, 0] S1x512x128.size inb_S1x2048x128_S1x512x128_0_1536_0).toLoadRect (harg7.unread x5))) (qHi (View.readAt (Elt Ideal) arg7.view (Rect.unit (s := S1x2048x128) ![0, 1536, 0] S1x512x128.size inb_S1x2048x128_S1x512x128_0_1536_0).toLoadRect (harg7.unread x5))) _ _ _ _ j e).trans
    (qLo_real Q 1536 _ (fun a e' => (rd_q arg7 harg7 x5 1536 (by norm_num) _ a e').trans (hx5 _ e')) j e))

theorem qhi_3 (j : Fin 512) (e : Fin 128) : (Gen.kernelRun0_A.sl.v916 (F := Ideal) c arg7 harg7 arg13 x5) (ix2 ⟨512 + j.val, by omega⟩ e) = (qs Q 1 (1536 + j.val) e : EReal) :=
  (cast_q _ _ e).trans ((qm_hi (v := arg13.view) 1 (qLo (View.readAt (Elt Ideal) arg7.view (Rect.unit (s := S1x2048x128) ![0, 1536, 0] S1x512x128.size inb_S1x2048x128_S1x512x128_0_1536_0).toLoadRect (harg7.unread x5))) (qHi (View.readAt (Elt Ideal) arg7.view (Rect.unit (s := S1x2048x128) ![0, 1536, 0] S1x512x128.size inb_S1x2048x128_S1x512x128_0_1536_0).toLoadRect (harg7.unread x5))) _ _ _ j e).trans
    (qHi_real Q 1536 _ (fun a e' => (rd_q arg7 harg7 x5 1536 (by norm_num) _ a e').trans (hx5 _ e')) j e))

theorem sclo_0_0 (a j : Fin 512) : (Gen.kernelRun0_A.sl.v107 (F := Ideal) c arg7 harg7 arg8 harg8 arg11 arg13 x5 x6) (ix2 a ⟨j.val, by omega⟩) = (sg Q K 0 (0 + j.val) (0 + a.val) : EReal) :=
  score_at Q K 0 (0 + j.val) (0 + a.val) _ _ a _ (fun e => kt_0 hx5 hx6 hx7 a e) (fun e => qlo_0 hx5 hx6 hx7 j e)

theorem schi_0_0 (a j : Fin 512) : (Gen.kernelRun0_A.sl.v107 (F := Ideal) c arg7 harg7 arg8 harg8 arg11 arg13 x5 x6) (ix2 a ⟨512 + j.val, by omega⟩) = (sg Q K 1 (0 + j.val) (0 + a.val) : EReal) :=
  score_at Q K 1 (0 + j.val) (0 + a.val) _ _ a _ (fun e => kt_0 hx5 hx6 hx7 a e) (fun e => qhi_0 hx5 hx6 hx7 j e)

theorem hflo_0_0 (a j : Fin 512) : (Gen.kernelRun0_A.sl.v111 (F := Ideal) c arg7 harg7 arg8 harg8 arg11 arg13 arg14 x5 x6) (ix2 a j) = (sg Q K 0 (0 + j.val) (0 + a.val) : EReal) :=
  ((half_lo (v := arg14.view) (shapeCast S512x1024 (Gen.kernelRun0_A.sl.v107 (F := Ideal) c arg7 harg7 arg8 harg8 arg11 arg13 x5 x6) shapeCasts_S512x1024_S512x1024) _ _ _ a j).trans (congrFun (shapeCast_self _ _) _)).trans (sclo_0_0 hx5 hx6 hx7 a j)

theorem mklo_0_0 (a j : Fin 512) : (Gen.kernelRun0_A.sl.v114 (F := Ideal) c arg7 harg7 arg8 harg8 arg11 arg13 arg14 x5 x6) (ix2 a j) = if a.val ≤ j.val then (Gen.kernelRun0_A.sl.v111 (F := Ideal) c arg7 harg7 arg8 harg8 arg11 arg13 arg14 x5 x6) (ix2 a j) else ⊥ :=
  masked_lo (Gen.kernelRun0_A.sl.v111 (F := Ideal) c arg7 harg7 arg8 harg8 arg11 arg13 arg14 x5 x6) a j

theorem stlo_0_0 (a j : Fin 512) : (Gen.kernelRun0_A.sl.v114 (F := Ideal) c arg7 harg7 arg8 harg8 arg11 arg13 arg14 x5 x6) (ix2 a j) = if 0 + a.val ≤ 0 + j.val then (sg Q K 0 (0 + j.val) (0 + a.val) : EReal) else ⊥ :=
  (mklo_0_0 hx5 hx6 hx7 a j).trans (diag_st (sg Q K 0) 0 _ a j (hflo_0_0 hx5 hx6 hx7 a j))

theorem ldm_0_0_0 : LoadRect.valAlong (lr := (Rect.unit (s := S1x1024) ![0, 0] S1x512.size inb_S1x1024_S1x512_0_0).toLoadRect) (by decide) (Gen.kernelRun0_A.sl.v117 (F := Ideal) c arg16) = (fun _ => (⊥ : EReal)) :=
  rb_fill (r := Rect.unit (s := S1x1024) ![0, 0] S1x512.size inb_S1x1024_S1x512_0_0) _ _ _ _ _ _ _ fill_m _

theorem ldl_0_0_0 : LoadRect.valAlong (lr := (Rect.unit (s := S8x1024) ![0, 0] S8x512.size inb_S8x1024_S8x512_0_0).toLoadRect) (by decide) (Gen.kernelRun0_A.sl.v128 (F := Ideal) c arg17) = (fun _ => (0 : EReal)) :=
  rb_fill (r := Rect.unit (s := S8x1024) ![0, 0] S8x512.size inb_S8x1024_S8x512_0_0) _ _ _ _ _ _ _ fill_l _

theorem lda_0_0_0 : LoadRect.valAlong (lr := (Rect.unit (s := S128x1024) ![0, 0] S128x512.size inb_S128x1024_S128x512_0_0).toLoadRect) (by decide) (Gen.kernelRun0_A.sl.v141 (F := Ideal) c arg18) = (fun _ => (0 : EReal)) :=
  rb_fill (r := Rect.unit (s := S128x1024) ![0, 0] S128x512.size inb_S128x1024_S128x512_0_0) _ _ _ _ _ _ _ fill_a _

theorem S_0_0_0 : StT Q K V 0 0 (0 + 512) (Gen.kernelRun0_A.sl.v120 (F := Ideal) c arg7 harg7 arg8 harg8 arg11 arg13 arg14 arg16 x5 x6) (Gen.kernelRun0_A.sl.v133 (F := Ideal) c arg7 harg7 arg8 harg8 arg11 arg13 arg14 arg16 arg17 x5 x6) (Gen.kernelRun0_A.sl.v148 (F := Ideal) c arg7 harg7 arg8 harg8 arg9 harg9 arg11 arg12 arg13 arg14 arg16 arg18 x5 x6 x7) :=
  stepT' Q K V 0 0 0 (by norm_num) (LoadRect.valAlong (lr := (Rect.unit (s := S1x1024) ![0, 0] S1x512.size inb_S1x1024_S1x512_0_0).toLoadRect) (by decide) (Gen.kernelRun0_A.sl.v117 (F := Ideal) c arg16)) _ (LoadRect.valAlong (lr := (Rect.unit (s := S8x1024) ![0, 0] S8x512.size inb_S8x1024_S8x512_0_0).toLoadRect) (by decide) (Gen.kernelRun0_A.sl.v128 (F := Ideal) c arg17)) _ (LoadRect.valAlong (lr := (Rect.unit (s := S128x1024) ![0, 0] S128x512.size inb_S128x1024_S128x512_0_0).toLoadRect) (by decide) (Gen.kernelRun0_A.sl.v141 (F := Ideal) c arg18)) _
    (Gen.kernelRun0_A.sl.v114 (F := Ideal) c arg7 harg7 arg8 harg8 arg11 arg13 arg14 x5 x6) (Gen.kernelRun0_A.sl.v145 (F := Ideal) c arg9 harg9 arg12 x7)
    (ldm_0_0_0 hx5 hx6 hx7) (ldl_0_0_0 hx5 hx6 hx7) (lda_0_0_0 hx5 hx6 hx7)
    (start_st Q K V 0 0) (stlo_0_0 hx5 hx6 hx7) (vt_0 hx5 hx6 hx7)

theorem hfhi_0_0 (a j : Fin 512) : (Gen.kernelRun0_A.sl.v159 (F := Ideal) c arg7 harg7 arg8 harg8 arg11 arg13 arg14 x5 x6) (ix2 a j) = (sg Q K 1 (0 + j.val) (0 + a.val) : EReal) :=
  ((half_hi (v := arg14.view) (shapeCast S512x1024 (Gen.kernelRun0_A.sl.v107 (F := Ideal) c arg7 harg7 arg8 harg8 arg11 arg13 x5 x6) shapeCasts_S512x1024_S512x1024) _ _ _ a j).trans (congrFun (shapeCast_self _ _) _)).trans (schi_0_0 hx5 hx6 hx7 a j)

theorem mkhi_0_0 (a j : Fin 512) : (Gen.kernelRun0_A.sl.v162 (F := Ideal) c arg7 harg7 arg8 harg8 arg11 arg13 arg14 x5 x6) (ix2 a j) = if a.val ≤ j.val then (Gen.kernelRun0_A.sl.v159 (F := Ideal) c arg7 harg7 arg8 harg8 arg11 arg13 arg14 x5 x6) (ix2 a j) else ⊥ :=
  masked_hi (Gen.kernelRun0_A.sl.v159 (F := Ideal) c arg7 harg7 arg8 harg8 arg11 arg13 arg14 x5 x6) a j

theorem sthi_0_0 (a j : Fin 512) : (Gen.kernelRun0_A.sl.v162 (F := Ideal) c arg7 harg7 arg8 harg8 arg11 arg13 arg14 x5 x6) (ix2 a j) = if 0 + a.val ≤ 0 + j.val then (sg Q K 1 (0 + j.val) (0 + a.val) : EReal) else ⊥ :=
  (mkhi_0_0 hx5 hx6 hx7 a j).trans (diag_st (sg Q K 1) 0 _ a j (hfhi_0_0 hx5 hx6 hx7 a j))

theorem ldm_0_0_1 : LoadRect.valAlong (lr := (Rect.unit (s := S1x1024) ![0, 512] S1x512.size inb_S1x1024_S1x512_0_512).toLoadRect) (by decide) (Gen.kernelRun0_A.sl.v165 (F := Ideal) c arg7 harg7 arg8 harg8 arg11 arg13 arg14 arg16 x5 x6) = (fun _ => (⊥ : EReal)) :=
  rb_fill2 (r := Rect.unit (s := S1x1024) ![0, 512] S1x512.size inb_S1x1024_S1x512_0_512) _ _ _ _ _ _ _ _ _ fill_m _ (by decide)

theorem ldl_0_0_1 : LoadRect.valAlong (lr := (Rect.unit (s := S8x1024) ![0, 512] S8x512.size inb_S8x1024_S8x512_0_512).toLoadRect) (by decide) (Gen.kernelRun0_A.sl.v176 (F := Ideal) c arg7 harg7 arg8 harg8 arg11 arg13 arg14 arg16 arg17 x5 x6) = (fun _ => (0 : EReal)) :=
  rb_fill2 (r := Rect.unit (s := S8x1024) ![0, 512] S8x512.size inb_S8x1024_S8x512_0_512) _ _ _ _ _ _ _ _ _ fill_l _ (by decide)

theorem lda_0_0_1 : LoadRect.valAlong (lr := (Rect.unit (s := S128x1024) ![0, 512] S128x512.size inb_S128x1024_S128x512_0_512).toLoadRect) (by decide) (Gen.kernelRun0_A.sl.v189 (F := Ideal) c arg7 harg7 arg8 harg8 arg9 harg9 arg11 arg12 arg13 arg14 arg16 arg18 x5 x6 x7) = (fun _ => (0 : EReal)) :=
  rb_fill2 (r := Rect.unit (s := S128x1024) ![0, 512] S128x512.size inb_S128x1024_S128x512_0_512) _ _ _ _ _ _ _ _ _ fill_a _ (by decide)

theorem S_0_0_1 : StT Q K V 1 0 (0 + 512) (Gen.kernelRun0_A.sl.v168 (F := Ideal) c arg7 harg7 arg8 harg8 arg11 arg13 arg14 arg16 x5 x6) (Gen.kernelRun0_A.sl.v181 (F := Ideal) c arg7 harg7 arg8 harg8 arg11 arg13 arg14 arg16 arg17 x5 x6) (Gen.kernelRun0_A.sl.v196 (F := Ideal) c arg7 harg7 arg8 harg8 arg9 harg9 arg11 arg12 arg13 arg14 arg16 arg18 x5 x6 x7) :=
  stepT' Q K V 1 0 0 (by norm_num) (LoadRect.valAlong (lr := (Rect.unit (s := S1x1024) ![0, 512] S1x512.size inb_S1x1024_S1x512_0_512).toLoadRect) (by decide) (Gen.kernelRun0_A.sl.v165 (F := Ideal) c arg7 harg7 arg8 harg8 arg11 arg13 arg14 arg16 x5 x6)) _ (LoadRect.valAlong (lr := (Rect.unit (s := S8x1024) ![0, 512] S8x512.size inb_S8x1024_S8x512_0_512).toLoadRect) (by decide) (Gen.kernelRun0_A.sl.v176 (F := Ideal) c arg7 harg7 arg8 harg8 arg11 arg13 arg14 arg16 arg17 x5 x6)) _ (LoadRect.valAlong (lr := (Rect.unit (s := S128x1024) ![0, 512] S128x512.size inb_S128x1024_S128x512_0_512).toLoadRect) (by decide) (Gen.kernelRun0_A.sl.v189 (F := Ideal) c arg7 harg7 arg8 harg8 arg9 harg9 arg11 arg12 arg13 arg14 arg16 arg18 x5 x6 x7)) _
    (Gen.kernelRun0_A.sl.v162 (F := Ideal) c arg7 harg7 arg8 harg8 arg11 arg13 arg14 x5 x6) (Gen.kernelRun0_A.sl.v145 (F := Ideal) c arg9 harg9 arg12 x7)
    (ldm_0_0_1 hx5 hx6 hx7) (ldl_0_0_1 hx5 hx6 hx7) (lda_0_0_1 hx5 hx6 hx7)
    (start_st Q K V 1 0) (sthi_0_0 hx5 hx6 hx7) (vt_0 hx5 hx6 hx7)

end Cert.Attn
-- ==== Proof.WordsB.lean ====
/-
  THE OTHER QUERY TILES: their loads read back, and their states after each block of keys.
-/
module

public import proofs.«01_k».proof.Proof.WordsA

@[expose] public section

set_option maxRecDepth 16384

noncomputable section

namespace Cert.Attn

open Idealize.ShloMosaic Cert.KernelIdeal Cert.KernelIdeal.Gen

variable {c : Dev nD} {arg7 : Memref sig .tc .vmem S1x2048x128 .f32} {harg7 : arg7.IsWhole} {arg8 : Memref sig .tc .vmem S2048x128 .f32} {harg8 : arg8.IsWhole}
  {arg9 : Memref sig .tc .vmem S2048x128 .f32} {harg9 : arg9.IsWhole} {arg11 : Memref sig .tc .vmem S2048x128 .bf16} {arg12 : Memref sig .tc .vmem S4x128x512 .bf16}
  {arg13 : Memref sig .tc .vmem S2x1024x128 .bf16} {arg14 arg15 : Memref sig .tc .vmem S512x1024 .f32} {arg16 : Memref sig .tc .vmem S2x1x1024 .f32}
  {arg17 : Memref sig .tc .vmem S2x8x1024 .f32} {arg18 : Memref sig .tc .vmem S2x128x1024 .f32}
  {x5 : Vec Ideal S1x2048x128 .f32} {x6 x7 : Vec Ideal S2048x128 .f32} {Q K V : ℕ → Fin 128 → ℝ}
  (hx5 : ∀ (a : Fin 2048) (e : Fin 128), x5 (ix3 0 a e) = (Q a.val e : EReal))
  (hx6 : ∀ (a : Fin 2048) (e : Fin 128), x6 (ix2 a e) = (K a.val e : EReal))
  (hx7 : ∀ (a : Fin 2048) (e : Fin 128), x7 (ix2 a e) = (V a.val e : EReal))

include hx5 hx6 hx7

theorem sclo_1_0 (a j : Fin 512) : (Gen.kernelRun0_A.sl.v280 (F := Ideal) c arg7 harg7 arg8 harg8 arg11 arg13 x5 x6) (ix2 a ⟨j.val, by omega⟩) = (sg Q K 0 (512 + j.val) (0 + a.val) : EReal) :=
  score_at Q K 0 (512 + j.val) (0 + a.val) _ _ a _ (fun e => kt_0 hx5 hx6 hx7 a e) (fun e => qlo_1 hx5 hx6 hx7 j e)

theorem schi_1_0 (a j : Fin 512) : (Gen.kernelRun0_A.sl.v280 (F := Ideal) c arg7 harg7 arg8 harg8 arg11 arg13 x5 x6) (ix2 a ⟨512 + j.val, by omega⟩) = (sg Q K 1 (512 + j.val) (0 + a.val) : EReal) :=
  score_at Q K 1 (512 + j.val) (0 + a.val) _ _ a _ (fun e => kt_0 hx5 hx6 hx7 a e) (fun e => qhi_1 hx5 hx6 hx7 j e)

theorem stlo_1_0 (a j : Fin 512) : (Gen.kernelRun0_A.sl.v291 (F := Ideal) c arg7 harg7 arg8 harg8 arg11 arg13 arg14 x5 x6) (ix2 a j) = if 0 + a.val ≤ 512 + j.val then (sg Q K 0 (512 + j.val) (0 + a.val) : EReal) else ⊥ :=
  (((half_lo (v := arg14.view) (shapeCast S512x1024 (Gen.kernelRun0_A.sl.v280 (F := Ideal) c arg7 harg7 arg8 harg8 arg11 arg13 x5 x6) shapeCasts_S512x1024_S512x1024) _ _ _ a j).trans (congrFun (shapeCast_self _ _) _)).trans (sclo_1_0 hx5 hx6 hx7 a j)).trans (if_pos (by omega)).symm

theorem ldm_1_0_0 : LoadRect.valAlong (lr := (Rect.unit (s := S1x1024) ![0, 0] S1x512.size inb_S1x1024_S1x512_0_0).toLoadRect) (by decide) (Gen.kernelRun0_A.sl.v294 (F := Ideal) c arg7 harg7 arg8 harg8 arg11 arg13 arg14 arg16 x5 x6) = (fun _ => (⊥ : EReal)) :=
  rb_fill (r := Rect.unit (s := S1x1024) ![0, 0] S1x512.size inb_S1x1024_S1x512_0_0) _ _ _ _ _ _ _ fill_m _

theorem ldl_1_0_0 : LoadRect.valAlong (lr := (Rect.unit (s := S8x1024) ![0, 0] S8x512.size inb_S8x1024_S8x512_0_0).toLoadRect) (by decide) (Gen.kernelRun0_A.sl.v305 (F := Ideal) c arg7 harg7 arg8 harg8 arg11 arg13 arg14 arg16 arg17 x5 x6) = (fun _ => (0 : EReal)) :=
  rb_fill (r := Rect.unit (s := S8x1024) ![0, 0] S8x512.size inb_S8x1024_S8x512_0_0) _ _ _ _ _ _ _ fill_l _

theorem lda_1_0_0 : LoadRect.valAlong (lr := (Rect.unit (s := S128x1024) ![0, 0] S128x512.size inb_S128x1024_S128x512_0_0).toLoadRect) (by decide) (Gen.kernelRun0_A.sl.v318 (F := Ideal) c arg7 harg7 arg8 harg8 arg9 harg9 arg11 arg12 arg13 arg14 arg16 arg18 x5 x6 x7) = (fun _ => (0 : EReal)) :=
  rb_fill (r := Rect.unit (s := S128x1024) ![0, 0] S128x512.size inb_S128x1024_S128x512_0_0) _ _ _ _ _ _ _ fill_a _

theorem S_1_0_0 : StT Q K V 0 512 (0 + 512) (Gen.kernelRun0_A.sl.v297 (F := Ideal) c arg7 harg7 arg8 harg8 arg11 arg13 arg14 arg16 x5 x6) (Gen.kernelRun0_A.sl.v310 (F := Ideal) c arg7 harg7 arg8 harg8 arg11 arg13 arg14 arg16 arg17 x5 x6) (Gen.kernelRun0_A.sl.v325 (F := Ideal) c arg7 harg7 arg8 harg8 arg9 harg9 arg11 arg12 arg13 arg14 arg16 arg18 x5 x6 x7) :=
  stepT' Q K V 0 512 0 (by norm_num) (LoadRect.valAlong (lr := (Rect.unit (s := S1x1024) ![0, 0] S1x512.size inb_S1x1024_S1x512_0_0).toLoadRect) (by decide) (Gen.kernelRun0_A.sl.v294 (F := Ideal) c arg7 harg7 arg8 harg8 arg11 arg13 arg14 arg16 x5 x6)) _ (LoadRect.valAlong (lr := (Rect.unit (s := S8x1024) ![0, 0] S8x512.size inb_S8x1024_S8x512_0_0).toLoadRect) (by decide) (Gen.kernelRun0_A.sl.v305 (F := Ideal) c arg7 harg7 arg8 harg8 arg11 arg13 arg14 arg16 arg17 x5 x6)) _ (LoadRect.valAlong (lr := (Rect.unit (s := S128x1024) ![0, 0] S128x512.size inb_S128x1024_S128x512_0_0).toLoadRect) (by decide) (Gen.kernelRun0_A.sl.v318 (F := Ideal) c arg7 harg7 arg8 harg8 arg9 harg9 arg11 arg12 arg13 arg14 arg16 arg18 x5 x6 x7)) _
    (Gen.kernelRun0_A.sl.v291 (F := Ideal) c arg7 harg7 arg8 harg8 arg11 arg13 arg14 x5 x6) (Gen.kernelRun0_A.sl.v145 (F := Ideal) c arg9 harg9 arg12 x7)
    (ldm_1_0_0 hx5 hx6 hx7) (ldl_1_0_0 hx5 hx6 hx7) (lda_1_0_0 hx5 hx6 hx7)
    (start_st Q K V 0 512) (stlo_1_0 hx5 hx6 hx7) (vt_0 hx5 hx6 hx7)

theorem sthi_1_0 (a j : Fin 512) : (Gen.kernelRun0_A.sl.v336 (F := Ideal) c arg7 harg7 arg8 harg8 arg11 arg13 arg14 x5 x6) (ix2 a j) = if 0 + a.val ≤ 512 + j.val then (sg Q K 1 (512 + j.val) (0 + a.val) : EReal) else ⊥ :=
  (((half_hi (v := arg14.view) (shapeCast S512x1024 (Gen.kernelRun0_A.sl.v280 (F := Ideal) c arg7 harg7 arg8 harg8 arg11 arg13 x5 x6) shapeCasts_S512x1024_S512x1024) _ _ _ a j).trans (congrFun (shapeCast_self _ _) _)).trans (schi_1_0 hx5 hx6 hx7 a j)).trans (if_pos (by omega)).symm

theorem ldm_1_0_1 : LoadRect.valAlong (lr := (Rect.unit (s := S1x1024) ![0, 512] S1x512.size inb_S1x1024_S1x512_0_512).toLoadRect) (by decide) (Gen.kernelRun0_A.sl.v339 (F := Ideal) c arg7 harg7 arg8 harg8 arg11 arg13 arg14 arg16 x5 x6) = (fun _ => (⊥ : EReal)) :=
  rb_fill2 (r := Rect.unit (s := S1x1024) ![0, 512] S1x512.size inb_S1x1024_S1x512_0_512) _ _ _ _ _ _ _ _ _ fill_m _ (by decide)

theorem ldl_1_0_1 : LoadRect.valAlong (lr := (Rect.unit (s := S8x1024) ![0, 512] S8x512.size inb_S8x1024_S8x512_0_512).toLoadRect) (by decide) (Gen.kernelRun0_A.sl.v350 (F := Ideal) c arg7 harg7 arg8 harg8 arg11 arg13 arg14 arg16 arg17 x5 x6) = (fun _ => (0 : EReal)) :=
  rb_fill2 (r := Rect.unit (s := S8x1024) ![0, 512] S8x512.size inb_S8x1024_S8x512_0_512) _ _ _ _ _ _ _ _ _ fill_l _ (by decide)

theorem lda_1_0_1 : LoadRect.valAlong (lr := (Rect.unit (s := S128x1024) ![0, 512] S128x512.size inb_S128x1024_S128x512_0_512).toLoadRect) (by decide) (Gen.kernelRun0_A.sl.v363 (F := Ideal) c arg7 harg7 arg8 harg8 arg9 harg9 arg11 arg12 arg13 arg14 arg16 arg18 x5 x6 x7) = (fun _ => (0 : EReal)) :=
  rb_fill2 (r := Rect.unit (s := S128x1024) ![0, 512] S128x512.size inb_S128x1024_S128x512_0_512) _ _ _ _ _ _ _ _ _ fill_a _ (by decide)

theorem S_1_0_1 : StT Q K V 1 512 (0 + 512) (Gen.kernelRun0_A.sl.v342 (F := Ideal) c arg7 harg7 arg8 harg8 arg11 arg13 arg14 arg16 x5 x6) (Gen.kernelRun0_A.sl.v355 (F := Ideal) c arg7 harg7 arg8 harg8 arg11 arg13 arg14 arg16 arg17 x5 x6) (Gen.kernelRun0_A.sl.v370 (F := Ideal) c arg7 harg7 arg8 harg8 arg9 harg9 arg11 arg12 arg13 arg14 arg16 arg18 x5 x6 x7) :=
  stepT' Q K V 1 512 0 (by norm_num) (LoadRect.valAlong (lr := (Rect.unit (s := S1x1024) ![0, 512] S1x512.size inb_S1x1024_S1x512_0_512).toLoadRect) (by decide) (Gen.kernelRun0_A.sl.v339 (F := Ideal) c arg7 harg7 arg8 harg8 arg11 arg13 arg14 arg16 x5 x6)) _ (LoadRect.valAlong (lr := (Rect.unit (s := S8x1024) ![0, 512] S8x512.size inb_S8x1024_S8x512_0_512).toLoadRect) (by decide) (Gen.kernelRun0_A.sl.v350 (F := Ideal) c arg7 harg7 arg8 harg8 arg11 arg13 arg14 arg16 arg17 x5 x6)) _ (LoadRect.valAlong (lr := (Rect.unit (s := S128x1024) ![0, 512] S128x512.size inb_S128x1024_S128x512_0_512).toLoadRect) (by decide) (Gen.kernelRun0_A.sl.v363 (F := Ideal) c arg7 harg7 arg8 harg8 arg9 harg9 arg11 arg12 arg13 arg14 arg16 arg18 x5 x6 x7)) _
    (Gen.kernelRun0_A.sl.v336 (F := Ideal) c arg7 harg7 arg8 harg8 arg11 arg13 arg14 x5 x6) (Gen.kernelRun0_A.sl.v145 (F := Ideal) c arg9 harg9 arg12 x7)
    (ldm_1_0_1 hx5 hx6 hx7) (ldl_1_0_1 hx5 hx6 hx7) (lda_1_0_1 hx5 hx6 hx7)
    (start_st Q K V 1 512) (sthi_1_0 hx5 hx6 hx7) (vt_0 hx5 hx6 hx7)

theorem sclo_1_1 (a j : Fin 512) : (Gen.kernelRun0_A.sl.v287 (F := Ideal) c arg7 harg7 arg8 harg8 arg11 arg13 x5 x6) (ix2 a ⟨j.val, by omega⟩) = (sg Q K 0 (512 + j.val) (512 + a.val) : EReal) :=
  score_at Q K 0 (512 + j.val) (512 + a.val) _ _ a _ (fun e => kt_1 hx5 hx6 hx7 a e) (fun e => qlo_1 hx5 hx6 hx7 j e)

theorem schi_1_1 (a j : Fin 512) : (Gen.kernelRun0_A.sl.v287 (F := Ideal) c arg7 harg7 arg8 harg8 arg11 arg13 x5 x6) (ix2 a ⟨512 + j.val, by omega⟩) = (sg Q K 1 (512 + j.val) (512 + a.val) : EReal) :=
  score_at Q K 1 (512 + j.val) (512 + a.val) _ _ a _ (fun e => kt_1 hx5 hx6 hx7 a e) (fun e => qhi_1 hx5 hx6 hx7 j e)

theorem hflo_1_1 (a j : Fin 512) : (Gen.kernelRun0_A.sl.v381 (F := Ideal) c arg7 harg7 arg8 harg8 arg11 arg13 arg15 x5 x6) (ix2 a j) = (sg Q K 0 (512 + j.val) (512 + a.val) : EReal) :=
  ((half_lo (v := arg15.view) (shapeCast S512x1024 (Gen.kernelRun0_A.sl.v287 (F := Ideal) c arg7 harg7 arg8 harg8 arg11 arg13 x5 x6) shapeCasts_S512x1024_S512x1024) _ _ _ a j).trans (congrFun (shapeCast_self _ _) _)).trans (sclo_1_1 hx5 hx6 hx7 a j)

theorem mklo_1_1 (a j : Fin 512) : (Gen.kernelRun0_A.sl.v384 (F := Ideal) c arg7 harg7 arg8 harg8 arg11 arg13 arg15 x5 x6) (ix2 a j) = if a.val ≤ j.val then (Gen.kernelRun0_A.sl.v381 (F := Ideal) c arg7 harg7 arg8 harg8 arg11 arg13 arg15 x5 x6) (ix2 a j) else ⊥ :=
  masked_lo (Gen.kernelRun0_A.sl.v381 (F := Ideal) c arg7 harg7 arg8 harg8 arg11 arg13 arg15 x5 x6) a j

theorem stlo_1_1 (a j : Fin 512) : (Gen.kernelRun0_A.sl.v384 (F := Ideal) c arg7 harg7 arg8 harg8 arg11 arg13 arg15 x5 x6) (ix2 a j) = if 512 + a.val ≤ 512 + j.val then (sg Q K 0 (512 + j.val) (512 + a.val) : EReal) else ⊥ :=
  (mklo_1_1 hx5 hx6 hx7 a j).trans (diag_st (sg Q K 0) 512 _ a j (hflo_1_1 hx5 hx6 hx7 a j))

theorem ldm_1_1_0 : LoadRect.valAlong (lr := (Rect.unit (s := S1x1024) ![0, 0] S1x512.size inb_S1x1024_S1x512_0_0).toLoadRect) (by decide) (Gen.kernelRun0_A.sl.v387 (F := Ideal) c arg7 harg7 arg8 harg8 arg11 arg13 arg14 arg16 x5 x6) = (Gen.kernelRun0_A.sl.v297 (F := Ideal) c arg7 harg7 arg8 harg8 arg11 arg13 arg14 arg16 x5 x6) :=
  (rb_hit2 (r := Rect.unit (s := S1x1024) ![0, 0] S1x512.size inb_S1x1024_S1x512_0_0) _ _ _ _ _ _ _ _ _ _ _ (by decide)).trans (shapeCast_self _ _)

theorem ldl_1_1_0 : LoadRect.valAlong (lr := (Rect.unit (s := S8x1024) ![0, 0] S8x512.size inb_S8x1024_S8x512_0_0).toLoadRect) (by decide) (Gen.kernelRun0_A.sl.v398 (F := Ideal) c arg7 harg7 arg8 harg8 arg11 arg13 arg14 arg16 arg17 x5 x6) = (Gen.kernelRun0_A.sl.v310 (F := Ideal) c arg7 harg7 arg8 harg8 arg11 arg13 arg14 arg16 arg17 x5 x6) :=
  (rb_hit2 (r := Rect.unit (s := S8x1024) ![0, 0] S8x512.size inb_S8x1024_S8x512_0_0) _ _ _ _ _ _ _ _ _ _ _ (by decide)).trans (shapeCast_self _ _)

theorem lda_1_1_0 : LoadRect.valAlong (lr := (Rect.unit (s := S128x1024) ![0, 0] S128x512.size inb_S128x1024_S128x512_0_0).toLoadRect) (by decide) (Gen.kernelRun0_A.sl.v411 (F := Ideal) c arg7 harg7 arg8 harg8 arg9 harg9 arg11 arg12 arg13 arg14 arg16 arg18 x5 x6 x7) = (Gen.kernelRun0_A.sl.v325 (F := Ideal) c arg7 harg7 arg8 harg8 arg9 harg9 arg11 arg12 arg13 arg14 arg16 arg18 x5 x6 x7) :=
  (rb_hit2 (r := Rect.unit (s := S128x1024) ![0, 0] S128x512.size inb_S128x1024_S128x512_0_0) _ _ _ _ _ _ _ _ _ _ _ (by decide)).trans (shapeCast_self _ _)

theorem S_1_1_0 : StT Q K V 0 512 (512 + 512) (Gen.kernelRun0_A.sl.v390 (F := Ideal) c arg7 harg7 arg8 harg8 arg11 arg13 arg14 arg15 arg16 x5 x6) (Gen.kernelRun0_A.sl.v403 (F := Ideal) c arg7 harg7 arg8 harg8 arg11 arg13 arg14 arg15 arg16 arg17 x5 x6) (Gen.kernelRun0_A.sl.v418 (F := Ideal) c arg7 harg7 arg8 harg8 arg9 harg9 arg11 arg12 arg13 arg14 arg15 arg16 arg18 x5 x6 x7) :=
  stepT' Q K V 0 512 512 (by norm_num) (LoadRect.valAlong (lr := (Rect.unit (s := S1x1024) ![0, 0] S1x512.size inb_S1x1024_S1x512_0_0).toLoadRect) (by decide) (Gen.kernelRun0_A.sl.v387 (F := Ideal) c arg7 harg7 arg8 harg8 arg11 arg13 arg14 arg16 x5 x6)) _ (LoadRect.valAlong (lr := (Rect.unit (s := S8x1024) ![0, 0] S8x512.size inb_S8x1024_S8x512_0_0).toLoadRect) (by decide) (Gen.kernelRun0_A.sl.v398 (F := Ideal) c arg7 harg7 arg8 harg8 arg11 arg13 arg14 arg16 arg17 x5 x6)) _ (LoadRect.valAlong (lr := (Rect.unit (s := S128x1024) ![0, 0] S128x512.size inb_S128x1024_S128x512_0_0).toLoadRect) (by decide) (Gen.kernelRun0_A.sl.v411 (F := Ideal) c arg7 harg7 arg8 harg8 arg9 harg9 arg11 arg12 arg13 arg14 arg16 arg18 x5 x6 x7)) _
    (Gen.kernelRun0_A.sl.v384 (F := Ideal) c arg7 harg7 arg8 harg8 arg11 arg13 arg15 x5 x6) (Gen.kernelRun0_A.sl.v415 (F := Ideal) c arg9 harg9 arg12 x7)
    (ldm_1_1_0 hx5 hx6 hx7) (ldl_1_1_0 hx5 hx6 hx7) (lda_1_1_0 hx5 hx6 hx7)
    (S_1_0_0 hx5 hx6 hx7) (stlo_1_1 hx5 hx6 hx7) (vt_1 hx5 hx6 hx7)

theorem hfhi_1_1 (a j : Fin 512) : (Gen.kernelRun0_A.sl.v429 (F := Ideal) c arg7 harg7 arg8 harg8 arg11 arg13 arg15 x5 x6) (ix2 a j) = (sg Q K 1 (512 + j.val) (512 + a.val) : EReal) :=
  ((half_hi (v := arg15.view) (shapeCast S512x1024 (Gen.kernelRun0_A.sl.v287 (F := Ideal) c arg7 harg7 arg8 harg8 arg11 arg13 x5 x6) shapeCasts_S512x1024_S512x1024) _ _ _ a j).trans (congrFun (shapeCast_self _ _) _)).trans (schi_1_1 hx5 hx6 hx7 a j)

theorem mkhi_1_1 (a j : Fin 512) : (Gen.kernelRun0_A.sl.v432 (F := Ideal) c arg7 harg7 arg8 harg8 arg11 arg13 arg15 x5 x6) (ix2 a j) = if a.val ≤ j.val then (Gen.kernelRun0_A.sl.v429 (F := Ideal) c arg7 harg7 arg8 harg8 arg11 arg13 arg15 x5 x6) (ix2 a j) else ⊥ :=
  masked_hi (Gen.kernelRun0_A.sl.v429 (F := Ideal) c arg7 harg7 arg8 harg8 arg11 arg13 arg15 x5 x6) a j

theorem sthi_1_1 (a j : Fin 512) : (Gen.kernelRun0_A.sl.v432 (F := Ideal) c arg7 harg7 arg8 harg8 arg11 arg13 arg15 x5 x6) (ix2 a j) = if 512 + a.val ≤ 512 + j.val then (sg Q K 1 (512 + j.val) (512 + a.val) : EReal) else ⊥ :=
  (mkhi_1_1 hx5 hx6 hx7 a j).trans (diag_st (sg Q K 1) 512 _ a j (hfhi_1_1 hx5 hx6 hx7 a j))

theorem ldm_1_1_1 : LoadRect.valAlong (lr := (Rect.unit (s := S1x1024) ![0, 512] S1x512.size inb_S1x1024_S1x512_0_512).toLoadRect) (by decide) (Gen.kernelRun0_A.sl.v435 (F := Ideal) c arg7 harg7 arg8 harg8 arg11 arg13 arg14 arg15 arg16 x5 x6) = (Gen.kernelRun0_A.sl.v342 (F := Ideal) c arg7 harg7 arg8 harg8 arg11 arg13 arg14 arg16 x5 x6) :=
  (rb_hit2 (r := Rect.unit (s := S1x1024) ![0, 512] S1x512.size inb_S1x1024_S1x512_0_512) _ _ _ _ _ _ _ _ _ _ _ (by decide)).trans (shapeCast_self _ _)

theorem ldl_1_1_1 : LoadRect.valAlong (lr := (Rect.unit (s := S8x1024) ![0, 512] S8x512.size inb_S8x1024_S8x512_0_512).toLoadRect) (by decide) (Gen.kernelRun0_A.sl.v446 (F := Ideal) c arg7 harg7 arg8 harg8 arg11 arg13 arg14 arg15 arg16 arg17 x5 x6) = (Gen.kernelRun0_A.sl.v355 (F := Ideal) c arg7 harg7 arg8 harg8 arg11 arg13 arg14 arg16 arg17 x5 x6) :=
  (rb_hit2 (r := Rect.unit (s := S8x1024) ![0, 512] S8x512.size inb_S8x1024_S8x512_0_512) _ _ _ _ _ _ _ _ _ _ _ (by decide)).trans (shapeCast_self _ _)

theorem lda_1_1_1 : LoadRect.valAlong (lr := (Rect.unit (s := S128x1024) ![0, 512] S128x512.size inb_S128x1024_S128x512_0_512).toLoadRect) (by decide) (Gen.kernelRun0_A.sl.v459 (F := Ideal) c arg7 harg7 arg8 harg8 arg9 harg9 arg11 arg12 arg13 arg14 arg15 arg16 arg18 x5 x6 x7) = (Gen.kernelRun0_A.sl.v370 (F := Ideal) c arg7 harg7 arg8 harg8 arg9 harg9 arg11 arg12 arg13 arg14 arg16 arg18 x5 x6 x7) :=
  (rb_hit2 (r := Rect.unit (s := S128x1024) ![0, 512] S128x512.size inb_S128x1024_S128x512_0_512) _ _ _ _ _ _ _ _ _ _ _ (by decide)).trans (shapeCast_self _ _)

theorem S_1_1_1 : StT Q K V 1 512 (512 + 512) (Gen.kernelRun0_A.sl.v438 (F := Ideal) c arg7 harg7 arg8 harg8 arg11 arg13 arg14 arg15 arg16 x5 x6) (Gen.kernelRun0_A.sl.v451 (F := Ideal) c arg7 harg7 arg8 harg8 arg11 arg13 arg14 arg15 arg16 arg17 x5 x6) (Gen.kernelRun0_A.sl.v466 (F := Ideal) c arg7 harg7 arg8 harg8 arg9 harg9 arg11 arg12 arg13 arg14 arg15 arg16 arg18 x5 x6 x7) :=
  stepT' Q K V 1 512 512 (by norm_num) (LoadRect.valAlong (lr := (Rect.unit (s := S1x1024) ![0, 512] S1x512.size inb_S1x1024_S1x512_0_512).toLoadRect) (by decide) (Gen.kernelRun0_A.sl.v435 (F := Ideal) c arg7 harg7 arg8 harg8 arg11 arg13 arg14 arg15 arg16 x5 x6)) _ (LoadRect.valAlong (lr := (Rect.unit (s := S8x1024) ![0, 512] S8x512.size inb_S8x1024_S8x512_0_512).toLoadRect) (by decide) (Gen.kernelRun0_A.sl.v446 (F := Ideal) c arg7 harg7 arg8 harg8 arg11 arg13 arg14 arg15 arg16 arg17 x5 x6)) _ (LoadRect.valAlong (lr := (Rect.unit (s := S128x1024) ![0, 512] S128x512.size inb_S128x1024_S128x512_0_512).toLoadRect) (by decide) (Gen.kernelRun0_A.sl.v459 (F := Ideal) c arg7 harg7 arg8 harg8 arg9 harg9 arg11 arg12 arg13 arg14 arg15 arg16 arg18 x5 x6 x7)) _
    (Gen.kernelRun0_A.sl.v432 (F := Ideal) c arg7 harg7 arg8 harg8 arg11 arg13 arg15 x5 x6) (Gen.kernelRun0_A.sl.v415 (F := Ideal) c arg9 harg9 arg12 x7)
    (ldm_1_1_1 hx5 hx6 hx7) (ldl_1_1_1 hx5 hx6 hx7) (lda_1_1_1 hx5 hx6 hx7)
    (S_1_0_1 hx5 hx6 hx7) (sthi_1_1 hx5 hx6 hx7) (vt_1 hx5 hx6 hx7)

theorem sclo_2_0 (a j : Fin 512) : (Gen.kernelRun0_A.sl.v550 (F := Ideal) c arg7 harg7 arg8 harg8 arg11 arg13 x5 x6) (ix2 a ⟨j.val, by omega⟩) = (sg Q K 0 (1024 + j.val) (0 + a.val) : EReal) :=
  score_at Q K 0 (1024 + j.val) (0 + a.val) _ _ a _ (fun e => kt_0 hx5 hx6 hx7 a e) (fun e => qlo_2 hx5 hx6 hx7 j e)

theorem schi_2_0 (a j : Fin 512) : (Gen.kernelRun0_A.sl.v550 (F := Ideal) c arg7 harg7 arg8 harg8 arg11 arg13 x5 x6) (ix2 a ⟨512 + j.val, by omega⟩) = (sg Q K 1 (1024 + j.val) (0 + a.val) : EReal) :=
  score_at Q K 1 (1024 + j.val) (0 + a.val) _ _ a _ (fun e => kt_0 hx5 hx6 hx7 a e) (fun e => qhi_2 hx5 hx6 hx7 j e)

theorem stlo_2_0 (a j : Fin 512) : (Gen.kernelRun0_A.sl.v561 (F := Ideal) c arg7 harg7 arg8 harg8 arg11 arg13 arg14 x5 x6) (ix2 a j) = if 0 + a.val ≤ 1024 + j.val then (sg Q K 0 (1024 + j.val) (0 + a.val) : EReal) else ⊥ :=
  (((half_lo (v := arg14.view) (shapeCast S512x1024 (Gen.kernelRun0_A.sl.v550 (F := Ideal) c arg7 harg7 arg8 harg8 arg11 arg13 x5 x6) shapeCasts_S512x1024_S512x1024) _ _ _ a j).trans (congrFun (shapeCast_self _ _) _)).trans (sclo_2_0 hx5 hx6 hx7 a j)).trans (if_pos (by omega)).symm

theorem ldm_2_0_0 : LoadRect.valAlong (lr := (Rect.unit (s := S1x1024) ![0, 0] S1x512.size inb_S1x1024_S1x512_0_0).toLoadRect) (by decide) (Gen.kernelRun0_A.sl.v564 (F := Ideal) c arg7 harg7 arg8 harg8 arg11 arg13 arg14 arg15 arg16 x5 x6) = (fun _ => (⊥ : EReal)) :=
  rb_fill (r := Rect.unit (s := S1x1024) ![0, 0] S1x512.size inb_S1x1024_S1x512_0_0) _ _ _ _ _ _ _ fill_m _

theorem ldl_2_0_0 : LoadRect.valAlong (lr := (Rect.unit (s := S8x1024) ![0, 0] S8x512.size inb_S8x1024_S8x512_0_0).toLoadRect) (by decide) (Gen.kernelRun0_A.sl.v575 (F := Ideal) c arg7 harg7 arg8 harg8 arg11 arg13 arg14 arg15 arg16 arg17 x5 x6) = (fun _ => (0 : EReal)) :=
  rb_fill (r := Rect.unit (s := S8x1024) ![0, 0] S8x512.size inb_S8x1024_S8x512_0_0) _ _ _ _ _ _ _ fill_l _

theorem lda_2_0_0 : LoadRect.valAlong (lr := (Rect.unit (s := S128x1024) ![0, 0] S128x512.size inb_S128x1024_S128x512_0_0).toLoadRect) (by decide) (Gen.kernelRun0_A.sl.v588 (F := Ideal) c arg7 harg7 arg8 harg8 arg9 harg9 arg11 arg12 arg13 arg14 arg15 arg16 arg18 x5 x6 x7) = (fun _ => (0 : EReal)) :=
  rb_fill (r := Rect.unit (s := S128x1024) ![0, 0] S128x512.size inb_S128x1024_S128x512_0_0) _ _ _ _ _ _ _ fill_a _

theorem S_2_0_0 : StT Q K V 0 1024 (0 + 512) (Gen.kernelRun0_A.sl.v567 (F := Ideal) c arg7 harg7 arg8 harg8 arg11 arg13 arg14 arg15 arg16 x5 x6) (Gen.kernelRun0_A.sl.v580 (F := Ideal) c arg7 harg7 arg8 harg8 arg11 arg13 arg14 arg15 arg16 arg17 x5 x6) (Gen.kernelRun0_A.sl.v595 (F := Ideal) c arg7 harg7 arg8 harg8 arg9 harg9 arg11 arg12 arg13 arg14 arg15 arg16 arg18 x5 x6 x7) :=
  stepT' Q K V 0 1024 0 (by norm_num) (LoadRect.valAlong (lr := (Rect.unit (s := S1x1024) ![0, 0] S1x512.size inb_S1x1024_S1x512_0_0).toLoadRect) (by decide) (Gen.kernelRun0_A.sl.v564 (F := Ideal) c arg7 harg7 arg8 harg8 arg11 arg13 arg14 arg15 arg16 x5 x6)) _ (LoadRect.valAlong (lr := (Rect.unit (s := S8x1024) ![0, 0] S8x512.size inb_S8x1024_S8x512_0_0).toLoadRect) (by decide) (Gen.kernelRun0_A.sl.v575 (F := Ideal) c arg7 harg7 arg8 harg8 arg11 arg13 arg14 arg15 arg16 arg17 x5 x6)) _ (LoadRect.valAlong (lr := (Rect.unit (s := S128x1024) ![0, 0] S128x512.size inb_S128x1024_S128x512_0_0).toLoadRect) (by decide) (Gen.kernelRun0_A.sl.v588 (F := Ideal) c arg7 harg7 arg8 harg8 arg9 harg9 arg11 arg12 arg13 arg14 arg15 arg16 arg18 x5 x6 x7)) _
    (Gen.kernelRun0_A.sl.v561 (F := Ideal) c arg7 harg7 arg8 harg8 arg11 arg13 arg14 x5 x6) (Gen.kernelRun0_A.sl.v145 (F := Ideal) c arg9 harg9 arg12 x7)
    (ldm_2_0_0 hx5 hx6 hx7) (ldl_2_0_0 hx5 hx6 hx7) (lda_2_0_0 hx5 hx6 hx7)
    (start_st Q K V 0 1024) (stlo_2_0 hx5 hx6 hx7) (vt_0 hx5 hx6 hx7)

theorem sthi_2_0 (a j : Fin 512) : (Gen.kernelRun0_A.sl.v606 (F := Ideal) c arg7 harg7 arg8 harg8 arg11 arg13 arg14 x5 x6) (ix2 a j) = if 0 + a.val ≤ 1024 + j.val then (sg Q K 1 (1024 + j.val) (0 + a.val) : EReal) else ⊥ :=
  (((half_hi (v := arg14.view) (shapeCast S512x1024 (Gen.kernelRun0_A.sl.v550 (F := Ideal) c arg7 harg7 arg8 harg8 arg11 arg13 x5 x6) shapeCasts_S512x1024_S512x1024) _ _ _ a j).trans (congrFun (shapeCast_self _ _) _)).trans (schi_2_0 hx5 hx6 hx7 a j)).trans (if_pos (by omega)).symm

theorem ldm_2_0_1 : LoadRect.valAlong (lr := (Rect.unit (s := S1x1024) ![0, 512] S1x512.size inb_S1x1024_S1x512_0_512).toLoadRect) (by decide) (Gen.kernelRun0_A.sl.v609 (F := Ideal) c arg7 harg7 arg8 harg8 arg11 arg13 arg14 arg15 arg16 x5 x6) = (fun _ => (⊥ : EReal)) :=
  rb_fill2 (r := Rect.unit (s := S1x1024) ![0, 512] S1x512.size inb_S1x1024_S1x512_0_512) _ _ _ _ _ _ _ _ _ fill_m _ (by decide)

theorem ldl_2_0_1 : LoadRect.valAlong (lr := (Rect.unit (s := S8x1024) ![0, 512] S8x512.size inb_S8x1024_S8x512_0_512).toLoadRect) (by decide) (Gen.kernelRun0_A.sl.v620 (F := Ideal) c arg7 harg7 arg8 harg8 arg11 arg13 arg14 arg15 arg16 arg17 x5 x6) = (fun _ => (0 : EReal)) :=
  rb_fill2 (r := Rect.unit (s := S8x1024) ![0, 512] S8x512.size inb_S8x1024_S8x512_0_512) _ _ _ _ _ _ _ _ _ fill_l _ (by decide)

theorem lda_2_0_1 : LoadRect.valAlong (lr := (Rect.unit (s := S128x1024) ![0, 512] S128x512.size inb_S128x1024_S128x512_0_512).toLoadRect) (by decide) (Gen.kernelRun0_A.sl.v633 (F := Ideal) c arg7 harg7 arg8 harg8 arg9 harg9 arg11 arg12 arg13 arg14 arg15 arg16 arg18 x5 x6 x7) = (fun _ => (0 : EReal)) :=
  rb_fill2 (r := Rect.unit (s := S128x1024) ![0, 512] S128x512.size inb_S128x1024_S128x512_0_512) _ _ _ _ _ _ _ _ _ fill_a _ (by decide)

theorem S_2_0_1 : StT Q K V 1 1024 (0 + 512) (Gen.kernelRun0_A.sl.v612 (F := Ideal) c arg7 harg7 arg8 harg8 arg11 arg13 arg14 arg15 arg16 x5 x6) (Gen.kernelRun0_A.sl.v625 (F := Ideal) c arg7 harg7 arg8 harg8 arg11 arg13 arg14 arg15 arg16 arg17 x5 x6) (Gen.kernelRun0_A.sl.v640 (F := Ideal) c arg7 harg7 arg8 harg8 arg9 harg9 arg11 arg12 arg13 arg14 arg15 arg16 arg18 x5 x6 x7) :=
  stepT' Q K V 1 1024 0 (by norm_num) (LoadRect.valAlong (lr := (Rect.unit (s := S1x1024) ![0, 512] S1x512.size inb_S1x1024_S1x512_0_512).toLoadRect) (by decide) (Gen.kernelRun0_A.sl.v609 (F := Ideal) c arg7 harg7 arg8 harg8 arg11 arg13 arg14 arg15 arg16 x5 x6)) _ (LoadRect.valAlong (lr := (Rect.unit (s := S8x1024) ![0, 512] S8x512.size inb_S8x1024_S8x512_0_512).toLoadRect) (by decide) (Gen.kernelRun0_A.sl.v620 (F := Ideal) c arg7 harg7 arg8 harg8 arg11 arg13 arg14 arg15 arg16 arg17 x5 x6)) _ (LoadRect.valAlong (lr := (Rect.unit (s := S128x1024) ![0, 512] S128x512.size inb_S128x1024_S128x512_0_512).toLoadRect) (by decide) (Gen.kernelRun0_A.sl.v633 (F := Ideal) c arg7 harg7 arg8 harg8 arg9 harg9 arg11 arg12 arg13 arg14 arg15 arg16 arg18 x5 x6 x7)) _
    (Gen.kernelRun0_A.sl.v606 (F := Ideal) c arg7 harg7 arg8 harg8 arg11 arg13 arg14 x5 x6) (Gen.kernelRun0_A.sl.v145 (F := Ideal) c arg9 harg9 arg12 x7)
    (ldm_2_0_1 hx5 hx6 hx7) (ldl_2_0_1 hx5 hx6 hx7) (lda_2_0_1 hx5 hx6 hx7)
    (start_st Q K V 1 1024) (sthi_2_0 hx5 hx6 hx7) (vt_0 hx5 hx6 hx7)

theorem sclo_2_1 (a j : Fin 512) : (Gen.kernelRun0_A.sl.v557 (F := Ideal) c arg7 harg7 arg8 harg8 arg11 arg13 x5 x6) (ix2 a ⟨j.val, by omega⟩) = (sg Q K 0 (1024 + j.val) (512 + a.val) : EReal) :=
  score_at Q K 0 (1024 + j.val) (512 + a.val) _ _ a _ (fun e => kt_1 hx5 hx6 hx7 a e) (fun e => qlo_2 hx5 hx6 hx7 j e)

theorem schi_2_1 (a j : Fin 512) : (Gen.kernelRun0_A.sl.v557 (F := Ideal) c arg7 harg7 arg8 harg8 arg11 arg13 x5 x6) (ix2 a ⟨512 + j.val, by omega⟩) = (sg Q K 1 (1024 + j.val) (512 + a.val) : EReal) :=
  score_at Q K 1 (1024 + j.val) (512 + a.val) _ _ a _ (fun e => kt_1 hx5 hx6 hx7 a e) (fun e => qhi_2 hx5 hx6 hx7 j e)

theorem stlo_2_1 (a j : Fin 512) : (Gen.kernelRun0_A.sl.v658 (F := Ideal) c arg7 harg7 arg8 harg8 arg11 arg13 arg15 x5 x6) (ix2 a j) = if 512 + a.val ≤ 1024 + j.val then (sg Q K 0 (1024 + j.val) (512 + a.val) : EReal) else ⊥ :=
  (((half_lo (v := arg15.view) (shapeCast S512x1024 (Gen.kernelRun0_A.sl.v557 (F := Ideal) c arg7 harg7 arg8 harg8 arg11 arg13 x5 x6) shapeCasts_S512x1024_S512x1024) _ _ _ a j).trans (congrFun (shapeCast_self _ _) _)).trans (sclo_2_1 hx5 hx6 hx7 a j)).trans (if_pos (by omega)).symm

theorem ldm_2_1_0 : LoadRect.valAlong (lr := (Rect.unit (s := S1x1024) ![0, 0] S1x512.size inb_S1x1024_S1x512_0_0).toLoadRect) (by decide) (Gen.kernelRun0_A.sl.v661 (F := Ideal) c arg7 harg7 arg8 harg8 arg11 arg13 arg14 arg15 arg16 x5 x6) = (Gen.kernelRun0_A.sl.v567 (F := Ideal) c arg7 harg7 arg8 harg8 arg11 arg13 arg14 arg15 arg16 x5 x6) :=
  (rb_hit2 (r := Rect.unit (s := S1x1024) ![0, 0] S1x512.size inb_S1x1024_S1x512_0_0) _ _ _ _ _ _ _ _ _ _ _ (by decide)).trans (shapeCast_self _ _)

theorem ldl_2_1_0 : LoadRect.valAlong (lr := (Rect.unit (s := S8x1024) ![0, 0] S8x512.size inb_S8x1024_S8x512_0_0).toLoadRect) (by decide) (Gen.kernelRun0_A.sl.v672 (F := Ideal) c arg7 harg7 arg8 harg8 arg11 arg13 arg14 arg15 arg16 arg17 x5 x6) = (Gen.kernelRun0_A.sl.v580 (F := Ideal) c arg7 harg7 arg8 harg8 arg11 arg13 arg14 arg15 arg16 arg17 x5 x6) :=
  (rb_hit2 (r := Rect.unit (s := S8x1024) ![0, 0] S8x512.size inb_S8x1024_S8x512_0_0) _ _ _ _ _ _ _ _ _ _ _ (by decide)).trans (shapeCast_self _ _)

theorem lda_2_1_0 : LoadRect.valAlong (lr := (Rect.unit (s := S128x1024) ![0, 0] S128x512.size inb_S128x1024_S128x512_0_0).toLoadRect) (by decide) (Gen.kernelRun0_A.sl.v685 (F := Ideal) c arg7 harg7 arg8 harg8 arg9 harg9 arg11 arg12 arg13 arg14 arg15 arg16 arg18 x5 x6 x7) = (Gen.kernelRun0_A.sl.v595 (F := Ideal) c arg7 harg7 arg8 harg8 arg9 harg9 arg11 arg12 arg13 arg14 arg15 arg16 arg18 x5 x6 x7) :=
  (rb_hit2 (r := Rect.unit (s := S128x1024) ![0, 0] S128x512.size inb_S128x1024_S128x512_0_0) _ _ _ _ _ _ _ _ _ _ _ (by decide)).trans (shapeCast_self _ _)

theorem S_2_1_0 : StT Q K V 0 1024 (512 + 512) (Gen.kernelRun0_A.sl.v664 (F := Ideal) c arg7 harg7 arg8 harg8 arg11 arg13 arg14 arg15 arg16 x5 x6) (Gen.kernelRun0_A.sl.v677 (F := Ideal) c arg7 harg7 arg8 harg8 arg11 arg13 arg14 arg15 arg16 arg17 x5 x6) (Gen.kernelRun0_A.sl.v692 (F := Ideal) c arg7 harg7 arg8 harg8 arg9 harg9 arg11 arg12 arg13 arg14 arg15 arg16 arg18 x5 x6 x7) :=
  stepT' Q K V 0 1024 512 (by norm_num) (LoadRect.valAlong (lr := (Rect.unit (s := S1x1024) ![0, 0] S1x512.size inb_S1x1024_S1x512_0_0).toLoadRect) (by decide) (Gen.kernelRun0_A.sl.v661 (F := Ideal) c arg7 harg7 arg8 harg8 arg11 arg13 arg14 arg15 arg16 x5 x6)) _ (LoadRect.valAlong (lr := (Rect.unit (s := S8x1024) ![0, 0] S8x512.size inb_S8x1024_S8x512_0_0).toLoadRect) (by decide) (Gen.kernelRun0_A.sl.v672 (F := Ideal) c arg7 harg7 arg8 harg8 arg11 arg13 arg14 arg15 arg16 arg17 x5 x6)) _ (LoadRect.valAlong (lr := (Rect.unit (s := S128x1024) ![0, 0] S128x512.size inb_S128x1024_S128x512_0_0).toLoadRect) (by decide) (Gen.kernelRun0_A.sl.v685 (F := Ideal) c arg7 harg7 arg8 harg8 arg9 harg9 arg11 arg12 arg13 arg14 arg15 arg16 arg18 x5 x6 x7)) _
    (Gen.kernelRun0_A.sl.v658 (F := Ideal) c arg7 harg7 arg8 harg8 arg11 arg13 arg15 x5 x6) (Gen.kernelRun0_A.sl.v415 (F := Ideal) c arg9 harg9 arg12 x7)
    (ldm_2_1_0 hx5 hx6 hx7) (ldl_2_1_0 hx5 hx6 hx7) (lda_2_1_0 hx5 hx6 hx7)
    (S_2_0_0 hx5 hx6 hx7) (stlo_2_1 hx5 hx6 hx7) (vt_1 hx5 hx6 hx7)

theorem sthi_2_1 (a j : Fin 512) : (Gen.kernelRun0_A.sl.v703 (F := Ideal) c arg7 harg7 arg8 harg8 arg11 arg13 arg15 x5 x6) (ix2 a j) = if 512 + a.val ≤ 1024 + j.val then (sg Q K 1 (1024 + j.val) (512 + a.val) : EReal) else ⊥ :=
  (((half_hi (v := arg15.view) (shapeCast S512x1024 (Gen.kernelRun0_A.sl.v557 (F := Ideal) c arg7 harg7 arg8 harg8 arg11 arg13 x5 x6) shapeCasts_S512x1024_S512x1024) _ _ _ a j).trans (congrFun (shapeCast_self _ _) _)).trans (schi_2_1 hx5 hx6 hx7 a j)).trans (if_pos (by omega)).symm

theorem ldm_2_1_1 : LoadRect.valAlong (lr := (Rect.unit (s := S1x1024) ![0, 512] S1x512.size inb_S1x1024_S1x512_0_512).toLoadRect) (by decide) (Gen.kernelRun0_A.sl.v706 (F := Ideal) c arg7 harg7 arg8 harg8 arg11 arg13 arg14 arg15 arg16 x5 x6) = (Gen.kernelRun0_A.sl.v612 (F := Ideal) c arg7 harg7 arg8 harg8 arg11 arg13 arg14 arg15 arg16 x5 x6) :=
  (rb_hit2 (r := Rect.unit (s := S1x1024) ![0, 512] S1x512.size inb_S1x1024_S1x512_0_512) _ _ _ _ _ _ _ _ _ _ _ (by decide)).trans (shapeCast_self _ _)

theorem ldl_2_1_1 : LoadRect.valAlong (lr := (Rect.unit (s := S8x1024) ![0, 512] S8x512.size inb_S8x1024_S8x512_0_512).toLoadRect) (by decide) (Gen.kernelRun0_A.sl.v717 (F := Ideal) c arg7 harg7 arg8 harg8 arg11 arg13 arg14 arg15 arg16 arg17 x5 x6) = (Gen.kernelRun0_A.sl.v625 (F := Ideal) c arg7 harg7 arg8 harg8 arg11 arg13 arg14 arg15 arg16 arg17 x5 x6) :=
  (rb_hit2 (r := Rect.unit (s := S8x1024) ![0, 512] S8x512.size inb_S8x1024_S8x512_0_512) _ _ _ _ _ _ _ _ _ _ _ (by decide)).trans (shapeCast_self _ _)

theorem lda_2_1_1 : LoadRect.valAlong (lr := (Rect.unit (s := S128x1024) ![0, 512] S128x512.size inb_S128x1024_S128x512_0_512).toLoadRect) (by decide) (Gen.kernelRun0_A.sl.v730 (F := Ideal) c arg7 harg7 arg8 harg8 arg9 harg9 arg11 arg12 arg13 arg14 arg15 arg16 arg18 x5 x6 x7) = (Gen.kernelRun0_A.sl.v640 (F := Ideal) c arg7 harg7 arg8 harg8 arg9 harg9 arg11 arg12 arg13 arg14 arg15 arg16 arg18 x5 x6 x7) :=
  (rb_hit2 (r := Rect.unit (s := S128x1024) ![0, 512] S128x512.size inb_S128x1024_S128x512_0_512) _ _ _ _ _ _ _ _ _ _ _ (by decide)).trans (shapeCast_self _ _)

theorem S_2_1_1 : StT Q K V 1 1024 (512 + 512) (Gen.kernelRun0_A.sl.v709 (F := Ideal) c arg7 harg7 arg8 harg8 arg11 arg13 arg14 arg15 arg16 x5 x6) (Gen.kernelRun0_A.sl.v722 (F := Ideal) c arg7 harg7 arg8 harg8 arg11 arg13 arg14 arg15 arg16 arg17 x5 x6) (Gen.kernelRun0_A.sl.v737 (F := Ideal) c arg7 harg7 arg8 harg8 arg9 harg9 arg11 arg12 arg13 arg14 arg15 arg16 arg18 x5 x6 x7) :=
  stepT' Q K V 1 1024 512 (by norm_num) (LoadRect.valAlong (lr := (Rect.unit (s := S1x1024) ![0, 512] S1x512.size inb_S1x1024_S1x512_0_512).toLoadRect) (by decide) (Gen.kernelRun0_A.sl.v706 (F := Ideal) c arg7 harg7 arg8 harg8 arg11 arg13 arg14 arg15 arg16 x5 x6)) _ (LoadRect.valAlong (lr := (Rect.unit (s := S8x1024) ![0, 512] S8x512.size inb_S8x1024_S8x512_0_512).toLoadRect) (by decide) (Gen.kernelRun0_A.sl.v717 (F := Ideal) c arg7 harg7 arg8 harg8 arg11 arg13 arg14 arg15 arg16 arg17 x5 x6)) _ (LoadRect.valAlong (lr := (Rect.unit (s := S128x1024) ![0, 512] S128x512.size inb_S128x1024_S128x512_0_512).toLoadRect) (by decide) (Gen.kernelRun0_A.sl.v730 (F := Ideal) c arg7 harg7 arg8 harg8 arg9 harg9 arg11 arg12 arg13 arg14 arg15 arg16 arg18 x5 x6 x7)) _
    (Gen.kernelRun0_A.sl.v703 (F := Ideal) c arg7 harg7 arg8 harg8 arg11 arg13 arg15 x5 x6) (Gen.kernelRun0_A.sl.v415 (F := Ideal) c arg9 harg9 arg12 x7)
    (ldm_2_1_1 hx5 hx6 hx7) (ldl_2_1_1 hx5 hx6 hx7) (lda_2_1_1 hx5 hx6 hx7)
    (S_2_0_1 hx5 hx6 hx7) (sthi_2_1 hx5 hx6 hx7) (vt_1 hx5 hx6 hx7)

theorem sclo_2_2 (a j : Fin 512) : (Gen.kernelRun0_A.sl.v654 (F := Ideal) c arg7 harg7 arg8 harg8 arg11 arg13 x5 x6) (ix2 a ⟨j.val, by omega⟩) = (sg Q K 0 (1024 + j.val) (1024 + a.val) : EReal) :=
  score_at Q K 0 (1024 + j.val) (1024 + a.val) _ _ a _ (fun e => kt_2 hx5 hx6 hx7 a e) (fun e => qlo_2 hx5 hx6 hx7 j e)

theorem schi_2_2 (a j : Fin 512) : (Gen.kernelRun0_A.sl.v654 (F := Ideal) c arg7 harg7 arg8 harg8 arg11 arg13 x5 x6) (ix2 a ⟨512 + j.val, by omega⟩) = (sg Q K 1 (1024 + j.val) (1024 + a.val) : EReal) :=
  score_at Q K 1 (1024 + j.val) (1024 + a.val) _ _ a _ (fun e => kt_2 hx5 hx6 hx7 a e) (fun e => qhi_2 hx5 hx6 hx7 j e)

theorem hflo_2_2 (a j : Fin 512) : (Gen.kernelRun0_A.sl.v748 (F := Ideal) c arg7 harg7 arg8 harg8 arg11 arg13 arg14 x5 x6) (ix2 a j) = (sg Q K 0 (1024 + j.val) (1024 + a.val) : EReal) :=
  ((half_lo (v := arg14.view) (shapeCast S512x1024 (Gen.kernelRun0_A.sl.v654 (F := Ideal) c arg7 harg7 arg8 harg8 arg11 arg13 x5 x6) shapeCasts_S512x1024_S512x1024) _ _ _ a j).trans (congrFun (shapeCast_self _ _) _)).trans (sclo_2_2 hx5 hx6 hx7 a j)

theorem mklo_2_2 (a j : Fin 512) : (Gen.kernelRun0_A.sl.v751 (F := Ideal) c arg7 harg7 arg8 harg8 arg11 arg13 arg14 x5 x6) (ix2 a j) = if a.val ≤ j.val then (Gen.kernelRun0_A.sl.v748 (F := Ideal) c arg7 harg7 arg8 harg8 arg11 arg13 arg14 x5 x6) (ix2 a j) else ⊥ :=
  masked_lo (Gen.kernelRun0_A.sl.v748 (F := Ideal) c arg7 harg7 arg8 harg8 arg11 arg13 arg14 x5 x6) a j

theorem stlo_2_2 (a j : Fin 512) : (Gen.kernelRun0_A.sl.v751 (F := Ideal) c arg7 harg7 arg8 harg8 arg11 arg13 arg14 x5 x6) (ix2 a j) = if 1024 + a.val ≤ 1024 + j.val then (sg Q K 0 (1024 + j.val) (1024 + a.val) : EReal) else ⊥ :=
  (mklo_2_2 hx5 hx6 hx7 a j).trans (diag_st (sg Q K 0) 1024 _ a j (hflo_2_2 hx5 hx6 hx7 a j))

theorem ldm_2_2_0 : LoadRect.valAlong (lr := (Rect.unit (s := S1x1024) ![0, 0] S1x512.size inb_S1x1024_S1x512_0_0).toLoadRect) (by decide) (Gen.kernelRun0_A.sl.v754 (F := Ideal) c arg7 harg7 arg8 harg8 arg11 arg13 arg14 arg15 arg16 x5 x6) = (Gen.kernelRun0_A.sl.v664 (F := Ideal) c arg7 harg7 arg8 harg8 arg11 arg13 arg14 arg15 arg16 x5 x6) :=
  (rb_hit2 (r := Rect.unit (s := S1x1024) ![0, 0] S1x512.size inb_S1x1024_S1x512_0_0) _ _ _ _ _ _ _ _ _ _ _ (by decide)).trans (shapeCast_self _ _)

theorem ldl_2_2_0 : LoadRect.valAlong (lr := (Rect.unit (s := S8x1024) ![0, 0] S8x512.size inb_S8x1024_S8x512_0_0).toLoadRect) (by decide) (Gen.kernelRun0_A.sl.v765 (F := Ideal) c arg7 harg7 arg8 harg8 arg11 arg13 arg14 arg15 arg16 arg17 x5 x6) = (Gen.kernelRun0_A.sl.v677 (F := Ideal) c arg7 harg7 arg8 harg8 arg11 arg13 arg14 arg15 arg16 arg17 x5 x6) :=
  (rb_hit2 (r := Rect.unit (s := S8x1024) ![0, 0] S8x512.size inb_S8x1024_S8x512_0_0) _ _ _ _ _ _ _ _ _ _ _ (by decide)).trans (shapeCast_self _ _)

theorem lda_2_2_0 : LoadRect.valAlong (lr := (Rect.unit (s := S128x1024) ![0, 0] S128x512.size inb_S128x1024_S128x512_0_0).toLoadRect) (by decide) (Gen.kernelRun0_A.sl.v778 (F := Ideal) c arg7 harg7 arg8 harg8 arg9 harg9 arg11 arg12 arg13 arg14 arg15 arg16 arg18 x5 x6 x7) = (Gen.kernelRun0_A.sl.v692 (F := Ideal) c arg7 harg7 arg8 harg8 arg9 harg9 arg11 arg12 arg13 arg14 arg15 arg16 arg18 x5 x6 x7) :=
  (rb_hit2 (r := Rect.unit (s := S128x1024) ![0, 0] S128x512.size inb_S128x1024_S128x512_0_0) _ _ _ _ _ _ _ _ _ _ _ (by decide)).trans (shapeCast_self _ _)

theorem S_2_2_0 : StT Q K V 0 1024 (1024 + 512) (Gen.kernelRun0_A.sl.v757 (F := Ideal) c arg7 harg7 arg8 harg8 arg11 arg13 arg14 arg15 arg16 x5 x6) (Gen.kernelRun0_A.sl.v770 (F := Ideal) c arg7 harg7 arg8 harg8 arg11 arg13 arg14 arg15 arg16 arg17 x5 x6) (Gen.kernelRun0_A.sl.v785 (F := Ideal) c arg7 harg7 arg8 harg8 arg9 harg9 arg11 arg12 arg13 arg14 arg15 arg16 arg18 x5 x6 x7) :=
  stepT' Q K V 0 1024 1024 (by norm_num) (LoadRect.valAlong (lr := (Rect.unit (s := S1x1024) ![0, 0] S1x512.size inb_S1x1024_S1x512_0_0).toLoadRect) (by decide) (Gen.kernelRun0_A.sl.v754 (F := Ideal) c arg7 harg7 arg8 harg8 arg11 arg13 arg14 arg15 arg16 x5 x6)) _ (LoadRect.valAlong (lr := (Rect.unit (s := S8x1024) ![0, 0] S8x512.size inb_S8x1024_S8x512_0_0).toLoadRect) (by decide) (Gen.kernelRun0_A.sl.v765 (F := Ideal) c arg7 harg7 arg8 harg8 arg11 arg13 arg14 arg15 arg16 arg17 x5 x6)) _ (LoadRect.valAlong (lr := (Rect.unit (s := S128x1024) ![0, 0] S128x512.size inb_S128x1024_S128x512_0_0).toLoadRect) (by decide) (Gen.kernelRun0_A.sl.v778 (F := Ideal) c arg7 harg7 arg8 harg8 arg9 harg9 arg11 arg12 arg13 arg14 arg15 arg16 arg18 x5 x6 x7)) _
    (Gen.kernelRun0_A.sl.v751 (F := Ideal) c arg7 harg7 arg8 harg8 arg11 arg13 arg14 x5 x6) (Gen.kernelRun0_A.sl.v782 (F := Ideal) c arg9 harg9 arg12 x7)
    (ldm_2_2_0 hx5 hx6 hx7) (ldl_2_2_0 hx5 hx6 hx7) (lda_2_2_0 hx5 hx6 hx7)
    (S_2_1_0 hx5 hx6 hx7) (stlo_2_2 hx5 hx6 hx7) (vt_2 hx5 hx6 hx7)

theorem hfhi_2_2 (a j : Fin 512) : (Gen.kernelRun0_A.sl.v (F := Ideal) c arg7 harg7 arg8 harg8 arg11 arg13 arg14 x5 x6) (ix2 a j) = (sg Q K 1 (1024 + j.val) (1024 + a.val) : EReal) :=
  ((half_hi (v := arg14.view) (shapeCast S512x1024 (Gen.kernelRun0_A.sl.v654 (F := Ideal) c arg7 harg7 arg8 harg8 arg11 arg13 x5 x6) shapeCasts_S512x1024_S512x1024) _ _ _ a j).trans (congrFun (shapeCast_self _ _) _)).trans (schi_2_2 hx5 hx6 hx7 a j)

theorem mkhi_2_2 (a j : Fin 512) : (Gen.kernelRun0_A.sl.v799 (F := Ideal) c arg7 harg7 arg8 harg8 arg11 arg13 arg14 x5 x6) (ix2 a j) = if a.val ≤ j.val then (Gen.kernelRun0_A.sl.v (F := Ideal) c arg7 harg7 arg8 harg8 arg11 arg13 arg14 x5 x6) (ix2 a j) else ⊥ :=
  masked_hi (Gen.kernelRun0_A.sl.v (F := Ideal) c arg7 harg7 arg8 harg8 arg11 arg13 arg14 x5 x6) a j

theorem sthi_2_2 (a j : Fin 512) : (Gen.kernelRun0_A.sl.v799 (F := Ideal) c arg7 harg7 arg8 harg8 arg11 arg13 arg14 x5 x6) (ix2 a j) = if 1024 + a.val ≤ 1024 + j.val then (sg Q K 1 (1024 + j.val) (1024 + a.val) : EReal) else ⊥ :=
  (mkhi_2_2 hx5 hx6 hx7 a j).trans (diag_st (sg Q K 1) 1024 _ a j (hfhi_2_2 hx5 hx6 hx7 a j))

theorem ldm_2_2_1 : LoadRect.valAlong (lr := (Rect.unit (s := S1x1024) ![0, 512] S1x512.size inb_S1x1024_S1x512_0_512).toLoadRect) (by decide) (Gen.kernelRun0_A.sl.v802 (F := Ideal) c arg7 harg7 arg8 harg8 arg11 arg13 arg14 arg15 arg16 x5 x6) = (Gen.kernelRun0_A.sl.v709 (F := Ideal) c arg7 harg7 arg8 harg8 arg11 arg13 arg14 arg15 arg16 x5 x6) :=
  (rb_hit2 (r := Rect.unit (s := S1x1024) ![0, 512] S1x512.size inb_S1x1024_S1x512_0_512) _ _ _ _ _ _ _ _ _ _ _ (by decide)).trans (shapeCast_self _ _)

theorem ldl_2_2_1 : LoadRect.valAlong (lr := (Rect.unit (s := S8x1024) ![0, 512] S8x512.size inb_S8x1024_S8x512_0_512).toLoadRect) (by decide) (Gen.kernelRun0_A.sl.v813 (F := Ideal) c arg7 harg7 arg8 harg8 arg11 arg13 arg14 arg15 arg16 arg17 x5 x6) = (Gen.kernelRun0_A.sl.v722 (F := Ideal) c arg7 harg7 arg8 harg8 arg11 arg13 arg14 arg15 arg16 arg17 x5 x6) :=
  (rb_hit2 (r := Rect.unit (s := S8x1024) ![0, 512] S8x512.size inb_S8x1024_S8x512_0_512) _ _ _ _ _ _ _ _ _ _ _ (by decide)).trans (shapeCast_self _ _)

theorem lda_2_2_1 : LoadRect.valAlong (lr := (Rect.unit (s := S128x1024) ![0, 512] S128x512.size inb_S128x1024_S128x512_0_512).toLoadRect) (by decide) (Gen.kernelRun0_A.sl.v826 (F := Ideal) c arg7 harg7 arg8 harg8 arg9 harg9 arg11 arg12 arg13 arg14 arg15 arg16 arg18 x5 x6 x7) = (Gen.kernelRun0_A.sl.v737 (F := Ideal) c arg7 harg7 arg8 harg8 arg9 harg9 arg11 arg12 arg13 arg14 arg15 arg16 arg18 x5 x6 x7) :=
  (rb_hit2 (r := Rect.unit (s := S128x1024) ![0, 512] S128x512.size inb_S128x1024_S128x512_0_512) _ _ _ _ _ _ _ _ _ _ _ (by decide)).trans (shapeCast_self _ _)

theorem S_2_2_1 : StT Q K V 1 1024 (1024 + 512) (Gen.kernelRun0_A.sl.v805 (F := Ideal) c arg7 harg7 arg8 harg8 arg11 arg13 arg14 arg15 arg16 x5 x6) (Gen.kernelRun0_A.sl.v818 (F := Ideal) c arg7 harg7 arg8 harg8 arg11 arg13 arg14 arg15 arg16 arg17 x5 x6) (Gen.kernelRun0_A.sl.v833 (F := Ideal) c arg7 harg7 arg8 harg8 arg9 harg9 arg11 arg12 arg13 arg14 arg15 arg16 arg18 x5 x6 x7) :=
  stepT' Q K V 1 1024 1024 (by norm_num) (LoadRect.valAlong (lr := (Rect.unit (s := S1x1024) ![0, 512] S1x512.size inb_S1x1024_S1x512_0_512).toLoadRect) (by decide) (Gen.kernelRun0_A.sl.v802 (F := Ideal) c arg7 harg7 arg8 harg8 arg11 arg13 arg14 arg15 arg16 x5 x6)) _ (LoadRect.valAlong (lr := (Rect.unit (s := S8x1024) ![0, 512] S8x512.size inb_S8x1024_S8x512_0_512).toLoadRect) (by decide) (Gen.kernelRun0_A.sl.v813 (F := Ideal) c arg7 harg7 arg8 harg8 arg11 arg13 arg14 arg15 arg16 arg17 x5 x6)) _ (LoadRect.valAlong (lr := (Rect.unit (s := S128x1024) ![0, 512] S128x512.size inb_S128x1024_S128x512_0_512).toLoadRect) (by decide) (Gen.kernelRun0_A.sl.v826 (F := Ideal) c arg7 harg7 arg8 harg8 arg9 harg9 arg11 arg12 arg13 arg14 arg15 arg16 arg18 x5 x6 x7)) _
    (Gen.kernelRun0_A.sl.v799 (F := Ideal) c arg7 harg7 arg8 harg8 arg11 arg13 arg14 x5 x6) (Gen.kernelRun0_A.sl.v782 (F := Ideal) c arg9 harg9 arg12 x7)
    (ldm_2_2_1 hx5 hx6 hx7) (ldl_2_2_1 hx5 hx6 hx7) (lda_2_2_1 hx5 hx6 hx7)
    (S_2_1_1 hx5 hx6 hx7) (sthi_2_2 hx5 hx6 hx7) (vt_2 hx5 hx6 hx7)

theorem sclo_3_0 (a j : Fin 512) : (Gen.kernelRun0_A.sl.v917 (F := Ideal) c arg7 harg7 arg8 harg8 arg11 arg13 x5 x6) (ix2 a ⟨j.val, by omega⟩) = (sg Q K 0 (1536 + j.val) (0 + a.val) : EReal) :=
  score_at Q K 0 (1536 + j.val) (0 + a.val) _ _ a _ (fun e => kt_0 hx5 hx6 hx7 a e) (fun e => qlo_3 hx5 hx6 hx7 j e)

theorem schi_3_0 (a j : Fin 512) : (Gen.kernelRun0_A.sl.v917 (F := Ideal) c arg7 harg7 arg8 harg8 arg11 arg13 x5 x6) (ix2 a ⟨512 + j.val, by omega⟩) = (sg Q K 1 (1536 + j.val) (0 + a.val) : EReal) :=
  score_at Q K 1 (1536 + j.val) (0 + a.val) _ _ a _ (fun e => kt_0 hx5 hx6 hx7 a e) (fun e => qhi_3 hx5 hx6 hx7 j e)

theorem stlo_3_0 (a j : Fin 512) : (Gen.kernelRun0_A.sl.v928 (F := Ideal) c arg7 harg7 arg8 harg8 arg11 arg13 arg14 x5 x6) (ix2 a j) = if 0 + a.val ≤ 1536 + j.val then (sg Q K 0 (1536 + j.val) (0 + a.val) : EReal) else ⊥ :=
  (((half_lo (v := arg14.view) (shapeCast S512x1024 (Gen.kernelRun0_A.sl.v917 (F := Ideal) c arg7 harg7 arg8 harg8 arg11 arg13 x5 x6) shapeCasts_S512x1024_S512x1024) _ _ _ a j).trans (congrFun (shapeCast_self _ _) _)).trans (sclo_3_0 hx5 hx6 hx7 a j)).trans (if_pos (by omega)).symm

theorem ldm_3_0_0 : LoadRect.valAlong (lr := (Rect.unit (s := S1x1024) ![0, 0] S1x512.size inb_S1x1024_S1x512_0_0).toLoadRect) (by decide) (Gen.kernelRun0_A.sl.v931 (F := Ideal) c arg7 harg7 arg8 harg8 arg11 arg13 arg14 arg15 arg16 x5 x6) = (fun _ => (⊥ : EReal)) :=
  rb_fill (r := Rect.unit (s := S1x1024) ![0, 0] S1x512.size inb_S1x1024_S1x512_0_0) _ _ _ _ _ _ _ fill_m _

theorem ldl_3_0_0 : LoadRect.valAlong (lr := (Rect.unit (s := S8x1024) ![0, 0] S8x512.size inb_S8x1024_S8x512_0_0).toLoadRect) (by decide) (Gen.kernelRun0_A.sl.v942 (F := Ideal) c arg7 harg7 arg8 harg8 arg11 arg13 arg14 arg15 arg16 arg17 x5 x6) = (fun _ => (0 : EReal)) :=
  rb_fill (r := Rect.unit (s := S8x1024) ![0, 0] S8x512.size inb_S8x1024_S8x512_0_0) _ _ _ _ _ _ _ fill_l _

theorem lda_3_0_0 : LoadRect.valAlong (lr := (Rect.unit (s := S128x1024) ![0, 0] S128x512.size inb_S128x1024_S128x512_0_0).toLoadRect) (by decide) (Gen.kernelRun0_A.sl.v955 (F := Ideal) c arg7 harg7 arg8 harg8 arg9 harg9 arg11 arg12 arg13 arg14 arg15 arg16 arg18 x5 x6 x7) = (fun _ => (0 : EReal)) :=
  rb_fill (r := Rect.unit (s := S128x1024) ![0, 0] S128x512.size inb_S128x1024_S128x512_0_0) _ _ _ _ _ _ _ fill_a _

theorem S_3_0_0 : StT Q K V 0 1536 (0 + 512) (Gen.kernelRun0_A.sl.v934 (F := Ideal) c arg7 harg7 arg8 harg8 arg11 arg13 arg14 arg15 arg16 x5 x6) (Gen.kernelRun0_A.sl.v947 (F := Ideal) c arg7 harg7 arg8 harg8 arg11 arg13 arg14 arg15 arg16 arg17 x5 x6) (Gen.kernelRun0_A.sl.v962 (F := Ideal) c arg7 harg7 arg8 harg8 arg9 harg9 arg11 arg12 arg13 arg14 arg15 arg16 arg18 x5 x6 x7) :=
  stepT' Q K V 0 1536 0 (by norm_num) (LoadRect.valAlong (lr := (Rect.unit (s := S1x1024) ![0, 0] S1x512.size inb_S1x1024_S1x512_0_0).toLoadRect) (by decide) (Gen.kernelRun0_A.sl.v931 (F := Ideal) c arg7 harg7 arg8 harg8 arg11 arg13 arg14 arg15 arg16 x5 x6)) _ (LoadRect.valAlong (lr := (Rect.unit (s := S8x1024) ![0, 0] S8x512.size inb_S8x1024_S8x512_0_0).toLoadRect) (by decide) (Gen.kernelRun0_A.sl.v942 (F := Ideal) c arg7 harg7 arg8 harg8 arg11 arg13 arg14 arg15 arg16 arg17 x5 x6)) _ (LoadRect.valAlong (lr := (Rect.unit (s := S128x1024) ![0, 0] S128x512.size inb_S128x1024_S128x512_0_0).toLoadRect) (by decide) (Gen.kernelRun0_A.sl.v955 (F := Ideal) c arg7 harg7 arg8 harg8 arg9 harg9 arg11 arg12 arg13 arg14 arg15 arg16 arg18 x5 x6 x7)) _
    (Gen.kernelRun0_A.sl.v928 (F := Ideal) c arg7 harg7 arg8 harg8 arg11 arg13 arg14 x5 x6) (Gen.kernelRun0_A.sl.v145 (F := Ideal) c arg9 harg9 arg12 x7)
    (ldm_3_0_0 hx5 hx6 hx7) (ldl_3_0_0 hx5 hx6 hx7) (lda_3_0_0 hx5 hx6 hx7)
    (start_st Q K V 0 1536) (stlo_3_0 hx5 hx6 hx7) (vt_0 hx5 hx6 hx7)

theorem sthi_3_0 (a j : Fin 512) : (Gen.kernelRun0_A.sl.v973 (F := Ideal) c arg7 harg7 arg8 harg8 arg11 arg13 arg14 x5 x6) (ix2 a j) = if 0 + a.val ≤ 1536 + j.val then (sg Q K 1 (1536 + j.val) (0 + a.val) : EReal) else ⊥ :=
  (((half_hi (v := arg14.view) (shapeCast S512x1024 (Gen.kernelRun0_A.sl.v917 (F := Ideal) c arg7 harg7 arg8 harg8 arg11 arg13 x5 x6) shapeCasts_S512x1024_S512x1024) _ _ _ a j).trans (congrFun (shapeCast_self _ _) _)).trans (schi_3_0 hx5 hx6 hx7 a j)).trans (if_pos (by omega)).symm

theorem ldm_3_0_1 : LoadRect.valAlong (lr := (Rect.unit (s := S1x1024) ![0, 512] S1x512.size inb_S1x1024_S1x512_0_512).toLoadRect) (by decide) (Gen.kernelRun0_A.sl.v976 (F := Ideal) c arg7 harg7 arg8 harg8 arg11 arg13 arg14 arg15 arg16 x5 x6) = (fun _ => (⊥ : EReal)) :=
  rb_fill2 (r := Rect.unit (s := S1x1024) ![0, 512] S1x512.size inb_S1x1024_S1x512_0_512) _ _ _ _ _ _ _ _ _ fill_m _ (by decide)

theorem ldl_3_0_1 : LoadRect.valAlong (lr := (Rect.unit (s := S8x1024) ![0, 512] S8x512.size inb_S8x1024_S8x512_0_512).toLoadRect) (by decide) (Gen.kernelRun0_A.sl.v987 (F := Ideal) c arg7 harg7 arg8 harg8 arg11 arg13 arg14 arg15 arg16 arg17 x5 x6) = (fun _ => (0 : EReal)) :=
  rb_fill2 (r := Rect.unit (s := S8x1024) ![0, 512] S8x512.size inb_S8x1024_S8x512_0_512) _ _ _ _ _ _ _ _ _ fill_l _ (by decide)

theorem lda_3_0_1 : LoadRect.valAlong (lr := (Rect.unit (s := S128x1024) ![0, 512] S128x512.size inb_S128x1024_S128x512_0_512).toLoadRect) (by decide) (Gen.kernelRun0_A.sl.v1000 (F := Ideal) c arg7 harg7 arg8 harg8 arg9 harg9 arg11 arg12 arg13 arg14 arg15 arg16 arg18 x5 x6 x7) = (fun _ => (0 : EReal)) :=
  rb_fill2 (r := Rect.unit (s := S128x1024) ![0, 512] S128x512.size inb_S128x1024_S128x512_0_512) _ _ _ _ _ _ _ _ _ fill_a _ (by decide)

theorem S_3_0_1 : StT Q K V 1 1536 (0 + 512) (Gen.kernelRun0_A.sl.v979 (F := Ideal) c arg7 harg7 arg8 harg8 arg11 arg13 arg14 arg15 arg16 x5 x6) (Gen.kernelRun0_A.sl.v992 (F := Ideal) c arg7 harg7 arg8 harg8 arg11 arg13 arg14 arg15 arg16 arg17 x5 x6) (Gen.kernelRun0_A.sl.v1007 (F := Ideal) c arg7 harg7 arg8 harg8 arg9 harg9 arg11 arg12 arg13 arg14 arg15 arg16 arg18 x5 x6 x7) :=
  stepT' Q K V 1 1536 0 (by norm_num) (LoadRect.valAlong (lr := (Rect.unit (s := S1x1024) ![0, 512] S1x512.size inb_S1x1024_S1x512_0_512).toLoadRect) (by decide) (Gen.kernelRun0_A.sl.v976 (F := Ideal) c arg7 harg7 arg8 harg8 arg11 arg13 arg14 arg15 arg16 x5 x6)) _ (LoadRect.valAlong (lr := (Rect.unit (s := S8x1024) ![0, 512] S8x512.size inb_S8x1024_S8x512_0_512).toLoadRect) (by decide) (Gen.kernelRun0_A.sl.v987 (F := Ideal) c arg7 harg7 arg8 harg8 arg11 arg13 arg14 arg15 arg16 arg17 x5 x6)) _ (LoadRect.valAlong (lr := (Rect.unit (s := S128x1024) ![0, 512] S128x512.size inb_S128x1024_S128x512_0_512).toLoadRect) (by decide) (Gen.kernelRun0_A.sl.v1000 (F := Ideal) c arg7 harg7 arg8 harg8 arg9 harg9 arg11 arg12 arg13 arg14 arg15 arg16 arg18 x5 x6 x7)) _
    (Gen.kernelRun0_A.sl.v973 (F := Ideal) c arg7 harg7 arg8 harg8 arg11 arg13 arg14 x5 x6) (Gen.kernelRun0_A.sl.v145 (F := Ideal) c arg9 harg9 arg12 x7)
    (ldm_3_0_1 hx5 hx6 hx7) (ldl_3_0_1 hx5 hx6 hx7) (lda_3_0_1 hx5 hx6 hx7)
    (start_st Q K V 1 1536) (sthi_3_0 hx5 hx6 hx7) (vt_0 hx5 hx6 hx7)

theorem sclo_3_1 (a j : Fin 512) : (Gen.kernelRun0_A.sl.v924 (F := Ideal) c arg7 harg7 arg8 harg8 arg11 arg13 x5 x6) (ix2 a ⟨j.val, by omega⟩) = (sg Q K 0 (1536 + j.val) (512 + a.val) : EReal) :=
  score_at Q K 0 (1536 + j.val) (512 + a.val) _ _ a _ (fun e => kt_1 hx5 hx6 hx7 a e) (fun e => qlo_3 hx5 hx6 hx7 j e)

theorem schi_3_1 (a j : Fin 512) : (Gen.kernelRun0_A.sl.v924 (F := Ideal) c arg7 harg7 arg8 harg8 arg11 arg13 x5 x6) (ix2 a ⟨512 + j.val, by omega⟩) = (sg Q K 1 (1536 + j.val) (512 + a.val) : EReal) :=
  score_at Q K 1 (1536 + j.val) (512 + a.val) _ _ a _ (fun e => kt_1 hx5 hx6 hx7 a e) (fun e => qhi_3 hx5 hx6 hx7 j e)

theorem stlo_3_1 (a j : Fin 512) : (Gen.kernelRun0_A.sl.v1025 (F := Ideal) c arg7 harg7 arg8 harg8 arg11 arg13 arg15 x5 x6) (ix2 a j) = if 512 + a.val ≤ 1536 + j.val then (sg Q K 0 (1536 + j.val) (512 + a.val) : EReal) else ⊥ :=
  (((half_lo (v := arg15.view) (shapeCast S512x1024 (Gen.kernelRun0_A.sl.v924 (F := Ideal) c arg7 harg7 arg8 harg8 arg11 arg13 x5 x6) shapeCasts_S512x1024_S512x1024) _ _ _ a j).trans (congrFun (shapeCast_self _ _) _)).trans (sclo_3_1 hx5 hx6 hx7 a j)).trans (if_pos (by omega)).symm

theorem ldm_3_1_0 : LoadRect.valAlong (lr := (Rect.unit (s := S1x1024) ![0, 0] S1x512.size inb_S1x1024_S1x512_0_0).toLoadRect) (by decide) (Gen.kernelRun0_A.sl.v1028 (F := Ideal) c arg7 harg7 arg8 harg8 arg11 arg13 arg14 arg15 arg16 x5 x6) = (Gen.kernelRun0_A.sl.v934 (F := Ideal) c arg7 harg7 arg8 harg8 arg11 arg13 arg14 arg15 arg16 x5 x6) :=
  (rb_hit2 (r := Rect.unit (s := S1x1024) ![0, 0] S1x512.size inb_S1x1024_S1x512_0_0) _ _ _ _ _ _ _ _ _ _ _ (by decide)).trans (shapeCast_self _ _)

theorem ldl_3_1_0 : LoadRect.valAlong (lr := (Rect.unit (s := S8x1024) ![0, 0] S8x512.size inb_S8x1024_S8x512_0_0).toLoadRect) (by decide) (Gen.kernelRun0_A.sl.v1039 (F := Ideal) c arg7 harg7 arg8 harg8 arg11 arg13 arg14 arg15 arg16 arg17 x5 x6) = (Gen.kernelRun0_A.sl.v947 (F := Ideal) c arg7 harg7 arg8 harg8 arg11 arg13 arg14 arg15 arg16 arg17 x5 x6) :=
  (rb_hit2 (r := Rect.unit (s := S8x1024) ![0, 0] S8x512.size inb_S8x1024_S8x512_0_0) _ _ _ _ _ _ _ _ _ _ _ (by decide)).trans (shapeCast_self _ _)

theorem lda_3_1_0 : LoadRect.valAlong (lr := (Rect.unit (s := S128x1024) ![0, 0] S128x512.size inb_S128x1024_S128x512_0_0).toLoadRect) (by decide) (Gen.kernelRun0_A.sl.v1052 (F := Ideal) c arg7 harg7 arg8 harg8 arg9 harg9 arg11 arg12 arg13 arg14 arg15 arg16 arg18 x5 x6 x7) = (Gen.kernelRun0_A.sl.v962 (F := Ideal) c arg7 harg7 arg8 harg8 arg9 harg9 arg11 arg12 arg13 arg14 arg15 arg16 arg18 x5 x6 x7) :=
  (rb_hit2 (r := Rect.unit (s := S128x1024) ![0, 0] S128x512.size inb_S128x1024_S128x512_0_0) _ _ _ _ _ _ _ _ _ _ _ (by decide)).trans (shapeCast_self _ _)

theorem S_3_1_0 : StT Q K V 0 1536 (512 + 512) (Gen.kernelRun0_A.sl.v1031 (F := Ideal) c arg7 harg7 arg8 harg8 arg11 arg13 arg14 arg15 arg16 x5 x6) (Gen.kernelRun0_A.sl.v1044 (F := Ideal) c arg7 harg7 arg8 harg8 arg11 arg13 arg14 arg15 arg16 arg17 x5 x6) (Gen.kernelRun0_A.sl.v1059 (F := Ideal) c arg7 harg7 arg8 harg8 arg9 harg9 arg11 arg12 arg13 arg14 arg15 arg16 arg18 x5 x6 x7) :=
  stepT' Q K V 0 1536 512 (by norm_num) (LoadRect.valAlong (lr := (Rect.unit (s := S1x1024) ![0, 0] S1x512.size inb_S1x1024_S1x512_0_0).toLoadRect) (by decide) (Gen.kernelRun0_A.sl.v1028 (F := Ideal) c arg7 harg7 arg8 harg8 arg11 arg13 arg14 arg15 arg16 x5 x6)) _ (LoadRect.valAlong (lr := (Rect.unit (s := S8x1024) ![0, 0] S8x512.size inb_S8x1024_S8x512_0_0).toLoadRect) (by decide) (Gen.kernelRun0_A.sl.v1039 (F := Ideal) c arg7 harg7 arg8 harg8 arg11 arg13 arg14 arg15 arg16 arg17 x5 x6)) _ (LoadRect.valAlong (lr := (Rect.unit (s := S128x1024) ![0, 0] S128x512.size inb_S128x1024_S128x512_0_0).toLoadRect) (by decide) (Gen.kernelRun0_A.sl.v1052 (F := Ideal) c arg7 harg7 arg8 harg8 arg9 harg9 arg11 arg12 arg13 arg14 arg15 arg16 arg18 x5 x6 x7)) _
    (Gen.kernelRun0_A.sl.v1025 (F := Ideal) c arg7 harg7 arg8 harg8 arg11 arg13 arg15 x5 x6) (Gen.kernelRun0_A.sl.v415 (F := Ideal) c arg9 harg9 arg12 x7)
    (ldm_3_1_0 hx5 hx6 hx7) (ldl_3_1_0 hx5 hx6 hx7) (lda_3_1_0 hx5 hx6 hx7)
    (S_3_0_0 hx5 hx6 hx7) (stlo_3_1 hx5 hx6 hx7) (vt_1 hx5 hx6 hx7)

theorem sthi_3_1 (a j : Fin 512) : (Gen.kernelRun0_A.sl.v1070 (F := Ideal) c arg7 harg7 arg8 harg8 arg11 arg13 arg15 x5 x6) (ix2 a j) = if 512 + a.val ≤ 1536 + j.val then (sg Q K 1 (1536 + j.val) (512 + a.val) : EReal) else ⊥ :=
  (((half_hi (v := arg15.view) (shapeCast S512x1024 (Gen.kernelRun0_A.sl.v924 (F := Ideal) c arg7 harg7 arg8 harg8 arg11 arg13 x5 x6) shapeCasts_S512x1024_S512x1024) _ _ _ a j).trans (congrFun (shapeCast_self _ _) _)).trans (schi_3_1 hx5 hx6 hx7 a j)).trans (if_pos (by omega)).symm

theorem ldm_3_1_1 : LoadRect.valAlong (lr := (Rect.unit (s := S1x1024) ![0, 512] S1x512.size inb_S1x1024_S1x512_0_512).toLoadRect) (by decide) (Gen.kernelRun0_A.sl.v1073 (F := Ideal) c arg7 harg7 arg8 harg8 arg11 arg13 arg14 arg15 arg16 x5 x6) = (Gen.kernelRun0_A.sl.v979 (F := Ideal) c arg7 harg7 arg8 harg8 arg11 arg13 arg14 arg15 arg16 x5 x6) :=
  (rb_hit2 (r := Rect.unit (s := S1x1024) ![0, 512] S1x512.size inb_S1x1024_S1x512_0_512) _ _ _ _ _ _ _ _ _ _ _ (by decide)).trans (shapeCast_self _ _)

theorem ldl_3_1_1 : LoadRect.valAlong (lr := (Rect.unit (s := S8x1024) ![0, 512] S8x512.size inb_S8x1024_S8x512_0_512).toLoadRect) (by decide) (Gen.kernelRun0_A.sl.v1084 (F := Ideal) c arg7 harg7 arg8 harg8 arg11 arg13 arg14 arg15 arg16 arg17 x5 x6) = (Gen.kernelRun0_A.sl.v992 (F := Ideal) c arg7 harg7 arg8 harg8 arg11 arg13 arg14 arg15 arg16 arg17 x5 x6) :=
  (rb_hit2 (r := Rect.unit (s := S8x1024) ![0, 512] S8x512.size inb_S8x1024_S8x512_0_512) _ _ _ _ _ _ _ _ _ _ _ (by decide)).trans (shapeCast_self _ _)

theorem lda_3_1_1 : LoadRect.valAlong (lr := (Rect.unit (s := S128x1024) ![0, 512] S128x512.size inb_S128x1024_S128x512_0_512).toLoadRect) (by decide) (Gen.kernelRun0_A.sl.v1097 (F := Ideal) c arg7 harg7 arg8 harg8 arg9 harg9 arg11 arg12 arg13 arg14 arg15 arg16 arg18 x5 x6 x7) = (Gen.kernelRun0_A.sl.v1007 (F := Ideal) c arg7 harg7 arg8 harg8 arg9 harg9 arg11 arg12 arg13 arg14 arg15 arg16 arg18 x5 x6 x7) :=
  (rb_hit2 (r := Rect.unit (s := S128x1024) ![0, 512] S128x512.size inb_S128x1024_S128x512_0_512) _ _ _ _ _ _ _ _ _ _ _ (by decide)).trans (shapeCast_self _ _)

theorem S_3_1_1 : StT Q K V 1 1536 (512 + 512) (Gen.kernelRun0_A.sl.v1076 (F := Ideal) c arg7 harg7 arg8 harg8 arg11 arg13 arg14 arg15 arg16 x5 x6) (Gen.kernelRun0_A.sl.v1089 (F := Ideal) c arg7 harg7 arg8 harg8 arg11 arg13 arg14 arg15 arg16 arg17 x5 x6) (Gen.kernelRun0_A.sl.v1104 (F := Ideal) c arg7 harg7 arg8 harg8 arg9 harg9 arg11 arg12 arg13 arg14 arg15 arg16 arg18 x5 x6 x7) :=
  stepT' Q K V 1 1536 512 (by norm_num) (LoadRect.valAlong (lr := (Rect.unit (s := S1x1024) ![0, 512] S1x512.size inb_S1x1024_S1x512_0_512).toLoadRect) (by decide) (Gen.kernelRun0_A.sl.v1073 (F := Ideal) c arg7 harg7 arg8 harg8 arg11 arg13 arg14 arg15 arg16 x5 x6)) _ (LoadRect.valAlong (lr := (Rect.unit (s := S8x1024) ![0, 512] S8x512.size inb_S8x1024_S8x512_0_512).toLoadRect) (by decide) (Gen.kernelRun0_A.sl.v1084 (F := Ideal) c arg7 harg7 arg8 harg8 arg11 arg13 arg14 arg15 arg16 arg17 x5 x6)) _ (LoadRect.valAlong (lr := (Rect.unit (s := S128x1024) ![0, 512] S128x512.size inb_S128x1024_S128x512_0_512).toLoadRect) (by decide) (Gen.kernelRun0_A.sl.v1097 (F := Ideal) c arg7 harg7 arg8 harg8 arg9 harg9 arg11 arg12 arg13 arg14 arg15 arg16 arg18 x5 x6 x7)) _
    (Gen.kernelRun0_A.sl.v1070 (F := Ideal) c arg7 harg7 arg8 harg8 arg11 arg13 arg15 x5 x6) (Gen.kernelRun0_A.sl.v415 (F := Ideal) c arg9 harg9 arg12 x7)
    (ldm_3_1_1 hx5 hx6 hx7) (ldl_3_1_1 hx5 hx6 hx7) (lda_3_1_1 hx5 hx6 hx7)
    (S_3_0_1 hx5 hx6 hx7) (sthi_3_1 hx5 hx6 hx7) (vt_1 hx5 hx6 hx7)

theorem sclo_3_2 (a j : Fin 512) : (Gen.kernelRun0_A.sl.v1021 (F := Ideal) c arg7 harg7 arg8 harg8 arg11 arg13 x5 x6) (ix2 a ⟨j.val, by omega⟩) = (sg Q K 0 (1536 + j.val) (1024 + a.val) : EReal) :=
  score_at Q K 0 (1536 + j.val) (1024 + a.val) _ _ a _ (fun e => kt_2 hx5 hx6 hx7 a e) (fun e => qlo_3 hx5 hx6 hx7 j e)

theorem schi_3_2 (a j : Fin 512) : (Gen.kernelRun0_A.sl.v1021 (F := Ideal) c arg7 harg7 arg8 harg8 arg11 arg13 x5 x6) (ix2 a ⟨512 + j.val, by omega⟩) = (sg Q K 1 (1536 + j.val) (1024 + a.val) : EReal) :=
  score_at Q K 1 (1536 + j.val) (1024 + a.val) _ _ a _ (fun e => kt_2 hx5 hx6 hx7 a e) (fun e => qhi_3 hx5 hx6 hx7 j e)

theorem stlo_3_2 (a j : Fin 512) : (Gen.kernelRun0_A.sl.v1122 (F := Ideal) c arg7 harg7 arg8 harg8 arg11 arg13 arg14 x5 x6) (ix2 a j) = if 1024 + a.val ≤ 1536 + j.val then (sg Q K 0 (1536 + j.val) (1024 + a.val) : EReal) else ⊥ :=
  (((half_lo (v := arg14.view) (shapeCast S512x1024 (Gen.kernelRun0_A.sl.v1021 (F := Ideal) c arg7 harg7 arg8 harg8 arg11 arg13 x5 x6) shapeCasts_S512x1024_S512x1024) _ _ _ a j).trans (congrFun (shapeCast_self _ _) _)).trans (sclo_3_2 hx5 hx6 hx7 a j)).trans (if_pos (by omega)).symm

theorem ldm_3_2_0 : LoadRect.valAlong (lr := (Rect.unit (s := S1x1024) ![0, 0] S1x512.size inb_S1x1024_S1x512_0_0).toLoadRect) (by decide) (Gen.kernelRun0_A.sl.v1125 (F := Ideal) c arg7 harg7 arg8 harg8 arg11 arg13 arg14 arg15 arg16 x5 x6) = (Gen.kernelRun0_A.sl.v1031 (F := Ideal) c arg7 harg7 arg8 harg8 arg11 arg13 arg14 arg15 arg16 x5 x6) :=
  (rb_hit2 (r := Rect.unit (s := S1x1024) ![0, 0] S1x512.size inb_S1x1024_S1x512_0_0) _ _ _ _ _ _ _ _ _ _ _ (by decide)).trans (shapeCast_self _ _)

theorem ldl_3_2_0 : LoadRect.valAlong (lr := (Rect.unit (s := S8x1024) ![0, 0] S8x512.size inb_S8x1024_S8x512_0_0).toLoadRect) (by decide) (Gen.kernelRun0_A.sl.v1136 (F := Ideal) c arg7 harg7 arg8 harg8 arg11 arg13 arg14 arg15 arg16 arg17 x5 x6) = (Gen.kernelRun0_A.sl.v1044 (F := Ideal) c arg7 harg7 arg8 harg8 arg11 arg13 arg14 arg15 arg16 arg17 x5 x6) :=
  (rb_hit2 (r := Rect.unit (s := S8x1024) ![0, 0] S8x512.size inb_S8x1024_S8x512_0_0) _ _ _ _ _ _ _ _ _ _ _ (by decide)).trans (shapeCast_self _ _)

theorem lda_3_2_0 : LoadRect.valAlong (lr := (Rect.unit (s := S128x1024) ![0, 0] S128x512.size inb_S128x1024_S128x512_0_0).toLoadRect) (by decide) (Gen.kernelRun0_A.sl.v1149 (F := Ideal) c arg7 harg7 arg8 harg8 arg9 harg9 arg11 arg12 arg13 arg14 arg15 arg16 arg18 x5 x6 x7) = (Gen.kernelRun0_A.sl.v1059 (F := Ideal) c arg7 harg7 arg8 harg8 arg9 harg9 arg11 arg12 arg13 arg14 arg15 arg16 arg18 x5 x6 x7) :=
  (rb_hit2 (r := Rect.unit (s := S128x1024) ![0, 0] S128x512.size inb_S128x1024_S128x512_0_0) _ _ _ _ _ _ _ _ _ _ _ (by decide)).trans (shapeCast_self _ _)

theorem S_3_2_0 : StT Q K V 0 1536 (1024 + 512) (Gen.kernelRun0_A.sl.v1128 (F := Ideal) c arg7 harg7 arg8 harg8 arg11 arg13 arg14 arg15 arg16 x5 x6) (Gen.kernelRun0_A.sl.v1141 (F := Ideal) c arg7 harg7 arg8 harg8 arg11 arg13 arg14 arg15 arg16 arg17 x5 x6) (Gen.kernelRun0_A.sl.v1156 (F := Ideal) c arg7 harg7 arg8 harg8 arg9 harg9 arg11 arg12 arg13 arg14 arg15 arg16 arg18 x5 x6 x7) :=
  stepT' Q K V 0 1536 1024 (by norm_num) (LoadRect.valAlong (lr := (Rect.unit (s := S1x1024) ![0, 0] S1x512.size inb_S1x1024_S1x512_0_0).toLoadRect) (by decide) (Gen.kernelRun0_A.sl.v1125 (F := Ideal) c arg7 harg7 arg8 harg8 arg11 arg13 arg14 arg15 arg16 x5 x6)) _ (LoadRect.valAlong (lr := (Rect.unit (s := S8x1024) ![0, 0] S8x512.size inb_S8x1024_S8x512_0_0).toLoadRect) (by decide) (Gen.kernelRun0_A.sl.v1136 (F := Ideal) c arg7 harg7 arg8 harg8 arg11 arg13 arg14 arg15 arg16 arg17 x5 x6)) _ (LoadRect.valAlong (lr := (Rect.unit (s := S128x1024) ![0, 0] S128x512.size inb_S128x1024_S128x512_0_0).toLoadRect) (by decide) (Gen.kernelRun0_A.sl.v1149 (F := Ideal) c arg7 harg7 arg8 harg8 arg9 harg9 arg11 arg12 arg13 arg14 arg15 arg16 arg18 x5 x6 x7)) _
    (Gen.kernelRun0_A.sl.v1122 (F := Ideal) c arg7 harg7 arg8 harg8 arg11 arg13 arg14 x5 x6) (Gen.kernelRun0_A.sl.v782 (F := Ideal) c arg9 harg9 arg12 x7)
    (ldm_3_2_0 hx5 hx6 hx7) (ldl_3_2_0 hx5 hx6 hx7) (lda_3_2_0 hx5 hx6 hx7)
    (S_3_1_0 hx5 hx6 hx7) (stlo_3_2 hx5 hx6 hx7) (vt_2 hx5 hx6 hx7)

theorem sthi_3_2 (a j : Fin 512) : (Gen.kernelRun0_A.sl.v1167 (F := Ideal) c arg7 harg7 arg8 harg8 arg11 arg13 arg14 x5 x6) (ix2 a j) = if 1024 + a.val ≤ 1536 + j.val then (sg Q K 1 (1536 + j.val) (1024 + a.val) : EReal) else ⊥ :=
  (((half_hi (v := arg14.view) (shapeCast S512x1024 (Gen.kernelRun0_A.sl.v1021 (F := Ideal) c arg7 harg7 arg8 harg8 arg11 arg13 x5 x6) shapeCasts_S512x1024_S512x1024) _ _ _ a j).trans (congrFun (shapeCast_self _ _) _)).trans (schi_3_2 hx5 hx6 hx7 a j)).trans (if_pos (by omega)).symm

theorem ldm_3_2_1 : LoadRect.valAlong (lr := (Rect.unit (s := S1x1024) ![0, 512] S1x512.size inb_S1x1024_S1x512_0_512).toLoadRect) (by decide) (Gen.kernelRun0_A.sl.v1170 (F := Ideal) c arg7 harg7 arg8 harg8 arg11 arg13 arg14 arg15 arg16 x5 x6) = (Gen.kernelRun0_A.sl.v1076 (F := Ideal) c arg7 harg7 arg8 harg8 arg11 arg13 arg14 arg15 arg16 x5 x6) :=
  (rb_hit2 (r := Rect.unit (s := S1x1024) ![0, 512] S1x512.size inb_S1x1024_S1x512_0_512) _ _ _ _ _ _ _ _ _ _ _ (by decide)).trans (shapeCast_self _ _)

theorem ldl_3_2_1 : LoadRect.valAlong (lr := (Rect.unit (s := S8x1024) ![0, 512] S8x512.size inb_S8x1024_S8x512_0_512).toLoadRect) (by decide) (Gen.kernelRun0_A.sl.v1181 (F := Ideal) c arg7 harg7 arg8 harg8 arg11 arg13 arg14 arg15 arg16 arg17 x5 x6) = (Gen.kernelRun0_A.sl.v1089 (F := Ideal) c arg7 harg7 arg8 harg8 arg11 arg13 arg14 arg15 arg16 arg17 x5 x6) :=
  (rb_hit2 (r := Rect.unit (s := S8x1024) ![0, 512] S8x512.size inb_S8x1024_S8x512_0_512) _ _ _ _ _ _ _ _ _ _ _ (by decide)).trans (shapeCast_self _ _)

theorem lda_3_2_1 : LoadRect.valAlong (lr := (Rect.unit (s := S128x1024) ![0, 512] S128x512.size inb_S128x1024_S128x512_0_512).toLoadRect) (by decide) (Gen.kernelRun0_A.sl.v1194 (F := Ideal) c arg7 harg7 arg8 harg8 arg9 harg9 arg11 arg12 arg13 arg14 arg15 arg16 arg18 x5 x6 x7) = (Gen.kernelRun0_A.sl.v1104 (F := Ideal) c arg7 harg7 arg8 harg8 arg9 harg9 arg11 arg12 arg13 arg14 arg15 arg16 arg18 x5 x6 x7) :=
  (rb_hit2 (r := Rect.unit (s := S128x1024) ![0, 512] S128x512.size inb_S128x1024_S128x512_0_512) _ _ _ _ _ _ _ _ _ _ _ (by decide)).trans (shapeCast_self _ _)

theorem S_3_2_1 : StT Q K V 1 1536 (1024 + 512) (Gen.kernelRun0_A.sl.v1173 (F := Ideal) c arg7 harg7 arg8 harg8 arg11 arg13 arg14 arg15 arg16 x5 x6) (Gen.kernelRun0_A.sl.v1186 (F := Ideal) c arg7 harg7 arg8 harg8 arg11 arg13 arg14 arg15 arg16 arg17 x5 x6) (Gen.kernelRun0_A.sl.v1201 (F := Ideal) c arg7 harg7 arg8 harg8 arg9 harg9 arg11 arg12 arg13 arg14 arg15 arg16 arg18 x5 x6 x7) :=
  stepT' Q K V 1 1536 1024 (by norm_num) (LoadRect.valAlong (lr := (Rect.unit (s := S1x1024) ![0, 512] S1x512.size inb_S1x1024_S1x512_0_512).toLoadRect) (by decide) (Gen.kernelRun0_A.sl.v1170 (F := Ideal) c arg7 harg7 arg8 harg8 arg11 arg13 arg14 arg15 arg16 x5 x6)) _ (LoadRect.valAlong (lr := (Rect.unit (s := S8x1024) ![0, 512] S8x512.size inb_S8x1024_S8x512_0_512).toLoadRect) (by decide) (Gen.kernelRun0_A.sl.v1181 (F := Ideal) c arg7 harg7 arg8 harg8 arg11 arg13 arg14 arg15 arg16 arg17 x5 x6)) _ (LoadRect.valAlong (lr := (Rect.unit (s := S128x1024) ![0, 512] S128x512.size inb_S128x1024_S128x512_0_512).toLoadRect) (by decide) (Gen.kernelRun0_A.sl.v1194 (F := Ideal) c arg7 harg7 arg8 harg8 arg9 harg9 arg11 arg12 arg13 arg14 arg15 arg16 arg18 x5 x6 x7)) _
    (Gen.kernelRun0_A.sl.v1167 (F := Ideal) c arg7 harg7 arg8 harg8 arg11 arg13 arg14 x5 x6) (Gen.kernelRun0_A.sl.v782 (F := Ideal) c arg9 harg9 arg12 x7)
    (ldm_3_2_1 hx5 hx6 hx7) (ldl_3_2_1 hx5 hx6 hx7) (lda_3_2_1 hx5 hx6 hx7)
    (S_3_1_1 hx5 hx6 hx7) (sthi_3_2 hx5 hx6 hx7) (vt_2 hx5 hx6 hx7)

theorem sclo_3_3 (a j : Fin 512) : (Gen.kernelRun0_A.sl.v1118 (F := Ideal) c arg7 harg7 arg8 harg8 arg11 arg13 x5 x6) (ix2 a ⟨j.val, by omega⟩) = (sg Q K 0 (1536 + j.val) (1536 + a.val) : EReal) :=
  score_at Q K 0 (1536 + j.val) (1536 + a.val) _ _ a _ (fun e => kt_3 hx5 hx6 hx7 a e) (fun e => qlo_3 hx5 hx6 hx7 j e)

theorem schi_3_3 (a j : Fin 512) : (Gen.kernelRun0_A.sl.v1118 (F := Ideal) c arg7 harg7 arg8 harg8 arg11 arg13 x5 x6) (ix2 a ⟨512 + j.val, by omega⟩) = (sg Q K 1 (1536 + j.val) (1536 + a.val) : EReal) :=
  score_at Q K 1 (1536 + j.val) (1536 + a.val) _ _ a _ (fun e => kt_3 hx5 hx6 hx7 a e) (fun e => qhi_3 hx5 hx6 hx7 j e)

theorem hflo_3_3 (a j : Fin 512) : (Gen.kernelRun0_A.sl.v1212 (F := Ideal) c arg7 harg7 arg8 harg8 arg11 arg13 arg15 x5 x6) (ix2 a j) = (sg Q K 0 (1536 + j.val) (1536 + a.val) : EReal) :=
  ((half_lo (v := arg15.view) (shapeCast S512x1024 (Gen.kernelRun0_A.sl.v1118 (F := Ideal) c arg7 harg7 arg8 harg8 arg11 arg13 x5 x6) shapeCasts_S512x1024_S512x1024) _ _ _ a j).trans (congrFun (shapeCast_self _ _) _)).trans (sclo_3_3 hx5 hx6 hx7 a j)

theorem mklo_3_3 (a j : Fin 512) : (Gen.kernelRun0_A.sl.v1215 (F := Ideal) c arg7 harg7 arg8 harg8 arg11 arg13 arg15 x5 x6) (ix2 a j) = if a.val ≤ j.val then (Gen.kernelRun0_A.sl.v1212 (F := Ideal) c arg7 harg7 arg8 harg8 arg11 arg13 arg15 x5 x6) (ix2 a j) else ⊥ :=
  masked_lo (Gen.kernelRun0_A.sl.v1212 (F := Ideal) c arg7 harg7 arg8 harg8 arg11 arg13 arg15 x5 x6) a j

theorem stlo_3_3 (a j : Fin 512) : (Gen.kernelRun0_A.sl.v1215 (F := Ideal) c arg7 harg7 arg8 harg8 arg11 arg13 arg15 x5 x6) (ix2 a j) = if 1536 + a.val ≤ 1536 + j.val then (sg Q K 0 (1536 + j.val) (1536 + a.val) : EReal) else ⊥ :=
  (mklo_3_3 hx5 hx6 hx7 a j).trans (diag_st (sg Q K 0) 1536 _ a j (hflo_3_3 hx5 hx6 hx7 a j))

theorem ldm_3_3_0 : LoadRect.valAlong (lr := (Rect.unit (s := S1x1024) ![0, 0] S1x512.size inb_S1x1024_S1x512_0_0).toLoadRect) (by decide) (Gen.kernelRun0_A.sl.v1218 (F := Ideal) c arg7 harg7 arg8 harg8 arg11 arg13 arg14 arg15 arg16 x5 x6) = (Gen.kernelRun0_A.sl.v1128 (F := Ideal) c arg7 harg7 arg8 harg8 arg11 arg13 arg14 arg15 arg16 x5 x6) :=
  (rb_hit2 (r := Rect.unit (s := S1x1024) ![0, 0] S1x512.size inb_S1x1024_S1x512_0_0) _ _ _ _ _ _ _ _ _ _ _ (by decide)).trans (shapeCast_self _ _)

theorem ldl_3_3_0 : LoadRect.valAlong (lr := (Rect.unit (s := S8x1024) ![0, 0] S8x512.size inb_S8x1024_S8x512_0_0).toLoadRect) (by decide) (Gen.kernelRun0_A.sl.v1229 (F := Ideal) c arg7 harg7 arg8 harg8 arg11 arg13 arg14 arg15 arg16 arg17 x5 x6) = (Gen.kernelRun0_A.sl.v1141 (F := Ideal) c arg7 harg7 arg8 harg8 arg11 arg13 arg14 arg15 arg16 arg17 x5 x6) :=
  (rb_hit2 (r := Rect.unit (s := S8x1024) ![0, 0] S8x512.size inb_S8x1024_S8x512_0_0) _ _ _ _ _ _ _ _ _ _ _ (by decide)).trans (shapeCast_self _ _)

theorem lda_3_3_0 : LoadRect.valAlong (lr := (Rect.unit (s := S128x1024) ![0, 0] S128x512.size inb_S128x1024_S128x512_0_0).toLoadRect) (by decide) (Gen.kernelRun0_A.sl.v1242 (F := Ideal) c arg7 harg7 arg8 harg8 arg9 harg9 arg11 arg12 arg13 arg14 arg15 arg16 arg18 x5 x6 x7) = (Gen.kernelRun0_A.sl.v1156 (F := Ideal) c arg7 harg7 arg8 harg8 arg9 harg9 arg11 arg12 arg13 arg14 arg15 arg16 arg18 x5 x6 x7) :=
  (rb_hit2 (r := Rect.unit (s := S128x1024) ![0, 0] S128x512.size inb_S128x1024_S128x512_0_0) _ _ _ _ _ _ _ _ _ _ _ (by decide)).trans (shapeCast_self _ _)

theorem S_3_3_0 : StT Q K V 0 1536 (1536 + 512) (Gen.kernelRun0_A.sl.v1221 (F := Ideal) c arg7 harg7 arg8 harg8 arg11 arg13 arg14 arg15 arg16 x5 x6) (Gen.kernelRun0_A.sl.v1234 (F := Ideal) c arg7 harg7 arg8 harg8 arg11 arg13 arg14 arg15 arg16 arg17 x5 x6) (Gen.kernelRun0_A.sl.v1249 (F := Ideal) c arg7 harg7 arg8 harg8 arg9 harg9 arg11 arg12 arg13 arg14 arg15 arg16 arg18 x5 x6 x7) :=
  stepT' Q K V 0 1536 1536 (by norm_num) (LoadRect.valAlong (lr := (Rect.unit (s := S1x1024) ![0, 0] S1x512.size inb_S1x1024_S1x512_0_0).toLoadRect) (by decide) (Gen.kernelRun0_A.sl.v1218 (F := Ideal) c arg7 harg7 arg8 harg8 arg11 arg13 arg14 arg15 arg16 x5 x6)) _ (LoadRect.valAlong (lr := (Rect.unit (s := S8x1024) ![0, 0] S8x512.size inb_S8x1024_S8x512_0_0).toLoadRect) (by decide) (Gen.kernelRun0_A.sl.v1229 (F := Ideal) c arg7 harg7 arg8 harg8 arg11 arg13 arg14 arg15 arg16 arg17 x5 x6)) _ (LoadRect.valAlong (lr := (Rect.unit (s := S128x1024) ![0, 0] S128x512.size inb_S128x1024_S128x512_0_0).toLoadRect) (by decide) (Gen.kernelRun0_A.sl.v1242 (F := Ideal) c arg7 harg7 arg8 harg8 arg9 harg9 arg11 arg12 arg13 arg14 arg15 arg16 arg18 x5 x6 x7)) _
    (Gen.kernelRun0_A.sl.v1215 (F := Ideal) c arg7 harg7 arg8 harg8 arg11 arg13 arg15 x5 x6) (Gen.kernelRun0_A.sl.v1246 (F := Ideal) c arg9 harg9 arg12 x7)
    (ldm_3_3_0 hx5 hx6 hx7) (ldl_3_3_0 hx5 hx6 hx7) (lda_3_3_0 hx5 hx6 hx7)
    (S_3_2_0 hx5 hx6 hx7) (stlo_3_3 hx5 hx6 hx7) (vt_3 hx5 hx6 hx7)

theorem hfhi_3_3 (a j : Fin 512) : (Gen.kernelRun0_A.sl.v1260 (F := Ideal) c arg7 harg7 arg8 harg8 arg11 arg13 arg15 x5 x6) (ix2 a j) = (sg Q K 1 (1536 + j.val) (1536 + a.val) : EReal) :=
  ((half_hi (v := arg15.view) (shapeCast S512x1024 (Gen.kernelRun0_A.sl.v1118 (F := Ideal) c arg7 harg7 arg8 harg8 arg11 arg13 x5 x6) shapeCasts_S512x1024_S512x1024) _ _ _ a j).trans (congrFun (shapeCast_self _ _) _)).trans (schi_3_3 hx5 hx6 hx7 a j)

theorem mkhi_3_3 (a j : Fin 512) : (Gen.kernelRun0_A.sl.v1263 (F := Ideal) c arg7 harg7 arg8 harg8 arg11 arg13 arg15 x5 x6) (ix2 a j) = if a.val ≤ j.val then (Gen.kernelRun0_A.sl.v1260 (F := Ideal) c arg7 harg7 arg8 harg8 arg11 arg13 arg15 x5 x6) (ix2 a j) else ⊥ :=
  masked_hi (Gen.kernelRun0_A.sl.v1260 (F := Ideal) c arg7 harg7 arg8 harg8 arg11 arg13 arg15 x5 x6) a j

theorem sthi_3_3 (a j : Fin 512) : (Gen.kernelRun0_A.sl.v1263 (F := Ideal) c arg7 harg7 arg8 harg8 arg11 arg13 arg15 x5 x6) (ix2 a j) = if 1536 + a.val ≤ 1536 + j.val then (sg Q K 1 (1536 + j.val) (1536 + a.val) : EReal) else ⊥ :=
  (mkhi_3_3 hx5 hx6 hx7 a j).trans (diag_st (sg Q K 1) 1536 _ a j (hfhi_3_3 hx5 hx6 hx7 a j))

theorem ldm_3_3_1 : LoadRect.valAlong (lr := (Rect.unit (s := S1x1024) ![0, 512] S1x512.size inb_S1x1024_S1x512_0_512).toLoadRect) (by decide) (Gen.kernelRun0_A.sl.v1266 (F := Ideal) c arg7 harg7 arg8 harg8 arg11 arg13 arg14 arg15 arg16 x5 x6) = (Gen.kernelRun0_A.sl.v1173 (F := Ideal) c arg7 harg7 arg8 harg8 arg11 arg13 arg14 arg15 arg16 x5 x6) :=
  (rb_hit2 (r := Rect.unit (s := S1x1024) ![0, 512] S1x512.size inb_S1x1024_S1x512_0_512) _ _ _ _ _ _ _ _ _ _ _ (by decide)).trans (shapeCast_self _ _)

theorem ldl_3_3_1 : LoadRect.valAlong (lr := (Rect.unit (s := S8x1024) ![0, 512] S8x512.size inb_S8x1024_S8x512_0_512).toLoadRect) (by decide) (Gen.kernelRun0_A.sl.v1277 (F := Ideal) c arg7 harg7 arg8 harg8 arg11 arg13 arg14 arg15 arg16 arg17 x5 x6) = (Gen.kernelRun0_A.sl.v1186 (F := Ideal) c arg7 harg7 arg8 harg8 arg11 arg13 arg14 arg15 arg16 arg17 x5 x6) :=
  (rb_hit2 (r := Rect.unit (s := S8x1024) ![0, 512] S8x512.size inb_S8x1024_S8x512_0_512) _ _ _ _ _ _ _ _ _ _ _ (by decide)).trans (shapeCast_self _ _)

theorem lda_3_3_1 : LoadRect.valAlong (lr := (Rect.unit (s := S128x1024) ![0, 512] S128x512.size inb_S128x1024_S128x512_0_512).toLoadRect) (by decide) (Gen.kernelRun0_A.sl.v1290 (F := Ideal) c arg7 harg7 arg8 harg8 arg9 harg9 arg11 arg12 arg13 arg14 arg15 arg16 arg18 x5 x6 x7) = (Gen.kernelRun0_A.sl.v1201 (F := Ideal) c arg7 harg7 arg8 harg8 arg9 harg9 arg11 arg12 arg13 arg14 arg15 arg16 arg18 x5 x6 x7) :=
  (rb_hit2 (r := Rect.unit (s := S128x1024) ![0, 512] S128x512.size inb_S128x1024_S128x512_0_512) _ _ _ _ _ _ _ _ _ _ _ (by decide)).trans (shapeCast_self _ _)

theorem S_3_3_1 : StT Q K V 1 1536 (1536 + 512) (Gen.kernelRun0_A.sl.v1269 (F := Ideal) c arg7 harg7 arg8 harg8 arg11 arg13 arg14 arg15 arg16 x5 x6) (Gen.kernelRun0_A.sl.v1282 (F := Ideal) c arg7 harg7 arg8 harg8 arg11 arg13 arg14 arg15 arg16 arg17 x5 x6) (Gen.kernelRun0_A.sl.v1297 (F := Ideal) c arg7 harg7 arg8 harg8 arg9 harg9 arg11 arg12 arg13 arg14 arg15 arg16 arg18 x5 x6 x7) :=
  stepT' Q K V 1 1536 1536 (by norm_num) (LoadRect.valAlong (lr := (Rect.unit (s := S1x1024) ![0, 512] S1x512.size inb_S1x1024_S1x512_0_512).toLoadRect) (by decide) (Gen.kernelRun0_A.sl.v1266 (F := Ideal) c arg7 harg7 arg8 harg8 arg11 arg13 arg14 arg15 arg16 x5 x6)) _ (LoadRect.valAlong (lr := (Rect.unit (s := S8x1024) ![0, 512] S8x512.size inb_S8x1024_S8x512_0_512).toLoadRect) (by decide) (Gen.kernelRun0_A.sl.v1277 (F := Ideal) c arg7 harg7 arg8 harg8 arg11 arg13 arg14 arg15 arg16 arg17 x5 x6)) _ (LoadRect.valAlong (lr := (Rect.unit (s := S128x1024) ![0, 512] S128x512.size inb_S128x1024_S128x512_0_512).toLoadRect) (by decide) (Gen.kernelRun0_A.sl.v1290 (F := Ideal) c arg7 harg7 arg8 harg8 arg9 harg9 arg11 arg12 arg13 arg14 arg15 arg16 arg18 x5 x6 x7)) _
    (Gen.kernelRun0_A.sl.v1263 (F := Ideal) c arg7 harg7 arg8 harg8 arg11 arg13 arg15 x5 x6) (Gen.kernelRun0_A.sl.v1246 (F := Ideal) c arg9 harg9 arg12 x7)
    (ldm_3_3_1 hx5 hx6 hx7) (ldl_3_3_1 hx5 hx6 hx7) (lda_3_3_1 hx5 hx6 hx7)
    (S_3_2_1 hx5 hx6 hx7) (sthi_3_3 hx5 hx6 hx7) (vt_3 hx5 hx6 hx7)

end Cert.Attn
-- ==== Proof.Rows.lean ====
/-
  THE BLOCK ONE GRID POINT LEAVES, row by row.
-/
module

public import proofs.«01_k».proof.Proof.WordsB
public import proofs.«01_k».proof.Proof.Final

@[expose] public section

set_option maxRecDepth 16384

noncomputable section

namespace Cert.Attn

open Idealize.ShloMosaic Cert.KernelIdeal Cert.KernelIdeal.Gen

variable {c : Dev nD} {arg2 arg3 arg4 arg5 : Memref sig .tc .vmem S1x64 .f32} {harg2 : arg2.IsWhole} {harg3 : arg3.IsWhole} {harg4 : arg4.IsWhole} {harg5 : arg5.IsWhole}
  {arg6 : Memref sig .tc .vmem S1x128 .f32} {harg6 : arg6.IsWhole} {x0 x1 x2 x3 : Vec Ideal S1x64 .f32} {x4 : Vec Ideal S1x128 .f32}
  {arg7 : Memref sig .tc .vmem S1x2048x128 .f32} {harg7 : arg7.IsWhole} {arg8 : Memref sig .tc .vmem S2048x128 .f32} {harg8 : arg8.IsWhole}
  {arg9 : Memref sig .tc .vmem S2048x128 .f32} {harg9 : arg9.IsWhole} {arg11 : Memref sig .tc .vmem S2048x128 .bf16} {arg12 : Memref sig .tc .vmem S4x128x512 .bf16}
  {arg13 : Memref sig .tc .vmem S2x1024x128 .bf16} {arg14 arg15 : Memref sig .tc .vmem S512x1024 .f32} {arg16 : Memref sig .tc .vmem S2x1x1024 .f32}
  {arg17 : Memref sig .tc .vmem S2x8x1024 .f32} {arg18 : Memref sig .tc .vmem S2x128x1024 .f32}
  {x5 : Vec Ideal S1x2048x128 .f32} {x6 x7 : Vec Ideal S2048x128 .f32} {Q K V : ℕ → Fin 128 → ℝ}
  (hx5 : ∀ (a : Fin 2048) (e : Fin 128), x5 (ix3 0 a e) = (Q a.val e : EReal))
  (hx6 : ∀ (a : Fin 2048) (e : Fin 128), x6 (ix2 a e) = (K a.val e : EReal))
  (hx7 : ∀ (a : Fin 2048) (e : Fin 128), x7 (ix2 a e) = (V a.val e : EReal))

include hx5 hx6 hx7

omit hx5 hx6 hx7 in
theorem lam_word : (Gen.kernelRun0_A.sl.r (F := Ideal) c arg2 harg2 arg3 harg3 arg4 harg4 arg5 harg5 x0 x1 x2 x3) (ix2 0 0) = (lamv (fun e => x0 (ix2 0 e)) (fun e => x1 (ix2 0 e)) (fun e => x2 (ix2 0 e)) (fun e => x3 (ix2 0 e))) := by
  refine (lam_apply _ _ _ _).trans ?_
  unfold lamv
  rw [Finset.sum_congr rfl fun e _ => congrArg₂ (· * ·) (rd_lam arg2 harg2 x0 _ e) (rd_lam arg3 harg3 x1 _ e),
    Finset.sum_congr rfl fun e _ => congrArg₂ (· * ·) (rd_lam arg4 harg4 x2 _ e) (rd_lam arg5 harg5 x3 _ e)]

theorem slotAlo_0 (d : Fin 128) (j : Fin 512) : (Gen.kernelRun0_A.sl.v207 (F := Ideal) c arg7 harg7 arg8 harg8 arg9 harg9 arg11 arg12 arg13 arg14 arg16 arg18 x5 x6 x7) (ix3 0 d ⟨j.val, by omega⟩) = (Gen.kernelRun0_A.sl.v148 (F := Ideal) c arg7 harg7 arg8 harg8 arg9 harg9 arg11 arg12 arg13 arg14 arg16 arg18 x5 x6 x7) (ix2 d j) :=
  (slotA_lo (v := arg18.view) 0 _ _ _ _ _ _ _ _ (shapeCast S128x512 (Gen.kernelRun0_A.sl.v148 (F := Ideal) c arg7 harg7 arg8 harg8 arg9 harg9 arg11 arg12 arg13 arg14 arg16 arg18 x5 x6 x7) shapeCasts_S128x512_S128x512) _ d j).trans (congrFun (shapeCast_self _ _) _)

theorem slotLlo_0 (e : Fin 8) (j : Fin 512) : (Gen.kernelRun0_A.sl.v209 (F := Ideal) c arg7 harg7 arg8 harg8 arg11 arg13 arg14 arg16 arg17 x5 x6) (ix3 0 e ⟨j.val, by omega⟩) = (Gen.kernelRun0_A.sl.v133 (F := Ideal) c arg7 harg7 arg8 harg8 arg11 arg13 arg14 arg16 arg17 x5 x6) (ix2 e j) :=
  (slotL_lo (v := arg17.view) 0 _ _ _ _ _ _ _ _ (shapeCast S8x512 (Gen.kernelRun0_A.sl.v133 (F := Ideal) c arg7 harg7 arg8 harg8 arg11 arg13 arg14 arg16 arg17 x5 x6) shapeCasts_S8x512_S8x512) _ e j).trans (congrFun (shapeCast_self _ _) _)

theorem slotAhi_0 (d : Fin 128) (j : Fin 512) : (Gen.kernelRun0_A.sl.v207 (F := Ideal) c arg7 harg7 arg8 harg8 arg9 harg9 arg11 arg12 arg13 arg14 arg16 arg18 x5 x6 x7) (ix3 0 d ⟨512 + j.val, by omega⟩) = (Gen.kernelRun0_A.sl.v196 (F := Ideal) c arg7 harg7 arg8 harg8 arg9 harg9 arg11 arg12 arg13 arg14 arg16 arg18 x5 x6 x7) (ix2 d j) :=
  (slotA_hi (v := arg18.view) 0 _ _ _ _ _ _ (shapeCast S128x512 (Gen.kernelRun0_A.sl.v196 (F := Ideal) c arg7 harg7 arg8 harg8 arg9 harg9 arg11 arg12 arg13 arg14 arg16 arg18 x5 x6 x7) shapeCasts_S128x512_S128x512) _ d j).trans (congrFun (shapeCast_self _ _) _)

theorem slotLhi_0 (e : Fin 8) (j : Fin 512) : (Gen.kernelRun0_A.sl.v209 (F := Ideal) c arg7 harg7 arg8 harg8 arg11 arg13 arg14 arg16 arg17 x5 x6) (ix3 0 e ⟨512 + j.val, by omega⟩) = (Gen.kernelRun0_A.sl.v181 (F := Ideal) c arg7 harg7 arg8 harg8 arg11 arg13 arg14 arg16 arg17 x5 x6) (ix2 e j) :=
  (slotL_hi (v := arg17.view) 0 _ _ _ _ _ _ (shapeCast S8x512 (Gen.kernelRun0_A.sl.v181 (F := Ideal) c arg7 harg7 arg8 harg8 arg11 arg13 arg14 arg16 arg17 x5 x6) shapeCasts_S8x512_S8x512) _ e j).trans (congrFun (shapeCast_self _ _) _)

theorem row_0 (i : Fin 512) (d : Fin 128) : (k0_pay37 (Gen.kernelRun0_A.sl.v230 (F := Ideal) c arg2 harg2 arg3 harg3 arg4 harg4 arg5 harg5 arg7 harg7 arg8 harg8 arg9 harg9 arg11 arg12 arg13 arg14 arg16 arg17 arg18 x0 x1 x2 x3 x5 x6 x7) (View.readAt (Elt Ideal) arg6.view (Rect.unit (s := S1x128) ![0, 0] S1x128.size inb_S1x128_S1x128_0_0).toLoadRect (harg6.unread x4)) : FVec Ideal S512x128 .f32) (ix2 i d) = rowv Q K V (lamv (fun e => x0 (ix2 0 e)) (fun e => x1 (ix2 0 e)) (fun e => x2 (ix2 0 e)) (fun e => x3 (ix2 0 e))) (x4 (ix2 0 d)) (0 + i.val) d := by
  have h := tile_row Q K V 0 _ _ _ _ _ _ (S_0_0_0 (c := c) (arg7 := arg7) (harg7 := harg7) (arg8 := arg8) (harg8 := harg8) (arg9 := arg9) (harg9 := harg9) (arg11 := arg11) (arg12 := arg12) (arg13 := arg13) (arg14 := arg14) (arg16 := arg16) (arg17 := arg17) (arg18 := arg18) hx5 hx6 hx7)
    (S_0_0_1 (c := c) (arg7 := arg7) (harg7 := harg7) (arg8 := arg8) (harg8 := harg8) (arg9 := arg9) (harg9 := harg9) (arg11 := arg11) (arg12 := arg12) (arg13 := arg13) (arg14 := arg14) (arg16 := arg16) (arg17 := arg17) (arg18 := arg18) hx5 hx6 hx7)
    (Gen.kernelRun0_A.sl.r (F := Ideal) c arg2 harg2 arg3 harg3 arg4 harg4 arg5 harg5 x0 x1 x2 x3) (shapeCast S128x1024 (Gen.kernelRun0_A.sl.v207 (F := Ideal) c arg7 harg7 arg8 harg8 arg9 harg9 arg11 arg12 arg13 arg14 arg16 arg18 x5 x6 x7) shapeCasts_S1x128x1024_S128x1024) (Gen.kernelRun0_A.sl.v209 (F := Ideal) c arg7 harg7 arg8 harg8 arg11 arg13 arg14 arg16 arg17 x5 x6) (View.readAt (Elt Ideal) arg6.view (Rect.unit (s := S1x128) ![0, 0] S1x128.size inb_S1x128_S1x128_0_0).toLoadRect (harg6.unread x4))
    (fun d j => (cast_acc _ d _).trans (slotAlo_0 hx5 hx6 hx7 d j)) (fun d j => (cast_acc _ d _).trans (slotAhi_0 hx5 hx6 hx7 d j))
    (slotLlo_0 hx5 hx6 hx7) (slotLhi_0 hx5 hx6 hx7) i d
  rw [lam_word, rd_an arg6 harg6 x4] at h
  exact h

theorem slotAlo_1 (d : Fin 128) (j : Fin 512) : (Gen.kernelRun0_A.sl.v477 (F := Ideal) c arg7 harg7 arg8 harg8 arg9 harg9 arg11 arg12 arg13 arg14 arg15 arg16 arg18 x5 x6 x7) (ix3 0 d ⟨j.val, by omega⟩) = (Gen.kernelRun0_A.sl.v418 (F := Ideal) c arg7 harg7 arg8 harg8 arg9 harg9 arg11 arg12 arg13 arg14 arg15 arg16 arg18 x5 x6 x7) (ix2 d j) :=
  (slotA_lo (v := arg18.view) 1 _ _ _ _ _ _ _ _ (shapeCast S128x512 (Gen.kernelRun0_A.sl.v418 (F := Ideal) c arg7 harg7 arg8 harg8 arg9 harg9 arg11 arg12 arg13 arg14 arg15 arg16 arg18 x5 x6 x7) shapeCasts_S128x512_S128x512) _ d j).trans (congrFun (shapeCast_self _ _) _)

theorem slotLlo_1 (e : Fin 8) (j : Fin 512) : (Gen.kernelRun0_A.sl.v479 (F := Ideal) c arg7 harg7 arg8 harg8 arg11 arg13 arg14 arg15 arg16 arg17 x5 x6) (ix3 0 e ⟨j.val, by omega⟩) = (Gen.kernelRun0_A.sl.v403 (F := Ideal) c arg7 harg7 arg8 harg8 arg11 arg13 arg14 arg15 arg16 arg17 x5 x6) (ix2 e j) :=
  (slotL_lo (v := arg17.view) 1 _ _ _ _ _ _ _ _ (shapeCast S8x512 (Gen.kernelRun0_A.sl.v403 (F := Ideal) c arg7 harg7 arg8 harg8 arg11 arg13 arg14 arg15 arg16 arg17 x5 x6) shapeCasts_S8x512_S8x512) _ e j).trans (congrFun (shapeCast_self _ _) _)

theorem slotAhi_1 (d : Fin 128) (j : Fin 512) : (Gen.kernelRun0_A.sl.v477 (F := Ideal) c arg7 harg7 arg8 harg8 arg9 harg9 arg11 arg12 arg13 arg14 arg15 arg16 arg18 x5 x6 x7) (ix3 0 d ⟨512 + j.val, by omega⟩) = (Gen.kernelRun0_A.sl.v466 (F := Ideal) c arg7 harg7 arg8 harg8 arg9 harg9 arg11 arg12 arg13 arg14 arg15 arg16 arg18 x5 x6 x7) (ix2 d j) :=
  (slotA_hi (v := arg18.view) 1 _ _ _ _ _ _ (shapeCast S128x512 (Gen.kernelRun0_A.sl.v466 (F := Ideal) c arg7 harg7 arg8 harg8 arg9 harg9 arg11 arg12 arg13 arg14 arg15 arg16 arg18 x5 x6 x7) shapeCasts_S128x512_S128x512) _ d j).trans (congrFun (shapeCast_self _ _) _)

theorem slotLhi_1 (e : Fin 8) (j : Fin 512) : (Gen.kernelRun0_A.sl.v479 (F := Ideal) c arg7 harg7 arg8 harg8 arg11 arg13 arg14 arg15 arg16 arg17 x5 x6) (ix3 0 e ⟨512 + j.val, by omega⟩) = (Gen.kernelRun0_A.sl.v451 (F := Ideal) c arg7 harg7 arg8 harg8 arg11 arg13 arg14 arg15 arg16 arg17 x5 x6) (ix2 e j) :=
  (slotL_hi (v := arg17.view) 1 _ _ _ _ _ _ (shapeCast S8x512 (Gen.kernelRun0_A.sl.v451 (F := Ideal) c arg7 harg7 arg8 harg8 arg11 arg13 arg14 arg15 arg16 arg17 x5 x6) shapeCasts_S8x512_S8x512) _ e j).trans (congrFun (shapeCast_self _ _) _)

theorem row_1 (i : Fin 512) (d : Fin 128) : (k0_pay78 (Gen.kernelRun0_A.sl.r (F := Ideal) c arg2 harg2 arg3 harg3 arg4 harg4 arg5 harg5 x0 x1 x2 x3) (Gen.kernelRun0_A.sl.v478 (F := Ideal) c arg7 harg7 arg8 harg8 arg9 harg9 arg11 arg12 arg13 arg14 arg15 arg16 arg18 x5 x6 x7) (Gen.kernelRun0_A.sl.v479 (F := Ideal) c arg7 harg7 arg8 harg8 arg11 arg13 arg14 arg15 arg16 arg17 x5 x6) (View.readAt (Elt Ideal) arg6.view (Rect.unit (s := S1x128) ![0, 0] S1x128.size inb_S1x128_S1x128_0_0).toLoadRect (harg6.unread x4)) : FVec Ideal S512x128 .f32) (ix2 i d) = rowv Q K V (lamv (fun e => x0 (ix2 0 e)) (fun e => x1 (ix2 0 e)) (fun e => x2 (ix2 0 e)) (fun e => x3 (ix2 0 e))) (x4 (ix2 0 d)) (512 + i.val) d := by
  have h := tile_row Q K V 512 _ _ _ _ _ _ (S_1_1_0 (c := c) (arg7 := arg7) (harg7 := harg7) (arg8 := arg8) (harg8 := harg8) (arg9 := arg9) (harg9 := harg9) (arg11 := arg11) (arg12 := arg12) (arg13 := arg13) (arg14 := arg14) (arg15 := arg15) (arg16 := arg16) (arg17 := arg17) (arg18 := arg18) hx5 hx6 hx7)
    (S_1_1_1 (c := c) (arg7 := arg7) (harg7 := harg7) (arg8 := arg8) (harg8 := harg8) (arg9 := arg9) (harg9 := harg9) (arg11 := arg11) (arg12 := arg12) (arg13 := arg13) (arg14 := arg14) (arg15 := arg15) (arg16 := arg16) (arg17 := arg17) (arg18 := arg18) hx5 hx6 hx7)
    (Gen.kernelRun0_A.sl.r (F := Ideal) c arg2 harg2 arg3 harg3 arg4 harg4 arg5 harg5 x0 x1 x2 x3) (shapeCast S128x1024 (Gen.kernelRun0_A.sl.v477 (F := Ideal) c arg7 harg7 arg8 harg8 arg9 harg9 arg11 arg12 arg13 arg14 arg15 arg16 arg18 x5 x6 x7) shapeCasts_S1x128x1024_S128x1024) (Gen.kernelRun0_A.sl.v479 (F := Ideal) c arg7 harg7 arg8 harg8 arg11 arg13 arg14 arg15 arg16 arg17 x5 x6) (View.readAt (Elt Ideal) arg6.view (Rect.unit (s := S1x128) ![0, 0] S1x128.size inb_S1x128_S1x128_0_0).toLoadRect (harg6.unread x4))
    (fun d j => (cast_acc _ d _).trans (slotAlo_1 hx5 hx6 hx7 d j)) (fun d j => (cast_acc _ d _).trans (slotAhi_1 hx5 hx6 hx7 d j))
    (slotLlo_1 hx5 hx6 hx7) (slotLhi_1 hx5 hx6 hx7) i d
  rw [lam_word, rd_an arg6 harg6 x4] at h
  exact h

theorem slotAlo_2 (d : Fin 128) (j : Fin 512) : (Gen.kernelRun0_A.sl.v844 (F := Ideal) c arg7 harg7 arg8 harg8 arg9 harg9 arg11 arg12 arg13 arg14 arg15 arg16 arg18 x5 x6 x7) (ix3 0 d ⟨j.val, by omega⟩) = (Gen.kernelRun0_A.sl.v785 (F := Ideal) c arg7 harg7 arg8 harg8 arg9 harg9 arg11 arg12 arg13 arg14 arg15 arg16 arg18 x5 x6 x7) (ix2 d j) :=
  (slotA_lo (v := arg18.view) 0 _ _ _ _ _ _ _ _ (shapeCast S128x512 (Gen.kernelRun0_A.sl.v785 (F := Ideal) c arg7 harg7 arg8 harg8 arg9 harg9 arg11 arg12 arg13 arg14 arg15 arg16 arg18 x5 x6 x7) shapeCasts_S128x512_S128x512) _ d j).trans (congrFun (shapeCast_self _ _) _)

theorem slotLlo_2 (e : Fin 8) (j : Fin 512) : (Gen.kernelRun0_A.sl.v846 (F := Ideal) c arg7 harg7 arg8 harg8 arg11 arg13 arg14 arg15 arg16 arg17 x5 x6) (ix3 0 e ⟨j.val, by omega⟩) = (Gen.kernelRun0_A.sl.v770 (F := Ideal) c arg7 harg7 arg8 harg8 arg11 arg13 arg14 arg15 arg16 arg17 x5 x6) (ix2 e j) :=
  (slotL_lo (v := arg17.view) 0 _ _ _ _ _ _ _ _ (shapeCast S8x512 (Gen.kernelRun0_A.sl.v770 (F := Ideal) c arg7 harg7 arg8 harg8 arg11 arg13 arg14 arg15 arg16 arg17 x5 x6) shapeCasts_S8x512_S8x512) _ e j).trans (congrFun (shapeCast_self _ _) _)

theorem slotAhi_2 (d : Fin 128) (j : Fin 512) : (Gen.kernelRun0_A.sl.v844 (F := Ideal) c arg7 harg7 arg8 harg8 arg9 harg9 arg11 arg12 arg13 arg14 arg15 arg16 arg18 x5 x6 x7) (ix3 0 d ⟨512 + j.val, by omega⟩) = (Gen.kernelRun0_A.sl.v833 (F := Ideal) c arg7 harg7 arg8 harg8 arg9 harg9 arg11 arg12 arg13 arg14 arg15 arg16 arg18 x5 x6 x7) (ix2 d j) :=
  (slotA_hi (v := arg18.view) 0 _ _ _ _ _ _ (shapeCast S128x512 (Gen.kernelRun0_A.sl.v833 (F := Ideal) c arg7 harg7 arg8 harg8 arg9 harg9 arg11 arg12 arg13 arg14 arg15 arg16 arg18 x5 x6 x7) shapeCasts_S128x512_S128x512) _ d j).trans (congrFun (shapeCast_self _ _) _)

theorem slotLhi_2 (e : Fin 8) (j : Fin 512) : (Gen.kernelRun0_A.sl.v846 (F := Ideal) c arg7 harg7 arg8 harg8 arg11 arg13 arg14 arg15 arg16 arg17 x5 x6) (ix3 0 e ⟨512 + j.val, by omega⟩) = (Gen.kernelRun0_A.sl.v818 (F := Ideal) c arg7 harg7 arg8 harg8 arg11 arg13 arg14 arg15 arg16 arg17 x5 x6) (ix2 e j) :=
  (slotL_hi (v := arg17.view) 0 _ _ _ _ _ _ (shapeCast S8x512 (Gen.kernelRun0_A.sl.v818 (F := Ideal) c arg7 harg7 arg8 harg8 arg11 arg13 arg14 arg15 arg16 arg17 x5 x6) shapeCasts_S8x512_S8x512) _ e j).trans (congrFun (shapeCast_self _ _) _)

theorem row_2 (i : Fin 512) (d : Fin 128) : (k0_pay135 (Gen.kernelRun0_A.sl.v857 (F := Ideal) c arg2 harg2 arg3 harg3 arg4 harg4 arg5 harg5 arg7 harg7 arg8 harg8 arg9 harg9 arg11 arg12 arg13 arg14 arg15 arg16 arg17 arg18 x0 x1 x2 x3 x5 x6 x7) (Gen.kernelRun0_A.sl.v866 (F := Ideal) c arg2 harg2 arg3 harg3 arg4 harg4 arg5 harg5 arg7 harg7 arg8 harg8 arg9 harg9 arg11 arg12 arg13 arg14 arg15 arg16 arg17 arg18 x0 x1 x2 x3 x5 x6 x7) (View.readAt (Elt Ideal) arg6.view (Rect.unit (s := S1x128) ![0, 0] S1x128.size inb_S1x128_S1x128_0_0).toLoadRect (harg6.unread x4)) : FVec Ideal S512x128 .f32) (ix2 i d) = rowv Q K V (lamv (fun e => x0 (ix2 0 e)) (fun e => x1 (ix2 0 e)) (fun e => x2 (ix2 0 e)) (fun e => x3 (ix2 0 e))) (x4 (ix2 0 d)) (1024 + i.val) d := by
  have h := tile_row Q K V 1024 _ _ _ _ _ _ (S_2_2_0 (c := c) (arg7 := arg7) (harg7 := harg7) (arg8 := arg8) (harg8 := harg8) (arg9 := arg9) (harg9 := harg9) (arg11 := arg11) (arg12 := arg12) (arg13 := arg13) (arg14 := arg14) (arg15 := arg15) (arg16 := arg16) (arg17 := arg17) (arg18 := arg18) hx5 hx6 hx7)
    (S_2_2_1 (c := c) (arg7 := arg7) (harg7 := harg7) (arg8 := arg8) (harg8 := harg8) (arg9 := arg9) (harg9 := harg9) (arg11 := arg11) (arg12 := arg12) (arg13 := arg13) (arg14 := arg14) (arg15 := arg15) (arg16 := arg16) (arg17 := arg17) (arg18 := arg18) hx5 hx6 hx7)
    (Gen.kernelRun0_A.sl.r (F := Ideal) c arg2 harg2 arg3 harg3 arg4 harg4 arg5 harg5 x0 x1 x2 x3) (shapeCast S128x1024 (Gen.kernelRun0_A.sl.v844 (F := Ideal) c arg7 harg7 arg8 harg8 arg9 harg9 arg11 arg12 arg13 arg14 arg15 arg16 arg18 x5 x6 x7) shapeCasts_S1x128x1024_S128x1024) (Gen.kernelRun0_A.sl.v846 (F := Ideal) c arg7 harg7 arg8 harg8 arg11 arg13 arg14 arg15 arg16 arg17 x5 x6) (View.readAt (Elt Ideal) arg6.view (Rect.unit (s := S1x128) ![0, 0] S1x128.size inb_S1x128_S1x128_0_0).toLoadRect (harg6.unread x4))
    (fun d j => (cast_acc _ d _).trans (slotAlo_2 hx5 hx6 hx7 d j)) (fun d j => (cast_acc _ d _).trans (slotAhi_2 hx5 hx6 hx7 d j))
    (slotLlo_2 hx5 hx6 hx7) (slotLhi_2 hx5 hx6 hx7) i d
  rw [lam_word, rd_an arg6 harg6 x4] at h
  exact h

theorem slotAlo_3 (d : Fin 128) (j : Fin 512) : (Gen.kernelRun0_A.sl.v1308 (F := Ideal) c arg7 harg7 arg8 harg8 arg9 harg9 arg11 arg12 arg13 arg14 arg15 arg16 arg18 x5 x6 x7) (ix3 0 d ⟨j.val, by omega⟩) = (Gen.kernelRun0_A.sl.v1249 (F := Ideal) c arg7 harg7 arg8 harg8 arg9 harg9 arg11 arg12 arg13 arg14 arg15 arg16 arg18 x5 x6 x7) (ix2 d j) :=
  (slotA_lo (v := arg18.view) 1 _ _ _ _ _ _ _ _ (shapeCast S128x512 (Gen.kernelRun0_A.sl.v1249 (F := Ideal) c arg7 harg7 arg8 harg8 arg9 harg9 arg11 arg12 arg13 arg14 arg15 arg16 arg18 x5 x6 x7) shapeCasts_S128x512_S128x512) _ d j).trans (congrFun (shapeCast_self _ _) _)

theorem slotLlo_3 (e : Fin 8) (j : Fin 512) : (Gen.kernelRun0_A.sl.v1310 (F := Ideal) c arg7 harg7 arg8 harg8 arg11 arg13 arg14 arg15 arg16 arg17 x5 x6) (ix3 0 e ⟨j.val, by omega⟩) = (Gen.kernelRun0_A.sl.v1234 (F := Ideal) c arg7 harg7 arg8 harg8 arg11 arg13 arg14 arg15 arg16 arg17 x5 x6) (ix2 e j) :=
  (slotL_lo (v := arg17.view) 1 _ _ _ _ _ _ _ _ (shapeCast S8x512 (Gen.kernelRun0_A.sl.v1234 (F := Ideal) c arg7 harg7 arg8 harg8 arg11 arg13 arg14 arg15 arg16 arg17 x5 x6) shapeCasts_S8x512_S8x512) _ e j).trans (congrFun (shapeCast_self _ _) _)

theorem slotAhi_3 (d : Fin 128) (j : Fin 512) : (Gen.kernelRun0_A.sl.v1308 (F := Ideal) c arg7 harg7 arg8 harg8 arg9 harg9 arg11 arg12 arg13 arg14 arg15 arg16 arg18 x5 x6 x7) (ix3 0 d ⟨512 + j.val, by omega⟩) = (Gen.kernelRun0_A.sl.v1297 (F := Ideal) c arg7 harg7 arg8 harg8 arg9 harg9 arg11 arg12 arg13 arg14 arg15 arg16 arg18 x5 x6 x7) (ix2 d j) :=
  (slotA_hi (v := arg18.view) 1 _ _ _ _ _ _ (shapeCast S128x512 (Gen.kernelRun0_A.sl.v1297 (F := Ideal) c arg7 harg7 arg8 harg8 arg9 harg9 arg11 arg12 arg13 arg14 arg15 arg16 arg18 x5 x6 x7) shapeCasts_S128x512_S128x512) _ d j).trans (congrFun (shapeCast_self _ _) _)

theorem slotLhi_3 (e : Fin 8) (j : Fin 512) : (Gen.kernelRun0_A.sl.v1310 (F := Ideal) c arg7 harg7 arg8 harg8 arg11 arg13 arg14 arg15 arg16 arg17 x5 x6) (ix3 0 e ⟨512 + j.val, by omega⟩) = (Gen.kernelRun0_A.sl.v1282 (F := Ideal) c arg7 harg7 arg8 harg8 arg11 arg13 arg14 arg15 arg16 arg17 x5 x6) (ix2 e j) :=
  (slotL_hi (v := arg17.view) 1 _ _ _ _ _ _ (shapeCast S8x512 (Gen.kernelRun0_A.sl.v1282 (F := Ideal) c arg7 harg7 arg8 harg8 arg11 arg13 arg14 arg15 arg16 arg17 x5 x6) shapeCasts_S8x512_S8x512) _ e j).trans (congrFun (shapeCast_self _ _) _)

theorem row_3 (i : Fin 512) (d : Fin 128) : (k0_pay1 (Gen.kernelRun0_A.sl.r (F := Ideal) c arg2 harg2 arg3 harg3 arg4 harg4 arg5 harg5 x0 x1 x2 x3) (Gen.kernelRun0_A.sl.r_10 (F := Ideal) c arg7 harg7 arg8 harg8 arg9 harg9 arg11 arg12 arg13 arg14 arg15 arg16 arg18 x5 x6 x7) (Gen.kernelRun0_A.sl.v1310 (F := Ideal) c arg7 harg7 arg8 harg8 arg11 arg13 arg14 arg15 arg16 arg17 x5 x6) (View.readAt (Elt Ideal) arg6.view (Rect.unit (s := S1x128) ![0, 0] S1x128.size inb_S1x128_S1x128_0_0).toLoadRect (harg6.unread x4)) : FVec Ideal S512x128 .f32) (ix2 i d) = rowv Q K V (lamv (fun e => x0 (ix2 0 e)) (fun e => x1 (ix2 0 e)) (fun e => x2 (ix2 0 e)) (fun e => x3 (ix2 0 e))) (x4 (ix2 0 d)) (1536 + i.val) d := by
  have h := tile_row Q K V 1536 _ _ _ _ _ _ (S_3_3_0 (c := c) (arg7 := arg7) (harg7 := harg7) (arg8 := arg8) (harg8 := harg8) (arg9 := arg9) (harg9 := harg9) (arg11 := arg11) (arg12 := arg12) (arg13 := arg13) (arg14 := arg14) (arg15 := arg15) (arg16 := arg16) (arg17 := arg17) (arg18 := arg18) hx5 hx6 hx7)
    (S_3_3_1 (c := c) (arg7 := arg7) (harg7 := harg7) (arg8 := arg8) (harg8 := harg8) (arg9 := arg9) (harg9 := harg9) (arg11 := arg11) (arg12 := arg12) (arg13 := arg13) (arg14 := arg14) (arg15 := arg15) (arg16 := arg16) (arg17 := arg17) (arg18 := arg18) hx5 hx6 hx7)
    (Gen.kernelRun0_A.sl.r (F := Ideal) c arg2 harg2 arg3 harg3 arg4 harg4 arg5 harg5 x0 x1 x2 x3) (shapeCast S128x1024 (Gen.kernelRun0_A.sl.v1308 (F := Ideal) c arg7 harg7 arg8 harg8 arg9 harg9 arg11 arg12 arg13 arg14 arg15 arg16 arg18 x5 x6 x7) shapeCasts_S1x128x1024_S128x1024) (Gen.kernelRun0_A.sl.v1310 (F := Ideal) c arg7 harg7 arg8 harg8 arg11 arg13 arg14 arg15 arg16 arg17 x5 x6) (View.readAt (Elt Ideal) arg6.view (Rect.unit (s := S1x128) ![0, 0] S1x128.size inb_S1x128_S1x128_0_0).toLoadRect (harg6.unread x4))
    (fun d j => (cast_acc _ d _).trans (slotAlo_3 hx5 hx6 hx7 d j)) (fun d j => (cast_acc _ d _).trans (slotAhi_3 hx5 hx6 hx7 d j))
    (slotLlo_3 hx5 hx6 hx7) (slotLhi_3 hx5 hx6 hx7) i d
  rw [lam_word, rd_an arg6 harg6 x4] at h
  exact h

theorem out_apply (i : grid0.Coords) (arg10 : Memref sig .tc .vmem S2048x128 .f32) (harg10 : arg10.IsWhole) (harg11 : arg11.IsWhole) (harg12 : arg12.IsWhole) (harg13 : arg13.IsWhole)
    (harg14 : arg14.IsWhole) (harg15 : arg15.IsWhole) (harg16 : arg16.IsWhole) (harg17 : arg17.IsWhole) (harg18 : arg18.IsWhole) (r : Fin 2048) (d : Fin 128) :
    out0_A_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 (ix2 r d)
      = rowv Q K V (lamv (fun e => x0 (ix2 0 e)) (fun e => x1 (ix2 0 e)) (fun e => x2 (ix2 0 e)) (fun e => x3 (ix2 0 e))) (x4 (ix2 0 d)) r.val d := by
  unfold out0_A_8
  rw [View.read_writes_junk_eq_canon]
  exact canon_rows _ _ _ _ (fun y d => rowv Q K V (lamv (fun e => x0 (ix2 0 e)) (fun e => x1 (ix2 0 e)) (fun e => x2 (ix2 0 e)) (fun e => x3 (ix2 0 e))) (x4 (ix2 0 d)) y d) _ _ _ _ (row_0 hx5 hx6 hx7) (row_1 hx5 hx6 hx7) (row_2 hx5 hx6 hx7) (row_3 hx5 hx6 hx7) r d

end Cert.Attn
-- ==== Proof.Blocks.lean ====
/-
  THE KERNEL'S RESULT ARRAY: the sixty-four blocks put together.  Entry (R, C) is row R mod 2048 of batch R / 2048,
  column C mod 128 of head C / 128.
-/
module

public import proofs.«01_k».proof.Proof.Rows
public import Idealize.ShloMosaic.Lib.Pipeline.ValueKit
public import Idealize.ShloMosaic.Lib.Pipeline.ValueKit.Point
public import Idealize.ShloMosaic.Lib.Pipeline.Covers

@[expose] public section

set_option maxRecDepth 16384

noncomputable section

namespace Cert.Attn

open Idealize.ShloMosaic Cert.KernelIdeal Cert.KernelIdeal.Gen

/-- The array row of row `y` of batch `b`. -/
def rowIx (b y : ℕ) : Fin 16384 := ⟨(b * 2048 + y) % 16384, Nat.mod_lt _ (by decide)⟩

/-- The array column of column `e` of head `h`. -/
def laneIx (h : ℕ) (e : Fin 128) : Fin 1024 := ⟨(h * 128 + e.val) % 1024, Nat.mod_lt _ (by decide)⟩

/-- The result at row `y`, column `d` of batch `b`, head `h`. -/
def cell (l1 l2 l3 l4 : Fin 64 → EReal) (w : Fin 128 → EReal) (z k v : Fin 16384 → Fin 1024 → EReal) (b h y : ℕ) (d : Fin 128) : EReal :=
  rowv (fun y e => (z (rowIx b y) (laneIx h e)).toReal) (fun y e => (k (rowIx b y) (laneIx h e)).toReal)
    (fun y e => (v (rowIx b y) (laneIx h e)).toReal) (lamv l1 l2 l3 l4) (w d) y d

/-- The whole result. -/
def cells (l1 l2 l3 l4 : Fin 64 → EReal) (w : Fin 128 → EReal) (z k v : Fin 16384 → Fin 1024 → EReal) : S16384x1024.Idx → EReal :=
  fun j => cell l1 l2 l3 l4 w z k v ((j 0).val / 2048) ((j 1).val / 128) ((j 0).val % 2048) ⟨(j 1).val % 128, Nat.mod_lt _ (by decide)⟩

theorem idx_all : ∀ t : Fin cfg0.N,
    win0_0.index t = ![0, 0] ∧ win0_1.index t = ![0, 0] ∧ win0_2.index t = ![0, 0] ∧ win0_3.index t = ![0, 0] ∧ win0_4.index t = ![0, 0]
    ∧ win0_5.index t = ![4, t.val / 8, t.val % 8] ∧ win0_6.index t = ![t.val / 8, t.val % 8] ∧ win0_7.index t = ![t.val / 8, t.val % 8]
    ∧ win0_8.index t = ![t.val / 8, t.val % 8] :=
  (by decide +kernel : ∀ t : Fin grid0.N,
    win0_0.index t = ![0, 0] ∧ win0_1.index t = ![0, 0] ∧ win0_2.index t = ![0, 0] ∧ win0_3.index t = ![0, 0] ∧ win0_4.index t = ![0, 0]
    ∧ win0_5.index t = ![4, t.val / 8, t.val % 8] ∧ win0_6.index t = ![t.val / 8, t.val % 8] ∧ win0_7.index t = ![t.val / 8, t.val % 8]
    ∧ win0_8.index t = ![t.val / 8, t.val % 8])

variable (m : (ℓ : Loc nD τ sig) → Buf (Elt Ideal) ℓ) (c : Dev nD)

theorem t_lt (t : Fin cfg0.N) : t.val < 64 := lt_of_lt_of_eq t.isLt (by decide +kernel : cfg0.N = 64)

theorem blk5 (t : Fin cfg0.N) (a : Fin 2048) (e : Fin 128) :
    iblk m c 5 t (ix3 0 a e) = m ((c.tc : Thread nD τ).loc main_arg5) (ix3 4 (rowIx (t.val / 8) a.val) (laneIx (t.val % 8) e)) := by
  have ht := t_lt t
  blk_ext [iblk, V, rowIx, laneIx, (idx_all t).2.2.2.2.2.1]

theorem blk6 (t : Fin cfg0.N) (a : Fin 2048) (e : Fin 128) :
    iblk m c 6 t (ix2 a e) = m ((c.tc : Thread nD τ).loc main_arg6) (ix2 (rowIx (t.val / 8) a.val) (laneIx (t.val % 8) e)) := by
  have ht := t_lt t
  blk_ext [iblk, V, rowIx, laneIx, (idx_all t).2.2.2.2.2.2.1]

theorem blk7 (t : Fin cfg0.N) (a : Fin 2048) (e : Fin 128) :
    iblk m c 7 t (ix2 a e) = m ((c.tc : Thread nD τ).loc main_arg7) (ix2 (rowIx (t.val / 8) a.val) (laneIx (t.val % 8) e)) := by
  have ht := t_lt t
  blk_ext [iblk, V, rowIx, laneIx, (idx_all t).2.2.2.2.2.2.2.1]

theorem blk0 (t : Fin cfg0.N) (e : Fin 64) : iblk m c 0 t (ix2 0 e) = m ((c.tc : Thread nD τ).loc main_arg0) (ix2 0 e) := by
  blk_ext [iblk, V, (idx_all t).1]
theorem blk1 (t : Fin cfg0.N) (e : Fin 64) : iblk m c 1 t (ix2 0 e) = m ((c.tc : Thread nD τ).loc main_arg1) (ix2 0 e) := by
  blk_ext [iblk, V, (idx_all t).2.1]
theorem blk2 (t : Fin cfg0.N) (e : Fin 64) : iblk m c 2 t (ix2 0 e) = m ((c.tc : Thread nD τ).loc main_arg2) (ix2 0 e) := by
  blk_ext [iblk, V, (idx_all t).2.2.1]
theorem blk3 (t : Fin cfg0.N) (e : Fin 64) : iblk m c 3 t (ix2 0 e) = m ((c.tc : Thread nD τ).loc main_arg3) (ix2 0 e) := by
  blk_ext [iblk, V, (idx_all t).2.2.2.1]
theorem blk4 (t : Fin cfg0.N) (e : Fin 128) : iblk m c 4 t (ix2 0 e) = m ((c.tc : Thread nD τ).loc main_arg4) (ix2 0 e) := by
  blk_ext [iblk, V, (idx_all t).2.2.2.2.1]

/-- The kernel's result array. -/
theorem final (hz : ∀ r l, ((m ((c.tc : Thread nD τ).loc main_arg5) (ix3 4 r l) : EReal).toReal : EReal) = m ((c.tc : Thread nD τ).loc main_arg5) (ix3 4 r l))
    (hk : ∀ r l, ((m ((c.tc : Thread nD τ).loc main_arg6) (ix2 r l) : EReal).toReal : EReal) = m ((c.tc : Thread nD τ).loc main_arg6) (ix2 r l))
    (hv : ∀ r l, ((m ((c.tc : Thread nD τ).loc main_arg7) (ix2 r l) : EReal).toReal : EReal) = m ((c.tc : Thread nD τ).loc main_arg7) (ix2 r l)) :
    (dats m 0 c).arrAt 8 cfg0.N
      = cells (fun e => m ((c.tc : Thread nD τ).loc main_arg0) (ix2 0 e)) (fun e => m ((c.tc : Thread nD τ).loc main_arg1) (ix2 0 e))
          (fun e => m ((c.tc : Thread nD τ).loc main_arg2) (ix2 0 e)) (fun e => m ((c.tc : Thread nD τ).loc main_arg3) (ix2 0 e))
          (fun e => m ((c.tc : Thread nD τ).loc main_arg4) (ix2 0 e)) (fun r l => m ((c.tc : Thread nD τ).loc main_arg5) (ix3 4 r l))
          (fun r l => m ((c.tc : Thread nD τ).loc main_arg6) (ix2 r l)) (fun r l => m ((c.tc : Thread nD τ).loc main_arg7) (ix2 r l)) := by
  refine (dats m 0 c).arrAt_eq_of_covers 8 _ (by decide +kernel) fun t hf y => ?_
  have ht := t_lt t
  rw [show (dats m 0 c).after 8 t = _ from after0_8 m c t]
  unfold outsAt0
  obtain ⟨r, d, rfl⟩ : ∃ (r : Fin 2048) (d : Fin 128), y = ix2 r d := ⟨y 0, y 1, eq_ix2 y⟩
  have key := out_apply (c := c) (arg2 := ms0_0 t) (harg2 := hs0_0 t) (arg3 := ms0_1 t) (harg3 := hs0_1 t) (arg4 := ms0_2 t) (harg4 := hs0_2 t)
    (arg5 := ms0_3 t) (harg5 := hs0_3 t) (arg6 := ms0_4 t) (harg6 := hs0_4 t) (arg7 := ms0_5 t) (harg7 := hs0_5 t) (arg8 := ms0_6 t) (harg8 := hs0_6 t)
    (arg9 := ms0_7 t) (harg9 := hs0_7 t) (arg11 := scM0_0) (arg12 := scM0_1) (arg13 := scM0_2) (arg14 := scM0_3) (arg15 := scM0_4) (arg16 := scM0_5)
    (arg17 := scM0_6) (arg18 := scM0_7) (x0 := iblk m c 0 t) (x1 := iblk m c 1 t) (x2 := iblk m c 2 t) (x3 := iblk m c 3 t) (x4 := iblk m c 4 t)
    (Q := fun y e => (m ((c.tc : Thread nD τ).loc main_arg5) (ix3 4 (rowIx (t.val / 8) y) (laneIx (t.val % 8) e)) : EReal).toReal)
    (K := fun y e => (m ((c.tc : Thread nD τ).loc main_arg6) (ix2 (rowIx (t.val / 8) y) (laneIx (t.val % 8) e)) : EReal).toReal)
    (V := fun y e => (m ((c.tc : Thread nD τ).loc main_arg7) (ix2 (rowIx (t.val / 8) y) (laneIx (t.val % 8) e)) : EReal).toReal)
    (fun a e => (blk5 m c t a e).trans (hz _ _).symm) (fun a e => (blk6 m c t a e).trans (hk _ _).symm)
    (fun a e => (blk7 m c t a e).trans (hv _ _).symm) (grid0.coords t) (ms0_8 t) (hs0_8 t) (Memref.isWhole_whole _) (Memref.isWhole_whole _)
    (Memref.isWhole_whole _) (Memref.isWhole_whole _) (Memref.isWhole_whole _) (Memref.isWhole_whole _) (Memref.isWhole_whole _) (Memref.isWhole_whole _) r d
  have e0 : ((((cfg0.win 8).blk t).view.emb (ix2 r d)) 0 : ℕ) = t.val / 8 * 2048 + r.val := by
    blk_simp [(idx_all t).2.2.2.2.2.2.2.2]
  have e1 : ((((cfg0.win 8).blk t).view.emb (ix2 r d)) 1 : ℕ) = t.val % 8 * 128 + d.val := by
    blk_simp [(idx_all t).2.2.2.2.2.2.2.2]
  have hr := r.isLt
  have hd := d.isLt
  have f0 : (t.val / 8 * 2048 + r.val) / 2048 = t.val / 8 := by omega
  have f1 : (t.val % 8 * 128 + d.val) / 128 = t.val % 8 := by omega
  have f2 : (t.val / 8 * 2048 + r.val) % 2048 = r.val := by omega
  have f3 : (t.val % 8 * 128 + d.val) % 128 = d.val := by omega
  unfold cells
  simp only [e0, e1, f0, f1, f2, f3]
  refine Eq.trans ?_ (key.trans ?_)
  · rfl
  · simp only [blk0, blk1, blk2, blk3, blk4]; rfl

end Cert.Attn
-- ==== Proof.RefMath.lean ====
/-
  THE REFERENCE'S RESULT AT AN ENTRY, over arguments whose entries are real: the kernel's `cells`.
-/
module

public import proofs.«01_k».proof.Proof.RefValue
public import proofs.«01_k».proof.Proof.Blocks

@[expose] public section

set_option maxRecDepth 16384

noncomputable section

namespace Cert.Attn.Ref

open Cert.ReferenceIdeal Cert.ReferenceIdeal.Gen Idealize.ShloMosaic Idealize.ShloMosaic.TcCoe Idealize.SL.Sem

theorem ofBits_eighth : Ideal.ofBits .f32 0x3E000000#32 = ((1 / 8 : ℝ) : EReal) := by
  simp [Ideal.ofBits, Ideal.ieee]
  rw [← EReal.coe_mul]
  norm_num

/-- The natural score of query `y` and key `x` in head half `t`. -/
def tau (Q K : ℕ → Fin 128 → ℝ) (t : Fin 2) (y x : ℕ) : ℝ :=
  (∑ e : Fin 64, Q y ⟨t.val * 64 + e.val, by omega⟩ * K x ⟨t.val * 64 + e.val, by omega⟩) * (1 / 8)

theorem sum_half (f : Fin 128 → ℝ) (t : Fin 2) :
    ∑ e : Fin 128, (if e.val / 64 = t.val then f e else 0) = ∑ e : Fin 64, f ⟨t.val * 64 + e.val, by omega⟩ := by
  rw [← Finset.sum_filter]
  refine (Finset.sum_nbij' (fun e : Fin 64 => (⟨t.val * 64 + e.val, by omega⟩ : Fin 128)) (fun e => ⟨e.val % 64, Nat.mod_lt _ (by decide)⟩)
    (fun e _ => Finset.mem_filter.2 ⟨Finset.mem_univ _, ?_⟩) (fun _ _ => Finset.mem_univ _) (fun e _ => Fin.ext ?_) (fun e he => Fin.ext ?_) (fun _ _ => rfl)).symm
  · have := e.isLt; show (t.val * 64 + e.val) / 64 = t.val; omega
  · have := e.isLt; show (t.val * 64 + e.val) % 64 = e.val; omega
  · have h := (Finset.mem_filter.1 he).2; show t.val * 64 + e.val % 64 = e.val; omega

/-- The kernel's base-2 score is the natural score over `log 2`. -/
theorem sg_eq (Q K : ℕ → Fin 128 → ℝ) (t : Fin 2) (y x : ℕ) : sg Q K t y x = tau Q K t y x / Real.log 2 := by
  unfold sg qs tau
  have h : ∀ e : Fin 128, K x e * (if e.val / 64 = t.val then Q y e * (8 * Real.log 2)⁻¹ else 0)
      = if e.val / 64 = t.val then Q y e * K x e * (8 * Real.log 2)⁻¹ else 0 := fun e => by
    by_cases he : e.val / 64 = t.val
    · rw [if_pos he, if_pos he]; ring
    · rw [if_neg he, if_neg he, mul_zero]
  rw [Finset.sum_congr rfl fun e _ => h e, sum_half (fun e => Q y e * K x e * (8 * Real.log 2)⁻¹) t, ← Finset.sum_mul, mul_inv]
  ring

theorem two_pow (x : ℝ) : Real.rpow 2 (x / Real.log 2) = Real.exp x := by
  show (2 : ℝ) ^ (x / Real.log 2) = _
  rw [Real.rpow_def_of_pos (by norm_num), mul_div_cancel₀ x (ne_of_gt (Real.log_pos (by norm_num)))]

/-- The exponentiated score less `M`, zero past the diagonal. -/
def ew (τ : ℕ → ℝ) (M : ℝ) (y x : ℕ) : ℝ := if x ≤ y then Real.exp (τ x - M) else 0

theorem sum_ew (τ : ℕ → ℝ) (M : ℝ) (y : Fin 2048) (f : ℕ → ℝ) :
    ∑ x : Fin 2048, ew τ M y.val x.val * f x.val = Real.exp (-M) * ∑ x ∈ Finset.range (y.val + 1), Real.exp (τ x) * f x := by
  rw [Fin.sum_univ_eq_sum_range (fun x => ew τ M y.val x * f x) 2048, Finset.mul_sum,
    ← Finset.sum_subset (Finset.range_subset_range.2 (show y.val + 1 ≤ 2048 from y.isLt))]
  · refine Finset.sum_congr rfl fun x hx => ?_
    rw [ew, if_pos (by have := Finset.mem_range.1 hx; omega), sub_eq_add_neg, Real.exp_add]
    ring
  · intro x _ hx
    rw [ew, if_neg (fun h => hx (Finset.mem_range.2 (by omega))), zero_mul]

theorem sum_ew_one (τ : ℕ → ℝ) (M : ℝ) (y : Fin 2048) :
    ∑ x : Fin 2048, ew τ M y.val x.val = Real.exp (-M) * ∑ x ∈ Finset.range (y.val + 1), Real.exp (τ x) := by
  have h := sum_ew τ M y (fun _ => 1)
  simpa only [mul_one] using h

theorem sum_exp_pos (τ : ℕ → ℝ) (y : ℕ) : 0 < ∑ x ∈ Finset.range (y + 1), Real.exp (τ x) :=
  Finset.sum_pos (fun x _ => Real.exp_pos _) ⟨0, Finset.mem_range.2 (by omega)⟩

theorem att_eq (Q K V : ℕ → Fin 128 → ℝ) (t : Fin 2) (M : ℝ) (y : Fin 2048) (d : Fin 128) :
    ∑ x : Fin 2048, V x.val d * (ew (tau Q K t y.val) M y.val x.val / ∑ x' : Fin 2048, ew (tau Q K t y.val) M y.val x'.val)
      = att (sg Q K t y.val) V y.val d := by
  unfold att
  have h : ∀ x, Real.rpow 2 (sg Q K t y.val x) = Real.exp (tau Q K t y.val x) := fun x => by rw [sg_eq, two_pow]
  simp only [h]
  have hs := sum_ew_one (tau Q K t y.val) M y
  have hv := sum_ew (tau Q K t y.val) M y (fun x => V x d)
  have e : ∀ x : Fin 2048, V x.val d * (ew (tau Q K t y.val) M y.val x.val / ∑ x' : Fin 2048, ew (tau Q K t y.val) M y.val x'.val)
      = ew (tau Q K t y.val) M y.val x.val * V x.val d / ∑ x' : Fin 2048, ew (tau Q K t y.val) M y.val x'.val := fun x => by ring
  rw [Finset.sum_congr rfl fun x _ => e x, ← Finset.sum_div, hv, hs, mul_div_mul_left _ _ (Real.exp_pos _).ne']

section
variable (z : FVec Ideal S5x16384x1024 .f32) (k v : FVec Ideal S16384x1024 .f32) (b h : Fin 8) (Q K V : ℕ → Fin 128 → ℝ)
  (hQ : ∀ (y : Fin 2048) (e : Fin 128), z (ix3 4 ⟨b.val * 2048 + y.val, by omega⟩ ⟨h.val * 128 + e.val, by omega⟩) = (Q y.val e : EReal))
  (hK : ∀ (x : Fin 2048) (e : Fin 128), k (ix2 ⟨b.val * 2048 + x.val, by omega⟩ ⟨h.val * 128 + e.val, by omega⟩) = (K x.val e : EReal))
  (hV : ∀ (x : Fin 2048) (e : Fin 128), v (ix2 ⟨b.val * 2048 + x.val, by omega⟩ ⟨h.val * 128 + e.val, by omega⟩) = (V x.val e : EReal))

include hQ hK in
theorem scores_real (t : Fin 2) (y x : Fin 2048) :
    scores z k (ix5 b h t y x) = if x.val ≤ y.val then ((tau Q K t y.val x.val : ℝ) : EReal) else ⊥ := by
  rw [scores_apply]
  by_cases hx : x.val ≤ y.val
  · rw [if_pos hx, if_pos hx, tau, ofBits_eighth, EReal.coe_mul, coe_sum]
    refine congrArg (· * _) (Finset.sum_congr rfl fun e _ => ?_)
    have h1 := hQ y ⟨t.val * 64 + e.val, by omega⟩
    have h2 := hK x ⟨t.val * 64 + e.val, by omega⟩
    simp only [← Nat.add_assoc] at h1 h2
    rw [h1, h2, ← EReal.coe_mul]
  · rw [if_neg hx, if_neg hx]

include hQ hK in
theorem soft_real (t : Fin 2) (y : Fin 2048) : ∃ M : ℝ, ∀ x : Fin 2048,
    soft (expd (scores z k) (maxes (scores z k))) (ix5 b h t y x)
      = ((ew (tau Q K t y.val) M y.val x.val / ∑ x' : Fin 2048, ew (tau Q K t y.val) M y.val x'.val : ℝ) : EReal) := by
  obtain ⟨M, hM⟩ := maxes_real (scores z k) b h t y ⟨0, by decide⟩
    (fun x => by rw [scores_real z k b h Q K hQ hK]; split_ifs <;> simp)
    (by rw [scores_real z k b h Q K hQ hK, if_pos (Nat.zero_le _)]; simp)
  have he : ∀ x, expd (scores z k) (maxes (scores z k)) (ix5 b h t y x) = ((ew (tau Q K t y.val) M y.val x.val : ℝ) : EReal) := fun x => by
    rw [expd_apply, hM, scores_real z k b h Q K hQ hK, max_eq_right bot_le, ew]
    by_cases hx : x.val ≤ y.val
    · rw [if_pos hx, if_pos hx, ← EReal.coe_sub, Ideal.exp_coe]
    · rw [if_neg hx, if_neg hx, EReal.bot_sub, Ideal.exp_bot, EReal.coe_zero]
  refine ⟨M, fun x => ?_⟩
  have hp : (∑ x' : Fin 2048, ew (tau Q K t y.val) M y.val x'.val) ≠ 0 := by
    rw [sum_ew_one]; exact (mul_pos (Real.exp_pos _) (sum_exp_pos _ _)).ne'
  rw [soft_apply, he, Finset.sum_congr rfl fun x' _ => he x', ← coe_sum, Ideal.div_coe hp, ← EReal.coe_mul, mul_one_div]

include hQ hK hV in
theorem mix_real (lam : FVec Ideal S_ .f32) (L : ℝ) (hL : lam ix0 = (L : EReal)) (y : Fin 2048) (d : Fin 128) :
    mix (soft (expd (scores z k) (maxes (scores z k)))) lam v (ix4 b h d y)
      = (att (sg Q K 0 y.val) V y.val d : EReal) - lam ix0 * (att (sg Q K 1 y.val) V y.val d : EReal) := by
  obtain ⟨M₀, h₀⟩ := soft_real z k b h Q K hQ hK 0 y
  obtain ⟨M₁, h₁⟩ := soft_real z k b h Q K hQ hK 1 y
  rw [mix_apply, hL, ← att_eq Q K V 0 M₀, ← att_eq Q K V 1 M₁, ← EReal.coe_mul, ← EReal.coe_sub, Finset.mul_sum, ← Finset.sum_sub_distrib, coe_sum]
  refine Finset.sum_congr rfl fun x _ => ?_
  rw [hV, h₀, h₁, ← EReal.coe_mul, ← EReal.coe_sub, ← EReal.coe_mul]
  congr 1
  ring
end

theorem lamv_real (a b c d : Fin 64 → ℝ) : ∃ L : ℝ, lamv (fun e => (a e : EReal)) (fun e => (b e : EReal)) (fun e => (c e : EReal)) (fun e => (d e : EReal)) = (L : EReal) := by
  have hc : ∃ r : ℝ, Ideal.ofBits .f32 0x3E4CCCCD#32 = (r : EReal) := ⟨_, by simp [Ideal.ofBits, Ideal.ieee]; rfl⟩
  obtain ⟨r, hr⟩ := hc
  refine ⟨Real.exp (∑ e, a e * b e) - Real.exp (∑ e, c e * d e) + r, ?_⟩
  unfold lamv
  simp only [← EReal.coe_mul]
  rw [← coe_sum, ← coe_sum, Ideal.exp_coe, Ideal.exp_coe, hr, ← EReal.coe_sub, ← EReal.coe_add]

theorem ref_final (l1 l2 l3 l4 : FVec Ideal S1x64 .f32) (w : FVec Ideal S1x128 .f32) (z : FVec Ideal S5x16384x1024 .f32) (k v : FVec Ideal S16384x1024 .f32)
    (h1 : ∀ e, ((l1 (ix2 0 e)).toReal : EReal) = l1 (ix2 0 e)) (h2 : ∀ e, ((l2 (ix2 0 e)).toReal : EReal) = l2 (ix2 0 e))
    (h3 : ∀ e, ((l3 (ix2 0 e)).toReal : EReal) = l3 (ix2 0 e)) (h4 : ∀ e, ((l4 (ix2 0 e)).toReal : EReal) = l4 (ix2 0 e))
    (hz : ∀ r l, ((z (ix3 4 r l)).toReal : EReal) = z (ix3 4 r l)) (hk : ∀ r l, ((k (ix2 r l)).toReal : EReal) = k (ix2 r l))
    (hv : ∀ r l, ((v (ix2 r l)).toReal : EReal) = v (ix2 r l)) :
    normed (mix (soft (expd (scores z k) (maxes (scores z k)))) (lamT l1 l2 l3 l4) v) w
      = cells (fun e => l1 (ix2 0 e)) (fun e => l2 (ix2 0 e)) (fun e => l3 (ix2 0 e)) (fun e => l4 (ix2 0 e)) (fun e => w (ix2 0 e))
          (fun r l => z (ix3 4 r l)) (fun r l => k (ix2 r l)) (fun r l => v (ix2 r l)) := by
  funext j
  obtain ⟨r, l, rfl⟩ : ∃ (r : Fin 16384) (l : Fin 1024), j = ix2 r l := ⟨j 0, j 1, eq_ix2 j⟩
  obtain ⟨L, hL⟩ := lamv_real (fun e => (l1 (ix2 0 e)).toReal) (fun e => (l2 (ix2 0 e)).toReal) (fun e => (l3 (ix2 0 e)).toReal) (fun e => (l4 (ix2 0 e)).toReal)
  simp only [h1, h2, h3, h4] at hL
  have hl := lamT_apply l1 l2 l3 l4
  have hr := r.isLt
  have hll := l.isLt
  rw [normed_apply]
  show _ = cell _ _ _ _ _ _ _ _ (r.val / 2048) (l.val / 128) (r.val % 2048) ⟨l.val % 128, Nat.mod_lt _ (by decide)⟩
  unfold cell rowv
  congr 1
  funext d
  rw [← hl]
  have er : ∀ y : Fin 2048, rowIx (r.val / 2048) y.val = ⟨r.val / 2048 * 2048 + y.val, by omega⟩ := fun y => Fin.ext (Nat.mod_eq_of_lt (by omega))
  have el : ∀ e : Fin 128, laneIx (l.val / 128) e = ⟨l.val / 128 * 128 + e.val, by omega⟩ := fun e => Fin.ext (Nat.mod_eq_of_lt (by omega))
  refine mix_real z k v ⟨r.val / 2048, by omega⟩ ⟨l.val / 128, by omega⟩ _ _ _ (fun y e => ?_) (fun y e => ?_) (fun y e => ?_) _ L (hl.trans hL)
    ⟨r.val % 2048, Nat.mod_lt _ (by decide)⟩ d
  · rw [er, el]; exact (hz _ _).symm
  · rw [er, el]; exact (hk _ _).symm
  · rw [er, el]; exact (hv _ _).symm

end Cert.Attn.Ref
-- ==== Proof.AttnClaims.lean ====
/-
  THE CLAIMS ABOUT THE PROMPT ATTENTION.
-/
module

public import proofs.«01_k».proof.Proof.Finite
public import proofs.«01_k».proof.Proof.RefMath
public import proofs.«01_k».proof.Proof.Gen.Kernel.Frame
public import Idealize.ShloMosaic.Lib.Quiescent

@[expose] public section

set_option maxRecDepth 16384

noncomputable section

namespace Cert.Attn

open Idealize.ShloMosaic Idealize.SL.Sem

theorem frame_p : Cert.quiescent_Kernel (hKernel := Cert.Kernel.Gen.facts) := fun m ρ _ => Cert.Kernel.Gen.frame m ρ
theorem frame_pi : Cert.quiescent_KernelIdeal (hKernelIdeal := Cert.KernelIdeal.Gen.facts) := fun m ρ _ => Cert.KernelIdeal.Gen.frame m ρ
theorem frame_pi_pre : Cert.quiescent_KernelIdeal_pre_finite (hKernelIdeal := Cert.KernelIdeal.Gen.facts) (hPre_finite := Cert.Pre_finite.facts) :=
  fun m ρ _ => Cert.KernelIdeal.Gen.frame m ρ
theorem frame_ri : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)
theorem frame_ri_pre : Cert.quiescent_ReferenceIdeal_pre_finite (hReferenceIdeal := Cert.ReferenceIdeal.Gen.facts) (hPre_finite := Cert.Pre_finite.facts) :=
  fun m ρ _ => frame_ri m ρ trivial

theorem preserves : Cert.preserves_Kernel_KernelIdeal :=
  IdealRules.named_const.statement Cert.KernelIdeal.κ "qscale" .f32 0x3E38AA3B#32 (((8 * (Real.log 2))⁻¹ : ℝ) : EReal) rfl

/-- What the precondition gives of a device's arguments. -/
theorem entries (m : (ℓ : Loc Cert.KernelIdeal.nD Cert.KernelIdeal.τ Cert.KernelIdeal.sig) → Buf (Elt Ideal) ℓ)
    (h : Cert.Pre_KernelIdeal_finite (hPre_finite := Cert.Pre_finite.facts) m) (c : Dev Cert.KernelIdeal.nD) :
    (∀ e, ((m ((c.tc : Thread _ Cert.KernelIdeal.τ).loc Cert.KernelIdeal.main_arg0) (ix2 0 e) : EReal).toReal : EReal) = m ((c.tc : Thread _ Cert.KernelIdeal.τ).loc Cert.KernelIdeal.main_arg0) (ix2 0 e))
    ∧ (∀ e, ((m ((c.tc : Thread _ Cert.KernelIdeal.τ).loc Cert.KernelIdeal.main_arg1) (ix2 0 e) : EReal).toReal : EReal) = m ((c.tc : Thread _ Cert.KernelIdeal.τ).loc Cert.KernelIdeal.main_arg1) (ix2 0 e))
    ∧ (∀ e, ((m ((c.tc : Thread _ Cert.KernelIdeal.τ).loc Cert.KernelIdeal.main_arg2) (ix2 0 e) : EReal).toReal : EReal) = m ((c.tc : Thread _ Cert.KernelIdeal.τ).loc Cert.KernelIdeal.main_arg2) (ix2 0 e))
    ∧ (∀ e, ((m ((c.tc : Thread _ Cert.KernelIdeal.τ).loc Cert.KernelIdeal.main_arg3) (ix2 0 e) : EReal).toReal : EReal) = m ((c.tc : Thread _ Cert.KernelIdeal.τ).loc Cert.KernelIdeal.main_arg3) (ix2 0 e))
    ∧ (∀ r l, ((m ((c.tc : Thread _ Cert.KernelIdeal.τ).loc Cert.KernelIdeal.main_arg5) (ix3 4 r l) : EReal).toReal : EReal) = m ((c.tc : Thread _ Cert.KernelIdeal.τ).loc Cert.KernelIdeal.main_arg5) (ix3 4 r l))
    ∧ (∀ r l, ((m ((c.tc : Thread _ Cert.KernelIdeal.τ).loc Cert.KernelIdeal.main_arg6) (ix2 r l) : EReal).toReal : EReal) = m ((c.tc : Thread _ Cert.KernelIdeal.τ).loc Cert.KernelIdeal.main_arg6) (ix2 r l))
    ∧ (∀ r l, ((m ((c.tc : Thread _ Cert.KernelIdeal.τ).loc Cert.KernelIdeal.main_arg7) (ix2 r l) : EReal).toReal : EReal) = m ((c.tc : Thread _ Cert.KernelIdeal.τ).loc Cert.KernelIdeal.main_arg7) (ix2 r l)) := by
  obtain ⟨h0, h1, h2, h3, h5, h6, h7⟩ := h c
  exact ⟨fun e => Cert.Pre_finite.row_real Cert.Pre_finite.facts _ _ (congrFun h0 _), fun e => Cert.Pre_finite.row_real Cert.Pre_finite.facts _ _ (congrFun h1 _),
    fun e => Cert.Pre_finite.row_real Cert.Pre_finite.facts _ _ (congrFun h2 _), fun e => Cert.Pre_finite.row_real Cert.Pre_finite.facts _ _ (congrFun h3 _),
    Cert.Pre_finite.plane_real Cert.Pre_finite.facts _ (fun j => congrFun h5 j),
    fun r l => Cert.Pre_finite.mat_real Cert.Pre_finite.facts _ _ (congrFun h6 _), fun r l => Cert.Pre_finite.mat_real Cert.Pre_finite.facts _ _ (congrFun h7 _)⟩

theorem algebraic : Cert.algebraic_KernelIdeal_ReferenceIdeal_pre_finite (hKernelIdeal := Cert.KernelIdeal.Gen.facts)
    (hReferenceIdeal := Cert.ReferenceIdeal.Gen.facts) (hPre_finite := Cert.Pre_finite.facts) := by
  intro m ρ m' ρ' hpre hag
  refine ⟨_, Cert.KernelIdeal.Value.run_blocks (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7⟩ := hag c
  obtain ⟨h0, h1, h2, h3, h5, h6, h7⟩ := entries m hpre c
  rw [Ref.result_eq, e0, e1, e2, e3, e4, e5, e6, e7]
  exact (Ref.ref_final _ _ _ _ _ _ _ _ h0 h1 h2 h3 h5 h6 h7).trans (final m c h5 h6 h7).symm

end Cert.Attn
-- ==== Proof.InPay.lean ====
module

public import proofs.«01_k».proof.Proof.Gen.Kernel2Ideal.Value
public import Idealize.ShloMosaic.Lib.Pipeline.ValueKit
public import Idealize.ShloMosaic.Lib.Pipeline.ValueKit.Point
public import Idealize.ShloMosaic.Lib.Pipeline.Covers
public import Idealize.ShloMosaic.Lib.Pipeline.ReadBack

@[expose] public section

set_option maxRecDepth 16384

noncomputable section

namespace Cert.In

open Idealize.ShloMosaic Cert.Kernel2Ideal Cert.Kernel2Ideal.Gen

/-- The adaLN-modulated RMS norm of one row. -/
def hval (x g sc sh : Fin 2048 → EReal) (k : Fin 2048) : EReal :=
  x k * Ideal.rsqrt (Ideal.div (∑ j, x j * x j) (Ideal.ofBits .f32 0x45000000#32) + Ideal.ofBits .f32 0x358637bd#32) * g k
    * (Ideal.ofBits .f32 0x3f800000#32 + sc k) + sh k

/-- One lane of a pair of heads turned by the tables' values `a b c`: the lane, the one eight below, the one eight above (cyclically). -/
def turn (u : ℕ → EReal) (a b c : EReal) (l : ℕ) : EReal := u l * a + u ((l + 128 - 8) % 128) * b + u ((l + 128 - 120) % 128) * c

theorem h_apply (x0 : Vec Ideal S256x2048 .f32) (x3 : Vec Ideal S1x2048 .f32) (x2 x1 : Vec Ideal S1x1x2048 .f32) (r : Fin 256) (k : Fin 2048) :
    k0_pay3 x0 x3 x2 x1 (ix2 r k) = hval (fun j => x0 (ix2 r j)) (fun j => x3 (ix2 0 j)) (fun j => x2 (ix3 0 0 j)) (fun j => x1 (ix3 0 0 j)) k := by
  unfold hval
  pointwise [k0_pay3]

theorem p9 (h : FVec Ideal S256x2048 .bf16) (w : Vec Ideal S2048x1024 .bf16) (r : Fin 256) (n : Fin 1024) :
    k0_pay9 h w (ix2 r n) = ∑ k, h (ix2 r k) * w (ix2 k n) := by
  pointwise [k0_pay9]

theorem p30 (h : FVec Ideal S256x2048 .bf16) (w : Vec Ideal S2048x1024 .bf16) (r : Fin 256) (n : Fin 1024) :
    k0_pay30 h w (ix2 r n) = ∑ k, h (ix2 r k) * w (ix2 k n) := by
  pointwise [k0_pay30]

theorem p2 (h : FVec Ideal S256x2048 .bf16) (w : Vec Ideal S2048x1024 .bf16) (r : Fin 256) (n : Fin 1024) :
    k0_pay2 h w (ix2 r n) = ∑ k, h (ix2 r k) * w (ix2 k n) := by
  pointwise [k0_pay2]

theorem p7 (h : FVec Ideal S256x2048 .bf16) (w : Vec Ideal S2048x1024 .bf16) (r : Fin 256) (n : Fin 1024) :
    k0_pay7 h w (ix3 0 r n) = ∑ k, h (ix2 r k) * w (ix2 k n) := by
  pointwise [k0_pay7]

theorem p8 (h : FVec Ideal S256x2048 .bf16) (w : Vec Ideal S2048x1024 .bf16) (r : Fin 256) (n : Fin 1024) :
    k0_pay8 h w (ix3 0 r n) = ∑ k, h (ix2 r k) * w (ix2 k n) := by
  pointwise [k0_pay8]

theorem p4 (x0 : Vec Ideal S256x2048 .f32) (x3 : Vec Ideal S1x2048 .f32) (x2 x1 : Vec Ideal S1x1x2048 .f32) (w : Vec Ideal S2048x1024 .bf16) (r : Fin 256) (n : Fin 1024) :
    k0_pay4 x0 x3 x2 x1 w (ix3 0 r n) = ∑ k, k0_pay3 x0 x3 x2 x1 (ix2 r k) * w (ix2 k n) := by
  pointwise [k0_pay4]

theorem p6 (x0 : Vec Ideal S256x2048 .f32) (x3 : Vec Ideal S1x2048 .f32) (x2 x1 : Vec Ideal S1x1x2048 .f32) (w : Vec Ideal S2048x1024 .bf16) (r : Fin 256) (n : Fin 1024) :
    k0_pay6 (k0_pay5 x0 x3 x2 x1 w) (ix3 0 r n) = ∑ k, k0_pay3 x0 x3 x2 x1 (ix2 r k) * w (ix2 k n) := by
  pointwise [k0_pay6, k0_pay5]

section
variable (u : FVec Ideal S256x1024 .f32) (a b c : Vec Ideal S256x128 .f32) (r : Fin 256) (l : Fin 128) (U : ℕ → EReal)
  (hU : ∀ n : Fin 1024, u (ix2 r n) = U n)
include hU

theorem q1 : k0_pay11 u a b c (ix2 r l) = turn (fun j => U (128 + j)) (a (ix2 r l)) (b (ix2 r l)) (c (ix2 r l)) l := by
  unfold turn
  pointwise [k0_pay11]
  simp only [hU]

theorem q2 : k0_pay16 (k0_pay13 c) (k0_pay14 u a b) (k0_pay15 u) (ix2 r l) = turn (fun j => U (256 + j)) (a (ix2 r l)) (b (ix2 r l)) (c (ix2 r l)) l := by
  unfold turn
  pointwise [k0_pay12, k0_pay13, k0_pay14, k0_pay15, k0_pay16]
  simp only [hU]

theorem q3 : k0_pay17 u a b c (ix2 r l) = turn (fun j => U (384 + j)) (a (ix2 r l)) (b (ix2 r l)) (c (ix2 r l)) l := by
  unfold turn
  pointwise [k0_pay17]
  simp only [hU]

theorem q4 : k0_pay21 (k0_pay18 u) (k0_pay19 c) (k0_pay20 u a b) (ix2 r l) = turn (fun j => U (512 + j)) (a (ix2 r l)) (b (ix2 r l)) (c (ix2 r l)) l := by
  unfold turn
  pointwise [k0_pay18, k0_pay19, k0_pay20, k0_pay21]
  simp only [hU]

theorem q5 : k0_pay22 u a b c (ix2 r l) = turn (fun j => U (640 + j)) (a (ix2 r l)) (b (ix2 r l)) (c (ix2 r l)) l := by
  unfold turn
  pointwise [k0_pay22]
  simp only [hU]

theorem q6 : k0_pay28 (k0_pay23 u) (k0_pay24 b) (k0_pay25 c) (k0_pay26 u a) (k0_pay27 u) (ix2 r l) = turn (fun j => U (768 + j)) (a (ix2 r l)) (b (ix2 r l)) (c (ix2 r l)) l := by
  unfold turn
  pointwise [k0_pay23, k0_pay24, k0_pay25, k0_pay26, k0_pay27, k0_pay28]
  simp only [hU]

theorem q7 : k0_pay29 u a b c (ix2 r l) = turn (fun j => U (896 + j)) (a (ix2 r l)) (b (ix2 r l)) (c (ix2 r l)) l := by
  unfold turn
  pointwise [k0_pay29]
  simp only [hU]

theorem t1 : k0_pay34 u a b c (ix2 r l) = turn (fun j => U (128 + j)) (a (ix2 r l)) (b (ix2 r l)) (c (ix2 r l)) l := by
  unfold turn
  pointwise [k0_pay34]
  simp only [hU]

theorem t2 : k0_pay40 (k0_pay35 u) (k0_pay36 b) (k0_pay37 c) (k0_pay38 u a) (k0_pay39 u) (ix2 r l) = turn (fun j => U (256 + j)) (a (ix2 r l)) (b (ix2 r l)) (c (ix2 r l)) l := by
  unfold turn
  pointwise [k0_pay35, k0_pay36, k0_pay37, k0_pay38, k0_pay39, k0_pay40]
  simp only [hU]

theorem t3 : k0_pay41 u a b c (ix2 r l) = turn (fun j => U (384 + j)) (a (ix2 r l)) (b (ix2 r l)) (c (ix2 r l)) l := by
  unfold turn
  pointwise [k0_pay41]
  simp only [hU]

theorem t4 : k0_pay42 u a b c (ix2 r l) = turn (fun j => U (512 + j)) (a (ix2 r l)) (b (ix2 r l)) (c (ix2 r l)) l := by
  unfold turn
  pointwise [k0_pay42]
  simp only [hU]

theorem t5 : k0_pay43 u a b c (ix2 r l) = turn (fun j => U (640 + j)) (a (ix2 r l)) (b (ix2 r l)) (c (ix2 r l)) l := by
  unfold turn
  pointwise [k0_pay43]
  simp only [hU]

theorem t6 : k0_pay44 u a b c (ix2 r l) = turn (fun j => U (768 + j)) (a (ix2 r l)) (b (ix2 r l)) (c (ix2 r l)) l := by
  unfold turn
  pointwise [k0_pay44]
  simp only [hU]

theorem t7 : k0_pay1 (k0_pay45 u) (k0_pay46 a) b c (ix2 r l) = turn (fun j => U (896 + j)) (a (ix2 r l)) (b (ix2 r l)) (c (ix2 r l)) l := by
  unfold turn
  pointwise [k0_pay45, k0_pay46, k0_pay1]
  simp only [hU]

end

section
variable (h : FVec Ideal S256x2048 .bf16) (w : Vec Ideal S2048x1024 .bf16) (a b c : Vec Ideal S256x128 .f32) (r : Fin 256) (l : Fin 128) (U : ℕ → EReal)

theorem q0 (hU : ∀ n : Fin 1024, k0_pay9 h w (ix2 r n) = U n) :
    k0_pay10 h w a b c (ix2 r l) = turn (fun j => U (0 + j)) (a (ix2 r l)) (b (ix2 r l)) (c (ix2 r l)) l := by
  unfold turn
  pointwise [k0_pay10]
  simp only [hU, Nat.zero_add]

theorem t0 (hU : ∀ n : Fin 1024, k0_pay30 h w (ix2 r n) = U n) :
    k0_pay33 (k0_pay31 h w) (k0_pay32 a) b c (ix2 r l) = turn (fun j => U (0 + j)) (a (ix2 r l)) (b (ix2 r l)) (c (ix2 r l)) l := by
  unfold turn
  pointwise [k0_pay31, k0_pay32, k0_pay33]
  simp only [hU, Nat.zero_add]
end

/-- One row of the normed tokens against one column of the weight; the column is counted modulo the weight's width. -/
def zcol (h : Fin 2048 → EReal) (w : Vec Ideal S2048x7168 .bf16) (n : ℕ) : EReal := ∑ k, h k * w (ix2 k ⟨n % 7168, Nat.mod_lt _ (by norm_num)⟩)

theorem ld_cols (w : Vec Ideal S2048x7168 .bf16) (o : ℕ) (ho : o + 1024 ≤ 7168) (inb) (k : Fin 2048) (n : Fin 1024) :
    View.ld w (Rect.unit (s := S2048x7168) ![0, o] S2048x1024.size inb) (ix2 k n) = w (ix2 k ⟨(o + n.val) % 7168, Nat.mod_lt _ (by norm_num)⟩) := by
  refine congrArg w (funext fun i => Fin.ext ?_)
  have : (o + n.val) % 7168 = o + n.val := Nat.mod_eq_of_lt (by omega)
  fin_cases i <;> simp [LoadRect.idx_apply, Rect.unit, Rect.toLoadRect, ix2, this]

theorem hz2 : (![0, 0] : Fin 2 → ℕ) = fun _ => 0 := by funext i; fin_cases i <;> rfl
theorem hz3 : (![0, 0, 0] : Fin 3 → ℕ) = fun _ => 0 := by funext i; fin_cases i <;> rfl

section
variable (H : FVec Ideal S256x2048 .bf16) (w : Vec Ideal S2048x7168 .bf16) (a b c : Vec Ideal S256x128 .f32)

/-- The projected keys of one block of rows: each lane turned inside its pair of heads. -/
def gK (y : S256x1024.Idx) : EReal :=
  turn (fun j => zcol (fun k => H (ix2 (y 0) k)) w (5120 + ((y 1).val / 128 * 128 + j)))
    (a (ix2 (y 0) ⟨(y 1).val % 128, Nat.mod_lt _ (by norm_num)⟩)) (b (ix2 (y 0) ⟨(y 1).val % 128, Nat.mod_lt _ (by norm_num)⟩))
    (c (ix2 (y 0) ⟨(y 1).val % 128, Nat.mod_lt _ (by norm_num)⟩)) ((y 1).val % 128)

/-- The four gate planes of one block of rows, and the turned queries on the fifth plane. -/
def gZ (y : S5x256x1024.Idx) : EReal :=
  if (y 0).val = 4 then
    turn (fun j => zcol (fun k => H (ix2 (y 1) k)) w (4096 + ((y 2).val / 128 * 128 + j)))
      (a (ix2 (y 1) ⟨(y 2).val % 128, Nat.mod_lt _ (by norm_num)⟩)) (b (ix2 (y 1) ⟨(y 2).val % 128, Nat.mod_lt _ (by norm_num)⟩))
      (c (ix2 (y 1) ⟨(y 2).val % 128, Nat.mod_lt _ (by norm_num)⟩)) ((y 2).val % 128)
  else zcol (fun k => H (ix2 (y 1) k)) w ((y 0).val * 1024 + (y 2).val)

theorem pieceK (o : ℕ) (ho : o % 128 = 0) (inb) (pay : S256x128.Idx → EReal)
    (hp : ∀ r l, pay (ix2 r l) = turn (fun j => zcol (fun k => H (ix2 r k)) w (5120 + (o + j))) (a (ix2 r l)) (b (ix2 r l)) (c (ix2 r l)) l)
    (x : S256x128.Idx) : pay x = gK H w a b c ((Rect.unit (s := S256x1024) ![0, o] S256x128.size inb).emb x) := by
  obtain ⟨r, l, rfl⟩ : ∃ r l, x = ix2 r l := ⟨x 0, x 1, by funext i; fin_cases i <;> rfl⟩
  have e0 : ((Rect.unit (s := S256x1024) ![0, o] S256x128.size inb).emb (ix2 r l)) 0 = r := Fin.ext (by
    rw [ValueKit.rect_emb_unit_val]; simp [ix2])
  have e1 : (((Rect.unit (s := S256x1024) ![0, o] S256x128.size inb).emb (ix2 r l)) 1).val = o + l.val := by
    rw [ValueKit.rect_emb_unit_val]; simp [ix2]
  have d : (o + l.val) / 128 * 128 = o := by omega
  have m : (o + l.val) % 128 = l.val := by omega
  rw [hp]; unfold gK
  simp only [e0, e1, d, m]

theorem pieceQ (o : ℕ) (ho : o % 128 = 0) (inb₀) (inb) (h0) (hs) (h₀) (hR) (pay : S256x128.Idx → EReal)
    (hp : ∀ r l, pay (ix2 r l) = turn (fun j => zcol (fun k => H (ix2 r k)) w (4096 + (o + j))) (a (ix2 r l)) (b (ix2 r l)) (c (ix2 r l)) l)
    (x : ((Rect.unit (s := S256x1024) ![0, o] S256x128.size inb).consLift ![1, 256, 1024] h0 hs).shape.Idx) :
    Rect.payAlong (r := Rect.unit (s := S256x1024) ![0, o] S256x128.size inb) hR pay x
      = gZ H w a b c (((Rect.unit (s := S5x256x1024) ![4, 0, 0] S1x256x1024.size inb₀).within
          ((Rect.unit (s := S256x1024) ![0, o] S256x128.size inb).consLift ![1, 256, 1024] h0 hs) h₀).emb x) := by
  have key : ∀ (y : S5x256x1024.Idx) (r : Fin 256) (l : Fin 128), (y 0).val = 4 → (y 1).val = r.val → (y 2).val = o + l.val → pay (ix2 r l) = gZ H w a b c y := by
    intro y r l e0 e1 e2
    have d : (o + l.val) / 128 * 128 = o := by omega
    have m : (o + l.val) % 128 = l.val := by omega
    have e1' : y 1 = r := Fin.ext e1
    rw [hp]; unfold gZ
    rw [if_pos e0]
    simp only [e1', e2, d, m]
  refine Eq.trans (Rect.payAlong_consLift (Rect.unit (s := S256x1024) ![0, o] S256x128.size inb) ![1, 256, 1024] h0 hs pay hR x (ix2 (x 1) (x 2))
    (by intro i; fin_cases i <;> rfl)) (key _ _ _ ?_ ?_ ?_)
  · have h : (x 0).val < 1 := (x 0).isLt
    refine (Rect.emb_apply _ _ _).trans ?_
    show 4 + 0 + 1 * (x 0).val = 4
    omega
  · refine (Rect.emb_apply _ _ _).trans ?_
    show 0 + 0 + 1 * (x 1).val = (x 1).val
    omega
  · refine (Rect.emb_apply _ _ _).trans ?_
    show 0 + o + 1 * (x 2).val = o + (x 2).val
    omega

theorem pieceP (p : ℕ) (hpp : p ≠ 4) (inb) (pay : S1x256x1024.Idx → EReal)
    (hp : ∀ r n, pay (ix3 0 r n) = zcol (fun k => H (ix2 r k)) w (p * 1024 + n.val))
    (x : S1x256x1024.Idx) : pay x = gZ H w a b c ((Rect.unit (s := S5x256x1024) ![p, 0, 0] S1x256x1024.size inb).emb x) := by
  obtain ⟨r, n, rfl⟩ : ∃ r n, x = ix3 0 r n := ⟨x 1, x 2, by
    funext i; fin_cases i
    · exact Fin.ext (by have : (x 0).val < 1 := (x 0).isLt; show (x 0).val = 0; omega)
    · rfl
    · rfl⟩
  have e0 : (((Rect.unit (s := S5x256x1024) ![p, 0, 0] S1x256x1024.size inb).emb (ix3 0 r n)) 0).val = p := by
    rw [ValueKit.rect_emb_unit_val]; simp [ix3]
  have e1 : ((Rect.unit (s := S5x256x1024) ![p, 0, 0] S1x256x1024.size inb).emb (ix3 0 r n)) 1 = r := Fin.ext (by
    rw [ValueKit.rect_emb_unit_val]; simp [ix3])
  have e2 : (((Rect.unit (s := S5x256x1024) ![p, 0, 0] S1x256x1024.size inb).emb (ix3 0 r n)) 2).val = n.val := by
    rw [ValueKit.rect_emb_unit_val]; simp [ix3]
  rw [hp]; unfold gZ
  rw [e0, if_neg hpp, e2]
  simp only [e1]
end

end Cert.In
-- ==== Proof.InOut.lean ====
module

public import proofs.«01_k».proof.Proof.InPay
public import Idealize.ShloMosaic.Lib.Pipeline.ValueKit
public import Idealize.ShloMosaic.Lib.Pipeline.ValueKit.Point
public import Idealize.ShloMosaic.Lib.Pipeline.ValueKit.Acc
public import Idealize.ShloMosaic.Lib.Pipeline.Covers
public import Idealize.ShloMosaic.Lib.Pipeline.ReadBack

@[expose] public section

set_option maxRecDepth 16384

noncomputable section

namespace Cert.In

open Idealize.ShloMosaic Cert.Kernel2Ideal Cert.Kernel2Ideal.Gen

section
variable (c : Dev nD) (i : grid0.Coords) (arg1 : Memref sig .tc .vmem S256x2048 .f32) (harg1 : arg1.IsWhole) (arg2 : Memref sig .tc .vmem S1x1x2048 .f32) (harg2 : arg2.IsWhole) (arg3 : Memref sig .tc .vmem S1x1x2048 .f32) (harg3 : arg3.IsWhole) (arg4 : Memref sig .tc .vmem S1x2048 .f32) (harg4 : arg4.IsWhole) (arg5 : Memref sig .tc .vmem S2048x7168 .bf16) (harg5 : arg5.IsWhole) (arg6 : Memref sig .tc .vmem S256x128 .f32) (harg6 : arg6.IsWhole) (arg7 : Memref sig .tc .vmem S256x128 .f32) (harg7 : arg7.IsWhole) (arg8 : Memref sig .tc .vmem S256x128 .f32) (harg8 : arg8.IsWhole) (arg9 : Memref sig .tc .vmem S5x256x1024 .f32) (harg9 : arg9.IsWhole) (arg10 : Memref sig .tc .vmem S256x1024 .f32) (harg10 : arg10.IsWhole) (arg11 : Memref sig .tc .vmem S256x1024 .f32) (harg11 : arg11.IsWhole)
    (x0 : Vec Ideal S256x2048 .f32) (x1 : Vec Ideal S1x1x2048 .f32) (x2 : Vec Ideal S1x1x2048 .f32) (x3 : Vec Ideal S1x2048 .f32) (x4 : Vec Ideal S2048x7168 .bf16) (x5 : Vec Ideal S256x128 .f32) (x6 : Vec Ideal S256x128 .f32) (x7 : Vec Ideal S256x128 .f32)

theorem cols (H : FVec Ideal S256x2048 .bf16) (o : ℕ) (ho : o + 1024 ≤ 7168) (inb) (r : Fin 256) (n : Fin 1024) :
    (∑ k, H (ix2 r k) * View.ld x4 (Rect.unit (s := S2048x7168) ![0, o] S2048x1024.size inb) (ix2 k n)) = zcol (fun k => H (ix2 r k)) x4 (o + n.val) := by
  unfold zcol
  exact Finset.sum_congr rfl fun k _ => by rw [ld_cols x4 o ho]

theorem out10_apply (y : S256x1024.Idx) :
    out0_A_10 c i arg1 harg1 arg2 harg2 arg3 harg3 arg4 harg4 arg5 harg5 arg6 harg6 arg7 harg7 arg8 harg8 arg9 harg9 arg10 harg10 arg11 harg11 x0 x1 x2 x3 x4 x5 x6 x7 y = zcol (fun k => k0_pay3 x0 x3 x2 x1 (ix2 (y 0) k)) x4 (6144 + (y 1).val) := by
  obtain ⟨r, n, rfl⟩ : ∃ (r : Fin 256) (n : Fin 1024), y = ix2 r n := ⟨y 0, y 1, eq_ix2 y⟩
  unfold out0_A_10; rw [View.read_writes_junk_eq_canon]; unfold kernelRun0_A
  dsimp only
  sl_unfold_words
  dsimp only
  simp (disch := decide) only [View.readAt_eq_ld, Memref.IsWhole.read_unread, View.canon_cons_unit_lit', View.ld_unit_lit']
  rw [p2, cols x4 _ 6144 (by norm_num)]
  rfl

theorem out9_apply (y : S256x1024.Idx) :
    out0_A_9 c i arg1 harg1 arg2 harg2 arg3 harg3 arg4 harg4 arg5 harg5 arg6 harg6 arg7 harg7 arg8 harg8 arg9 harg9 arg10 harg10 arg11 harg11 x0 x1 x2 x3 x4 x5 x6 x7 y = gK (k0_pay3 x0 x3 x2 x1) x4 x5 x6 x7 y := by
  unfold out0_A_9; rw [View.read_writes_junk_eq_canon]
  refine View.canon_apply_of_pieces (gK (k0_pay3 x0 x3 x2 x1) x4 x5 x6 x7) _ (View.PiecesOf.mem ?_) y (cover0_A_9 c i arg1 harg1 arg2 harg2 arg3 harg3 arg4 harg4 arg5 harg5 arg6 harg6 arg7 harg7 arg8 harg8 arg9 harg9 arg10 harg10 arg11 harg11 x0 x1 x2 x3 x4 x5 x6 x7 y)
  unfold kernelRun0_A
  dsimp only
  sl_unfold_words
  dsimp only
  simp (disch := decide) only [View.readAt_eq_ld, Memref.IsWhole.read_unread, View.ld_unit_lit']
  have hU : ∀ r (n : Fin 1024), k0_pay30 (k0_pay3 x0 x3 x2 x1) (View.ld x4 (Rect.unit (s := S2048x7168) ![0, 5120] S2048x1024.size inb_S2048x7168_S2048x1024_0_5120)) (ix2 r n)
      = zcol (fun k => k0_pay3 x0 x3 x2 x1 (ix2 r k)) x4 (5120 + n.val) := fun r n => by rw [p30, cols x4 _ 5120 (by norm_num)]
  refine ⟨pieceK _ x4 x5 x6 x7 896 (by norm_num) inb_S256x1024_S256x128_0_896 _ fun r l => t7 _ x5 x6 x7 r l (fun n => zcol _ x4 (5120 + n)) (hU r),
    pieceK _ x4 x5 x6 x7 768 (by norm_num) inb_S256x1024_S256x128_0_768 _ fun r l => t6 _ x5 x6 x7 r l (fun n => zcol _ x4 (5120 + n)) (hU r),
    pieceK _ x4 x5 x6 x7 640 (by norm_num) inb_S256x1024_S256x128_0_640 _ fun r l => t5 _ x5 x6 x7 r l (fun n => zcol _ x4 (5120 + n)) (hU r),
    pieceK _ x4 x5 x6 x7 512 (by norm_num) inb_S256x1024_S256x128_0_512 _ fun r l => t4 _ x5 x6 x7 r l (fun n => zcol _ x4 (5120 + n)) (hU r),
    pieceK _ x4 x5 x6 x7 384 (by norm_num) inb_S256x1024_S256x128_0_384 _ fun r l => t3 _ x5 x6 x7 r l (fun n => zcol _ x4 (5120 + n)) (hU r),
    pieceK _ x4 x5 x6 x7 256 (by norm_num) inb_S256x1024_S256x128_0_256 _ fun r l => t2 _ x5 x6 x7 r l (fun n => zcol _ x4 (5120 + n)) (hU r),
    pieceK _ x4 x5 x6 x7 128 (by norm_num) inb_S256x1024_S256x128_0_128 _ fun r l => t1 _ x5 x6 x7 r l (fun n => zcol _ x4 (5120 + n)) (hU r),
    pieceK _ x4 x5 x6 x7 0 (by norm_num) inb_S256x1024_S256x128_0_0 _ fun r l => t0 _ _ x5 x6 x7 r l (fun n => zcol _ x4 (5120 + n)) (hU r),
    trivial⟩

theorem out8_apply (y : S5x256x1024.Idx) :
    out0_A_8 c i arg1 harg1 arg2 harg2 arg3 harg3 arg4 harg4 arg5 harg5 arg6 harg6 arg7 harg7 arg8 harg8 arg9 harg9 arg10 harg10 arg11 harg11 x0 x1 x2 x3 x4 x5 x6 x7 y = gZ (k0_pay3 x0 x3 x2 x1) x4 x5 x6 x7 y := by
  unfold out0_A_8; rw [View.read_writes_junk_eq_canon]
  refine View.canon_apply_of_pieces (gZ (k0_pay3 x0 x3 x2 x1) x4 x5 x6 x7) _ (View.PiecesOf.mem ?_) y (cover0_A_8 c i arg1 harg1 arg2 harg2 arg3 harg3 arg4 harg4 arg5 harg5 arg6 harg6 arg7 harg7 arg8 harg8 arg9 harg9 arg10 harg10 arg11 harg11 x0 x1 x2 x3 x4 x5 x6 x7 y)
  unfold kernelRun0_A
  dsimp only
  sl_unfold_words
  dsimp only
  simp (disch := decide) only [View.readAt_eq_ld, Memref.IsWhole.read_unread, View.ld_unit_lit']
  have hU : ∀ r (n : Fin 1024), k0_pay9 (k0_pay3 x0 x3 x2 x1) (View.ld x4 (Rect.unit (s := S2048x7168) ![0, 4096] S2048x1024.size inb_S2048x7168_S2048x1024_0_4096)) (ix2 r n)
      = zcol (fun k => k0_pay3 x0 x3 x2 x1 (ix2 r k)) x4 (4096 + n.val) := fun r n => by rw [p9, cols x4 _ 4096 (by norm_num)]
  refine ⟨pieceQ _ x4 x5 x6 x7 896 (by norm_num) inb_S5x256x1024_S1x256x1024_4_0_0 inb_S256x1024_S256x128_0_896 rfl (by decide) (fun _ => rfl) (by decide) _ fun r l => q7 _ x5 x6 x7 r l (fun n => zcol _ x4 (4096 + n)) (hU r),
    pieceQ _ x4 x5 x6 x7 768 (by norm_num) inb_S5x256x1024_S1x256x1024_4_0_0 inb_S256x1024_S256x128_0_768 rfl (by decide) (fun _ => rfl) (by decide) _ fun r l => q6 _ x5 x6 x7 r l (fun n => zcol _ x4 (4096 + n)) (hU r),
    pieceQ _ x4 x5 x6 x7 640 (by norm_num) inb_S5x256x1024_S1x256x1024_4_0_0 inb_S256x1024_S256x128_0_640 rfl (by decide) (fun _ => rfl) (by decide) _ fun r l => q5 _ x5 x6 x7 r l (fun n => zcol _ x4 (4096 + n)) (hU r),
    pieceQ _ x4 x5 x6 x7 512 (by norm_num) inb_S5x256x1024_S1x256x1024_4_0_0 inb_S256x1024_S256x128_0_512 rfl (by decide) (fun _ => rfl) (by decide) _ fun r l => q4 _ x5 x6 x7 r l (fun n => zcol _ x4 (4096 + n)) (hU r),
    pieceQ _ x4 x5 x6 x7 384 (by norm_num) inb_S5x256x1024_S1x256x1024_4_0_0 inb_S256x1024_S256x128_0_384 rfl (by decide) (fun _ => rfl) (by decide) _ fun r l => q3 _ x5 x6 x7 r l (fun n => zcol _ x4 (4096 + n)) (hU r),
    pieceQ _ x4 x5 x6 x7 256 (by norm_num) inb_S5x256x1024_S1x256x1024_4_0_0 inb_S256x1024_S256x128_0_256 rfl (by decide) (fun _ => rfl) (by decide) _ fun r l => q2 _ x5 x6 x7 r l (fun n => zcol _ x4 (4096 + n)) (hU r),
    pieceQ _ x4 x5 x6 x7 128 (by norm_num) inb_S5x256x1024_S1x256x1024_4_0_0 inb_S256x1024_S256x128_0_128 rfl (by decide) (fun _ => rfl) (by decide) _ fun r l => q1 _ x5 x6 x7 r l (fun n => zcol _ x4 (4096 + n)) (hU r),
    pieceQ _ x4 x5 x6 x7 0 (by norm_num) inb_S5x256x1024_S1x256x1024_4_0_0 inb_S256x1024_S256x128_0_0 rfl (by decide) (fun _ => rfl) (by decide) _ fun r l => q0 _ _ x5 x6 x7 r l (fun n => zcol _ x4 (4096 + n)) (hU r),
    pieceP _ x4 x5 x6 x7 3 (by norm_num) inb_S5x256x1024_S1x256x1024_3_0_0 _ fun r n => (p8 _ _ r n).trans (cols x4 _ 3072 (by norm_num) _ r n),
    pieceP _ x4 x5 x6 x7 2 (by norm_num) inb_S5x256x1024_S1x256x1024_2_0_0 _ fun r n => (p7 _ _ r n).trans (cols x4 _ 2048 (by norm_num) _ r n),
    pieceP _ x4 x5 x6 x7 1 (by norm_num) inb_S5x256x1024_S1x256x1024_1_0_0 _ fun r n => (p6 _ _ _ _ _ r n).trans (cols x4 _ 1024 (by norm_num) _ r n),
    pieceP _ x4 x5 x6 x7 0 (by norm_num) inb_S5x256x1024_S1x256x1024_0_0_0 _ fun r n => (p4 _ _ _ _ _ r n).trans (cols x4 _ 0 (by norm_num) _ r n),
    trivial⟩
end

end Cert.In
-- ==== Proof.InTables.lean ====
/-
  THE RESULTS OF THE PROJECTION, in plain terms, and the turn the kernel makes with its three tables: at position s the tables hold, at
  lane l of a pair of heads, the cosine (one past the sixteenth lane of a head), the sine on lanes 8 to 15 of a head and minus the sine
  on lanes 0 to 7.
-/
module

public import proofs.«01_k».proof.Proof.InOut
public import Idealize.ShloMosaic.Lib.StableHlo.RunRead
public import Idealize.ShloMosaic.Lib.StableHlo.RunHlo

@[expose] public section

set_option maxRecDepth 16384

noncomputable section

namespace Cert.In

open Idealize.ShloMosaic Cert.Kernel2Ideal Cert.Kernel2Ideal.Gen

/-- The angle of frequency `i` at position `s`. -/
def ang (s i : ℕ) : EReal :=
  FloatOps.sitofp (F := Ideal) FTy.f32 (BitVec.ofNat 32 s) * Ideal.pow (Ideal.ofBits .f32 0x48f42400#32)
    (Ideal.div (-FloatOps.sitofp (F := Ideal) FTy.f32 (BitVec.ofNat 32 i)) (Ideal.ofBits .f32 0x41000000#32))

/-- Lane `d` of a head `u` at position `s`, its first sixteen lanes turned in pairs (d, d + 8). -/
def rope (s : ℕ) (u : ℕ → EReal) (d : ℕ) : EReal :=
  if d < 8 then u d * Ideal.cos (ang s d) - u (d + 8) * Ideal.sin (ang s d)
  else if d < 16 then u d * Ideal.cos (ang s (d - 8)) + u (d - 8) * Ideal.sin (ang s (d - 8))
  else u d

def cosT (s l : ℕ) : EReal := if l % 64 < 16 then Ideal.cos (ang s (l % 64 % 8)) else 1
def sinA (s l : ℕ) : EReal := if l % 64 < 8 then 0 else if l % 64 < 16 then Ideal.sin (ang s (l % 64 % 8)) else 0
def sinB (s l : ℕ) : EReal := if l % 64 < 8 then -Ideal.sin (ang s (l % 64 % 8)) else 0

theorem turn_eq (u : ℕ → EReal) (s l : ℕ) (hl : l < 128) :
    turn u (cosT s l) (sinA s l) (sinB s l) l = rope s (fun d => u (l / 64 * 64 + d)) (l % 64) := by
  have e0 : l / 64 * 64 + l % 64 = l := by omega
  unfold turn cosT sinA sinB rope
  by_cases h1 : l % 64 < 8
  · have h2 : l % 64 < 16 := by omega
    have e1 : (l + 128 - 120) % 128 = l + 8 := by omega
    have e2 : l / 64 * 64 + (l % 64 + 8) = l + 8 := by omega
    have e3 : l % 64 % 8 = l % 64 := by omega
    simp only [h1, h2, if_true, e0, e1, e2, e3, mul_zero, add_zero, mul_neg, sub_eq_add_neg]
  · by_cases h2 : l % 64 < 16
    · have e1 : (l + 128 - 8) % 128 = l - 8 := by omega
      have e2 : l / 64 * 64 + (l % 64 - 8) = l - 8 := by omega
      have e3 : l % 64 % 8 = l % 64 - 8 := by omega
      simp only [h1, h2, if_true, if_false, e0, e1, e2, e3, mul_zero, add_zero]
    · simp only [h1, h2, if_false, e0, mul_zero, add_zero, mul_one]

variable (m : (ℓ : Loc nD τ sig) → Buf (Elt Ideal) ℓ) (c : Dev nD)

theorem V_w (j : S2048x7168.Idx) : V m c main_v0 j = m ((c.tc : Thread nD τ).loc main_arg3) j := by
  unfold_abbrev_sides
  after_reads_simp
  rfl

theorem V_cos (s : Fin 2048) (l : Fin 128) : V m c main_v19 (ix2 s l) = cosT s l := by
  unfold_abbrev_sides
  after_reads_simp
  pointwise
  after_reads_simp
  pointwise
  unfold cosT
  split_ifs <;> first | (exfalso; omega) | rfl | exact congrArg (fun i => Ideal.cos (ang s i)) (by omega)

theorem V_a (s : Fin 2048) (l : Fin 128) : V m c main_v20 (ix2 s l) = sinA s l := by
  unfold_abbrev_sides
  after_reads_simp
  pointwise
  after_reads_simp
  pointwise
  unfold sinA
  split_ifs <;> first | (exfalso; omega) | rfl | exact congrArg (fun i => Ideal.sin (ang s i)) (by omega)

theorem V_b (s : Fin 2048) (l : Fin 128) : V m c main_v22 (ix2 s l) = sinB s l := by
  unfold_abbrev_sides
  after_reads_simp
  pointwise
  after_reads_simp
  pointwise
  unfold sinB
  split_ifs <;> first | (exfalso; omega) | rfl | exact congrArg (fun i => -Ideal.sin (ang s i)) (by omega)

end Cert.In
-- ==== Proof.InBlocks.lean ====
/-
  THE KERNEL'S RESULT ARRAYS: the sixty-four blocks of 256 rows put together.
-/
module

public import proofs.«01_k».proof.Proof.InTables

@[expose] public section

set_option maxRecDepth 16384

noncomputable section

namespace Cert.In

open Idealize.ShloMosaic Cert.Kernel2Ideal Cert.Kernel2Ideal.Gen

/-- Column `n` of the projection of row `R` (columns counted modulo the weight's width): the row normed, scaled and shifted by its batch's
modulation, against the weight's column. -/
def proj (X : Fin 16384 → Fin 2048 → EReal) (M : Fin 8 → Fin 12288 → EReal) (g : Fin 2048 → EReal) (W : Fin 2048 → Fin 7168 → EReal) (R : Fin 16384) (n : ℕ) : EReal :=
  ∑ k, hval (X R) g (fun j => M ⟨R.val / 2048, by omega⟩ ⟨2048 + j.val, by omega⟩) (fun j => M ⟨R.val / 2048, by omega⟩ ⟨j.val, by omega⟩) k
    * W k ⟨n % 7168, Nat.mod_lt _ (by norm_num)⟩

/-- Column `C` of the turned head that stands at columns `b …` of the projection. -/
def roped (X : Fin 16384 → Fin 2048 → EReal) (M : Fin 8 → Fin 12288 → EReal) (g : Fin 2048 → EReal) (W : Fin 2048 → Fin 7168 → EReal) (b : ℕ) (R : Fin 16384) (C : ℕ) : EReal :=
  rope (R.val % 2048) (fun d => proj X M g W R (b + (C / 64 * 64 + d))) (C % 64)

theorem idx_all : ∀ t : Fin cfg0.N,
    win0_0.index t = ![t.val, 0] ∧ win0_1.index t = ![t.val / 8, 0, 0] ∧ win0_2.index t = ![t.val / 8, 0, 1] ∧ win0_3.index t = ![0, 0] ∧ win0_4.index t = ![0, 0]
    ∧ win0_5.index t = ![t.val % 8, 0] ∧ win0_6.index t = ![t.val % 8, 0] ∧ win0_7.index t = ![t.val % 8, 0]
    ∧ win0_8.index t = ![0, t.val, 0] ∧ win0_9.index t = ![t.val, 0] ∧ win0_10.index t = ![t.val, 0] :=
  (by decide +kernel : ∀ t : Fin grid0.N,
    win0_0.index t = ![t.val, 0] ∧ win0_1.index t = ![t.val / 8, 0, 0] ∧ win0_2.index t = ![t.val / 8, 0, 1] ∧ win0_3.index t = ![0, 0] ∧ win0_4.index t = ![0, 0]
    ∧ win0_5.index t = ![t.val % 8, 0] ∧ win0_6.index t = ![t.val % 8, 0] ∧ win0_7.index t = ![t.val % 8, 0]
    ∧ win0_8.index t = ![0, t.val, 0] ∧ win0_9.index t = ![t.val, 0] ∧ win0_10.index t = ![t.val, 0])

variable (m : (ℓ : Loc nD τ sig) → Buf (Elt Ideal) ℓ) (c : Dev nD)

theorem t_lt (t : Fin cfg0.N) : t.val < 64 := lt_of_lt_of_eq t.isLt (by decide +kernel : cfg0.N = 64)

/-- The array row of row `a` of block `t`. -/
def rowIx (t : Fin cfg0.N) (a : Fin 256) : Fin 16384 := ⟨t.val * 256 + a.val, by have := t_lt t; omega⟩

theorem blk0 (t : Fin cfg0.N) (a : Fin 256) (k : Fin 2048) :
    iblk m c 0 t (ix2 a k) = m ((c.tc : Thread nD τ).loc main_arg0) (ix2 (rowIx t a) k) := by
  refine Eq.trans ?_ (congrFun (V_main_arg0 m c) _)
  blk_ext [iblk, rowIx, (idx_all t).1]

theorem blk1 (t : Fin cfg0.N) (k : Fin 2048) :
    iblk m c 1 t (ix3 0 0 k) = m ((c.tc : Thread nD τ).loc main_arg1) (ix3 ⟨t.val / 8, by have := t_lt t; omega⟩ 0 ⟨k.val, by omega⟩) := by
  refine Eq.trans ?_ (congrFun (V_main_arg1 m c) _)
  blk_ext [iblk, (idx_all t).2.1]

theorem blk2 (t : Fin cfg0.N) (k : Fin 2048) :
    iblk m c 2 t (ix3 0 0 k) = m ((c.tc : Thread nD τ).loc main_arg1) (ix3 ⟨t.val / 8, by have := t_lt t; omega⟩ 0 ⟨2048 + k.val, by omega⟩) := by
  refine Eq.trans ?_ (congrFun (V_main_arg1 m c) _)
  blk_ext [iblk, (idx_all t).2.2.1]

theorem blk3 (t : Fin cfg0.N) (k : Fin 2048) :
    iblk m c 3 t (ix2 0 k) = m ((c.tc : Thread nD τ).loc main_arg2) (ix2 0 k) := by
  refine Eq.trans ?_ (congrFun (V_main_arg2 m c) _)
  blk_ext [iblk, (idx_all t).2.2.2.1]

theorem blk4 (t : Fin cfg0.N) (k : Fin 2048) (j : Fin 7168) :
    iblk m c 4 t (ix2 k j) = m ((c.tc : Thread nD τ).loc main_arg3) (ix2 k j) := by
  refine Eq.trans ?_ (V_w m c _)
  blk_ext [iblk, (idx_all t).2.2.2.2.1]

theorem blk5 (t : Fin cfg0.N) (a : Fin 256) (l : Fin 128) : iblk m c 5 t (ix2 a l) = cosT ((rowIx t a).val % 2048) l := by
  refine Eq.trans ?_ (V_cos m c ⟨(rowIx t a).val % 2048, Nat.mod_lt _ (by norm_num)⟩ l)
  have ht := t_lt t
  blk_ext [iblk, rowIx, (idx_all t).2.2.2.2.2.1]

theorem blk6 (t : Fin cfg0.N) (a : Fin 256) (l : Fin 128) : iblk m c 6 t (ix2 a l) = sinA ((rowIx t a).val % 2048) l := by
  refine Eq.trans ?_ (V_a m c ⟨(rowIx t a).val % 2048, Nat.mod_lt _ (by norm_num)⟩ l)
  have ht := t_lt t
  blk_ext [iblk, rowIx, (idx_all t).2.2.2.2.2.2.1]

theorem blk7 (t : Fin cfg0.N) (a : Fin 256) (l : Fin 128) : iblk m c 7 t (ix2 a l) = sinB ((rowIx t a).val % 2048) l := by
  refine Eq.trans ?_ (V_b m c ⟨(rowIx t a).val % 2048, Nat.mod_lt _ (by norm_num)⟩ l)
  have ht := t_lt t
  blk_ext [iblk, rowIx, (idx_all t).2.2.2.2.2.2.2.1]

abbrev aX : Fin 16384 → Fin 2048 → EReal := fun R k => m ((c.tc : Thread nD τ).loc main_arg0) (ix2 R k)
abbrev aM : Fin 8 → Fin 12288 → EReal := fun b j => m ((c.tc : Thread nD τ).loc main_arg1) (ix3 b 0 j)
abbrev aG : Fin 2048 → EReal := fun j => m ((c.tc : Thread nD τ).loc main_arg2) (ix2 0 j)
abbrev aW : Fin 2048 → Fin 7168 → EReal := fun k j => m ((c.tc : Thread nD τ).loc main_arg3) (ix2 k j)

theorem proj_eq (t : Fin cfg0.N) (a : Fin 256) (n : ℕ) :
    zcol (fun k => k0_pay3 (iblk m c 0 t) (iblk m c 3 t) (iblk m c 2 t) (iblk m c 1 t) (ix2 a k)) (iblk m c 4 t) n
      = proj (aX m c) (aM m c) (aG m c) (aW m c) (rowIx t a) n := by
  have ht := t_lt t
  have hb : (rowIx t a).val / 2048 = t.val / 8 := by simp only [rowIx]; omega
  unfold zcol proj
  refine Finset.sum_congr rfl fun k _ => ?_
  refine congrArg₂ (· * ·) ?_ (blk4 m c t k _)
  refine (h_apply _ _ _ _ a k).trans ?_
  simp only [blk0, blk1, blk2, blk3, hb]

theorem roped_eq (t : Fin cfg0.N) (a : Fin 256) (b C : ℕ) (hC : C < 1024) :
    turn (fun j => zcol (fun k => k0_pay3 (iblk m c 0 t) (iblk m c 3 t) (iblk m c 2 t) (iblk m c 1 t) (ix2 a k)) (iblk m c 4 t) (b + (C / 128 * 128 + j)))
        (iblk m c 5 t (ix2 a ⟨C % 128, Nat.mod_lt _ (by norm_num)⟩)) (iblk m c 6 t (ix2 a ⟨C % 128, Nat.mod_lt _ (by norm_num)⟩))
        (iblk m c 7 t (ix2 a ⟨C % 128, Nat.mod_lt _ (by norm_num)⟩)) (C % 128)
      = roped (aX m c) (aM m c) (aG m c) (aW m c) b (rowIx t a) C := by
  have e1 : C % 128 % 64 = C % 64 := by omega
  have e2 : ∀ d, b + (C / 128 * 128 + (C % 128 / 64 * 64 + d)) = b + (C / 64 * 64 + d) := fun d => by omega
  simp only [proj_eq, blk5, blk6, blk7]
  rw [turn_eq _ _ _ (Nat.mod_lt _ (by norm_num))]
  unfold roped
  simp only [e1, e2]

/-- The gate planes and the turned queries, whole. -/
def allZ (X : Fin 16384 → Fin 2048 → EReal) (M : Fin 8 → Fin 12288 → EReal) (g : Fin 2048 → EReal) (W : Fin 2048 → Fin 7168 → EReal) : S5x16384x1024.Idx → EReal :=
  fun y => if (y 0).val = 4 then roped X M g W 4096 (y 1) (y 2).val else proj X M g W (y 1) ((y 0).val * 1024 + (y 2).val)
/-- The turned keys, whole. -/
def allK (X : Fin 16384 → Fin 2048 → EReal) (M : Fin 8 → Fin 12288 → EReal) (g : Fin 2048 → EReal) (W : Fin 2048 → Fin 7168 → EReal) : S16384x1024.Idx → EReal :=
  fun y => roped X M g W 5120 (y 0) (y 1).val
/-- The values, whole. -/
def allV (X : Fin 16384 → Fin 2048 → EReal) (M : Fin 8 → Fin 12288 → EReal) (g : Fin 2048 → EReal) (W : Fin 2048 → Fin 7168 → EReal) : S16384x1024.Idx → EReal :=
  fun y => proj X M g W (y 0) (6144 + (y 1).val)

theorem final8 : (dats m 0 c).arrAt 8 cfg0.N = allZ (aX m c) (aM m c) (aG m c) (aW m c) := by
  refine (dats m 0 c).arrAt_eq_of_covers 8 _ (by decide +kernel) fun t hf y => ?_
  have ht := t_lt t
  rw [show (dats m 0 c).after 8 t = _ from after0_8 m c t]
  unfold outsAt0
  obtain ⟨p, r, d, rfl⟩ : ∃ (p : Fin 5) (r : Fin 256) (d : Fin 1024), y = ix3 p r d := ⟨y 0, y 1, y 2, eq_ix3 y⟩
  have e0 : ((((cfg0.win 8).blk t).view.emb (ix3 p r d)) 0 : ℕ) = p.val := by
    blk_simp [(idx_all t).2.2.2.2.2.2.2.2.1]
  have e1 : (((cfg0.win 8).blk t).view.emb (ix3 p r d)) 1 = rowIx t r := Fin.ext (by
    blk_simp [rowIx, (idx_all t).2.2.2.2.2.2.2.2.1])
  have e2 : ((((cfg0.win 8).blk t).view.emb (ix3 p r d)) 2 : ℕ) = d.val := by
    blk_simp [(idx_all t).2.2.2.2.2.2.2.2.1]
  unfold allZ
  simp only [e0, e1, e2]
  refine Eq.trans ?_ ((out8_apply (c := c) (i := grid0.coords t) (harg1 := hs0_0 t) (harg2 := hs0_1 t) (harg3 := hs0_2 t) (harg4 := hs0_3 t) (harg5 := hs0_4 t)
    (harg6 := hs0_5 t) (harg7 := hs0_6 t) (harg8 := hs0_7 t) (harg9 := hs0_8 t) (harg10 := hs0_9 t) (harg11 := hs0_10 t) (x0 := iblk m c 0 t) (x1 := iblk m c 1 t)
    (x2 := iblk m c 2 t) (x3 := iblk m c 3 t) (x4 := iblk m c 4 t) (x5 := iblk m c 5 t) (x6 := iblk m c 6 t) (x7 := iblk m c 7 t) (y := ix3 p r d)).trans ?_)
  · rfl
  · unfold gZ
    refine if_congr Iff.rfl ?_ ?_
    · exact roped_eq m c t r 4096 d.val d.isLt
    · exact proj_eq m c t r _

theorem final9 : (dats m 0 c).arrAt 9 cfg0.N = allK (aX m c) (aM m c) (aG m c) (aW m c) := by
  refine (dats m 0 c).arrAt_eq_of_covers 9 _ (by decide +kernel) fun t hf y => ?_
  have ht := t_lt t
  rw [show (dats m 0 c).after 9 t = _ from after0_9 m c t]
  unfold outsAt0
  obtain ⟨r, d, rfl⟩ : ∃ (r : Fin 256) (d : Fin 1024), y = ix2 r d := ⟨y 0, y 1, eq_ix2 y⟩
  have e0 : (((cfg0.win 9).blk t).view.emb (ix2 r d)) 0 = rowIx t r := Fin.ext (by
    blk_simp [rowIx, (idx_all t).2.2.2.2.2.2.2.2.2.1])
  have e1 : ((((cfg0.win 9).blk t).view.emb (ix2 r d)) 1 : ℕ) = d.val := by
    blk_simp [(idx_all t).2.2.2.2.2.2.2.2.2.1]
  unfold allK
  simp only [e0, e1]
  refine Eq.trans ?_ ((out9_apply (c := c) (i := grid0.coords t) (harg1 := hs0_0 t) (harg2 := hs0_1 t) (harg3 := hs0_2 t) (harg4 := hs0_3 t) (harg5 := hs0_4 t)
    (harg6 := hs0_5 t) (harg7 := hs0_6 t) (harg8 := hs0_7 t) (harg9 := hs0_8 t) (harg10 := hs0_9 t) (harg11 := hs0_10 t) (x0 := iblk m c 0 t) (x1 := iblk m c 1 t)
    (x2 := iblk m c 2 t) (x3 := iblk m c 3 t) (x4 := iblk m c 4 t) (x5 := iblk m c 5 t) (x6 := iblk m c 6 t) (x7 := iblk m c 7 t) (y := ix2 r d)).trans ?_)
  · rfl
  · exact roped_eq m c t r 5120 d.val d.isLt

attribute [local irreducible] out0_A_10 in
theorem final10 : (dats m 0 c).arrAt 10 cfg0.N = allV (aX m c) (aM m c) (aG m c) (aW m c) := by
  refine (dats m 0 c).arrAt_eq_of_covers 10 _ (by decide +kernel) fun t hf y => ?_
  have ht := t_lt t
  rw [show (dats m 0 c).after 10 t = _ from after0_10 m c t]
  unfold outsAt0
  dsimp only
  obtain ⟨r, d, rfl⟩ : ∃ (r : Fin 256) (d : Fin 1024), y = ix2 r d := ⟨y 0, y 1, eq_ix2 y⟩
  have e0 : (((cfg0.win 10).blk t).view.emb (ix2 r d)) 0 = rowIx t r := Fin.ext (by
    blk_simp [rowIx, (idx_all t).2.2.2.2.2.2.2.2.2.2])
  have e1 : ((((cfg0.win 10).blk t).view.emb (ix2 r d)) 1 : ℕ) = d.val := by
    blk_simp [(idx_all t).2.2.2.2.2.2.2.2.2.2]
  unfold allV
  simp only [e0, e1]
  refine Eq.trans ?_ ((out10_apply (c := c) (i := grid0.coords t) (harg1 := hs0_0 t) (harg2 := hs0_1 t) (harg3 := hs0_2 t) (harg4 := hs0_3 t) (harg5 := hs0_4 t)
    (harg6 := hs0_5 t) (harg7 := hs0_6 t) (harg8 := hs0_7 t) (harg9 := hs0_8 t) (harg10 := hs0_9 t) (harg11 := hs0_10 t) (x0 := iblk m c 0 t) (x1 := iblk m c 1 t)
    (x2 := iblk m c 2 t) (x3 := iblk m c 3 t) (x4 := iblk m c 4 t) (x5 := iblk m c 5 t) (x6 := iblk m c 6 t) (x7 := iblk m c 7 t) (y := ix2 r d)).trans ?_)
  · rfl
  · exact proj_eq m c t r _

end Cert.In
-- ==== Proof.InRef.lean ====
/-
  THE REFERENCE'S RESULTS, as their stages: the modulated norm, the projection, the angles, the turned heads, the stack of the planes.
-/
module

public import proofs.«01_k».proof.Proof.Gen.Reference2Ideal.Run
public import proofs.«01_k».proof.Proof.InBlocks
public import Idealize.ShloMosaic.Lib.Pointwise

@[expose] public section

set_option maxRecDepth 16384

noncomputable section

namespace Cert.In.Ref

open Cert.Reference2Ideal Cert.Reference2Ideal.Gen Idealize.ShloMosaic Idealize.ShloMosaic.TcCoe Idealize.SL.Sem

/-- The modulated norm of the rows. -/
def nrm (x : FVec Ideal S16384x2048 .f32) (md : FVec Ideal S8x1x12288 .f32) (g : FVec Ideal S1x2048 .f32) : FVec Ideal S8x2048x2048 .f32 :=
  addf (mulf (mulf (mulf (shapeCast S8x2048x2048 x shapeCasts_S16384x2048_S8x2048x2048) (broadcastInDim S8x2048x2048 ![0, 1, 2] bcast_S8x2048x1_S8x2048x2048_0_1_2 (Host.rsqrt (addf (Host.divf (broadcastInDim S8x2048x1 ![0, 1] bcast_S8x2048_S8x2048x1_0_1 (Host.reduceAdd (mulf (shapeCast S8x2048x2048 x shapeCasts_S16384x2048_S8x2048x2048) (shapeCast S8x2048x2048 x shapeCasts_S16384x2048_S8x2048x2048)) (constant S_ .f32 0x00000000#32) reducesTo_S8x2048x2048_S8x2048_d2 h_S_)) (broadcastInDim S8x2048x1 ![] bcast_S_S8x2048x1 (constant S_ .f32 0x45000000#32))) (broadcastInDim S8x2048x1 ![] bcast_S_S8x2048x1 (constant S_ .f32 0x358637BD#32)))))) (broadcastInDim S8x2048x2048 ![0, 1, 2] bcast_S1x1x2048_S8x2048x2048_0_1_2 (broadcastInDim S1x1x2048 ![2] bcast_S2048_S1x1x2048_2 (shapeCast S2048 g shapeCasts_S1x2048_S2048)))) (broadcastInDim S8x2048x2048 ![0, 1, 2] bcast_S8x1x2048_S8x2048x2048_0_1_2 (addf (broadcastInDim S8x1x2048 ![] bcast_S_S8x1x2048 (constant S_ .f32 0x3F800000#32)) (broadcastInDim S8x1x2048 ![0, 2] bcast_S8x2048_S8x1x2048_0_2 (shapeCast S8x2048 (extractStridedSlice S8x1x2048 ![0, 0, 2048] md slices_S8x1x12288_S8x1x2048_0_0_2048) shapeCasts_S8x1x2048_S8x2048))))) (broadcastInDim S8x2048x2048 ![0, 1, 2] bcast_S8x1x2048_S8x2048x2048_0_1_2 (broadcastInDim S8x1x2048 ![0, 2] bcast_S8x2048_S8x1x2048_0_2 (shapeCast S8x2048 (extractStridedSlice S8x1x2048 ![0, 0, 0] md slices_S8x1x12288_S8x1x2048_0_0_0) shapeCasts_S8x1x2048_S8x2048)))

/-- The projection. -/
def prj (h : FVec Ideal S8x2048x2048 .f32) (w : FVec Ideal S2048x7168 .f32) : FVec Ideal S8x2048x7168 .f32 :=
  Host.dotGeneral dot_S8x2048x2048_S2048x7168_S8x2048x7168_2_0_01_1_n_n none h w

/-- The angles, by position and frequency. -/
def angles : FVec Ideal S2048x8 .f32 :=
  mulf (broadcastInDim S2048x8 ![0, 1] bcast_S2048x1_S2048x8_0_1 (broadcastInDim S2048x1 ![0] bcast_S2048_S2048x1_0 (sitofp .f32 (iotaInDim S2048 32 0)))) (broadcastInDim S2048x8 ![0, 1] bcast_S1x8_S2048x8_0_1 (broadcastInDim S1x8 ![1] bcast_S8_S1x8_1 (Host.powf (broadcastInDim S8 ![] bcast_S_S8 (constant S_ .f32 0x48F42400#32)) (Host.divf (Host.negf (sitofp .f32 (iotaInDim S8 32 0))) (broadcastInDim S8 ![] bcast_S_S8 (constant S_ .f32 0x41000000#32))))))

/-- A table by position and frequency, over every batch and head. -/
def wide (a : FVec Ideal S2048x8 .f32) : FVec Ideal S8x2048x8x2x8 .f32 :=
  broadcastInDim S8x2048x8x2x8 ![0, 1, 2, 3, 4] bcast_S1x2048x1x1x8_S8x2048x8x2x8_0_1_2_3_4 (broadcastInDim S1x2048x1x1x8 ![1, 2, 3, 4] bcast_S2048x1x1x8_S1x2048x1x1x8_1_2_3_4 (broadcastInDim S2048x1x1x8 ![0, 3] bcast_S2048x8_S2048x1x1x8_0_3 a))

def headsQ (z : FVec Ideal S8x2048x7168 .f32) : FVec Ideal S8x2048x8x2x64 .f32 :=
  shapeCast S8x2048x8x2x64 (extractStridedSlice S8x2048x1024 ![0, 0, 4096] z slices_S8x2048x7168_S8x2048x1024_0_0_4096) shapeCasts_S8x2048x1024_S8x2048x8x2x64
def headsK (z : FVec Ideal S8x2048x7168 .f32) : FVec Ideal S8x2048x8x2x64 .f32 :=
  shapeCast S8x2048x8x2x64 (extractStridedSlice S8x2048x1024 ![0, 0, 5120] z slices_S8x2048x7168_S8x2048x1024_0_0_5120) shapeCasts_S8x2048x1024_S8x2048x8x2x64

/-- The heads, turned. -/
def turned (p : FVec Ideal S8x2048x8x2x64 .f32) : FVec Ideal S8x2048x8x2x64 .f32 :=
  concatenate S8x2048x8x2x64 4 [⟨S8x2048x8x2x8, (subf (mulf (extractStridedSlice S8x2048x8x2x8 ![0, 0, 0, 0, 0] p slices_S8x2048x8x2x64_S8x2048x8x2x8_0_0_0_0_0) (wide (Host.cos angles))) (mulf (extractStridedSlice S8x2048x8x2x8 ![0, 0, 0, 0, 8] p slices_S8x2048x8x2x64_S8x2048x8x2x8_0_0_0_0_8) (wide (Host.sin angles))))⟩, ⟨S8x2048x8x2x8, (addf (mulf (extractStridedSlice S8x2048x8x2x8 ![0, 0, 0, 0, 8] p slices_S8x2048x8x2x64_S8x2048x8x2x8_0_0_0_0_8) (wide (Host.cos angles))) (mulf (extractStridedSlice S8x2048x8x2x8 ![0, 0, 0, 0, 0] p slices_S8x2048x8x2x64_S8x2048x8x2x8_0_0_0_0_0) (wide (Host.sin angles))))⟩, ⟨S8x2048x8x2x48, (extractStridedSlice S8x2048x8x2x48 ![0, 0, 0, 0, 16] p slices_S8x2048x8x2x64_S8x2048x8x2x48_0_0_0_0_16)⟩] concatenates_S8x2048x8x2x8_S8x2048x8x2x8_S8x2048x8x2x48_S8x2048x8x2x64_d4

def keys (q : FVec Ideal S8x2048x8x2x64 .f32) : FVec Ideal S16384x1024 .f32 := shapeCast S16384x1024 q shapeCasts_S8x2048x8x2x64_S16384x1024

/-- The gates' planes and the queries, stacked. -/
def planes (z : FVec Ideal S8x2048x7168 .f32) (q : FVec Ideal S8x2048x8x2x64 .f32) : FVec Ideal S5x16384x1024 .f32 :=
  shapeCast S5x16384x1024 (concatenate S5x8x2048x1024 0 [⟨S1x8x2048x1024, (broadcastInDim S1x8x2048x1024 ![1, 2, 3] bcast_S8x2048x1024_S1x8x2048x1024_1_2_3 (extractStridedSlice S8x2048x1024 ![0, 0, 0] z slices_S8x2048x7168_S8x2048x1024_0_0_0))⟩, ⟨S1x8x2048x1024, (broadcastInDim S1x8x2048x1024 ![1, 2, 3] bcast_S8x2048x1024_S1x8x2048x1024_1_2_3 (extractStridedSlice S8x2048x1024 ![0, 0, 1024] z slices_S8x2048x7168_S8x2048x1024_0_0_1024))⟩, ⟨S1x8x2048x1024, (broadcastInDim S1x8x2048x1024 ![1, 2, 3] bcast_S8x2048x1024_S1x8x2048x1024_1_2_3 (extractStridedSlice S8x2048x1024 ![0, 0, 2048] z slices_S8x2048x7168_S8x2048x1024_0_0_2048))⟩, ⟨S1x8x2048x1024, (broadcastInDim S1x8x2048x1024 ![1, 2, 3] bcast_S8x2048x1024_S1x8x2048x1024_1_2_3 (extractStridedSlice S8x2048x1024 ![0, 0, 3072] z slices_S8x2048x7168_S8x2048x1024_0_0_3072))⟩, ⟨S1x8x2048x1024, (broadcastInDim S1x8x2048x1024 ![1, 2, 3] bcast_S8x2048x1024_S1x8x2048x1024_1_2_3 (shapeCast S8x2048x1024 q shapeCasts_S8x2048x8x2x64_S8x2048x1024))⟩] concatenates_S1x8x2048x1024_S1x8x2048x1024_S1x8x2048x1024_S1x8x2048x1024_S1x8x2048x1024_S5x8x2048x1024_d0) shapeCasts_S5x8x2048x1024_S5x16384x1024

def vals (z : FVec Ideal S8x2048x7168 .f32) : FVec Ideal S16384x1024 .f32 :=
  shapeCast S16384x1024 (extractStridedSlice S8x2048x1024 ![0, 0, 6144] z slices_S8x2048x7168_S8x2048x1024_0_0_6144) shapeCasts_S8x2048x1024_S16384x1024

section
variable (m : (ℓ : Loc nD τ sig) → Buf (Elt Ideal) ℓ) (c : Dev nD)

theorem keys_eq : Cert.Reference2Ideal.Value.res_main_v97 m c
    = keys (turned (headsK (prj (nrm (m ((c.tc : Thread nD τ).loc main_arg0)) (m ((c.tc : Thread nD τ).loc main_arg1)) (m ((c.tc : Thread nD τ).loc main_arg2))) (m ((c.tc : Thread nD τ).loc main_arg3))))) := by
  unfold Cert.Reference2Ideal.Value.res_main_v97 keys turned headsK prj nrm wide angles
  rfl

theorem planes_eq : Cert.Reference2Ideal.Value.res_main_v96 m c
    = planes (prj (nrm (m ((c.tc : Thread nD τ).loc main_arg0)) (m ((c.tc : Thread nD τ).loc main_arg1)) (m ((c.tc : Thread nD τ).loc main_arg2))) (m ((c.tc : Thread nD τ).loc main_arg3))) (turned (headsQ (prj (nrm (m ((c.tc : Thread nD τ).loc main_arg0)) (m ((c.tc : Thread nD τ).loc main_arg1)) (m ((c.tc : Thread nD τ).loc main_arg2))) (m ((c.tc : Thread nD τ).loc main_arg3))))) := by
  unfold Cert.Reference2Ideal.Value.res_main_v96 planes turned headsQ prj nrm wide angles
  rfl
end

theorem nrm_apply (x : FVec Ideal S16384x2048 .f32) (md : FVec Ideal S8x1x12288 .f32) (g : FVec Ideal S1x2048 .f32) (b : Fin 8) (s k : Fin 2048) :
    nrm x md g (ix3 b s k) = hval (fun j => x (ix2 ⟨b.val * 2048 + s.val, by omega⟩ j)) (fun j => g (ix2 0 j))
      (fun j => md (ix3 b 0 ⟨2048 + j.val, by omega⟩)) (fun j => md (ix3 b 0 ⟨j.val, by omega⟩)) k := by
  unfold hval
  pointwise [nrm]

theorem prj_apply (h : FVec Ideal S8x2048x2048 .f32) (w : FVec Ideal S2048x7168 .f32) (b : Fin 8) (s : Fin 2048) (n : Fin 7168) :
    prj h w (ix3 b s n) = ∑ k, h (ix3 b s k) * w (ix2 k n) := by
  pointwise [prj]

theorem angles_apply (s : Fin 2048) (i : Fin 8) : angles (ix2 s i) = ang s.val i.val := by
  unfold ang
  pointwise [angles]

theorem wide_apply (a : FVec Ideal S2048x8 .f32) (b : Fin 8) (s : Fin 2048) (h : Fin 8) (t : Fin 2) (i : Fin 8) : wide a (ix5 b s h t i) = a (ix2 s i) := by
  pointwise [wide]

theorem headsQ_apply (z : FVec Ideal S8x2048x7168 .f32) (b : Fin 8) (s : Fin 2048) (h : Fin 8) (t : Fin 2) (d : Fin 64) :
    headsQ z (ix5 b s h t d) = z (ix3 b s ⟨4096 + (h.val * 128 + t.val * 64 + d.val), by omega⟩) := by
  pointwise [headsQ]

theorem headsK_apply (z : FVec Ideal S8x2048x7168 .f32) (b : Fin 8) (s : Fin 2048) (h : Fin 8) (t : Fin 2) (d : Fin 64) :
    headsK z (ix5 b s h t d) = z (ix3 b s ⟨5120 + (h.val * 128 + t.val * 64 + d.val), by omega⟩) := by
  pointwise [headsK]

theorem turned_apply (p : FVec Ideal S8x2048x8x2x64 .f32) (u : ℕ → EReal) (b : Fin 8) (s : Fin 2048) (h : Fin 8) (t : Fin 2) (d : Fin 64)
    (hu : ∀ e : Fin 64, p (ix5 b s h t e) = u e.val) : turned p (ix5 b s h t d) = rope s.val u d.val := by
  have hc : ∀ i : Fin 8, wide (Host.cos angles) (ix5 b s h t i) = Ideal.cos (ang s.val i.val) := fun i =>
    (wide_apply _ b s h t i).trans (congrArg Ideal.cos (angles_apply s i))
  have hs : ∀ i : Fin 8, wide (Host.sin angles) (ix5 b s h t i) = Ideal.sin (ang s.val i.val) := fun i =>
    (wide_apply _ b s h t i).trans (congrArg Ideal.sin (angles_apply s i))
  have hd := d.isLt
  unfold rope
  pointwise [turned]
  simp only [hc, hs, hu]
  split_ifs <;> first | (exfalso; omega) | rfl | (simp only [add_comm]; done) | exact congrArg u (by omega) | (rw [Nat.add_comm 8 d.val]) | skip
  exact congrArg (fun n => u n * Ideal.cos (ang s.val (d.val - 8)) + u (d.val - 8) * Ideal.sin (ang s.val (d.val - 8))) (by omega)

theorem keys_apply (q : FVec Ideal S8x2048x8x2x64 .f32) (R : Fin 16384) (C : Fin 1024) :
    keys q (ix2 R C) = q (ix5 ⟨R.val / 2048, by omega⟩ ⟨R.val % 2048, by omega⟩ ⟨C.val / 128, by omega⟩ ⟨C.val / 64 % 2, by omega⟩ ⟨C.val % 64, by omega⟩) := by
  pointwise [keys]

theorem vals_apply (z : FVec Ideal S8x2048x7168 .f32) (R : Fin 16384) (C : Fin 1024) :
    vals z (ix2 R C) = z (ix3 ⟨R.val / 2048, by omega⟩ ⟨R.val % 2048, by omega⟩ ⟨6144 + C.val, by omega⟩) := by
  pointwise [vals]

theorem planes_q (z : FVec Ideal S8x2048x7168 .f32) (q : FVec Ideal S8x2048x8x2x64 .f32) (P : Fin 5) (hP : P.val = 4) (R : Fin 16384) (C : Fin 1024) :
    planes z q (ix3 P R C) = q (ix5 ⟨R.val / 2048, by omega⟩ ⟨R.val % 2048, by omega⟩ ⟨C.val / 128, by omega⟩ ⟨C.val / 64 % 2, by omega⟩ ⟨C.val % 64, by omega⟩) := by
  pointwise [planes]
  split_ifs <;> first | (exfalso; omega) | rfl

theorem planes_z (z : FVec Ideal S8x2048x7168 .f32) (q : FVec Ideal S8x2048x8x2x64 .f32) (P : Fin 5) (hP : P.val ≠ 4) (R : Fin 16384) (C : Fin 1024) :
    planes z q (ix3 P R C) = z (ix3 ⟨R.val / 2048, by omega⟩ ⟨R.val % 2048, by omega⟩ ⟨P.val * 1024 + C.val, by omega⟩) := by
  have h5 := P.isLt
  pointwise [planes]
  split_ifs <;> first | (exfalso; omega) | exact congrArg z (congrArg (ix3 _ _) (Fin.ext (by simp only; omega)))

section
variable (x : FVec Ideal S16384x2048 .f32) (md : FVec Ideal S8x1x12288 .f32) (g : FVec Ideal S1x2048 .f32) (w : FVec Ideal S2048x7168 .f32)

theorem prj_proj (R : Fin 16384) (n : Fin 7168) (n' : ℕ) (hn : n.val = n') :
    prj (nrm x md g) w (ix3 ⟨R.val / 2048, by omega⟩ ⟨R.val % 2048, by omega⟩ n)
      = proj (fun R k => x (ix2 R k)) (fun b j => md (ix3 b 0 j)) (fun j => g (ix2 0 j)) (fun k j => w (ix2 k j)) R n' := by
  subst hn
  have eR : (⟨R.val / 2048 * 2048 + R.val % 2048, by omega⟩ : Fin 16384) = R := Fin.ext (by simp only; omega)
  have en : (⟨n.val % 7168, Nat.mod_lt _ (by norm_num)⟩ : Fin 7168) = n := Fin.ext (Nat.mod_eq_of_lt n.isLt)
  unfold proj
  rw [prj_apply]
  refine Finset.sum_congr rfl fun k _ => ?_
  rw [nrm_apply, en]
  simp only [eR]

theorem turnedK (R : Fin 16384) (C : Fin 1024) :
    turned (headsK (prj (nrm x md g) w)) (ix5 ⟨R.val / 2048, by omega⟩ ⟨R.val % 2048, by omega⟩ ⟨C.val / 128, by omega⟩ ⟨C.val / 64 % 2, by omega⟩ ⟨C.val % 64, by omega⟩)
      = roped (fun R k => x (ix2 R k)) (fun b j => md (ix3 b 0 j)) (fun j => g (ix2 0 j)) (fun k j => w (ix2 k j)) 5120 R C.val :=
  turned_apply _ (fun d => proj (fun R k => x (ix2 R k)) (fun b j => md (ix3 b 0 j)) (fun j => g (ix2 0 j)) (fun k j => w (ix2 k j)) R (5120 + (C.val / 64 * 64 + d)))
    _ _ _ _ _ fun e => (headsK_apply _ _ _ _ _ e).trans (prj_proj x md g w R _ _ (by simp only; omega))

theorem turnedQ (R : Fin 16384) (C : Fin 1024) :
    turned (headsQ (prj (nrm x md g) w)) (ix5 ⟨R.val / 2048, by omega⟩ ⟨R.val % 2048, by omega⟩ ⟨C.val / 128, by omega⟩ ⟨C.val / 64 % 2, by omega⟩ ⟨C.val % 64, by omega⟩)
      = roped (fun R k => x (ix2 R k)) (fun b j => md (ix3 b 0 j)) (fun j => g (ix2 0 j)) (fun k j => w (ix2 k j)) 4096 R C.val :=
  turned_apply _ (fun d => proj (fun R k => x (ix2 R k)) (fun b j => md (ix3 b 0 j)) (fun j => g (ix2 0 j)) (fun k j => w (ix2 k j)) R (4096 + (C.val / 64 * 64 + d)))
    _ _ _ _ _ fun e => (headsQ_apply _ _ _ _ _ e).trans (prj_proj x md g w R _ _ (by simp only; omega))

theorem keys_all : keys (turned (headsK (prj (nrm x md g) w)))
    = allK (fun R k => x (ix2 R k)) (fun b j => md (ix3 b 0 j)) (fun j => g (ix2 0 j)) (fun k j => w (ix2 k j)) := by
  funext y
  obtain ⟨R, C, rfl⟩ : ∃ R C, y = ix2 R C := ⟨y 0, y 1, eq_ix2 y⟩
  exact (keys_apply _ R C).trans (turnedK x md g w R C)

theorem vals_all : vals (prj (nrm x md g) w)
    = allV (fun R k => x (ix2 R k)) (fun b j => md (ix3 b 0 j)) (fun j => g (ix2 0 j)) (fun k j => w (ix2 k j)) := by
  funext y
  obtain ⟨R, C, rfl⟩ : ∃ R C, y = ix2 R C := ⟨y 0, y 1, eq_ix2 y⟩
  exact (vals_apply _ R C).trans (prj_proj x md g w R _ _ rfl)

theorem planes_all : planes (prj (nrm x md g) w) (turned (headsQ (prj (nrm x md g) w)))
    = allZ (fun R k => x (ix2 R k)) (fun b j => md (ix3 b 0 j)) (fun j => g (ix2 0 j)) (fun k j => w (ix2 k j)) := by
  funext y
  obtain ⟨P, R, C, rfl⟩ : ∃ P R C, y = ix3 P R C := ⟨y 0, y 1, y 2, eq_ix3 y⟩
  by_cases hP : P.val = 4
  · exact (planes_q _ _ P hP R C).trans ((turnedQ x md g w R C).trans (if_pos hP).symm)
  · exact (planes_z _ _ P hP R C).trans ((prj_proj x md g w R _ _ rfl).trans (if_neg hP).symm)
end

end Cert.In.Ref
-- ==== Proof.InClaims.lean ====
/-
  THE CLAIMS ABOUT THE PROMPT'S INPUT PROJECTION.
-/
module

public import proofs.«01_k».proof.Defs
public import proofs.«01_k».proof.Proof.InRef
public import proofs.«01_k».proof.Proof.Gen.Kernel2.Frame
public import Idealize.ShloMosaic.Lib.Quiescent

@[expose] public section

set_option maxRecDepth 16384

noncomputable section

namespace Cert.In

open Idealize.ShloMosaic Idealize.SL.Sem

theorem frame_p : Cert.quiescent_Kernel2 (hKernel2 := Cert.Kernel2.Gen.facts) := fun m ρ _ => Cert.Kernel2.Gen.frame m ρ
theorem frame_pi : Cert.quiescent_Kernel2Ideal (hKernel2Ideal := Cert.Kernel2Ideal.Gen.facts) := fun m ρ _ => Cert.Kernel2Ideal.Gen.frame m ρ
theorem frame_ri : Cert.quiescent_Reference2Ideal (hReference2Ideal := Cert.Reference2Ideal.Gen.facts) := fun m ρ _ =>
  (θ_run Cert.Reference2Ideal.defs _ _).mono (fun r h => ⟨fun c => (h c).2.2.2, sem_eq_zero_of_no_sems (by decide) r.2⟩)
    (Cert.Reference2Ideal.Value.run (F := Ideal) m ρ)

theorem preserves : Cert.preserves_Kernel2_Kernel2Ideal := trivial

theorem algebraic : Cert.algebraic_Kernel2Ideal_Reference2Ideal (hKernel2Ideal := Cert.Kernel2Ideal.Gen.facts)
    (hReference2Ideal := Cert.Reference2Ideal.Gen.facts) := by
  intro m ρ m' ρ' _ hag
  refine ⟨_, _, _, Cert.Kernel2Ideal.Value.run_blocks (F := Ideal) m ρ, ?_⟩
  refine (θ_run Cert.Reference2Ideal.defs _ _).mono (fun _ h c => ⟨(h c).1.trans ?_, (h c).2.1.trans ?_, (h c).2.2.1.trans ?_, (h c).2.2.2⟩)
    (Cert.Reference2Ideal.Value.run (F := Ideal) m' ρ')
  · obtain ⟨e0, e1, e2, e3⟩ := hag c
    rw [Ref.planes_eq, e0, e1, e2, e3]
    exact (Ref.planes_all _ _ _ _).trans (final8 m c).symm
  · obtain ⟨e0, e1, e2, e3⟩ := hag c
    rw [Ref.keys_eq, e0, e1, e2, e3]
    exact (Ref.keys_all _ _ _ _).trans (final9 m c).symm
  · obtain ⟨e0, e1, e2, e3⟩ := hag c
    rw [e0, e1, e2, e3]
    exact (Ref.vals_all _ _ _ _).trans (final10 m c).symm

end Cert.In
-- ==== Proof.UpPay.lean ====
/-
  THE FEED-FORWARD KERNEL'S STORED VALUES, entry by entry.
-/
module

public import proofs.«01_k».proof.Proof.Gen.Kernel3Ideal.Frame
public import Idealize.ShloMosaic.Lib.Pipeline.ValueKit
public import Idealize.ShloMosaic.Lib.Pipeline.ValueKit.Point
public import Idealize.ShloMosaic.Lib.Pipeline.ValueKit.Acc
public import Idealize.ShloMosaic.Lib.Pipeline.Covers
public import Idealize.ShloMosaic.Lib.Pipeline.ReadBack

@[expose] public section

set_option maxRecDepth 16384

noncomputable section

namespace Cert.Up

open Idealize.ShloMosaic Cert.Kernel3Ideal Cert.Kernel3Ideal.Gen

/-- The gate: `silu` of the convolution of three neighbouring values, times the up projection. -/
def gate (b a₀ w₀ a₁ w₁ a₂ w₂ u : EReal) : EReal :=
  Ideal.div (b + a₀ * w₀ + a₁ * w₁ + a₂ * w₂) (Ideal.ofBits .f32 0x3f800000#32 + (Ideal.exp (Ideal.ofBits .f32 0x00000000#32 - (b + a₀ * w₀ + a₁ * w₁ + a₂ * w₂)))) * u

theorem p5 (h : Vec Ideal S272x2048 .bf16) (w : Vec Ideal S2048x512 .bf16) (r : Fin 272) (n : Fin 512) :
    k0_pay5 h w (ix2 r n) = ∑ k, h (ix2 r k) * w (ix2 k n) := by
  pointwise [k0_pay5]

theorem p6 (r : Fin 16) (n : Fin 512) : k0_pay6 (F := Ideal) (ix2 r n) = Ideal.ofBits .f32 0x00000000#32 := by
  pointwise [k0_pay6]

section
variable (h : Vec Ideal S256x2048 .bf16) (w : Vec Ideal S2048x512 .bf16) (r : Fin 256) (n : Fin 512)

theorem p7 : k0_pay7 h w (ix2 r n) = ∑ k, h (ix2 r k) * w (ix2 k n) := by
  pointwise [k0_pay7]

theorem p9 : k0_pay9 h w (ix2 r n) = ∑ k, h (ix2 r k) * w (ix2 k n) := by
  pointwise [k0_pay9]

theorem p12 : k0_pay12 (k0_pay11 h w) (ix2 r n) = ∑ k, h (ix2 r k) * w (ix2 k n) := by
  pointwise [k0_pay12, k0_pay11]

theorem p14 : k0_pay14 h w (ix2 r n) = ∑ k, h (ix2 r k) * w (ix2 k n) := by
  pointwise [k0_pay14]

theorem p15 : k0_pay15 h w (ix2 r n) = ∑ k, h (ix2 r k) * w (ix2 k n) := by
  pointwise [k0_pay15]

variable (b w₀ w₁ w₂ : Vec Ideal S1x512 .f32) (a₀ a₁ a₂ u : Vec Ideal S256x512 .f32)

theorem p8 : k0_pay8 u b a₀ w₀ a₁ w₁ a₂ w₂ (ix2 r n)
    = gate (b (ix2 0 n)) (a₀ (ix2 r n)) (w₀ (ix2 0 n)) (a₁ (ix2 r n)) (w₁ (ix2 0 n)) (a₂ (ix2 r n)) (w₂ (ix2 0 n)) (u (ix2 r n)) := by
  unfold gate
  pointwise [k0_pay8]

theorem p10 : k0_pay10 h w b a₀ w₀ a₁ w₁ a₂ w₂ (ix2 r n)
    = gate (b (ix2 0 n)) (a₀ (ix2 r n)) (w₀ (ix2 0 n)) (a₁ (ix2 r n)) (w₁ (ix2 0 n)) (a₂ (ix2 r n)) (w₂ (ix2 0 n)) (∑ k, h (ix2 r k) * w (ix2 k n)) := by
  unfold gate
  pointwise [k0_pay10]

theorem p13 : k0_pay13 h w b a₀ w₀ a₁ w₁ a₂ w₂ (ix2 r n)
    = gate (b (ix2 0 n)) (a₀ (ix2 r n)) (w₀ (ix2 0 n)) (a₁ (ix2 r n)) (w₁ (ix2 0 n)) (a₂ (ix2 r n)) (w₂ (ix2 0 n)) (∑ k, h (ix2 r k) * w (ix2 k n)) := by
  unfold gate
  pointwise [k0_pay13]

theorem p1 : k0_pay1 u (k0_pay16 b a₀ w₀ a₁ w₁ a₂ w₂) (ix2 r n)
    = gate (b (ix2 0 n)) (a₀ (ix2 r n)) (w₀ (ix2 0 n)) (a₁ (ix2 r n)) (w₁ (ix2 0 n)) (a₂ (ix2 r n)) (w₂ (ix2 0 n)) (u (ix2 r n)) := by
  unfold gate
  pointwise [k0_pay1, k0_pay16]

end

theorem p2 (a : Vec Ideal S2x512 .f32) (e : Fin 2) (n : Fin 512) : k0_pay2 a (ix3 0 e n) = a (ix2 e n) := by
  pointwise [k0_pay2]

theorem p3 (h : Vec Ideal S16x2048 .bf16) (e : Fin 16) (n : Fin 2048) : k0_pay3 h (ix2 e n) = h (ix2 e n) := by
  pointwise [k0_pay3]

theorem p4 (h : Vec Ideal S1024x2048 .bf16) (e : Fin 1024) (n : Fin 2048) : k0_pay4 h (ix2 e n) = h (ix2 e n) := by
  pointwise [k0_pay4]

end Cert.Up
-- ==== Proof.UpOut.lean ====
/-
  WHAT EACH GRID POINT OF THE FEED-FORWARD KERNEL LEAVES in its two result blocks and in its carried rows, case by case.
-/
module

public import proofs.«01_k».proof.Proof.UpPay
public import Idealize.ShloMosaic.Lib.Pipeline.ValueKit
public import Idealize.ShloMosaic.Lib.Pipeline.ValueKit.Point
public import Idealize.ShloMosaic.Lib.Pipeline.ValueKit.Acc
public import Idealize.ShloMosaic.Lib.Pipeline.Covers
public import Idealize.ShloMosaic.Lib.Pipeline.ReadBack

@[expose] public section

set_option maxRecDepth 16384

noncomputable section

namespace Cert.Up

open Idealize.ShloMosaic Cert.Kernel3Ideal Cert.Kernel3Ideal.Gen

/-- One entry of the product of row `r` of `H` with `w`. -/
def dotv (H : Vec Ideal S1040x2048 .bf16) (w : Vec Ideal S2048x512 .bf16) (r : ℕ) (n : Fin 512) : EReal :=
  ∑ k : Fin 2048, H (ix2 ⟨r % 1040, Nat.mod_lt _ (by norm_num)⟩ k) * w (ix2 k n)

/-- The convolution's input: the product, or zero in the rows before a sequence's first. -/
def aval (z : Bool) (H : Vec Ideal S1040x2048 .bf16) (w : Vec Ideal S2048x512 .bf16) (r : ℕ) (n : Fin 512) : EReal :=
  if z = true ∧ r < 16 then Ideal.ofBits .f32 0x00000000#32 else dotv H w r n

/-- One tile of the gated projection. -/
def gtile (z : Bool) (H : Vec Ideal S1040x2048 .bf16) (wa wu : Vec Ideal S2048x512 .bf16) (cw : Vec Ideal S3x512 .f32) (cb : Vec Ideal S1x512 .f32) (y : S1024x512.Idx) : EReal :=
  gate (cb (ix2 0 (y 1))) (aval z H wa ((y 0).val + 14) (y 1)) (cw (ix2 0 (y 1))) (aval z H wa ((y 0).val + 15) (y 1)) (cw (ix2 1 (y 1)))
    (aval z H wa ((y 0).val + 16) (y 1)) (cw (ix2 2 (y 1))) (dotv H wu ((y 0).val + 16) (y 1))

theorem ld_h256 (H : Vec Ideal S1040x2048 .bf16) (o : ℕ) (ho : o + 256 ≤ 1040) (inb) (r : Fin 256) (k : Fin 2048) :
    View.ld H (Rect.unit (s := S1040x2048) ![o, 0] S256x2048.size inb) (ix2 r k) = H (ix2 ⟨(o + r.val) % 1040, Nat.mod_lt _ (by norm_num)⟩ k) := by
  refine congrArg H (funext fun i => Fin.ext ?_)
  have : (o + r.val) % 1040 = o + r.val := Nat.mod_eq_of_lt (by omega)
  fin_cases i <;> simp [LoadRect.idx_apply, Rect.unit, ix2, this]

theorem ld_h272 (H : Vec Ideal S1040x2048 .bf16) (inb) (r : Fin 272) (k : Fin 2048) :
    View.ld H (Rect.unit (s := S1040x2048) ![0, 0] S272x2048.size inb) (ix2 r k) = H (ix2 ⟨r.val % 1040, Nat.mod_lt _ (by norm_num)⟩ k) := by
  refine congrArg H (funext fun i => Fin.ext ?_)
  have : r.val % 1040 = r.val := Nat.mod_eq_of_lt (by omega)
  fin_cases i <;> simp [LoadRect.idx_apply, Rect.unit, ix2, this]

theorem ld_a256 (A : Vec Ideal S1040x512 .f32) (o : ℕ) (ho : o + 256 ≤ 1040) (inb) (r : Fin 256) (k : Fin 512) :
    View.ld A (Rect.unit (s := S1040x512) ![o, 0] S256x512.size inb) (ix2 r k) = A (ix2 ⟨o + r.val, by omega⟩ k) := by
  refine congrArg A (funext fun i => Fin.ext ?_)
  fin_cases i <;> simp [LoadRect.idx_apply, Rect.unit, ix2]

theorem ld_a2 (A : Vec Ideal S1040x512 .f32) (o : ℕ) (ho : o + 2 ≤ 1040) (inb) (r : Fin 2) (k : Fin 512) :
    View.ld A (Rect.unit (s := S1040x512) ![o, 0] S2x512.size inb) (ix2 r k) = A (ix2 ⟨o + r.val, by omega⟩ k) := by
  refine congrArg A (funext fun i => Fin.ext ?_)
  fin_cases i <;> simp [LoadRect.idx_apply, Rect.unit, ix2]

theorem ld_w (A : Vec Ideal S3x512 .f32) (o : Fin 3) (inb) (k : Fin 512) :
    View.ld A (Rect.unit (s := S3x512) ![o.val, 0] S1x512.size inb) (ix2 0 k) = A (ix2 o k) := by
  refine congrArg A (funext fun i => Fin.ext ?_)
  fin_cases i <;> simp [LoadRect.idx_apply, Rect.unit, ix2]

/-- The list of stores `L` leaves the convolution's input in the first `N` rows. -/
def Good (A : ℕ → Fin 512 → EReal) (L : List (View.Piece (Elt Ideal) S1040x512 .f32)) (N : ℕ) : Prop :=
  ∀ (r : Fin 1040) (n : Fin 512), r.val < N → View.canon L (ix2 r n) = A r.val n

section
variable {A : ℕ → Fin 512 → EReal} {L : List (View.Piece (Elt Ideal) S1040x512 .f32)}

theorem good_256 {N : ℕ} (hL : Good A L N) (inb) (P : Vec Ideal S256x512 .f32) (hP : ∀ r n, P (ix2 r n) = A (N + r.val) n) :
    Good A (⟨Rect.unit (s := S1040x512) ![N, 0] S256x512.size inb, P⟩ :: L) (N + 256) := by
  intro r n hr
  by_cases h : N ≤ r.val
  · have e : (ix2 r n : S1040x512.Idx) = (Rect.unit (s := S1040x512) ![N, 0] S256x512.size inb).emb (ix2 ⟨r.val - N, by omega⟩ n) := by
      funext k; apply Fin.ext; rw [Rect.emb_apply]
      fin_cases k
      · show r.val = N + 1 * (r.val - N); omega
      · show n.val = 0 + 1 * n.val; omega
    rw [e, View.canon_cons_emb, hP]
    congr 1
    show N + (r.val - N) = r.val
    omega
  · rw [View.canon_cons_of_not_mem _ L fun hm => h (by
      have h1 := ((Rect.mem_set_unit (inb := inb)).1 hm 0).1
      have h2 : N ≤ r.val := h1
      exact h2)]
    exact hL r n (by omega)

theorem good_272 (inb) (P : Vec Ideal S272x512 .f32) (hP : ∀ r n, P (ix2 r n) = A r.val n) :
    Good A (⟨Rect.unit (s := S1040x512) ![0, 0] S272x512.size inb, P⟩ :: L) 272 := by
  intro r n hr
  have e : (ix2 r n : S1040x512.Idx) = (Rect.unit (s := S1040x512) ![0, 0] S272x512.size inb).emb (ix2 ⟨r.val, hr⟩ n) := by
    funext k; apply Fin.ext; rw [Rect.emb_apply]
    fin_cases k
    · show r.val = 0 + 1 * r.val; omega
    · show n.val = 0 + 1 * n.val; omega
  rw [e, View.canon_cons_emb, hP]

theorem good_16 {B : ℕ → Fin 512 → EReal} {N : ℕ} (hL : Good B L N) (inb) (P : Vec Ideal S16x512 .f32) (hP : ∀ r n, P (ix2 r n) = A r.val n)
    (hB : ∀ r n, ¬ r < 16 → B r n = A r n) :
    Good A (⟨Rect.unit (s := S1040x512) ![0, 0] S16x512.size inb, P⟩ :: L) N := by
  intro r n hr
  by_cases h : r.val < 16
  · have e : (ix2 r n : S1040x512.Idx) = (Rect.unit (s := S1040x512) ![0, 0] S16x512.size inb).emb (ix2 ⟨r.val, h⟩ n) := by
      funext k; apply Fin.ext; rw [Rect.emb_apply]
      fin_cases k
      · show r.val = 0 + 1 * r.val; omega
      · show n.val = 0 + 1 * n.val; omega
    rw [e, View.canon_cons_emb, hP]
  · rw [View.canon_cons_of_not_mem _ L fun hm => h (by
      have h1 := ((Rect.mem_set_unit (inb := inb)).1 hm 0).2
      have h2 : r.val < 0 + 16 := h1
      omega), hL r n hr, hB r.val n h]

end

theorem readCov_ld {s : Shape} {e : EltTy} (v : View sig .tc .vmem s e) (L : List (View.Piece (Elt Ideal) s e)) (r : Rect s) :
    v.readCov L r.toLoadRect = View.ld (View.canon L) r := View.readCov_eq_canon' v L r.toLoadRect

section
variable (H : Vec Ideal S1040x2048 .bf16) (w : Vec Ideal S2048x512 .bf16)

theorem sum256 (o : ℕ) (ho : o + 256 ≤ 1040) (inb) (r : Fin 256) (n : Fin 512) :
    (∑ k, View.ld H (Rect.unit (s := S1040x2048) ![o, 0] S256x2048.size inb) (ix2 r k) * w (ix2 k n)) = dotv H w (o + r.val) n :=
  Finset.sum_congr rfl fun k _ => by rw [ld_h256 H o ho]

theorem sum272 (inb) (r : Fin 272) (n : Fin 512) :
    (∑ k, View.ld H (Rect.unit (s := S1040x2048) ![0, 0] S272x2048.size inb) (ix2 r k) * w (ix2 k n)) = dotv H w r.val n :=
  Finset.sum_congr rfl fun k _ => by rw [ld_h272 H]

theorem aval_ge (z : Bool) (r : ℕ) (n : Fin 512) (h : ¬ r < 16) : aval z H w r n = dotv H w r n := if_neg fun h' => h h'.2

theorem aval_false (r : ℕ) (n : Fin 512) : aval false H w r n = dotv H w r n := if_neg (by simp)

/-- The stores of the first quarter, in a tile that is not a sequence's first. -/
theorem goodN (inb i1) : Good (aval false H w) [⟨Rect.unit (s := S1040x512) ![0, 0] S272x512.size inb, k0_pay5 (View.ld H (Rect.unit (s := S1040x2048) ![0, 0] S272x2048.size i1)) w⟩] 272 :=
  good_272 inb _ fun r n => by rw [p5, sum272, aval_false]

/-- The same in a sequence's first tile. -/
theorem goodZ (inb inb' i1) : Good (aval true H w) [⟨Rect.unit (s := S1040x512) ![0, 0] S16x512.size inb', k0_pay6 (F := Ideal)⟩,
    ⟨Rect.unit (s := S1040x512) ![0, 0] S272x512.size inb, k0_pay5 (View.ld H (Rect.unit (s := S1040x2048) ![0, 0] S272x2048.size i1)) w⟩] 272 :=
  good_16 (goodN H w inb i1) inb' _ (fun r n => by rw [p6]; exact (if_pos ⟨rfl, r.isLt⟩).symm) fun r n h => by rw [aval_ge _ _ _ _ _ h, aval_ge _ _ _ _ _ h]

variable {z : Bool} {L : List (View.Piece (Elt Ideal) S1040x512 .f32)}

theorem good9 (hL : Good (aval z H w) L 272) (inb i1) :
    Good (aval z H w) (⟨Rect.unit (s := S1040x512) ![272, 0] S256x512.size inb, k0_pay9 (View.ld H (Rect.unit (s := S1040x2048) ![272, 0] S256x2048.size i1)) w⟩ :: L) 528 :=
  good_256 hL inb _ fun r n => by rw [p9, sum256 H w 272 (by norm_num), aval_ge _ _ _ _ _ (by omega)]

theorem good12 (hL : Good (aval z H w) L 528) (inb i1) :
    Good (aval z H w) (⟨Rect.unit (s := S1040x512) ![528, 0] S256x512.size inb, k0_pay12 (k0_pay11 (View.ld H (Rect.unit (s := S1040x2048) ![528, 0] S256x2048.size i1)) w)⟩ :: L) 784 :=
  good_256 hL inb _ fun r n => by rw [p12, sum256 H w 528 (by norm_num), aval_ge _ _ _ _ _ (by omega)]

theorem good14 (hL : Good (aval z H w) L 784) (inb i1) :
    Good (aval z H w) (⟨Rect.unit (s := S1040x512) ![784, 0] S256x512.size inb, k0_pay14 (View.ld H (Rect.unit (s := S1040x2048) ![784, 0] S256x2048.size i1)) w⟩ :: L) 1040 :=
  good_256 hL inb _ fun r n => by rw [p14, sum256 H w 784 (by norm_num), aval_ge _ _ _ _ _ (by omega)]

variable (wu : Vec Ideal S2048x512 .bf16) (cw : Vec Ideal S3x512 .f32) (cb : Vec Ideal S1x512 .f32)

theorem gpiece (o o₀ o₁ o₂ N : ℕ) (ho : o + 256 ≤ 1024) (h₀ : o₀ = o + 14) (h₁ : o₁ = o + 15) (h₂ : o₂ = o + 16) (hN : N = o + 272) (hL : Good (aval z H w) L N)
    (inb i₀ i₁ i₂ j₀ j₁ j₂ j₃) (P : S256x512.Idx → EReal)
    (hP : ∀ (r : Fin 256) (n : Fin 512), P (ix2 r n) = gate (cb (ix2 0 n)) (View.ld (View.canon L) (Rect.unit (s := S1040x512) ![o₀, 0] S256x512.size i₀) (ix2 r n))
      (View.ld cw (Rect.unit (s := S3x512) ![0, 0] S1x512.size j₀) (ix2 0 n)) (View.ld (View.canon L) (Rect.unit (s := S1040x512) ![o₁, 0] S256x512.size i₁) (ix2 r n))
      (View.ld cw (Rect.unit (s := S3x512) ![1, 0] S1x512.size j₁) (ix2 0 n)) (View.ld (View.canon L) (Rect.unit (s := S1040x512) ![o₂, 0] S256x512.size i₂) (ix2 r n))
      (View.ld cw (Rect.unit (s := S3x512) ![2, 0] S1x512.size j₂) (ix2 0 n)) (∑ k, View.ld H (Rect.unit (s := S1040x2048) ![o₂, 0] S256x2048.size j₃) (ix2 r k) * wu (ix2 k n)))
    (x : S256x512.Idx) : P x = gtile z H w wu cw cb ((Rect.unit (s := S1024x512) ![o, 0] S256x512.size inb).emb x) := by
  subst h₀ h₁ h₂ hN
  obtain ⟨r, n, rfl⟩ : ∃ (r : Fin 256) (n : Fin 512), x = ix2 r n := ⟨x 0, x 1, eq_ix2 x⟩
  have e0 : (((Rect.unit (s := S1024x512) ![o, 0] S256x512.size inb).emb (ix2 r n)) 0).val = o + r.val := by
    rw [ValueKit.rect_emb_unit_val]; simp [ix2]
  have e1 : ((Rect.unit (s := S1024x512) ![o, 0] S256x512.size inb).emb (ix2 r n)) 1 = n := Fin.ext (by
    rw [ValueKit.rect_emb_unit_val]; simp [ix2])
  have t : ∀ a, o + a + r.val = o + r.val + a := fun a => by omega
  rw [hP, ld_a256 _ _ (by omega), ld_a256 _ _ (by omega), ld_a256 _ _ (by omega), sum256 H wu _ (by omega), hL _ _ (by show o + 14 + r.val < o + 272; omega), hL _ _ (by show o + 15 + r.val < o + 272; omega), hL _ _ (by show o + 16 + r.val < o + 272; omega),
    show View.ld cw (Rect.unit (s := S3x512) ![0, 0] S1x512.size j₀) (ix2 0 n) = cw (ix2 0 n) from ld_w cw 0 j₀ n, show View.ld cw (Rect.unit (s := S3x512) ![1, 0] S1x512.size j₁) (ix2 0 n) = cw (ix2 1 n) from ld_w cw 1 j₁ n,
    show View.ld cw (Rect.unit (s := S3x512) ![2, 0] S1x512.size j₂) (ix2 0 n) = cw (ix2 2 n) from ld_w cw 2 j₂ n]
  unfold gtile
  simp only [e0, e1, t]

end

/-- The 1040 rows a tile reads: its own, after the sixteen before them. -/
def HS (x0 : Vec Ideal S1024x2048 .bf16) (x1 : Vec Ideal S16x2048 .bf16) : Vec Ideal S1040x2048 .bf16 :=
  View.canon (Val := Elt Ideal) (s := S1040x2048) (e := .bf16) [⟨Rect.unit (s := S1040x2048) ![16, 0] S1024x2048.size inb_S1040x2048_S1024x2048_16_0, k0_pay4 x0⟩,
    ⟨Rect.unit (s := S1040x2048) ![0, 0] S16x2048.size inb_S1040x2048_S16x2048_0_0, k0_pay3 x1⟩]

theorem HS_apply (x0 : Vec Ideal S1024x2048 .bf16) (x1 : Vec Ideal S16x2048 .bf16) (r : Fin 1040) (k : Fin 2048) :
    HS x0 x1 (ix2 r k) = if h : r.val < 16 then x1 (ix2 ⟨r.val, h⟩ k) else x0 (ix2 ⟨r.val - 16, by omega⟩ k) := by
  unfold HS
  by_cases h : r.val < 16
  · rw [dif_pos h, View.canon_cons_of_not_mem _ _ fun hm => by
      have h1 := ((Rect.mem_set_unit (inb := inb_S1040x2048_S1024x2048_16_0)).1 hm 0).1
      have h2 : 16 ≤ r.val := h1
      omega]
    have e : (ix2 r k : S1040x2048.Idx) = (Rect.unit (s := S1040x2048) ![0, 0] S16x2048.size inb_S1040x2048_S16x2048_0_0).emb (ix2 ⟨r.val, h⟩ k) := by
      funext a; apply Fin.ext; rw [Rect.emb_apply]
      fin_cases a
      · show r.val = 0 + 1 * r.val; omega
      · show k.val = 0 + 1 * k.val; omega
    rw [e, View.canon_cons_emb, p3]
  · rw [dif_neg h]
    have e : (ix2 r k : S1040x2048.Idx) = (Rect.unit (s := S1040x2048) ![16, 0] S1024x2048.size inb_S1040x2048_S1024x2048_16_0).emb (ix2 ⟨r.val - 16, by omega⟩ k) := by
      funext a; apply Fin.ext; rw [Rect.emb_apply]
      fin_cases a
      · show r.val = 16 + 1 * (r.val - 16); omega
      · show k.val = 0 + 1 * k.val; omega
    rw [e, View.canon_cons_emb, p4]

section
variable (c : Dev nD) (i : grid0.Coords) (arg2 : Memref sig .tc .vmem S1024x2048 .bf16) (harg2 : arg2.IsWhole) (arg3 : Memref sig .tc .vmem S16x2048 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S3x512 .f32) (harg6 : arg6.IsWhole) (arg7 : Memref sig .tc .vmem S1x512 .f32) (harg7 : arg7.IsWhole) (arg8 : Memref sig .tc .vmem S1024x512 .bf16) (harg8 : arg8.IsWhole) (arg9 : Memref sig .tc .vmem S1x2x512 .f32) (harg9 : arg9.IsWhole) (arg10 : Memref sig .tc .vmem S1040x2048 .bf16) (harg10 : arg10.IsWhole) (arg11 : Memref sig .tc .vmem S1040x512 .f32) (harg11 : arg11.IsWhole)
    (x0 : Vec Ideal S1024x2048 .bf16) (x1 : Vec Ideal S16x2048 .bf16) (x2 : Vec Ideal S2048x512 .bf16) (x3 : Vec Ideal S2048x512 .bf16) (x4 : Vec Ideal S3x512 .f32) (x5 : Vec Ideal S1x512 .f32) (xs0 : Vec Ideal S1040x2048 .bf16)

theorem outA6 (hc0 : cond0_0 i) (hc1 : cond0_1 i) (y : S1024x512.Idx) :
    out0_A_6 c i arg2 harg2 arg3 harg3 arg4 harg4 arg5 harg5 arg6 harg6 arg7 harg7 arg8 harg8 arg9 harg9 arg10 harg10 arg11 harg11 hc0 hc1 x0 x1 x2 x3 x4 x5 y = gtile true (HS x0 x1) x2 x3 x4 x5 y := by
  unfold out0_A_6; rw [View.read_writes_junk_eq_canon]
  refine View.canon_apply_of_pieces (gtile true (HS x0 x1) x2 x3 x4 x5) _ (View.PiecesOf.mem ?_) y (cover0_A_6 c i arg2 harg2 arg3 harg3 arg4 harg4 arg5 harg5 arg6 harg6 arg7 harg7 arg8 harg8 arg9 harg9 arg10 harg10 arg11 harg11 hc0 hc1 x0 x1 x2 x3 x4 x5 y)
  unfold kernelRun0_A
  dsimp only
  sl_unfold_words
  dsimp only
  simp (disch := decide) only [View.readAt_eq_ld, Memref.IsWhole.read_unread, View.ld_unit_lit', readCov_ld]
  refine ⟨gpiece (HS x0 x1) x2 x3 x4 x5 768 782 783 784 1040 (by norm_num) rfl rfl rfl rfl (good14 (HS x0 x1) x2 (good12 (HS x0 x1) x2 (good9 (HS x0 x1) x2 (goodZ (HS x0 x1) x2 inb_S1040x512_S272x512_0_0 inb_S1040x512_S16x512_0_0 inb_S1040x2048_S272x2048_0_0) inb_S1040x512_S256x512_272_0 inb_S1040x2048_S256x2048_272_0) inb_S1040x512_S256x512_528_0 inb_S1040x2048_S256x2048_528_0) inb_S1040x512_S256x512_784_0 inb_S1040x2048_S256x2048_784_0) inb_S1024x512_S256x512_768_0 inb_S1040x512_S256x512_782_0 inb_S1040x512_S256x512_783_0 inb_S1040x512_S256x512_784_0 inb_S3x512_S1x512_0_0 inb_S3x512_S1x512_1_0 inb_S3x512_S1x512_2_0 inb_S1040x2048_S256x2048_784_0 _ fun r n => (p1 _ _ _ _ _ _ _ _ _ _).trans (congrArg _ (p15 _ _ r n)),
    gpiece (HS x0 x1) x2 x3 x4 x5 512 526 527 528 784 (by norm_num) rfl rfl rfl rfl (good12 (HS x0 x1) x2 (good9 (HS x0 x1) x2 (goodZ (HS x0 x1) x2 inb_S1040x512_S272x512_0_0 inb_S1040x512_S16x512_0_0 inb_S1040x2048_S272x2048_0_0) inb_S1040x512_S256x512_272_0 inb_S1040x2048_S256x2048_272_0) inb_S1040x512_S256x512_528_0 inb_S1040x2048_S256x2048_528_0) inb_S1024x512_S256x512_512_0 inb_S1040x512_S256x512_526_0 inb_S1040x512_S256x512_527_0 inb_S1040x512_S256x512_528_0 inb_S3x512_S1x512_0_0 inb_S3x512_S1x512_1_0 inb_S3x512_S1x512_2_0 inb_S1040x2048_S256x2048_528_0 _ fun r n => p13 _ _ r n _ _ _ _ _ _ _,
    gpiece (HS x0 x1) x2 x3 x4 x5 256 270 271 272 528 (by norm_num) rfl rfl rfl rfl (good9 (HS x0 x1) x2 (goodZ (HS x0 x1) x2 inb_S1040x512_S272x512_0_0 inb_S1040x512_S16x512_0_0 inb_S1040x2048_S272x2048_0_0) inb_S1040x512_S256x512_272_0 inb_S1040x2048_S256x2048_272_0) inb_S1024x512_S256x512_256_0 inb_S1040x512_S256x512_270_0 inb_S1040x512_S256x512_271_0 inb_S1040x512_S256x512_272_0 inb_S3x512_S1x512_0_0 inb_S3x512_S1x512_1_0 inb_S3x512_S1x512_2_0 inb_S1040x2048_S256x2048_272_0 _ fun r n => p10 _ _ r n _ _ _ _ _ _ _,
    gpiece (HS x0 x1) x2 x3 x4 x5 0 14 15 16 272 (by norm_num) rfl rfl rfl rfl (goodZ (HS x0 x1) x2 inb_S1040x512_S272x512_0_0 inb_S1040x512_S16x512_0_0 inb_S1040x2048_S272x2048_0_0) inb_S1024x512_S256x512_0_0 inb_S1040x512_S256x512_14_0 inb_S1040x512_S256x512_15_0 inb_S1040x512_S256x512_16_0 inb_S3x512_S1x512_0_0 inb_S3x512_S1x512_1_0 inb_S3x512_S1x512_2_0 inb_S1040x2048_S256x2048_16_0 _ fun r n => (p8 _ _ _ _ _ _ _ _ _ _).trans (congrArg _ (p7 _ _ r n)),
    trivial⟩

theorem outA7 (hc0 : cond0_0 i) (hc1 : cond0_1 i) (e : Fin 2) (n : Fin 512) :
    out0_A_7 c i arg2 harg2 arg3 harg3 arg4 harg4 arg5 harg5 arg6 harg6 arg7 harg7 arg8 harg8 arg9 harg9 arg10 harg10 arg11 harg11 hc0 hc1 x0 x1 x2 x3 x4 x5 (ix3 0 e n) = aval true (HS x0 x1) x2 (1038 + e.val) n := by
  unfold out0_A_7; rw [View.read_writes_junk_eq_canon]
  unfold kernelRun0_A
  dsimp only
  sl_unfold_words
  dsimp only
  simp (disch := decide) only [View.readAt_eq_ld, Memref.IsWhole.read_unread, View.ld_unit_lit', readCov_ld, View.canon_cons_unit_lit']
  refine (p2 _ e n).trans ((ld_a2 _ 1038 (by norm_num) inb_S1040x512_S2x512_1038_0 e n).trans ?_)
  exact (good14 (HS x0 x1) x2 (good12 (HS x0 x1) x2 (good9 (HS x0 x1) x2 (goodZ (HS x0 x1) x2 inb_S1040x512_S272x512_0_0 inb_S1040x512_S16x512_0_0 inb_S1040x2048_S272x2048_0_0) inb_S1040x512_S256x512_272_0 inb_S1040x2048_S256x2048_272_0) inb_S1040x512_S256x512_528_0 inb_S1040x2048_S256x2048_528_0) inb_S1040x512_S256x512_784_0 inb_S1040x2048_S256x2048_784_0) ⟨1038 + e.val, by omega⟩ n (by show 1038 + e.val < 1040; omega)

theorem soutA0 (hc0 : cond0_0 i) (hc1 : cond0_1 i) : sout0_A_0 c i arg2 harg2 arg3 harg3 arg4 harg4 arg5 harg5 arg6 harg6 arg7 harg7 arg8 harg8 arg9 harg9 arg10 harg10 arg11 harg11 hc0 hc1 x0 x1 x2 x3 x4 x5 = HS x0 x1 := by
  unfold sout0_A_0; rw [View.read_writes_junk_eq_canon]
  unfold kernelRun0_A
  dsimp only
  sl_unfold_words
  dsimp only
  simp (disch := decide) only [View.readAt_eq_ld, Memref.IsWhole.read_unread, View.ld_unit_lit']
  rfl

theorem outB6 (hc0 : ¬cond0_0 i) (hc1 : cond0_1 i) (y : S1024x512.Idx) :
    out0_B_6 c i arg2 harg2 arg3 harg3 arg4 harg4 arg5 harg5 arg6 harg6 arg7 harg7 arg8 harg8 arg9 harg9 arg10 harg10 arg11 harg11 hc0 hc1 x0 x1 x2 x3 x4 x5 xs0 y = gtile true xs0 x2 x3 x4 x5 y := by
  unfold out0_B_6; rw [View.read_writes_junk_eq_canon]
  refine View.canon_apply_of_pieces (gtile true xs0 x2 x3 x4 x5) _ (View.PiecesOf.mem ?_) y (cover0_B_6 c i arg2 harg2 arg3 harg3 arg4 harg4 arg5 harg5 arg6 harg6 arg7 harg7 arg8 harg8 arg9 harg9 arg10 harg10 arg11 harg11 hc0 hc1 x0 x1 x2 x3 x4 x5 xs0 y)
  unfold kernelRun0_B
  dsimp only
  sl_unfold_words
  dsimp only
  simp (disch := decide) only [View.readAt_eq_ld, Memref.IsWhole.read_unread, View.ld_unit_lit', readCov_ld]
  refine ⟨gpiece xs0 x2 x3 x4 x5 768 782 783 784 1040 (by norm_num) rfl rfl rfl rfl (good14 xs0 x2 (good12 xs0 x2 (good9 xs0 x2 (goodZ xs0 x2 inb_S1040x512_S272x512_0_0 inb_S1040x512_S16x512_0_0 inb_S1040x2048_S272x2048_0_0) inb_S1040x512_S256x512_272_0 inb_S1040x2048_S256x2048_272_0) inb_S1040x512_S256x512_528_0 inb_S1040x2048_S256x2048_528_0) inb_S1040x512_S256x512_784_0 inb_S1040x2048_S256x2048_784_0) inb_S1024x512_S256x512_768_0 inb_S1040x512_S256x512_782_0 inb_S1040x512_S256x512_783_0 inb_S1040x512_S256x512_784_0 inb_S3x512_S1x512_0_0 inb_S3x512_S1x512_1_0 inb_S3x512_S1x512_2_0 inb_S1040x2048_S256x2048_784_0 _ fun r n => (p1 _ _ _ _ _ _ _ _ _ _).trans (congrArg _ (p15 _ _ r n)),
    gpiece xs0 x2 x3 x4 x5 512 526 527 528 784 (by norm_num) rfl rfl rfl rfl (good12 xs0 x2 (good9 xs0 x2 (goodZ xs0 x2 inb_S1040x512_S272x512_0_0 inb_S1040x512_S16x512_0_0 inb_S1040x2048_S272x2048_0_0) inb_S1040x512_S256x512_272_0 inb_S1040x2048_S256x2048_272_0) inb_S1040x512_S256x512_528_0 inb_S1040x2048_S256x2048_528_0) inb_S1024x512_S256x512_512_0 inb_S1040x512_S256x512_526_0 inb_S1040x512_S256x512_527_0 inb_S1040x512_S256x512_528_0 inb_S3x512_S1x512_0_0 inb_S3x512_S1x512_1_0 inb_S3x512_S1x512_2_0 inb_S1040x2048_S256x2048_528_0 _ fun r n => p13 _ _ r n _ _ _ _ _ _ _,
    gpiece xs0 x2 x3 x4 x5 256 270 271 272 528 (by norm_num) rfl rfl rfl rfl (good9 xs0 x2 (goodZ xs0 x2 inb_S1040x512_S272x512_0_0 inb_S1040x512_S16x512_0_0 inb_S1040x2048_S272x2048_0_0) inb_S1040x512_S256x512_272_0 inb_S1040x2048_S256x2048_272_0) inb_S1024x512_S256x512_256_0 inb_S1040x512_S256x512_270_0 inb_S1040x512_S256x512_271_0 inb_S1040x512_S256x512_272_0 inb_S3x512_S1x512_0_0 inb_S3x512_S1x512_1_0 inb_S3x512_S1x512_2_0 inb_S1040x2048_S256x2048_272_0 _ fun r n => p10 _ _ r n _ _ _ _ _ _ _,
    gpiece xs0 x2 x3 x4 x5 0 14 15 16 272 (by norm_num) rfl rfl rfl rfl (goodZ xs0 x2 inb_S1040x512_S272x512_0_0 inb_S1040x512_S16x512_0_0 inb_S1040x2048_S272x2048_0_0) inb_S1024x512_S256x512_0_0 inb_S1040x512_S256x512_14_0 inb_S1040x512_S256x512_15_0 inb_S1040x512_S256x512_16_0 inb_S3x512_S1x512_0_0 inb_S3x512_S1x512_1_0 inb_S3x512_S1x512_2_0 inb_S1040x2048_S256x2048_16_0 _ fun r n => (p8 _ _ _ _ _ _ _ _ _ _).trans (congrArg _ (p7 _ _ r n)),
    trivial⟩

theorem outB7 (hc0 : ¬cond0_0 i) (hc1 : cond0_1 i) (e : Fin 2) (n : Fin 512) :
    out0_B_7 c i arg2 harg2 arg3 harg3 arg4 harg4 arg5 harg5 arg6 harg6 arg7 harg7 arg8 harg8 arg9 harg9 arg10 harg10 arg11 harg11 hc0 hc1 x0 x1 x2 x3 x4 x5 xs0 (ix3 0 e n) = aval true xs0 x2 (1038 + e.val) n := by
  unfold out0_B_7; rw [View.read_writes_junk_eq_canon]
  unfold kernelRun0_B
  dsimp only
  sl_unfold_words
  dsimp only
  simp (disch := decide) only [View.readAt_eq_ld, Memref.IsWhole.read_unread, View.ld_unit_lit', readCov_ld, View.canon_cons_unit_lit']
  refine (p2 _ e n).trans ((ld_a2 _ 1038 (by norm_num) inb_S1040x512_S2x512_1038_0 e n).trans ?_)
  exact (good14 xs0 x2 (good12 xs0 x2 (good9 xs0 x2 (goodZ xs0 x2 inb_S1040x512_S272x512_0_0 inb_S1040x512_S16x512_0_0 inb_S1040x2048_S272x2048_0_0) inb_S1040x512_S256x512_272_0 inb_S1040x2048_S256x2048_272_0) inb_S1040x512_S256x512_528_0 inb_S1040x2048_S256x2048_528_0) inb_S1040x512_S256x512_784_0 inb_S1040x2048_S256x2048_784_0) ⟨1038 + e.val, by omega⟩ n (by show 1038 + e.val < 1040; omega)

theorem outC6 (hc0 : cond0_0 i) (hc1 : ¬cond0_1 i) (y : S1024x512.Idx) :
    out0_C_6 c i arg2 harg2 arg3 harg3 arg4 harg4 arg5 harg5 arg6 harg6 arg7 harg7 arg8 harg8 arg9 harg9 arg10 harg10 arg11 harg11 hc0 hc1 x0 x1 x2 x3 x4 x5 y = gtile false (HS x0 x1) x2 x3 x4 x5 y := by
  unfold out0_C_6; rw [View.read_writes_junk_eq_canon]
  refine View.canon_apply_of_pieces (gtile false (HS x0 x1) x2 x3 x4 x5) _ (View.PiecesOf.mem ?_) y (cover0_C_6 c i arg2 harg2 arg3 harg3 arg4 harg4 arg5 harg5 arg6 harg6 arg7 harg7 arg8 harg8 arg9 harg9 arg10 harg10 arg11 harg11 hc0 hc1 x0 x1 x2 x3 x4 x5 y)
  unfold kernelRun0_C
  dsimp only
  sl_unfold_words
  dsimp only
  simp (disch := decide) only [View.readAt_eq_ld, Memref.IsWhole.read_unread, View.ld_unit_lit', readCov_ld]
  refine ⟨gpiece (HS x0 x1) x2 x3 x4 x5 768 782 783 784 1040 (by norm_num) rfl rfl rfl rfl (good14 (HS x0 x1) x2 (good12 (HS x0 x1) x2 (good9 (HS x0 x1) x2 (goodN (HS x0 x1) x2 inb_S1040x512_S272x512_0_0 inb_S1040x2048_S272x2048_0_0) inb_S1040x512_S256x512_272_0 inb_S1040x2048_S256x2048_272_0) inb_S1040x512_S256x512_528_0 inb_S1040x2048_S256x2048_528_0) inb_S1040x512_S256x512_784_0 inb_S1040x2048_S256x2048_784_0) inb_S1024x512_S256x512_768_0 inb_S1040x512_S256x512_782_0 inb_S1040x512_S256x512_783_0 inb_S1040x512_S256x512_784_0 inb_S3x512_S1x512_0_0 inb_S3x512_S1x512_1_0 inb_S3x512_S1x512_2_0 inb_S1040x2048_S256x2048_784_0 _ fun r n => (p1 _ _ _ _ _ _ _ _ _ _).trans (congrArg _ (p15 _ _ r n)),
    gpiece (HS x0 x1) x2 x3 x4 x5 512 526 527 528 784 (by norm_num) rfl rfl rfl rfl (good12 (HS x0 x1) x2 (good9 (HS x0 x1) x2 (goodN (HS x0 x1) x2 inb_S1040x512_S272x512_0_0 inb_S1040x2048_S272x2048_0_0) inb_S1040x512_S256x512_272_0 inb_S1040x2048_S256x2048_272_0) inb_S1040x512_S256x512_528_0 inb_S1040x2048_S256x2048_528_0) inb_S1024x512_S256x512_512_0 inb_S1040x512_S256x512_526_0 inb_S1040x512_S256x512_527_0 inb_S1040x512_S256x512_528_0 inb_S3x512_S1x512_0_0 inb_S3x512_S1x512_1_0 inb_S3x512_S1x512_2_0 inb_S1040x2048_S256x2048_528_0 _ fun r n => p13 _ _ r n _ _ _ _ _ _ _,
    gpiece (HS x0 x1) x2 x3 x4 x5 256 270 271 272 528 (by norm_num) rfl rfl rfl rfl (good9 (HS x0 x1) x2 (goodN (HS x0 x1) x2 inb_S1040x512_S272x512_0_0 inb_S1040x2048_S272x2048_0_0) inb_S1040x512_S256x512_272_0 inb_S1040x2048_S256x2048_272_0) inb_S1024x512_S256x512_256_0 inb_S1040x512_S256x512_270_0 inb_S1040x512_S256x512_271_0 inb_S1040x512_S256x512_272_0 inb_S3x512_S1x512_0_0 inb_S3x512_S1x512_1_0 inb_S3x512_S1x512_2_0 inb_S1040x2048_S256x2048_272_0 _ fun r n => p10 _ _ r n _ _ _ _ _ _ _,
    gpiece (HS x0 x1) x2 x3 x4 x5 0 14 15 16 272 (by norm_num) rfl rfl rfl rfl (goodN (HS x0 x1) x2 inb_S1040x512_S272x512_0_0 inb_S1040x2048_S272x2048_0_0) inb_S1024x512_S256x512_0_0 inb_S1040x512_S256x512_14_0 inb_S1040x512_S256x512_15_0 inb_S1040x512_S256x512_16_0 inb_S3x512_S1x512_0_0 inb_S3x512_S1x512_1_0 inb_S3x512_S1x512_2_0 inb_S1040x2048_S256x2048_16_0 _ fun r n => (p8 _ _ _ _ _ _ _ _ _ _).trans (congrArg _ (p7 _ _ r n)),
    trivial⟩

theorem outC7 (hc0 : cond0_0 i) (hc1 : ¬cond0_1 i) (e : Fin 2) (n : Fin 512) :
    out0_C_7 c i arg2 harg2 arg3 harg3 arg4 harg4 arg5 harg5 arg6 harg6 arg7 harg7 arg8 harg8 arg9 harg9 arg10 harg10 arg11 harg11 hc0 hc1 x0 x1 x2 x3 x4 x5 (ix3 0 e n) = aval false (HS x0 x1) x2 (1038 + e.val) n := by
  unfold out0_C_7; rw [View.read_writes_junk_eq_canon]
  unfold kernelRun0_C
  dsimp only
  sl_unfold_words
  dsimp only
  simp (disch := decide) only [View.readAt_eq_ld, Memref.IsWhole.read_unread, View.ld_unit_lit', readCov_ld, View.canon_cons_unit_lit']
  refine (p2 _ e n).trans ((ld_a2 _ 1038 (by norm_num) inb_S1040x512_S2x512_1038_0 e n).trans ?_)
  exact (good14 (HS x0 x1) x2 (good12 (HS x0 x1) x2 (good9 (HS x0 x1) x2 (goodN (HS x0 x1) x2 inb_S1040x512_S272x512_0_0 inb_S1040x2048_S272x2048_0_0) inb_S1040x512_S256x512_272_0 inb_S1040x2048_S256x2048_272_0) inb_S1040x512_S256x512_528_0 inb_S1040x2048_S256x2048_528_0) inb_S1040x512_S256x512_784_0 inb_S1040x2048_S256x2048_784_0) ⟨1038 + e.val, by omega⟩ n (by show 1038 + e.val < 1040; omega)

theorem soutC0 (hc0 : cond0_0 i) (hc1 : ¬cond0_1 i) : sout0_C_0 c i arg2 harg2 arg3 harg3 arg4 harg4 arg5 harg5 arg6 harg6 arg7 harg7 arg8 harg8 arg9 harg9 arg10 harg10 arg11 harg11 hc0 hc1 x0 x1 x2 x3 x4 x5 = HS x0 x1 := by
  unfold sout0_C_0; rw [View.read_writes_junk_eq_canon]
  unfold kernelRun0_C
  dsimp only
  sl_unfold_words
  dsimp only
  simp (disch := decide) only [View.readAt_eq_ld, Memref.IsWhole.read_unread, View.ld_unit_lit']
  rfl

theorem outD6 (hc0 : ¬cond0_0 i) (hc1 : ¬cond0_1 i) (y : S1024x512.Idx) :
    out0_D_6 c i arg2 harg2 arg3 harg3 arg4 harg4 arg5 harg5 arg6 harg6 arg7 harg7 arg8 harg8 arg9 harg9 arg10 harg10 arg11 harg11 hc0 hc1 x0 x1 x2 x3 x4 x5 xs0 y = gtile false xs0 x2 x3 x4 x5 y := by
  unfold out0_D_6; rw [View.read_writes_junk_eq_canon]
  refine View.canon_apply_of_pieces (gtile false xs0 x2 x3 x4 x5) _ (View.PiecesOf.mem ?_) y (cover0_D_6 c i arg2 harg2 arg3 harg3 arg4 harg4 arg5 harg5 arg6 harg6 arg7 harg7 arg8 harg8 arg9 harg9 arg10 harg10 arg11 harg11 hc0 hc1 x0 x1 x2 x3 x4 x5 xs0 y)
  unfold kernelRun0_D
  dsimp only
  sl_unfold_words
  dsimp only
  simp (disch := decide) only [View.readAt_eq_ld, Memref.IsWhole.read_unread, View.ld_unit_lit', readCov_ld]
  refine ⟨gpiece xs0 x2 x3 x4 x5 768 782 783 784 1040 (by norm_num) rfl rfl rfl rfl (good14 xs0 x2 (good12 xs0 x2 (good9 xs0 x2 (goodN xs0 x2 inb_S1040x512_S272x512_0_0 inb_S1040x2048_S272x2048_0_0) inb_S1040x512_S256x512_272_0 inb_S1040x2048_S256x2048_272_0) inb_S1040x512_S256x512_528_0 inb_S1040x2048_S256x2048_528_0) inb_S1040x512_S256x512_784_0 inb_S1040x2048_S256x2048_784_0) inb_S1024x512_S256x512_768_0 inb_S1040x512_S256x512_782_0 inb_S1040x512_S256x512_783_0 inb_S1040x512_S256x512_784_0 inb_S3x512_S1x512_0_0 inb_S3x512_S1x512_1_0 inb_S3x512_S1x512_2_0 inb_S1040x2048_S256x2048_784_0 _ fun r n => (p1 _ _ _ _ _ _ _ _ _ _).trans (congrArg _ (p15 _ _ r n)),
    gpiece xs0 x2 x3 x4 x5 512 526 527 528 784 (by norm_num) rfl rfl rfl rfl (good12 xs0 x2 (good9 xs0 x2 (goodN xs0 x2 inb_S1040x512_S272x512_0_0 inb_S1040x2048_S272x2048_0_0) inb_S1040x512_S256x512_272_0 inb_S1040x2048_S256x2048_272_0) inb_S1040x512_S256x512_528_0 inb_S1040x2048_S256x2048_528_0) inb_S1024x512_S256x512_512_0 inb_S1040x512_S256x512_526_0 inb_S1040x512_S256x512_527_0 inb_S1040x512_S256x512_528_0 inb_S3x512_S1x512_0_0 inb_S3x512_S1x512_1_0 inb_S3x512_S1x512_2_0 inb_S1040x2048_S256x2048_528_0 _ fun r n => p13 _ _ r n _ _ _ _ _ _ _,
    gpiece xs0 x2 x3 x4 x5 256 270 271 272 528 (by norm_num) rfl rfl rfl rfl (good9 xs0 x2 (goodN xs0 x2 inb_S1040x512_S272x512_0_0 inb_S1040x2048_S272x2048_0_0) inb_S1040x512_S256x512_272_0 inb_S1040x2048_S256x2048_272_0) inb_S1024x512_S256x512_256_0 inb_S1040x512_S256x512_270_0 inb_S1040x512_S256x512_271_0 inb_S1040x512_S256x512_272_0 inb_S3x512_S1x512_0_0 inb_S3x512_S1x512_1_0 inb_S3x512_S1x512_2_0 inb_S1040x2048_S256x2048_272_0 _ fun r n => p10 _ _ r n _ _ _ _ _ _ _,
    gpiece xs0 x2 x3 x4 x5 0 14 15 16 272 (by norm_num) rfl rfl rfl rfl (goodN xs0 x2 inb_S1040x512_S272x512_0_0 inb_S1040x2048_S272x2048_0_0) inb_S1024x512_S256x512_0_0 inb_S1040x512_S256x512_14_0 inb_S1040x512_S256x512_15_0 inb_S1040x512_S256x512_16_0 inb_S3x512_S1x512_0_0 inb_S3x512_S1x512_1_0 inb_S3x512_S1x512_2_0 inb_S1040x2048_S256x2048_16_0 _ fun r n => (p8 _ _ _ _ _ _ _ _ _ _).trans (congrArg _ (p7 _ _ r n)),
    trivial⟩

theorem outD7 (hc0 : ¬cond0_0 i) (hc1 : ¬cond0_1 i) (e : Fin 2) (n : Fin 512) :
    out0_D_7 c i arg2 harg2 arg3 harg3 arg4 harg4 arg5 harg5 arg6 harg6 arg7 harg7 arg8 harg8 arg9 harg9 arg10 harg10 arg11 harg11 hc0 hc1 x0 x1 x2 x3 x4 x5 xs0 (ix3 0 e n) = aval false xs0 x2 (1038 + e.val) n := by
  unfold out0_D_7; rw [View.read_writes_junk_eq_canon]
  unfold kernelRun0_D
  dsimp only
  sl_unfold_words
  dsimp only
  simp (disch := decide) only [View.readAt_eq_ld, Memref.IsWhole.read_unread, View.ld_unit_lit', readCov_ld, View.canon_cons_unit_lit']
  refine (p2 _ e n).trans ((ld_a2 _ 1038 (by norm_num) inb_S1040x512_S2x512_1038_0 e n).trans ?_)
  exact (good14 xs0 x2 (good12 xs0 x2 (good9 xs0 x2 (goodN xs0 x2 inb_S1040x512_S272x512_0_0 inb_S1040x2048_S272x2048_0_0) inb_S1040x512_S256x512_272_0 inb_S1040x2048_S256x2048_272_0) inb_S1040x512_S256x512_528_0 inb_S1040x2048_S256x2048_528_0) inb_S1040x512_S256x512_784_0 inb_S1040x2048_S256x2048_784_0) ⟨1038 + e.val, by omega⟩ n (by show 1038 + e.val < 1040; omega)

end

end Cert.Up
-- ==== Proof.UpBlocks.lean ====
/-
  THE GATED PROJECTION'S RESULT ARRAYS: the tiles of 1024 rows and 512 columns put together. The rows a tile reads are loaded at the first of
  its row block's eleven tiles and carried to the others.
-/
module

public import proofs.«01_k».proof.Proof.UpOut
public import proofs.«01_k».proof.Proof.Gen.Kernel3Ideal.Value
public import Idealize.ShloMosaic.Lib.StableHlo.RunRead
public import Idealize.ShloMosaic.Lib.StableHlo.RunHlo

@[expose] public section

set_option maxRecDepth 16384

noncomputable section

namespace Cert.Up

open Idealize.ShloMosaic Cert.Kernel3Ideal Cert.Kernel3Ideal.Gen

/-- Column `j` of the product of row `R` with the weight (rows and columns counted modulo the arrays' sizes). -/
def pre (X : Fin 16384 → Fin 2048 → EReal) (W : Fin 2048 → Fin 11264 → EReal) (R j : ℕ) : EReal :=
  ∑ k, X ⟨R % 16384, Nat.mod_lt _ (by norm_num)⟩ k * W k ⟨j % 11264, Nat.mod_lt _ (by norm_num)⟩

/-- The same of the row `2 - q` before `R` in its sequence, zero before the sequence's first. -/
def shifted (X : Fin 16384 → Fin 2048 → EReal) (W : Fin 2048 → Fin 11264 → EReal) (R q j : ℕ) : EReal :=
  if R % 2048 + q < 2 then Ideal.ofBits .f32 0x00000000#32 else pre X W (R + q - 2) j

theorem idx_all : ∀ t : Fin cfg0.N,
    win0_0.index t = ![t.val / 11, 0] ∧ win0_1.index t = ![t.val / 11 * 64 - 1, 0] ∧ win0_2.index t = ![0, t.val % 11] ∧ win0_3.index t = ![0, 11 + t.val % 11]
    ∧ win0_4.index t = ![0, t.val % 11] ∧ win0_5.index t = ![0, t.val % 11] ∧ win0_6.index t = ![t.val / 11, t.val % 11] ∧ win0_7.index t = ![t.val / 11, 0, t.val % 11] :=
  (by decide +kernel : ∀ t : Fin grid0.N,
    win0_0.index t = ![t.val / 11, 0] ∧ win0_1.index t = ![t.val / 11 * 64 - 1, 0] ∧ win0_2.index t = ![0, t.val % 11] ∧ win0_3.index t = ![0, 11 + t.val % 11]
    ∧ win0_4.index t = ![0, t.val % 11] ∧ win0_5.index t = ![0, t.val % 11] ∧ win0_6.index t = ![t.val / 11, t.val % 11] ∧ win0_7.index t = ![t.val / 11, 0, t.val % 11])

variable (m : (ℓ : Loc nD τ sig) → Buf (Elt Ideal) ℓ) (c : Dev nD)

theorem t_lt (t : Fin cfg0.N) : t.val < 176 := lt_of_lt_of_eq t.isLt (by decide +kernel : cfg0.N = 176)

theorem V_w (j : S2048x11264.Idx) : V m c main_v0 j = m ((c.tc : Thread nD τ).loc main_arg1) j := by
  unfold_abbrev_sides
  after_reads_simp
  rfl

/-- The array row of row `a` of tile `t`. -/
def rowIx (t : Fin cfg0.N) (a : Fin 1024) : Fin 16384 := ⟨t.val / 11 * 1024 + a.val, by have := t_lt t; omega⟩
/-- The array column of column `n` of tile `t`. -/
def colIx (t : Fin cfg0.N) (n : Fin 512) : Fin 5632 := ⟨t.val % 11 * 512 + n.val, by omega⟩

theorem blk0 (t : Fin cfg0.N) (a : Fin 1024) (k : Fin 2048) :
    iblk m c 0 t (ix2 a k) = m ((c.tc : Thread nD τ).loc main_arg0) (ix2 (rowIx t a) k) := by
  refine Eq.trans ?_ (congrFun (V_main_arg0 m c) _)
  blk_ext [iblk, rowIx, (idx_all t).1]

theorem blk1 (t : Fin cfg0.N) (a : Fin 16) (k : Fin 2048) :
    iblk m c 1 t (ix2 a k) = m ((c.tc : Thread nD τ).loc main_arg0) (ix2 ⟨(t.val / 11 * 64 - 1) * 16 + a.val, by have := t_lt t; omega⟩ k) := by
  refine Eq.trans ?_ (congrFun (V_main_arg0 m c) _)
  blk_ext [iblk, (idx_all t).2.1]

theorem blk2 (t : Fin cfg0.N) (k : Fin 2048) (n : Fin 512) :
    iblk m c 2 t (ix2 k n) = m ((c.tc : Thread nD τ).loc main_arg1) (ix2 k ⟨(colIx t n).val, by have := (colIx t n).isLt; omega⟩) := by
  refine Eq.trans ?_ (V_w m c _)
  blk_ext [iblk, colIx, (idx_all t).2.2.1]

theorem blk3 (t : Fin cfg0.N) (k : Fin 2048) (n : Fin 512) :
    iblk m c 3 t (ix2 k n) = m ((c.tc : Thread nD τ).loc main_arg1) (ix2 k ⟨5632 + (colIx t n).val, by have := (colIx t n).isLt; omega⟩) := by
  refine Eq.trans ?_ (V_w m c _)
  blk_ext [iblk, colIx, (idx_all t).2.2.2.1]

theorem blk4 (t : Fin cfg0.N) (q : Fin 3) (n : Fin 512) :
    iblk m c 4 t (ix2 q n) = m ((c.tc : Thread nD τ).loc main_arg2) (ix2 q (colIx t n)) := by
  refine Eq.trans ?_ (congrFun (V_main_arg2 m c) _)
  blk_ext [iblk, colIx, (idx_all t).2.2.2.2.1]

theorem blk5 (t : Fin cfg0.N) (n : Fin 512) :
    iblk m c 5 t (ix2 0 n) = m ((c.tc : Thread nD τ).loc main_arg3) (ix2 0 (colIx t n)) := by
  refine Eq.trans ?_ (congrFun (V_main_arg3 m c) _)
  blk_ext [iblk, colIx, (idx_all t).2.2.2.2.2.1]

abbrev aX : Fin 16384 → Fin 2048 → EReal := fun R k => m ((c.tc : Thread nD τ).loc main_arg0) (ix2 R k)
abbrev aW : Fin 2048 → Fin 11264 → EReal := fun k j => m ((c.tc : Thread nD τ).loc main_arg1) (ix2 k j)
abbrev aC : Fin 3 → Fin 5632 → EReal := fun q j => m ((c.tc : Thread nD τ).loc main_arg2) (ix2 q j)
abbrev aB : Fin 5632 → EReal := fun j => m ((c.tc : Thread nD τ).loc main_arg3) (ix2 0 j)

/-- The rows tile `t` reads. -/
abbrev rows (t : Fin cfg0.N) : Vec Ideal S1040x2048 .bf16 := HS (iblk m c 0 t) (iblk m c 1 t)

theorem rows_congr (t t' : Fin cfg0.N) (h : t.val / 11 = t'.val / 11) : rows m c t = rows m c t' := by
  have e0 : iblk m c 0 t = iblk m c 0 t' := by
    funext y
    obtain ⟨a, k, rfl⟩ : ∃ (a : Fin 1024) (k : Fin 2048), y = ix2 a k := ⟨y 0, y 1, eq_ix2 y⟩
    refine (blk0 m c t a k).trans (Eq.trans ?_ (blk0 m c t' a k).symm)
    simp only [rowIx, h]
  have e1 : iblk m c 1 t = iblk m c 1 t' := by
    funext y
    obtain ⟨a, k, rfl⟩ : ∃ (a : Fin 16) (k : Fin 2048), y = ix2 a k := ⟨y 0, y 1, eq_ix2 y⟩
    refine (blk1 m c t a k).trans (Eq.trans ?_ (blk1 m c t' a k).symm)
    simp only [h]
  exact congrArg₂ HS e0 e1

theorem rows_apply (t : Fin cfg0.N) (r : Fin 1040) (k : Fin 2048) (h : 16 ≤ r.val ∨ 11 ≤ t.val) :
    rows m c t (ix2 r k) = aX m c ⟨t.val / 11 * 1024 + r.val - 16, by have := t_lt t; omega⟩ k := by
  refine (HS_apply _ _ r k).trans ?_
  split_ifs with h'
  · refine (blk1 m c t _ k).trans (congrArg (fun R => m ((c.tc : Thread nD τ).loc main_arg0) (ix2 R k)) (Fin.ext ?_))
    show (t.val / 11 * 64 - 1) * 16 + r.val = t.val / 11 * 1024 + r.val - 16
    omega
  · refine (blk0 m c t _ k).trans (congrArg (fun R => m ((c.tc : Thread nD τ).loc main_arg0) (ix2 R k)) (Fin.ext ?_))
    show t.val / 11 * 1024 + (r.val - 16) = t.val / 11 * 1024 + r.val - 16
    omega

theorem dot_a (t : Fin cfg0.N) (r : ℕ) (hr : r < 1040) (n : Fin 512) (h : 16 ≤ r ∨ 11 ≤ t.val) :
    dotv (rows m c t) (iblk m c 2 t) r n = pre (aX m c) (aW m c) (t.val / 11 * 1024 + r - 16) (colIx t n).val := by
  have ht := t_lt t
  have hn := (colIx t n).isLt
  have e : r % 1040 = r := Nat.mod_eq_of_lt hr
  have e' : (t.val / 11 * 1024 + r - 16) % 16384 = t.val / 11 * 1024 + r - 16 := Nat.mod_eq_of_lt (by omega)
  have e'' : (colIx t n).val % 11264 = (colIx t n).val := Nat.mod_eq_of_lt (by omega)
  unfold dotv pre
  refine Finset.sum_congr rfl fun k _ => congrArg₂ (· * ·) ?_ ?_
  · refine (rows_apply m c t _ k (by show 16 ≤ r % 1040 ∨ _; rw [e]; exact h)).trans (congrArg (fun R => aX m c R k) (Fin.ext ?_))
    show t.val / 11 * 1024 + r % 1040 - 16 = _
    rw [e]; exact e'.symm
  · exact (blk2 m c t k n).trans (congrArg (fun j => aW m c k j) (Fin.ext e''.symm))

theorem dot_u (t : Fin cfg0.N) (r : ℕ) (hr : r < 1040) (n : Fin 512) (h : 16 ≤ r ∨ 11 ≤ t.val) :
    dotv (rows m c t) (iblk m c 3 t) r n = pre (aX m c) (aW m c) (t.val / 11 * 1024 + r - 16) (5632 + (colIx t n).val) := by
  have ht := t_lt t
  have hn := (colIx t n).isLt
  have e : r % 1040 = r := Nat.mod_eq_of_lt hr
  have e' : (t.val / 11 * 1024 + r - 16) % 16384 = t.val / 11 * 1024 + r - 16 := Nat.mod_eq_of_lt (by omega)
  have e'' : (5632 + (colIx t n).val) % 11264 = 5632 + (colIx t n).val := Nat.mod_eq_of_lt (by omega)
  unfold dotv pre
  refine Finset.sum_congr rfl fun k _ => congrArg₂ (· * ·) ?_ ?_
  · refine (rows_apply m c t _ k (by show 16 ≤ r % 1040 ∨ _; rw [e]; exact h)).trans (congrArg (fun R => aX m c R k) (Fin.ext ?_))
    show t.val / 11 * 1024 + r % 1040 - 16 = _
    rw [e]; exact e'.symm
  · exact (blk3 m c t k n).trans (congrArg (fun j => aW m c k j) (Fin.ext e''.symm))

/-- Whether tile `t` is a sequence's first. -/
def first (t : Fin cfg0.N) : Bool := decide (t.val % 22 < 11)

theorem aval_eq (t : Fin cfg0.N) (a : Fin 1024) (q : ℕ) (hq : q < 3) (n : Fin 512) :
    aval (first t) (rows m c t) (iblk m c 2 t) (a.val + (14 + q)) n = shifted (aX m c) (aW m c) (rowIx t a).val q (colIx t n).val := by
  have ht := t_lt t
  have hR : (rowIx t a).val = t.val / 11 * 1024 + a.val := rfl
  unfold aval shifted
  have hc : (first t = true ∧ a.val + (14 + q) < 16) ↔ (rowIx t a).val % 2048 + q < 2 := by
    rw [first, decide_eq_true_eq, hR]; omega
  by_cases h : (rowIx t a).val % 2048 + q < 2
  · rw [if_pos h, if_pos (hc.2 h)]
  · rw [if_neg h, if_neg fun h' => h (hc.1 h'), dot_a m c t _ (by omega) n (by rw [hR] at h; omega), hR]
    congr 1
    omega

theorem tile_eq (t : Fin cfg0.N) (a : Fin 1024) (n : Fin 512) :
    gtile (first t) (rows m c t) (iblk m c 2 t) (iblk m c 3 t) (iblk m c 4 t) (iblk m c 5 t) (ix2 a n)
      = gate (aB m c (colIx t n)) (shifted (aX m c) (aW m c) (rowIx t a).val 0 (colIx t n).val) (aC m c 0 (colIx t n))
        (shifted (aX m c) (aW m c) (rowIx t a).val 1 (colIx t n).val) (aC m c 1 (colIx t n))
        (shifted (aX m c) (aW m c) (rowIx t a).val 2 (colIx t n).val) (aC m c 2 (colIx t n))
        (pre (aX m c) (aW m c) (rowIx t a).val (5632 + (colIx t n).val)) := by
  have e0 := aval_eq m c t a 0 (by norm_num) n
  have e1 := aval_eq m c t a 1 (by norm_num) n
  have e2 := aval_eq m c t a 2 (by norm_num) n
  have e3 := dot_u m c t (a.val + 16) (by omega) n (.inl (by omega))
  have e4 : t.val / 11 * 1024 + (a.val + 16) - 16 = (rowIx t a).val := by show _ = t.val / 11 * 1024 + a.val; omega
  rw [e4] at e3
  rw [← e0, ← e1, ← e2, ← e3]
  unfold gtile
  show gate (iblk m c 5 t (ix2 0 n)) _ (iblk m c 4 t (ix2 0 n)) _ (iblk m c 4 t (ix2 1 n)) _ (iblk m c 4 t (ix2 2 n)) _ = _
  rw [blk5, blk4, blk4, blk4]
  rfl

theorem first_true (t : Fin cfg0.N) (h : t.val % 22 = 0 ∨ t.val % 22 = 1 ∨ t.val % 22 = 2 ∨ t.val % 22 = 3 ∨ t.val % 22 = 4 ∨ t.val % 22 = 5 ∨ t.val % 22 = 6 ∨ t.val % 22 = 7 ∨ t.val % 22 = 8 ∨ t.val % 22 = 9 ∨ t.val % 22 = 10) : true = first t :=
  (decide_eq_true (by omega)).symm
theorem first_false (t : Fin cfg0.N) (h : ¬(t.val % 22 = 0 ∨ t.val % 22 = 1 ∨ t.val % 22 = 2 ∨ t.val % 22 = 3 ∨ t.val % 22 = 4 ∨ t.val % 22 = 5 ∨ t.val % 22 = 6 ∨ t.val % 22 = 7 ∨ t.val % 22 = 8 ∨ t.val % 22 = 9 ∨ t.val % 22 = 10)) : false = first t :=
  (decide_eq_false (by omega)).symm

attribute [local irreducible] out0_A_6 out0_B_6 out0_C_6 out0_D_6 out0_A_7 out0_B_7 out0_C_7 out0_D_7 sout0_A_0 sout0_C_0

theorem loaded (t : Fin cfg0.N) (h0 : t.val % 11 = 0) : (outsAt0 m c t.val t.isLt).2.2 = rows m c t := by
  by_cases h1 : (t.val % 22 = 0 ∨ t.val % 22 = 1 ∨ t.val % 22 = 2 ∨ t.val % 22 = 3 ∨ t.val % 22 = 4 ∨ t.val % 22 = 5 ∨ t.val % 22 = 6 ∨ t.val % 22 = 7 ∨ t.val % 22 = 8 ∨ t.val % 22 = 9 ∨ t.val % 22 = 10)
  · rw [outsAt0_A m c t h0 h1]
    exact soutA0 (c := c) (i := grid0.coords t) (harg2 := hs0_0 t) (harg3 := hs0_1 t) (harg4 := hs0_2 t) (harg5 := hs0_3 t) (harg6 := hs0_4 t) (harg7 := hs0_5 t) (harg8 := hs0_6 t) (harg9 := hs0_7 t) (harg10 := Memref.isWhole_whole _) (harg11 := Memref.isWhole_whole _) (x0 := iblk m c 0 t) (x1 := iblk m c 1 t) (x2 := iblk m c 2 t) (x3 := iblk m c 3 t) (x4 := iblk m c 4 t) (x5 := iblk m c 5 t) (hc0 := (hcond0_0 t).mpr h0) (hc1 := (hcond0_1 t).mpr h1)
  · rw [outsAt0_C m c t h0 h1]
    exact soutC0 (c := c) (i := grid0.coords t) (harg2 := hs0_0 t) (harg3 := hs0_1 t) (harg4 := hs0_2 t) (harg5 := hs0_3 t) (harg6 := hs0_4 t) (harg7 := hs0_5 t) (harg8 := hs0_6 t) (harg9 := hs0_7 t) (harg10 := Memref.isWhole_whole _) (harg11 := Memref.isWhole_whole _) (x0 := iblk m c 0 t) (x1 := iblk m c 1 t) (x2 := iblk m c 2 t) (x3 := iblk m c 3 t) (x4 := iblk m c 4 t) (x5 := iblk m c 5 t) (hc0 := (hcond0_0 t).mpr h0) (hc1 := fun h => h1 ((hcond0_1 t).mp h))

theorem kept (t : Fin cfg0.N) (h0 : ¬t.val % 11 = 0) (hn : t.val - 1 < cfg0.N) : (outsAt0 m c t.val t.isLt).2.2 = (outsAt0 m c (t.val - 1) hn).2.2 := by
  by_cases h1 : (t.val % 22 = 0 ∨ t.val % 22 = 1 ∨ t.val % 22 = 2 ∨ t.val % 22 = 3 ∨ t.val % 22 = 4 ∨ t.val % 22 = 5 ∨ t.val % 22 = 6 ∨ t.val % 22 = 7 ∨ t.val % 22 = 8 ∨ t.val % 22 = 9 ∨ t.val % 22 = 10)
  · rw [outsAt0_B m c t h0 h1]
    dsimp only [sout0_B_0]
  · rw [outsAt0_D m c t h0 h1]
    dsimp only [sout0_D_0]

/-- After every tile the scratch holds the tile's rows. -/
theorem carried (n : ℕ) (hn : n < cfg0.N) : (outsAt0 m c n hn).2.2 = rows m c ⟨n, hn⟩ := by
  induction n with
  | zero => exact loaded m c ⟨0, hn⟩ rfl
  | succ n ih =>
    by_cases h0 : (n + 1) % 11 = 0
    · exact loaded m c ⟨n + 1, hn⟩ h0
    · have hr : rows m c ⟨n, by omega⟩ = rows m c ⟨n + 1, hn⟩ := rows_congr m c _ _ (by show n / 11 = (n + 1) / 11; omega)
      exact (kept m c ⟨n + 1, hn⟩ h0 (by show n + 1 - 1 < _; omega)).trans ((ih (by omega)).trans hr)

theorem before (t : Fin cfg0.N) (h0 : ¬t.val % 11 = 0) (hn : t.val - 1 < cfg0.N) : (outsAt0 m c (t.val - 1) hn).2.2 = rows m c t :=
  (carried m c _ hn).trans (rows_congr m c _ _ (by show (t.val - 1) / 11 = t.val / 11; omega))

theorem outs6 (t : Fin cfg0.N) (y : S1024x512.Idx) :
    (outsAt0 m c t.val t.isLt).1 y = gtile (first t) (rows m c t) (iblk m c 2 t) (iblk m c 3 t) (iblk m c 4 t) (iblk m c 5 t) y := by
  by_cases h0 : t.val % 11 = 0
  · by_cases h1 : (t.val % 22 = 0 ∨ t.val % 22 = 1 ∨ t.val % 22 = 2 ∨ t.val % 22 = 3 ∨ t.val % 22 = 4 ∨ t.val % 22 = 5 ∨ t.val % 22 = 6 ∨ t.val % 22 = 7 ∨ t.val % 22 = 8 ∨ t.val % 22 = 9 ∨ t.val % 22 = 10)
    · refine (congrFun (congrArg (fun p => p.1) (outsAt0_A m c t h0 h1)) y).trans ?_
      rw [← first_true t h1]
      exact outA6 (c := c) (i := grid0.coords t) (harg2 := hs0_0 t) (harg3 := hs0_1 t) (harg4 := hs0_2 t) (harg5 := hs0_3 t) (harg6 := hs0_4 t) (harg7 := hs0_5 t) (harg8 := hs0_6 t) (harg9 := hs0_7 t) (harg10 := Memref.isWhole_whole _) (harg11 := Memref.isWhole_whole _) (x0 := iblk m c 0 t) (x1 := iblk m c 1 t) (x2 := iblk m c 2 t) (x3 := iblk m c 3 t) (x4 := iblk m c 4 t) (x5 := iblk m c 5 t) (y := y) (hc0 := (hcond0_0 t).mpr h0) (hc1 := (hcond0_1 t).mpr h1)
    · refine (congrFun (congrArg (fun p => p.1) (outsAt0_C m c t h0 h1)) y).trans ?_
      rw [← first_false t h1]
      exact outC6 (c := c) (i := grid0.coords t) (harg2 := hs0_0 t) (harg3 := hs0_1 t) (harg4 := hs0_2 t) (harg5 := hs0_3 t) (harg6 := hs0_4 t) (harg7 := hs0_5 t) (harg8 := hs0_6 t) (harg9 := hs0_7 t) (harg10 := Memref.isWhole_whole _) (harg11 := Memref.isWhole_whole _) (x0 := iblk m c 0 t) (x1 := iblk m c 1 t) (x2 := iblk m c 2 t) (x3 := iblk m c 3 t) (x4 := iblk m c 4 t) (x5 := iblk m c 5 t) (y := y) (hc0 := (hcond0_0 t).mpr h0) (hc1 := fun h => h1 ((hcond0_1 t).mp h))
  · have hb := before m c t h0 (by have := t.isLt; omega)
    by_cases h1 : (t.val % 22 = 0 ∨ t.val % 22 = 1 ∨ t.val % 22 = 2 ∨ t.val % 22 = 3 ∨ t.val % 22 = 4 ∨ t.val % 22 = 5 ∨ t.val % 22 = 6 ∨ t.val % 22 = 7 ∨ t.val % 22 = 8 ∨ t.val % 22 = 9 ∨ t.val % 22 = 10)
    · refine (congrFun (congrArg (fun p => p.1) (outsAt0_B m c t h0 h1)) y).trans ?_
      rw [← first_true t h1, ← hb]
      exact outB6 (c := c) (i := grid0.coords t) (harg2 := hs0_0 t) (harg3 := hs0_1 t) (harg4 := hs0_2 t) (harg5 := hs0_3 t) (harg6 := hs0_4 t) (harg7 := hs0_5 t) (harg8 := hs0_6 t) (harg9 := hs0_7 t) (harg10 := Memref.isWhole_whole _) (harg11 := Memref.isWhole_whole _) (x0 := iblk m c 0 t) (x1 := iblk m c 1 t) (x2 := iblk m c 2 t) (x3 := iblk m c 3 t) (x4 := iblk m c 4 t) (x5 := iblk m c 5 t) (xs0 := (outsAt0 m c (t.val - 1) _).2.2) (y := y) (hc0 := fun h => h0 ((hcond0_0 t).mp h)) (hc1 := (hcond0_1 t).mpr h1)
    · refine (congrFun (congrArg (fun p => p.1) (outsAt0_D m c t h0 h1)) y).trans ?_
      rw [← first_false t h1, ← hb]
      exact outD6 (c := c) (i := grid0.coords t) (harg2 := hs0_0 t) (harg3 := hs0_1 t) (harg4 := hs0_2 t) (harg5 := hs0_3 t) (harg6 := hs0_4 t) (harg7 := hs0_5 t) (harg8 := hs0_6 t) (harg9 := hs0_7 t) (harg10 := Memref.isWhole_whole _) (harg11 := Memref.isWhole_whole _) (x0 := iblk m c 0 t) (x1 := iblk m c 1 t) (x2 := iblk m c 2 t) (x3 := iblk m c 3 t) (x4 := iblk m c 4 t) (x5 := iblk m c 5 t) (xs0 := (outsAt0 m c (t.val - 1) _).2.2) (y := y) (hc0 := fun h => h0 ((hcond0_0 t).mp h)) (hc1 := fun h => h1 ((hcond0_1 t).mp h))

theorem outs7 (t : Fin cfg0.N) (e : Fin 2) (n : Fin 512) :
    (outsAt0 m c t.val t.isLt).2.1 (ix3 0 e n) = aval (first t) (rows m c t) (iblk m c 2 t) (1038 + e.val) n := by
  by_cases h0 : t.val % 11 = 0
  · by_cases h1 : (t.val % 22 = 0 ∨ t.val % 22 = 1 ∨ t.val % 22 = 2 ∨ t.val % 22 = 3 ∨ t.val % 22 = 4 ∨ t.val % 22 = 5 ∨ t.val % 22 = 6 ∨ t.val % 22 = 7 ∨ t.val % 22 = 8 ∨ t.val % 22 = 9 ∨ t.val % 22 = 10)
    · refine (congrFun (congrArg (fun p => p.2.1) (outsAt0_A m c t h0 h1)) (ix3 0 e n)).trans ?_
      rw [← first_true t h1]
      exact outA7 (c := c) (i := grid0.coords t) (harg2 := hs0_0 t) (harg3 := hs0_1 t) (harg4 := hs0_2 t) (harg5 := hs0_3 t) (harg6 := hs0_4 t) (harg7 := hs0_5 t) (harg8 := hs0_6 t) (harg9 := hs0_7 t) (harg10 := Memref.isWhole_whole _) (harg11 := Memref.isWhole_whole _) (x0 := iblk m c 0 t) (x1 := iblk m c 1 t) (x2 := iblk m c 2 t) (x3 := iblk m c 3 t) (x4 := iblk m c 4 t) (x5 := iblk m c 5 t) (e := e) (n := n) (hc0 := (hcond0_0 t).mpr h0) (hc1 := (hcond0_1 t).mpr h1)
    · refine (congrFun (congrArg (fun p => p.2.1) (outsAt0_C m c t h0 h1)) (ix3 0 e n)).trans ?_
      rw [← first_false t h1]
      exact outC7 (c := c) (i := grid0.coords t) (harg2 := hs0_0 t) (harg3 := hs0_1 t) (harg4 := hs0_2 t) (harg5 := hs0_3 t) (harg6 := hs0_4 t) (harg7 := hs0_5 t) (harg8 := hs0_6 t) (harg9 := hs0_7 t) (harg10 := Memref.isWhole_whole _) (harg11 := Memref.isWhole_whole _) (x0 := iblk m c 0 t) (x1 := iblk m c 1 t) (x2 := iblk m c 2 t) (x3 := iblk m c 3 t) (x4 := iblk m c 4 t) (x5 := iblk m c 5 t) (e := e) (n := n) (hc0 := (hcond0_0 t).mpr h0) (hc1 := fun h => h1 ((hcond0_1 t).mp h))
  · have hb := before m c t h0 (by have := t.isLt; omega)
    by_cases h1 : (t.val % 22 = 0 ∨ t.val % 22 = 1 ∨ t.val % 22 = 2 ∨ t.val % 22 = 3 ∨ t.val % 22 = 4 ∨ t.val % 22 = 5 ∨ t.val % 22 = 6 ∨ t.val % 22 = 7 ∨ t.val % 22 = 8 ∨ t.val % 22 = 9 ∨ t.val % 22 = 10)
    · refine (congrFun (congrArg (fun p => p.2.1) (outsAt0_B m c t h0 h1)) (ix3 0 e n)).trans ?_
      rw [← first_true t h1, ← hb]
      exact outB7 (c := c) (i := grid0.coords t) (harg2 := hs0_0 t) (harg3 := hs0_1 t) (harg4 := hs0_2 t) (harg5 := hs0_3 t) (harg6 := hs0_4 t) (harg7 := hs0_5 t) (harg8 := hs0_6 t) (harg9 := hs0_7 t) (harg10 := Memref.isWhole_whole _) (harg11 := Memref.isWhole_whole _) (x0 := iblk m c 0 t) (x1 := iblk m c 1 t) (x2 := iblk m c 2 t) (x3 := iblk m c 3 t) (x4 := iblk m c 4 t) (x5 := iblk m c 5 t) (xs0 := (outsAt0 m c (t.val - 1) _).2.2) (e := e) (n := n) (hc0 := fun h => h0 ((hcond0_0 t).mp h)) (hc1 := (hcond0_1 t).mpr h1)
    · refine (congrFun (congrArg (fun p => p.2.1) (outsAt0_D m c t h0 h1)) (ix3 0 e n)).trans ?_
      rw [← first_false t h1, ← hb]
      exact outD7 (c := c) (i := grid0.coords t) (harg2 := hs0_0 t) (harg3 := hs0_1 t) (harg4 := hs0_2 t) (harg5 := hs0_3 t) (harg6 := hs0_4 t) (harg7 := hs0_5 t) (harg8 := hs0_6 t) (harg9 := hs0_7 t) (harg10 := Memref.isWhole_whole _) (harg11 := Memref.isWhole_whole _) (x0 := iblk m c 0 t) (x1 := iblk m c 1 t) (x2 := iblk m c 2 t) (x3 := iblk m c 3 t) (x4 := iblk m c 4 t) (x5 := iblk m c 5 t) (xs0 := (outsAt0 m c (t.val - 1) _).2.2) (e := e) (n := n) (hc0 := fun h => h0 ((hcond0_0 t).mp h)) (hc1 := fun h => h1 ((hcond0_1 t).mp h))

/-- The gated projection, whole. -/
def allG (X : Fin 16384 → Fin 2048 → EReal) (W : Fin 2048 → Fin 11264 → EReal) (C : Fin 3 → Fin 5632 → EReal) (B : Fin 5632 → EReal) : S16384x5632.Idx → EReal :=
  fun y => gate (B (y 1)) (shifted X W (y 0).val 0 (y 1).val) (C 0 (y 1)) (shifted X W (y 0).val 1 (y 1).val) (C 1 (y 1)) (shifted X W (y 0).val 2 (y 1).val) (C 2 (y 1))
    (pre X W (y 0).val (5632 + (y 1).val))
/-- The last two rows of every tile's convolution input, whole. -/
def allT (X : Fin 16384 → Fin 2048 → EReal) (W : Fin 2048 → Fin 11264 → EReal) : S16x2x5632.Idx → EReal :=
  fun y => pre X W ((y 0).val * 1024 + 1022 + (y 1).val) (y 2).val

theorem final6 : (dats m 0 c).arrAt 6 cfg0.N = allG (aX m c) (aW m c) (aC m c) (aB m c) := by
  refine (dats m 0 c).arrAt_eq_of_covers 6 _ (by decide +kernel) fun t hf y => ?_
  have ht := t_lt t
  rw [show (dats m 0 c).after 6 t = _ from after0_6 m c t]
  obtain ⟨r, n, rfl⟩ : ∃ (r : Fin 1024) (n : Fin 512), y = ix2 r n := ⟨y 0, y 1, eq_ix2 y⟩
  have e0 : (((cfg0.win 6).blk t).view.emb (ix2 r n)) 0 = rowIx t r := Fin.ext (by
    blk_simp [rowIx, (idx_all t).2.2.2.2.2.2.1])
  have e1 : (((cfg0.win 6).blk t).view.emb (ix2 r n)) 1 = colIx t n := Fin.ext (by
    blk_simp [colIx, (idx_all t).2.2.2.2.2.2.1])
  unfold allG
  simp only [e0, e1]
  exact (outs6 m c t (ix2 r n)).trans (tile_eq m c t r n)

theorem final7 : (dats m 0 c).arrAt 7 cfg0.N = allT (aX m c) (aW m c) := by
  refine (dats m 0 c).arrAt_eq_of_covers 7 _ (by decide +kernel) fun t hf y => ?_
  have ht := t_lt t
  rw [show (dats m 0 c).after 7 t = _ from after0_7 m c t]
  obtain ⟨z, e, n, rfl⟩ : ∃ (z : Fin 1) (e : Fin 2) (n : Fin 512), y = ix3 z e n := ⟨y 0, y 1, y 2, eq_ix3 y⟩
  obtain rfl : z = 0 := Subsingleton.elim _ _
  have e0 : ((((cfg0.win 7).blk t).view.emb (ix3 0 e n)) 0 : ℕ) = t.val / 11 := by
    blk_simp [(idx_all t).2.2.2.2.2.2.2]
    rfl
  have e1 : ((((cfg0.win 7).blk t).view.emb (ix3 0 e n)) 1 : ℕ) = e.val := by
    blk_simp [(idx_all t).2.2.2.2.2.2.2]
  have e2 : ((((cfg0.win 7).blk t).view.emb (ix3 0 e n)) 2 : ℕ) = (colIx t n).val := by
    blk_simp [colIx, (idx_all t).2.2.2.2.2.2.2]
  unfold allT
  simp only [e0, e1, e2]
  refine (outs7 m c t e n).trans ?_
  rw [aval_ge _ _ _ _ _ (by omega), dot_a m c t _ (by omega) n (.inl (by omega))]
  congr 1
  omega

end Cert.Up
-- ==== Proof.UpRef.lean ====
/-
  THE REFERENCE'S RESULTS, as their stages: the product, its sequences after two rows of zeros, the convolution, the gate.
-/
module

public import proofs.«01_k».proof.Proof.Gen.Reference3Ideal.Run
public import proofs.«01_k».proof.Proof.UpBlocks
public import Idealize.ShloMosaic.Lib.Pointwise

@[expose] public section

set_option maxRecDepth 16384

noncomputable section

namespace Cert.Up.Ref

open Cert.Reference3Ideal Cert.Reference3Ideal.Gen Idealize.ShloMosaic Idealize.ShloMosaic.TcCoe Idealize.SL.Sem

/-- The product, by sequence. -/
def prd (h : FVec Ideal S16384x2048 .bf16) (w : FVec Ideal S2048x11264 .f32) : FVec Ideal S8x2048x11264 .f32 :=
  Host.dotGeneral (F := Ideal) dot_S8x2048x2048_S2048x11264_S8x2048x11264_2_0_01_1_n_n none (shapeCast S8x2048x2048 (extf .f32 h bitsLt_bf16_f32) shapeCasts_S16384x2048_S8x2048x2048) w

/-- The gate's half, two rows of zeros before every sequence. -/
def ext (p : FVec Ideal S8x2048x11264 .f32) : FVec Ideal S8x2050x5632 .f32 :=
  concatenate S8x2050x5632 1 [⟨S8x2x5632, (broadcastInDim S8x2x5632 ![] bcast_S_S8x2x5632 (constant S_ .f32 0x00000000#32))⟩, ⟨S8x2048x5632, (extractStridedSlice S8x2048x5632 ![0, 0, 0] p slices_S8x2048x11264_S8x2048x5632_0_0_0)⟩] concatenates_S8x2x5632_S8x2048x5632_S8x2050x5632_d1

/-- The convolution. -/
def conv (a : FVec Ideal S8x2050x5632 .f32) (cw : FVec Ideal S3x5632 .f32) (cb : FVec Ideal S1x5632 .f32) : FVec Ideal S8x2048x5632 .f32 :=
  addf (addf (addf (broadcastInDim S8x2048x5632 ![0, 1, 2] bcast_S1x1x5632_S8x2048x5632_0_1_2 (broadcastInDim S1x1x5632 ![2] bcast_S5632_S1x1x5632_2 (shapeCast S5632 cb shapeCasts_S1x5632_S5632)))
    (mulf (extractStridedSlice S8x2048x5632 ![0, 0, 0] a slices_S8x2050x5632_S8x2048x5632_0_0_0) (broadcastInDim S8x2048x5632 ![0, 1, 2] bcast_S1x1x5632_S8x2048x5632_0_1_2 (broadcastInDim S1x1x5632 ![2] bcast_S5632_S1x1x5632_2 (shapeCast S5632 (extractStridedSlice S1x5632 ![0, 0] cw slices_S3x5632_S1x5632_0_0) shapeCasts_S1x5632_S5632)))))
    (mulf (extractStridedSlice S8x2048x5632 ![0, 1, 0] a slices_S8x2050x5632_S8x2048x5632_0_1_0) (broadcastInDim S8x2048x5632 ![0, 1, 2] bcast_S1x1x5632_S8x2048x5632_0_1_2 (broadcastInDim S1x1x5632 ![2] bcast_S5632_S1x1x5632_2 (shapeCast S5632 (extractStridedSlice S1x5632 ![1, 0] cw slices_S3x5632_S1x5632_1_0) shapeCasts_S1x5632_S5632)))))
    (mulf (extractStridedSlice S8x2048x5632 ![0, 2, 0] a slices_S8x2050x5632_S8x2048x5632_0_2_0) (broadcastInDim S8x2048x5632 ![0, 1, 2] bcast_S1x1x5632_S8x2048x5632_0_1_2 (broadcastInDim S1x1x5632 ![2] bcast_S5632_S1x1x5632_2 (shapeCast S5632 (extractStridedSlice S1x5632 ![2, 0] cw slices_S3x5632_S1x5632_2_0) shapeCasts_S1x5632_S5632))))

/-- The gated product. -/
def gated (x : FVec Ideal S8x2048x5632 .f32) (p : FVec Ideal S8x2048x11264 .f32) : FVec Ideal S16384x5632 .bf16 :=
  truncf .bf16 (shapeCast S16384x5632 (mulf (mulf x (Host.divf (broadcastInDim S8x2048x5632 ![] bcast_S_S8x2048x5632 (constant S_ .f32 0x3F800000#32)) (addf (broadcastInDim S8x2048x5632 ![] bcast_S_S8x2048x5632 (constant S_ .f32 0x3F800000#32)) (Host.exp (Host.negf x)))))
    (extractStridedSlice S8x2048x5632 ![0, 0, 5632] p slices_S8x2048x11264_S8x2048x5632_0_0_5632)) shapeCasts_S8x2048x5632_S16384x5632) bitsLt_bf16_f32

/-- The last two rows of every half sequence. -/
def tails (p : FVec Ideal S8x2048x11264 .f32) : FVec Ideal S16x2x5632 .f32 :=
  extractStridedSlice S16x2x5632 ![0, 1022, 0] (shapeCast S16x1024x5632 (extractStridedSlice S8x2048x5632 ![0, 0, 0] p slices_S8x2048x11264_S8x2048x5632_0_0_0) shapeCasts_S8x2048x5632_S16x1024x5632) slices_S16x1024x5632_S16x2x5632_0_1022_0

section
variable (m : (ℓ : Loc nD τ sig) → Buf (Elt Ideal) ℓ) (c : Dev nD)

theorem gated_eq : Cert.Reference3Ideal.Value.res_main_v35 m c
    = gated (conv (ext (prd (m ((c.tc : Thread nD τ).loc main_arg0)) (m ((c.tc : Thread nD τ).loc main_arg1)))) (m ((c.tc : Thread nD τ).loc main_arg2)) (m ((c.tc : Thread nD τ).loc main_arg3)))
      (prd (m ((c.tc : Thread nD τ).loc main_arg0)) (m ((c.tc : Thread nD τ).loc main_arg1))) := by
  unfold Cert.Reference3Ideal.Value.res_main_v35 gated conv ext prd
  rfl
end

theorem prd_apply (h : FVec Ideal S16384x2048 .bf16) (w : FVec Ideal S2048x11264 .f32) (b : Fin 8) (s : Fin 2048) (n : Fin 11264) :
    prd h w (ix3 b s n) = pre (fun R k => h (ix2 R k)) (fun k j => w (ix2 k j)) (b.val * 2048 + s.val) n.val := by
  have e : (b.val * 2048 + s.val) % 16384 = b.val * 2048 + s.val := Nat.mod_eq_of_lt (by omega)
  have e' : n.val % 11264 = n.val := Nat.mod_eq_of_lt n.isLt
  unfold pre
  simp only [e, e']
  pointwise [prd]

theorem ext_apply (p : FVec Ideal S8x2048x11264 .f32) (b : Fin 8) (s : Fin 2050) (n : Fin 5632) :
    ext p (ix3 b s n) = if h : s.val < 2 then Ideal.ofBits .f32 0x00000000#32 else p (ix3 b ⟨s.val - 2, by omega⟩ ⟨n.val, by omega⟩) := by
  pointwise [ext]

theorem conv_apply (a : FVec Ideal S8x2050x5632 .f32) (cw : FVec Ideal S3x5632 .f32) (cb : FVec Ideal S1x5632 .f32) (b : Fin 8) (s : Fin 2048) (n : Fin 5632) :
    conv a cw cb (ix3 b s n) = cb (ix2 0 n) + a (ix3 b ⟨s.val, by omega⟩ n) * cw (ix2 0 n) + a (ix3 b ⟨1 + s.val, by omega⟩ n) * cw (ix2 1 n) + a (ix3 b ⟨2 + s.val, by omega⟩ n) * cw (ix2 2 n) := by
  pointwise [conv]

theorem gated_apply (x : FVec Ideal S8x2048x5632 .f32) (p : FVec Ideal S8x2048x11264 .f32) (R : Fin 16384) (n : Fin 5632) :
    gated x p (ix2 R n) = x (ix3 ⟨R.val / 2048, by omega⟩ ⟨R.val % 2048, by omega⟩ n)
        * Ideal.div (Ideal.ofBits .f32 0x3f800000#32) (Ideal.ofBits .f32 0x3f800000#32 + Ideal.exp (-x (ix3 ⟨R.val / 2048, by omega⟩ ⟨R.val % 2048, by omega⟩ n)))
      * p (ix3 ⟨R.val / 2048, by omega⟩ ⟨R.val % 2048, by omega⟩ ⟨5632 + n.val, by omega⟩) := by
  pointwise [gated]

theorem tails_apply (p : FVec Ideal S8x2048x11264 .f32) (i : Fin 16) (e : Fin 2) (n : Fin 5632) :
    tails p (ix3 i e n) = p (ix3 ⟨i.val / 2, by omega⟩ ⟨i.val % 2 * 1024 + (1022 + e.val), by omega⟩ ⟨n.val, by omega⟩) := by
  pointwise [tails]

/-- The two ways of writing the gate: `x · (1 / (1 + exp (-x)))` and `x / (1 + exp (0 - x))`, at every extended real. -/
theorem silu_eq (x : EReal) : x * Ideal.div (Ideal.ofBits .f32 0x3f800000#32) (Ideal.ofBits .f32 0x3f800000#32 + Ideal.exp (-x))
    = Ideal.div x (Ideal.ofBits .f32 0x3f800000#32 + Ideal.exp (Ideal.ofBits .f32 0x00000000#32 - x)) := by
  have e1 : Ideal.ofBits .f32 0x3f800000#32 = (1 : EReal) := Ideal.ofBits_one_f32
  have e0 : Ideal.ofBits .f32 0x00000000#32 = (0 : EReal) := Ideal.ofBits_zero .f32
  have hp : ∀ y : EReal, 0 ≤ Ideal.exp y := by
    intro y
    induction y using EReal.rec with
    | bot => simp
    | top => simp
    | coe r => simp only [Ideal.exp_coe]; exact_mod_cast (Real.exp_pos r).le
  have hn : (1 : EReal) + Ideal.exp (-x) ≠ 0 :=
    ne_of_gt (lt_of_lt_of_le (by norm_num : (0 : EReal) < 1) (le_add_of_nonneg_right (hp (-x))))
  rw [e1, e0, zero_sub]
  unfold Ideal.div
  rw [if_neg hn, if_neg hn, one_mul]

section
variable (h : FVec Ideal S16384x2048 .bf16) (w : FVec Ideal S2048x11264 .f32) (cw : FVec Ideal S3x5632 .f32) (cb : FVec Ideal S1x5632 .f32)

theorem shifted_eq (R : Fin 16384) (q : ℕ) (hq : q < 3) (n : Fin 5632) :
    ext (prd h w) (ix3 ⟨R.val / 2048, by omega⟩ ⟨q + R.val % 2048, by omega⟩ n) = shifted (fun R k => h (ix2 R k)) (fun k j => w (ix2 k j)) R.val q n.val := by
  rw [ext_apply]
  unfold shifted
  by_cases hc : q + R.val % 2048 < 2
  · rw [dif_pos (show (⟨q + R.val % 2048, by omega⟩ : Fin 2050).val < 2 from hc), if_pos (by omega)]
  · rw [dif_neg (show ¬ (⟨q + R.val % 2048, by omega⟩ : Fin 2050).val < 2 from hc), if_neg (by omega), prd_apply]
    have e : R.val / 2048 * 2048 + (q + R.val % 2048 - 2) = R.val + q - 2 := by omega
    exact congrArg (fun z => pre (fun R k => h (ix2 R k)) (fun k j => w (ix2 k j)) z n.val) e

theorem g_all : gated (conv (ext (prd h w)) cw cb) (prd h w)
    = allG (fun R k => h (ix2 R k)) (fun k j => w (ix2 k j)) (fun q j => cw (ix2 q j)) (fun j => cb (ix2 0 j)) := by
  funext y
  obtain ⟨R, n, rfl⟩ : ∃ (R : Fin 16384) (n : Fin 5632), y = ix2 R n := ⟨y 0, y 1, by funext d; fin_cases d <;> rfl⟩
  rw [gated_apply, silu_eq, conv_apply, prd_apply]
  have s0 := shifted_eq h w R 0 (by omega) n
  have s1 := shifted_eq h w R 1 (by omega) n
  have s2 := shifted_eq h w R 2 (by omega) n
  have s0' : ext (prd h w) (ix3 ⟨R.val / 2048, by omega⟩ ⟨R.val % 2048, by omega⟩ n) = shifted (fun R k => h (ix2 R k)) (fun k j => w (ix2 k j)) R.val 0 n.val := by
    rw [← s0]
    exact congrArg (fun z => ext (prd h w) (ix3 _ z n)) (Fin.ext (by simp))
  have e : R.val / 2048 * 2048 + R.val % 2048 = R.val := by omega
  simp only [s0', s1, s2, e]
  rfl

theorem t_all : tails (prd h w) = allT (fun R k => h (ix2 R k)) (fun k j => w (ix2 k j)) := by
  funext y
  obtain ⟨i, e, n, rfl⟩ : ∃ (i : Fin 16) (e : Fin 2) (n : Fin 5632), y = ix3 i e n := ⟨y 0, y 1, y 2, by funext d; fin_cases d <;> rfl⟩
  rw [tails_apply, prd_apply]
  have e' : i.val / 2 * 2048 + (i.val % 2 * 1024 + (1022 + e.val)) = i.val * 1024 + 1022 + e.val := by omega
  exact congrArg (fun z => pre (fun R k => h (ix2 R k)) (fun k j => w (ix2 k j)) z n.val) e'
end

end Cert.Up.Ref
-- ==== Proof.UpClaims.lean ====
/-
  THE CLAIMS ABOUT THE FEED-FORWARD'S FIRST PRODUCT, its causal convolution and its gate.
-/
module

public import proofs.«01_k».proof.Defs
public import proofs.«01_k».proof.Proof.UpRef
public import proofs.«01_k».proof.Proof.Gen.Kernel3.Frame
public import Idealize.ShloMosaic.Lib.Quiescent

@[expose] public section

set_option maxRecDepth 16384

noncomputable section

namespace Cert.Up

open Idealize.ShloMosaic Idealize.SL.Sem

theorem frame_p : Cert.quiescent_Kernel3 (hKernel3 := Cert.Kernel3.Gen.facts) := fun m ρ _ => Cert.Kernel3.Gen.frame m ρ
theorem frame_pi : Cert.quiescent_Kernel3Ideal (hKernel3Ideal := Cert.Kernel3Ideal.Gen.facts) := fun m ρ _ => Cert.Kernel3Ideal.Gen.frame m ρ
theorem frame_ri : Cert.quiescent_Reference3Ideal (hReference3Ideal := Cert.Reference3Ideal.Gen.facts) := fun m ρ _ =>
  (θ_run Cert.Reference3Ideal.defs _ _).mono (fun r h => ⟨fun c => (h c).2.2, sem_eq_zero_of_no_sems (by decide) r.2⟩)
    (Cert.Reference3Ideal.Value.run (F := Ideal) m ρ)

theorem preserves : Cert.preserves_Kernel3_Kernel3Ideal := trivial

theorem algebraic : Cert.algebraic_Kernel3Ideal_Reference3Ideal (hKernel3Ideal := Cert.Kernel3Ideal.Gen.facts)
    (hReference3Ideal := Cert.Reference3Ideal.Gen.facts) := by
  intro m ρ m' ρ' _ hag
  refine ⟨_, _, Cert.Kernel3Ideal.Value.run_blocks (F := Ideal) m ρ, ?_⟩
  refine (θ_run Cert.Reference3Ideal.defs _ _).mono (fun _ h c => ⟨(h c).1.trans ?_, (h c).2.1.trans ?_, (h c).2.2⟩)
    (Cert.Reference3Ideal.Value.run (F := Ideal) m' ρ')
  · obtain ⟨e0, e1, e2, e3⟩ := hag c
    rw [Ref.gated_eq, e0, e1, e2, e3]
    exact (Ref.g_all _ _ _ _).trans (final6 m c).symm
  · obtain ⟨e0, e1, e2, e3⟩ := hag c
    rw [e0, e1]
    exact (Ref.t_all _ _).trans (final7 m c).symm

end Cert.Up
-- ==== Proof.OutPay.lean ====
/-
  WHAT EACH GRID POINT OF THE OUTPUT PROJECTION'S KERNEL LEAVES in its two result blocks, entry by entry.
-/
module

public import proofs.«01_k».proof.Proof.Gen.Kernel4Ideal.Value
public import Idealize.ShloMosaic.Lib.Pipeline.ValueKit
public import Idealize.ShloMosaic.Lib.Pipeline.ValueKit.Point
public import Idealize.ShloMosaic.Lib.Pipeline.Covers
public import Idealize.ShloMosaic.Lib.Pipeline.ReadBack

@[expose] public section

set_option maxRecDepth 16384

noncomputable section

namespace Cert.Out

open Idealize.ShloMosaic Cert.Kernel4Ideal Cert.Kernel4Ideal.Gen

/-- The adaLN-modulated RMS norm of one row. -/
def hval (x g sc sh : Fin 2048 → EReal) (k : Fin 2048) : EReal :=
  x k * Ideal.rsqrt (Ideal.div (∑ j, x j * x j) (Ideal.ofBits .f32 0x45000000#32) + Ideal.ofBits .f32 0x358637bd#32) * g k
    * (Ideal.ofBits .f32 0x3f800000#32 + sc k) + sh k

/-- One entry of the residual sum: the two mixers' rows against the two halves of a weight's column, gated. -/
def rval (x g : EReal) (h a : Fin 1024 → EReal) (w : Fin 2048 → EReal) : EReal :=
  x + g * ((∑ k, h k * w ⟨k.val, by omega⟩) + ∑ k, a k * w ⟨1024 + k.val, by omega⟩)

section
variable (h : Vec Ideal S256x1024 .f32) (wh : Vec Ideal S1024x2048 .bf16) (a : Vec Ideal S256x1024 .f32) (wa : Vec Ideal S1024x2048 .bf16)
  (x : Vec Ideal S256x2048 .f32) (g : Vec Ideal S1x1x2048 .f32) (n2 : Vec Ideal S1x2048 .f32) (sc sh : Vec Ideal S1x1x2048 .f32) (r : Fin 256) (n : Fin 2048)

theorem p2 : k0_pay2 h wh a wa x g (ix2 r n)
    = x (ix2 r n) + g (ix3 0 0 n) * ((∑ k, h (ix2 r k) * wh (ix2 k n)) + ∑ k, a (ix2 r k) * wa (ix2 k n)) := by
  pointwise [k0_pay2]

theorem p6 : k0_pay6 h wh a wa x g (ix2 r n)
    = x (ix2 r n) + g (ix3 0 0 n) * ((∑ k, h (ix2 r k) * wh (ix2 k n)) + ∑ k, a (ix2 r k) * wa (ix2 k n)) := by
  pointwise [k0_pay6]

theorem p5 : k0_pay5 (k0_pay3 h wh a wa x g n2) (k0_pay4 sc) sh (ix2 r n)
    = hval (fun j => k0_pay2 h wh a wa x g (ix2 r j)) (fun j => n2 (ix2 0 j)) (fun j => sc (ix3 0 0 j)) (fun j => sh (ix3 0 0 j)) n := by
  unfold hval
  pointwise [k0_pay3, k0_pay4, k0_pay5]

theorem p1 : k0_pay1 (k0_pay6 h wh a wa x g) (k0_pay7 h wh a wa x g) n2 sc sh (ix2 r n)
    = hval (fun j => k0_pay6 h wh a wa x g (ix2 r j)) (fun j => n2 (ix2 0 j)) (fun j => sc (ix3 0 0 j)) (fun j => sh (ix3 0 0 j)) n := by
  unfold hval
  pointwise [k0_pay7, k0_pay1]
end

theorem ld_x (A : Vec Ideal S512x2048 .f32) (o : ℕ) (ho : o + 256 ≤ 512) (inb) (r : Fin 256) (k : Fin 2048) :
    View.ld A (Rect.unit (s := S512x2048) ![o, 0] S256x2048.size inb) (ix2 r k) = A (ix2 ⟨o + r.val, by omega⟩ k) := by
  refine congrArg A (funext fun i => Fin.ext ?_)
  fin_cases i <;> simp [LoadRect.idx_apply, Rect.unit, ix2]

theorem ld_y (A : Vec Ideal S512x1024 .f32) (o : ℕ) (ho : o + 256 ≤ 512) (inb) (r : Fin 256) (k : Fin 1024) :
    View.ld A (Rect.unit (s := S512x1024) ![o, 0] S256x1024.size inb) (ix2 r k) = A (ix2 ⟨o + r.val, by omega⟩ k) := by
  refine congrArg A (funext fun i => Fin.ext ?_)
  fin_cases i <;> simp [LoadRect.idx_apply, Rect.unit, ix2]

theorem ld_w0 (A : Vec Ideal S2048x2048 .bf16) (k : Fin 1024) (n : Fin 2048) :
    View.ld A r0_1 (ix2 k n) = A (ix2 ⟨k.val, by omega⟩ n) := by
  refine congrArg A (funext fun i => Fin.ext ?_)
  fin_cases i <;> simp [LoadRect.idx_apply, Rect.unit, ix2]

theorem ld_w1 (A : Vec Ideal S2048x2048 .bf16) (k : Fin 1024) (n : Fin 2048) :
    View.ld A r0_2 (ix2 k n) = A (ix2 ⟨1024 + k.val, by omega⟩ n) := by
  refine congrArg A (funext fun i => Fin.ext ?_)
  fin_cases i <;> simp [LoadRect.idx_apply, Rect.unit, ix2]

theorem ld_g (A : Vec Ideal S1x1x2048 .f32) : View.ld A r0_4 = A := by
  funext y
  refine congrArg A (funext fun i => Fin.ext ?_)
  fin_cases i <;> simp [LoadRect.idx_apply, Rect.unit]

theorem ld_n (A : Vec Ideal S1x2048 .f32) : View.ld A r0_5 = A := by
  funext y
  refine congrArg A (funext fun i => Fin.ext ?_)
  fin_cases i <;> simp [LoadRect.idx_apply, Rect.unit]

section
variable (x0 : Vec Ideal S512x2048 .f32) (x1 x2 : Vec Ideal S512x1024 .f32) (x3 x4 x5 : Vec Ideal S1x1x2048 .f32) (x6 : Vec Ideal S1x2048 .f32) (x7 : Vec Ideal S2048x2048 .bf16)

/-- One block of the residual sum. -/
def gX (a : Fin 512) (n : Fin 2048) : EReal :=
  rval (x0 (ix2 a n)) (x3 (ix3 0 0 n)) (fun k => x1 (ix2 a k)) (fun k => x2 (ix2 a k)) (fun k => x7 (ix2 k n))

theorem piece (o : ℕ) (ho : o + 256 ≤ 512) (inb) (G : Fin 512 → Fin 2048 → EReal) (pay : S256x2048.Idx → EReal)
    (hp : ∀ r n, pay (ix2 r n) = G ⟨o + r.val, by omega⟩ n) (x : S256x2048.Idx) :
    pay x = (fun y : S512x2048.Idx => G (y 0) (y 1)) ((Rect.unit (s := S512x2048) ![o, 0] S256x2048.size inb).emb x) := by
  obtain ⟨r, n, rfl⟩ : ∃ r n, x = ix2 r n := ⟨x 0, x 1, by funext i; fin_cases i <;> rfl⟩
  have e0 : ((Rect.unit (s := S512x2048) ![o, 0] S256x2048.size inb).emb (ix2 r n)) 0 = (⟨o + r.val, by omega⟩ : Fin 512) := Fin.ext (by
    rw [ValueKit.rect_emb_unit_val]; simp [ix2])
  have e1 : ((Rect.unit (s := S512x2048) ![o, 0] S256x2048.size inb).emb (ix2 r n)) 1 = n := Fin.ext (by
    rw [ValueKit.rect_emb_unit_val]; simp [ix2])
  rw [hp]
  simp only [e0, e1]

theorem sum2 (r : Fin 256) (n : Fin 2048) :
    k0_pay2 (View.ld x1 r0_0) (View.ld x7 r0_1) (View.ld x2 r0_0) (View.ld x7 r0_2) (View.ld x0 r0_3) (View.ld x3 r0_4) (ix2 r n)
      = gX x0 x1 x2 x3 x7 ⟨0 + r.val, by omega⟩ n := by
  rw [p2]
  unfold gX rval
  exact congrArg₂ (· + ·) (ld_x x0 0 (by norm_num) _ r n) (congrArg₂ (· * ·) (congrFun (ld_g x3) _) (congrArg₂ (· + ·)
    (Finset.sum_congr rfl fun k _ => congrArg₂ (· * ·) (ld_y x1 0 (by norm_num) _ r k) (ld_w0 x7 k n))
    (Finset.sum_congr rfl fun k _ => congrArg₂ (· * ·) (ld_y x2 0 (by norm_num) _ r k) (ld_w1 x7 k n))))

theorem sum6 (r : Fin 256) (n : Fin 2048) :
    k0_pay6 (View.ld x1 r0_6) (View.ld x7 r0_1) (View.ld x2 r0_6) (View.ld x7 r0_2) (View.ld x0 r0_7) (View.ld x3 r0_4) (ix2 r n)
      = gX x0 x1 x2 x3 x7 ⟨256 + r.val, by omega⟩ n := by
  rw [p6]
  unfold gX rval
  exact congrArg₂ (· + ·) (ld_x x0 256 (by norm_num) _ r n) (congrArg₂ (· * ·) (congrFun (ld_g x3) _) (congrArg₂ (· + ·)
    (Finset.sum_congr rfl fun k _ => congrArg₂ (· * ·) (ld_y x1 256 (by norm_num) _ r k) (ld_w0 x7 k n))
    (Finset.sum_congr rfl fun k _ => congrArg₂ (· * ·) (ld_y x2 256 (by norm_num) _ r k) (ld_w1 x7 k n))))

/-- The first block, whole. -/
def g8 : Vec Ideal S512x2048 .f32 := fun y => gX x0 x1 x2 x3 x7 (y 0) (y 1)

/-- The second block's entries. -/
def gH (a : Fin 512) (n : Fin 2048) : EReal :=
  hval (gX x0 x1 x2 x3 x7 a) (fun j => x6 (ix2 0 j)) (fun j => x5 (ix3 0 0 j)) (fun j => x4 (ix3 0 0 j)) n

/-- The second block, whole. -/
def g9 : Vec Ideal S512x2048 .bf16 := fun y => gH x0 x1 x2 x3 x4 x5 x6 x7 (y 0) (y 1)

theorem out8_eq (y : S512x2048.Idx) : out0_8 (F := Ideal) x0 x1 x2 x3 x4 x5 x6 x7 y = g8 x0 x1 x2 x3 x7 y := by
  unfold out0_8
  refine View.canon_apply_of_pieces (g8 x0 x1 x2 x3 x7) _ (View.PiecesOf.mem ?_) y (cover0_8 (F := Ideal) _ _ y)
  exact ⟨piece 256 (by norm_num) inb_S512x2048_S256x2048_256_0 (gX x0 x1 x2 x3 x7) _ (sum6 x0 x1 x2 x3 x7),
    piece 0 (by norm_num) inb_S512x2048_S256x2048_0_0 (gX x0 x1 x2 x3 x7) _ (sum2 x0 x1 x2 x3 x7), trivial⟩

theorem out9_eq (y : S512x2048.Idx) : out0_9 (F := Ideal) x0 x1 x2 x3 x4 x5 x6 x7 y = g9 x0 x1 x2 x3 x4 x5 x6 x7 y := by
  unfold out0_9
  refine View.canon_apply_of_pieces (g9 x0 x1 x2 x3 x4 x5 x6 x7) _ (View.PiecesOf.mem ?_) y (cover0_9 (F := Ideal) _ _ y)
  refine ⟨piece 256 (by norm_num) inb_S512x2048_S256x2048_256_0 (gH x0 x1 x2 x3 x4 x5 x6 x7) _ fun r n => ?_,
    piece 0 (by norm_num) inb_S512x2048_S256x2048_0_0 (gH x0 x1 x2 x3 x4 x5 x6 x7) _ fun r n => ?_, trivial⟩
  · refine (p1 _ _ _ _ _ _ _ _ _ r n).trans ?_
    unfold gH
    simp only [sum6]
    rw [ld_n, ld_g, ld_g]
  · refine (p5 _ _ _ _ _ _ _ _ _ r n).trans ?_
    unfold gH
    simp only [sum2]
    rw [ld_n, ld_g, ld_g]
end

end Cert.Out
-- ==== Proof.OutBlocks.lean ====
/-
  THE OUTPUT PROJECTION'S RESULT ARRAYS: the thirty-two blocks of 512 rows put together.
-/
module

public import proofs.«01_k».proof.Proof.OutPay
public import Idealize.ShloMosaic.Lib.StableHlo.RunRead
public import Idealize.ShloMosaic.Lib.StableHlo.RunHlo

@[expose] public section

set_option maxRecDepth 16384

noncomputable section

namespace Cert.Out

open Idealize.ShloMosaic Cert.Kernel4Ideal Cert.Kernel4Ideal.Gen

/-- Entry `(R, n)` of the residual sum: the row's two mixer outputs, side by side, against the weight's column, gated by the batch's modulation. -/
def resid (X : Fin 16384 → Fin 2048 → EReal) (H A : Fin 16384 → Fin 1024 → EReal) (M : Fin 8 → Fin 12288 → EReal) (W : Fin 2048 → Fin 2048 → EReal) (R : Fin 16384) (n : Fin 2048) : EReal :=
  rval (X R n) (M ⟨R.val / 2048, by omega⟩ ⟨4096 + n.val, by omega⟩) (H R) (A R) (fun k => W k n)

/-- The residual sum, whole. -/
def allX (X : Fin 16384 → Fin 2048 → EReal) (H A : Fin 16384 → Fin 1024 → EReal) (M : Fin 8 → Fin 12288 → EReal) (W : Fin 2048 → Fin 2048 → EReal) : S16384x2048.Idx → EReal :=
  fun y => resid X H A M W (y 0) (y 1)

/-- Entry `(R, n)` of the residual sum normed, scaled and shifted by its batch's modulation. -/
def normd (X : Fin 16384 → Fin 2048 → EReal) (H A : Fin 16384 → Fin 1024 → EReal) (M : Fin 8 → Fin 12288 → EReal) (g : Fin 2048 → EReal) (W : Fin 2048 → Fin 2048 → EReal) (R : Fin 16384) (n : Fin 2048) : EReal :=
  hval (resid X H A M W R) g (fun j => M ⟨R.val / 2048, by omega⟩ ⟨8192 + j.val, by omega⟩) (fun j => M ⟨R.val / 2048, by omega⟩ ⟨6144 + j.val, by omega⟩) n

/-- The normed sum, whole. -/
def allH (X : Fin 16384 → Fin 2048 → EReal) (H A : Fin 16384 → Fin 1024 → EReal) (M : Fin 8 → Fin 12288 → EReal) (g : Fin 2048 → EReal) (W : Fin 2048 → Fin 2048 → EReal) : S16384x2048.Idx → EReal :=
  fun y => normd X H A M g W (y 0) (y 1)

theorem idx_all : ∀ t : Fin cfg0.N,
    win0_0.index t = ![t.val, 0] ∧ win0_1.index t = ![t.val, 0] ∧ win0_2.index t = ![t.val, 0] ∧ win0_3.index t = ![t.val / 4, 0, 2] ∧ win0_4.index t = ![t.val / 4, 0, 3]
    ∧ win0_5.index t = ![t.val / 4, 0, 4] ∧ win0_6.index t = ![0, 0] ∧ win0_7.index t = ![0, 0] ∧ win0_8.index t = ![t.val, 0] ∧ win0_9.index t = ![t.val, 0] :=
  (by decide +kernel : ∀ t : Fin grid0.N,
    win0_0.index t = ![t.val, 0] ∧ win0_1.index t = ![t.val, 0] ∧ win0_2.index t = ![t.val, 0] ∧ win0_3.index t = ![t.val / 4, 0, 2] ∧ win0_4.index t = ![t.val / 4, 0, 3]
    ∧ win0_5.index t = ![t.val / 4, 0, 4] ∧ win0_6.index t = ![0, 0] ∧ win0_7.index t = ![0, 0] ∧ win0_8.index t = ![t.val, 0] ∧ win0_9.index t = ![t.val, 0])

variable (m : (ℓ : Loc nD τ sig) → Buf (Elt Ideal) ℓ) (c : Dev nD)

theorem t_lt (t : Fin cfg0.N) : t.val < 32 := lt_of_lt_of_eq t.isLt (by decide +kernel : cfg0.N = 32)

theorem V_w (j : S2048x2048.Idx) : V m c main_v0 j = m ((c.tc : Thread nD τ).loc main_arg5) j := by
  unfold_abbrev_sides
  after_reads_simp
  rfl

/-- The array row of row `a` of block `t`. -/
def rowIx (t : Fin cfg0.N) (a : Fin 512) : Fin 16384 := ⟨t.val * 512 + a.val, by have := t_lt t; omega⟩

theorem blk0 (t : Fin cfg0.N) (a : Fin 512) (k : Fin 2048) :
    iblk m c 0 t (ix2 a k) = m ((c.tc : Thread nD τ).loc main_arg0) (ix2 (rowIx t a) k) := by
  refine Eq.trans ?_ (congrFun (V_main_arg0 m c) _)
  blk_ext [iblk, rowIx, (idx_all t).1]

theorem blk1 (t : Fin cfg0.N) (a : Fin 512) (k : Fin 1024) :
    iblk m c 1 t (ix2 a k) = m ((c.tc : Thread nD τ).loc main_arg1) (ix2 (rowIx t a) k) := by
  refine Eq.trans ?_ (congrFun (V_main_arg1 m c) _)
  blk_ext [iblk, rowIx, (idx_all t).2.1]

theorem blk2 (t : Fin cfg0.N) (a : Fin 512) (k : Fin 1024) :
    iblk m c 2 t (ix2 a k) = m ((c.tc : Thread nD τ).loc main_arg2) (ix2 (rowIx t a) k) := by
  refine Eq.trans ?_ (congrFun (V_main_arg2 m c) _)
  blk_ext [iblk, rowIx, (idx_all t).2.2.1]

theorem blk3 (t : Fin cfg0.N) (k : Fin 2048) :
    iblk m c 3 t (ix3 0 0 k) = m ((c.tc : Thread nD τ).loc main_arg3) (ix3 ⟨t.val / 4, by have := t_lt t; omega⟩ 0 ⟨4096 + k.val, by omega⟩) := by
  refine Eq.trans ?_ (congrFun (V_main_arg3 m c) _)
  blk_ext [iblk, (idx_all t).2.2.2.1]

theorem blk4 (t : Fin cfg0.N) (k : Fin 2048) :
    iblk m c 4 t (ix3 0 0 k) = m ((c.tc : Thread nD τ).loc main_arg3) (ix3 ⟨t.val / 4, by have := t_lt t; omega⟩ 0 ⟨6144 + k.val, by omega⟩) := by
  refine Eq.trans ?_ (congrFun (V_main_arg3 m c) _)
  blk_ext [iblk, (idx_all t).2.2.2.2.1]

theorem blk5 (t : Fin cfg0.N) (k : Fin 2048) :
    iblk m c 5 t (ix3 0 0 k) = m ((c.tc : Thread nD τ).loc main_arg3) (ix3 ⟨t.val / 4, by have := t_lt t; omega⟩ 0 ⟨8192 + k.val, by omega⟩) := by
  refine Eq.trans ?_ (congrFun (V_main_arg3 m c) _)
  blk_ext [iblk, (idx_all t).2.2.2.2.2.1]

theorem blk6 (t : Fin cfg0.N) (k : Fin 2048) :
    iblk m c 6 t (ix2 0 k) = m ((c.tc : Thread nD τ).loc main_arg4) (ix2 0 k) := by
  refine Eq.trans ?_ (congrFun (V_main_arg4 m c) _)
  blk_ext [iblk, (idx_all t).2.2.2.2.2.2.1]

theorem blk7 (t : Fin cfg0.N) (k j : Fin 2048) :
    iblk m c 7 t (ix2 k j) = m ((c.tc : Thread nD τ).loc main_arg5) (ix2 k j) := by
  refine Eq.trans ?_ (V_w m c _)
  blk_ext [iblk, (idx_all t).2.2.2.2.2.2.2.1]

abbrev aX : Fin 16384 → Fin 2048 → EReal := fun R k => m ((c.tc : Thread nD τ).loc main_arg0) (ix2 R k)
abbrev aH : Fin 16384 → Fin 1024 → EReal := fun R k => m ((c.tc : Thread nD τ).loc main_arg1) (ix2 R k)
abbrev aA : Fin 16384 → Fin 1024 → EReal := fun R k => m ((c.tc : Thread nD τ).loc main_arg2) (ix2 R k)
abbrev aM : Fin 8 → Fin 12288 → EReal := fun b j => m ((c.tc : Thread nD τ).loc main_arg3) (ix3 b 0 j)
abbrev aG : Fin 2048 → EReal := fun j => m ((c.tc : Thread nD τ).loc main_arg4) (ix2 0 j)
abbrev aW : Fin 2048 → Fin 2048 → EReal := fun k j => m ((c.tc : Thread nD τ).loc main_arg5) (ix2 k j)

theorem resid_eq (t : Fin cfg0.N) (a : Fin 512) (n : Fin 2048) :
    gX (iblk m c 0 t) (iblk m c 1 t) (iblk m c 2 t) (iblk m c 3 t) (iblk m c 7 t) a n
      = resid (aX m c) (aH m c) (aA m c) (aM m c) (aW m c) (rowIx t a) n := by
  have ht := t_lt t
  have hb : (rowIx t a).val / 2048 = t.val / 4 := by simp only [rowIx]; omega
  unfold gX resid
  simp only [blk0, blk1, blk2, blk3, blk7, hb]

theorem normed_eq (t : Fin cfg0.N) (a : Fin 512) (n : Fin 2048) :
    gH (iblk m c 0 t) (iblk m c 1 t) (iblk m c 2 t) (iblk m c 3 t) (iblk m c 4 t) (iblk m c 5 t) (iblk m c 6 t) (iblk m c 7 t) a n
      = normd (aX m c) (aH m c) (aA m c) (aM m c) (aG m c) (aW m c) (rowIx t a) n := by
  have ht := t_lt t
  have hb : (rowIx t a).val / 2048 = t.val / 4 := by simp only [rowIx]; omega
  have e : gX (iblk m c 0 t) (iblk m c 1 t) (iblk m c 2 t) (iblk m c 3 t) (iblk m c 7 t) a
      = resid (aX m c) (aH m c) (aA m c) (aM m c) (aW m c) (rowIx t a) := funext fun n => resid_eq m c t a n
  unfold gH normd
  rw [e]
  simp only [blk4, blk5, blk6, hb]

attribute [local irreducible] out0_8 in
theorem final8 : (dats m 0 c).arrAt 8 cfg0.N = allX (aX m c) (aH m c) (aA m c) (aM m c) (aW m c) := by
  refine (dats m 0 c).arrAt_eq_of_covers 8 _ (by decide +kernel) fun t hf y => ?_
  have ht := t_lt t
  rw [show (dats m 0 c).after 8 t = _ from after0_8 m c t]
  obtain ⟨r, d, rfl⟩ : ∃ (r : Fin 512) (d : Fin 2048), y = ix2 r d := ⟨y 0, y 1, eq_ix2 y⟩
  have e0 : (((cfg0.win 8).blk t).view.emb (ix2 r d)) 0 = rowIx t r := Fin.ext (by
    blk_simp [rowIx, (idx_all t).2.2.2.2.2.2.2.2.1])
  have e1 : (((cfg0.win 8).blk t).view.emb (ix2 r d)) 1 = d := Fin.ext (by
    blk_simp [(idx_all t).2.2.2.2.2.2.2.2.1])
  unfold allX
  simp only [e0, e1]
  exact (out8_eq (iblk m c 0 t) (iblk m c 1 t) (iblk m c 2 t) (iblk m c 3 t) (iblk m c 4 t) (iblk m c 5 t) (iblk m c 6 t) (iblk m c 7 t) (ix2 r d)).trans (resid_eq m c t r d)

attribute [local irreducible] out0_9 in
theorem final9 : (dats m 0 c).arrAt 9 cfg0.N = allH (aX m c) (aH m c) (aA m c) (aM m c) (aG m c) (aW m c) := by
  refine (dats m 0 c).arrAt_eq_of_covers 9 _ (by decide +kernel) fun t hf y => ?_
  have ht := t_lt t
  rw [show (dats m 0 c).after 9 t = _ from after0_9 m c t]
  obtain ⟨r, d, rfl⟩ : ∃ (r : Fin 512) (d : Fin 2048), y = ix2 r d := ⟨y 0, y 1, eq_ix2 y⟩
  have e0 : (((cfg0.win 9).blk t).view.emb (ix2 r d)) 0 = rowIx t r := Fin.ext (by
    blk_simp [rowIx, (idx_all t).2.2.2.2.2.2.2.2.2])
  have e1 : (((cfg0.win 9).blk t).view.emb (ix2 r d)) 1 = d := Fin.ext (by
    blk_simp [(idx_all t).2.2.2.2.2.2.2.2.2])
  unfold allH
  simp only [e0, e1]
  exact (out9_eq (iblk m c 0 t) (iblk m c 1 t) (iblk m c 2 t) (iblk m c 3 t) (iblk m c 4 t) (iblk m c 5 t) (iblk m c 6 t) (iblk m c 7 t) (ix2 r d)).trans (normed_eq m c t r d)

end Cert.Out
-- ==== Proof.OutRef.lean ====
/-
  THE OUTPUT PROJECTION'S REFERENCE, as its stages: the product of the two mixers' outputs side by side, the gated sum, the norm.
-/
module

public import proofs.«01_k».proof.Proof.Gen.Reference4Ideal.Run
public import proofs.«01_k».proof.Proof.OutBlocks
public import Idealize.ShloMosaic.Lib.Pointwise

@[expose] public section

set_option maxRecDepth 16384

noncomputable section

namespace Cert.Out.Ref

open Cert.Reference4Ideal Cert.Reference4Ideal.Gen Idealize.ShloMosaic Idealize.ShloMosaic.TcCoe Idealize.SL.Sem

/-- The two mixers' outputs side by side. -/
def cat (h a : FVec Ideal S16384x1024 .f32) : FVec Ideal S8x2048x2048 .f32 :=
  concatenate S8x2048x2048 2 [⟨S8x2048x1024, shapeCast S8x2048x1024 h shapeCasts_S16384x1024_S8x2048x1024⟩, ⟨S8x2048x1024, shapeCast S8x2048x1024 a shapeCasts_S16384x1024_S8x2048x1024⟩] concatenates_S8x2048x1024_S8x2048x1024_S8x2048x2048_d2

/-- Their product with the weight. -/
def prj (z : FVec Ideal S8x2048x2048 .f32) (w : FVec Ideal S2048x2048 .f32) : FVec Ideal S8x2048x2048 .f32 :=
  Host.dotGeneral (F := Ideal) dot_S8x2048x2048_S2048x2048_S8x2048x2048_2_0_01_1_n_n none z w

/-- The residual sum. -/
def summed (x : FVec Ideal S16384x2048 .f32) (M : FVec Ideal S8x1x12288 .f32) (p : FVec Ideal S8x2048x2048 .f32) : FVec Ideal S8x2048x2048 .f32 :=
  addf (shapeCast S8x2048x2048 x shapeCasts_S16384x2048_S8x2048x2048) (mulf (broadcastInDim S8x2048x2048 ![0, 1, 2] bcast_S8x1x2048_S8x2048x2048_0_1_2 (broadcastInDim S8x1x2048 ![0, 2] bcast_S8x2048_S8x1x2048_0_2 (shapeCast S8x2048 (extractStridedSlice S8x1x2048 ![0, 0, 4096] M slices_S8x1x12288_S8x1x2048_0_0_4096) shapeCasts_S8x1x2048_S8x2048))) p)

/-- The reciprocal root of the mean square of every row. -/
def root (x : FVec Ideal S8x2048x2048 .f32) : FVec Ideal S8x2048x1 .f32 :=
  Host.rsqrt (addf (Host.divf (broadcastInDim S8x2048x1 ![0, 1] bcast_S8x2048_S8x2048x1_0_1 (Host.reduceAdd (mulf x x) (constant S_ .f32 0x00000000#32) reducesTo_S8x2048x2048_S8x2048_d2 h_S_)) (broadcastInDim S8x2048x1 ![] bcast_S_S8x2048x1 (constant S_ .f32 0x45000000#32))) (broadcastInDim S8x2048x1 ![] bcast_S_S8x2048x1 (constant S_ .f32 0x358637BD#32)))

/-- The norm, scaled and shifted. -/
def normed (x : FVec Ideal S8x2048x2048 .f32) (r : FVec Ideal S8x2048x1 .f32) (M : FVec Ideal S8x1x12288 .f32) (g : FVec Ideal S1x2048 .f32) : FVec Ideal S8x2048x2048 .f32 :=
  addf (mulf (mulf (mulf x (broadcastInDim S8x2048x2048 ![0, 1, 2] bcast_S8x2048x1_S8x2048x2048_0_1_2 r)) (broadcastInDim S8x2048x2048 ![0, 1, 2] bcast_S1x1x2048_S8x2048x2048_0_1_2 (broadcastInDim S1x1x2048 ![2] bcast_S2048_S1x1x2048_2 (shapeCast S2048 g shapeCasts_S1x2048_S2048)))) (broadcastInDim S8x2048x2048 ![0, 1, 2] bcast_S8x1x2048_S8x2048x2048_0_1_2 (addf (broadcastInDim S8x1x2048 ![] bcast_S_S8x1x2048 (constant S_ .f32 0x3F800000#32)) (broadcastInDim S8x1x2048 ![0, 2] bcast_S8x2048_S8x1x2048_0_2 (shapeCast S8x2048 (extractStridedSlice S8x1x2048 ![0, 0, 8192] M slices_S8x1x12288_S8x1x2048_0_0_8192) shapeCasts_S8x1x2048_S8x2048))))) (broadcastInDim S8x2048x2048 ![0, 1, 2] bcast_S8x1x2048_S8x2048x2048_0_1_2 (broadcastInDim S8x1x2048 ![0, 2] bcast_S8x2048_S8x1x2048_0_2 (shapeCast S8x2048 (extractStridedSlice S8x1x2048 ![0, 0, 6144] M slices_S8x1x12288_S8x1x2048_0_0_6144) shapeCasts_S8x1x2048_S8x2048)))

/-- The residual sum by rows. -/
def flatX (x : FVec Ideal S8x2048x2048 .f32) : FVec Ideal S16384x2048 .f32 := shapeCast S16384x2048 x shapeCasts_S8x2048x2048_S16384x2048
/-- The norm by rows. -/
def flatH (x : FVec Ideal S8x2048x2048 .f32) : FVec Ideal S16384x2048 .bf16 := truncf .bf16 (shapeCast S16384x2048 x shapeCasts_S8x2048x2048_S16384x2048) bitsLt_bf16_f32

theorem cat_apply (h a : FVec Ideal S16384x1024 .f32) (b : Fin 8) (s k : Fin 2048) :
    cat h a (ix3 b s k) = if hk : k.val < 1024 then h (ix2 ⟨b.val * 2048 + s.val, by omega⟩ ⟨k.val, hk⟩)
      else a (ix2 ⟨b.val * 2048 + s.val, by omega⟩ ⟨k.val - 1024, by omega⟩) := by
  pointwise [cat]

theorem prj_apply (z : FVec Ideal S8x2048x2048 .f32) (w : FVec Ideal S2048x2048 .f32) (b : Fin 8) (s n : Fin 2048) :
    prj z w (ix3 b s n) = ∑ k : Fin 2048, z (ix3 b s k) * w (ix2 k n) := by
  pointwise [prj]

theorem summed_apply (x : FVec Ideal S16384x2048 .f32) (M : FVec Ideal S8x1x12288 .f32) (p : FVec Ideal S8x2048x2048 .f32) (b : Fin 8) (s n : Fin 2048) :
    summed x M p (ix3 b s n) = x (ix2 ⟨b.val * 2048 + s.val, by omega⟩ n) + M (ix3 b 0 ⟨4096 + n.val, by omega⟩) * p (ix3 b s n) := by
  pointwise [summed]

theorem root_apply (x : FVec Ideal S8x2048x2048 .f32) (b : Fin 8) (s : Fin 2048) :
    root x (ix3 b s 0) = Ideal.rsqrt (Ideal.div (∑ k : Fin 2048, x (ix3 b s k) * x (ix3 b s k)) (Ideal.ofBits .f32 0x45000000#32) + Ideal.ofBits .f32 0x358637bd#32) := by
  pointwise [root]

theorem normed_apply (x : FVec Ideal S8x2048x2048 .f32) (r : FVec Ideal S8x2048x1 .f32) (M : FVec Ideal S8x1x12288 .f32) (g : FVec Ideal S1x2048 .f32) (b : Fin 8) (s n : Fin 2048) :
    normed x r M g (ix3 b s n) = x (ix3 b s n) * r (ix3 b s 0) * g (ix2 0 n) * (Ideal.ofBits .f32 0x3f800000#32 + M (ix3 b 0 ⟨8192 + n.val, by omega⟩)) + M (ix3 b 0 ⟨6144 + n.val, by omega⟩) := by
  pointwise [normed]

theorem flatX_apply (x : FVec Ideal S8x2048x2048 .f32) (R : Fin 16384) (n : Fin 2048) :
    flatX x (ix2 R n) = x (ix3 ⟨R.val / 2048, by omega⟩ ⟨R.val % 2048, by omega⟩ n) := by
  pointwise [flatX]

theorem flatH_apply (x : FVec Ideal S8x2048x2048 .f32) (R : Fin 16384) (n : Fin 2048) :
    flatH x (ix2 R n) = x (ix3 ⟨R.val / 2048, by omega⟩ ⟨R.val % 2048, by omega⟩ n) := by
  pointwise [flatH]

/-- A sum over 2048 columns, its two halves apart. -/
theorem sum_halves (f : Fin 2048 → EReal) : ∑ k, f k = (∑ k : Fin 1024, f ⟨k.val, by omega⟩) + ∑ k : Fin 1024, f ⟨1024 + k.val, by omega⟩ :=
  Fin.sum_univ_add (a := 1024) (b := 1024) f

section
variable (x : FVec Ideal S16384x2048 .f32) (h a : FVec Ideal S16384x1024 .f32) (M : FVec Ideal S8x1x12288 .f32) (g : FVec Ideal S1x2048 .f32) (w : FVec Ideal S2048x2048 .f32)

theorem sum_apply (R : Fin 16384) (n : Fin 2048) :
    summed x M (prj (cat h a) w) (ix3 ⟨R.val / 2048, by omega⟩ ⟨R.val % 2048, by omega⟩ n)
      = resid (fun R k => x (ix2 R k)) (fun R k => h (ix2 R k)) (fun R k => a (ix2 R k)) (fun b j => M (ix3 b 0 j)) (fun k j => w (ix2 k j)) R n := by
  have e : (⟨R.val / 2048 * 2048 + R.val % 2048, by omega⟩ : Fin 16384) = R := Fin.ext (by simp only; omega)
  rw [summed_apply, prj_apply, sum_halves]
  unfold resid rval
  simp only [cat_apply, e]
  refine congrArg₂ (· + ·) rfl (congrArg₂ (· * ·) rfl (congrArg₂ (· + ·) (Finset.sum_congr rfl fun k _ => congrArg₂ (· * ·) ?_ rfl) (Finset.sum_congr rfl fun k _ => congrArg₂ (· * ·) ?_ rfl)))
  · rw [dif_pos k.isLt]
  · rw [dif_neg (by omega)]
    exact congrArg (fun z => a (ix2 R z)) (Fin.ext (by simp))

theorem x_all : flatX (summed x M (prj (cat h a) w))
    = allX (fun R k => x (ix2 R k)) (fun R k => h (ix2 R k)) (fun R k => a (ix2 R k)) (fun b j => M (ix3 b 0 j)) (fun k j => w (ix2 k j)) := by
  funext y
  obtain ⟨R, n, rfl⟩ : ∃ (R : Fin 16384) (n : Fin 2048), y = ix2 R n := ⟨y 0, y 1, by funext d; fin_cases d <;> rfl⟩
  rw [flatX_apply, sum_apply]
  rfl

theorem h_all : flatH (normed (summed x M (prj (cat h a) w)) (root (summed x M (prj (cat h a) w))) M g)
    = allH (fun R k => x (ix2 R k)) (fun R k => h (ix2 R k)) (fun R k => a (ix2 R k)) (fun b j => M (ix3 b 0 j)) (fun j => g (ix2 0 j)) (fun k j => w (ix2 k j)) := by
  funext y
  obtain ⟨R, n, rfl⟩ : ∃ (R : Fin 16384) (n : Fin 2048), y = ix2 R n := ⟨y 0, y 1, by funext d; fin_cases d <;> rfl⟩
  rw [flatH_apply, normed_apply, root_apply]
  simp only [sum_apply]
  rfl
end

end Cert.Out.Ref
-- ==== Proof.OutClaims.lean ====
/-
  THE CLAIMS ABOUT THE OUTPUT PROJECTION, its gated sum and the second norm.
-/
module

public import proofs.«01_k».proof.Defs
public import proofs.«01_k».proof.Proof.OutRef
public import proofs.«01_k».proof.Proof.Gen.Kernel4.Frame
public import Idealize.ShloMosaic.Lib.Quiescent

@[expose] public section

set_option maxRecDepth 16384

noncomputable section

namespace Cert.Out

open Idealize.ShloMosaic Idealize.SL.Sem

theorem frame_p : Cert.quiescent_Kernel4 (hKernel4 := Cert.Kernel4.Gen.facts) := fun m ρ _ => Cert.Kernel4.Gen.frame m ρ
theorem frame_pi : Cert.quiescent_Kernel4Ideal (hKernel4Ideal := Cert.Kernel4Ideal.Gen.facts) := fun m ρ _ => Cert.Kernel4Ideal.Gen.frame m ρ
theorem frame_ri : Cert.quiescent_Reference4Ideal (hReference4Ideal := Cert.Reference4Ideal.Gen.facts) := fun m ρ _ =>
  (θ_run Cert.Reference4Ideal.defs _ _).mono (fun r h => ⟨fun c => (h c).2.2, sem_eq_zero_of_no_sems (by decide) r.2⟩)
    (Cert.Reference4Ideal.Value.run (F := Ideal) m ρ)

theorem preserves : Cert.preserves_Kernel4_Kernel4Ideal := trivial

theorem algebraic : Cert.algebraic_Kernel4Ideal_Reference4Ideal (hKernel4Ideal := Cert.Kernel4Ideal.Gen.facts)
    (hReference4Ideal := Cert.Reference4Ideal.Gen.facts) := by
  intro m ρ m' ρ' _ hag
  refine ⟨_, _, Cert.Kernel4Ideal.Value.run_blocks (F := Ideal) m ρ, ?_⟩
  refine (θ_run Cert.Reference4Ideal.defs _ _).mono (fun _ h c => ⟨(h c).1.trans ?_, (h c).2.1.trans ?_, (h c).2.2⟩)
    (Cert.Reference4Ideal.Value.run (F := Ideal) m' ρ')
  · obtain ⟨e0, e1, e2, e3, e4, e5⟩ := hag c
    rw [e0, e1, e2, e3, e5]
    exact (Ref.x_all _ _ _ _ _).trans (final8 m c).symm
  · obtain ⟨e0, e1, e2, e3, e4, e5⟩ := hag c
    rw [e0, e1, e2, e3, e4, e5]
    exact (Ref.h_all _ _ _ _ _ _).trans (final9 m c).symm

end Cert.Out
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel2Ideal.Value
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel3Ideal.Value
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel4Ideal.Value
public import proofs.«01_k».proof.Proof.Gen.Reference4Ideal.Run
public import proofs.«01_k».proof.Proof.AttnClaims
public import proofs.«01_k».proof.Proof.InClaims
public import proofs.«01_k».proof.Proof.UpClaims
public import proofs.«01_k».proof.Proof.OutClaims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, Cert.Pre_finite.facts,
  Cert.Attn.frame_p, Cert.Attn.frame_pi, Cert.Attn.frame_pi_pre, Cert.Attn.frame_ri, Cert.Attn.frame_ri_pre,
  Cert.In.frame_p, Cert.In.frame_pi, Cert.In.frame_ri, Cert.Up.frame_p, Cert.Up.frame_pi, Cert.Up.frame_ri,
  Cert.Out.frame_p, Cert.Out.frame_pi, Cert.Out.frame_ri,
  Cert.Attn.preserves, Cert.Attn.algebraic, Cert.In.preserves, Cert.In.algebraic, Cert.Up.preserves, Cert.Up.algebraic,
  Cert.Out.preserves, Cert.Out.algebraic⟩

end Cert.Proof

end
